-- ==== Defs.lean ====
def Pre_Kernel (m : (ℓ : Loc Cert.Kernel.nD Cert.Kernel.τ Cert.Kernel.sig) → Buf (Elt Bits) ℓ) : Prop :=
  True

def Pre_Kernel_in_range_and_no_tie [hPre_in_range_and_no_tie : Cert.Pre_in_range_and_no_tie.Facts] (m : (ℓ : Loc Cert.Kernel.nD Cert.Kernel.τ Cert.Kernel.sig) → Buf (Elt Bits) ℓ) : Prop :=
  ∀ c : Dev Cert.Kernel.nD,
    (Cert.Pre_in_range_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_in_range_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_in_range_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_in_range_and_no_tie : Cert.Pre_in_range_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_no_tie [hPre_in_range_and_no_tie : Cert.Pre_in_range_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_in_range_and_no_tie [hKernel : Cert.Kernel.Facts] [hPre_in_range_and_no_tie : Cert.Pre_in_range_and_no_tie.Facts] : Prop :=
  ∀ (m : (ℓ : Loc Cert.Kernel.nD Cert.Kernel.τ Cert.Kernel.sig) → Buf (Elt Bits) ℓ) (g : Dev Cert.Kernel.nD → PrngReg), Pre_Kernel_in_range_and_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range_and_no_tie : Cert.Pre_in_range_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_no_tie [hReferenceIdeal : Cert.ReferenceIdeal.Facts] [hPre_in_range_and_no_tie : Cert.Pre_in_range_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range_and_no_tie : Cert.Pre_in_range_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_and_no_tie : Cert.Pre_in_range_and_no_tie.Facts),
    quiescent_Kernel (hKernel := hKernel)
    ∧ quiescent_Kernel_pre_in_range_and_no_tie (hKernel := hKernel) (hPre_in_range_and_no_tie := hPre_in_range_and_no_tie)
    ∧ quiescent_KernelIdeal (hKernelIdeal := hKernelIdeal) (hPre_in_range_and_no_tie := hPre_in_range_and_no_tie)
    ∧ quiescent_ReferenceIdeal (hReferenceIdeal := hReferenceIdeal)
    ∧ quiescent_ReferenceIdeal_pre_in_range_and_no_tie (hReferenceIdeal := hReferenceIdeal) (hPre_in_range_and_no_tie := hPre_in_range_and_no_tie)
    ∧ preserves_Kernel_KernelIdeal
    ∧ algebraic_KernelIdeal_ReferenceIdeal (hKernelIdeal := hKernelIdeal) (hReferenceIdeal := hReferenceIdeal) (hPre_in_range_and_no_tie := hPre_in_range_and_no_tie)
-- ==== Pre_in_range_and_no_tie.lean ====
abbrev S32x8x100000 : Shape := ⟨3, ![32, 8, 100000]⟩
abbrev S32x1 : Shape := ⟨2, ![32, 1]⟩
abbrev S32x8 : Shape := ⟨2, ![32, 8]⟩
abbrev S2 : Shape := ⟨1, ![2]⟩
abbrev S_ : Shape := ⟨0, ![]⟩
abbrev S1x1 : Shape := ⟨2, ![1, 1]⟩
abbrev S1 : Shape := ⟨1, ![1]⟩
abbrev S256x100000 : Shape := ⟨2, ![256, 100000]⟩
abbrev S32x8x102400 : Shape := ⟨3, ![32, 8, 102400]⟩
abbrev S32x8x25x4096 : Shape := ⟨4, ![32, 8, 25, 4096]⟩
abbrev S32x8x25 : Shape := ⟨3, ![32, 8, 25]⟩
abbrev S32x8x25x1 : Shape := ⟨4, ![32, 8, 25, 1]⟩

class Facts : Prop where
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S256x100000 : S_.BroadcastsInDim S256x100000 (![] : Fin 0 → Fin S256x100000.rank)
  natLt_32_64 : 32 < 64
  bcast_S1x1_S256x100000_0_1 : S1x1.BroadcastsInDim S256x100000 (![0, 1] : Fin 2 → Fin S256x100000.rank)
  bcast_S_S32x8x100000 : S_.BroadcastsInDim S32x8x100000 (![] : Fin 0 → Fin S32x8x100000.rank)
  shapeCasts_S256x100000_S32x8x100000 : S256x100000.ShapeCasts S32x8x100000
  pads_S32x8x100000_S32x8x102400_000_000_024000 : S32x8x100000.Pads (![0, 0, 0] : Fin 3 → Nat) ![0, 0, 2400] ![0, 0, 0] S32x8x102400
  h_S_ : 0 < S_.numel
  shapeCasts_S32x8x102400_S32x8x25x4096 : S32x8x102400.ShapeCasts S32x8x25x4096
  reducesTo_S32x8x25x4096_S32x8x25_d3 : S32x8x25x4096.ReducesTo [3] S32x8x25
  bcast_S32x8x25_S32x8x25x1_0_1_2 : S32x8x25.BroadcastsInDim S32x8x25x1 (![0, 1, 2] : Fin 3 → Fin S32x8x25x1.rank)
  bcast_S32x8x25x1_S32x8x25x4096_0_1_2_3 : S32x8x25x1.BroadcastsInDim S32x8x25x4096 (![0, 1, 2, 3] : Fin 4 → Fin S32x8x25x4096.rank)
  natLt_1_32 : 1 < 32
  bcast_S_S32x8 : S_.BroadcastsInDim S32x8 (![] : Fin 0 → Fin S32x8.rank)
  reducesTo_S32x8_S_d0_1 : S32x8.ReducesTo [0, 1] S_
  reducesTo_S32x8x100000_S_d0_1_2 : S32x8x100000.ReducesTo [0, 1, 2] S_
  bcast_S_S32x8x25 : S_.BroadcastsInDim S32x8x25 (![] : Fin 0 → Fin S32x8x25.rank)
  reducesTo_S32x8x25_S_d0_1_2 : S32x8x25.ReducesTo [0, 1, 2] S_

variable [Facts]

noncomputable abbrev lit0 : Fin 2 → BitVec 32 := fun
  | 0 => 2465931498#32 | 1 => 255383827#32
  | _ => 0#32

def fn_threefry2x32_part9 {F : FTy → Type} [FloatOps F] (arg0 : IVec S_ 32) (v163 : IVec S256x100000 32) (v169 : IVec S256x100000 32) (v170 : IVec S256x100000 32) : IVec S256x100000 32 × IVec S256x100000 32 :=
  let v171 : IVec S256x100000 32 := addi v163 v170
  let v172 : IVec S256x100000 32 := broadcastInDim S256x100000 ![] bcast_S_S256x100000 arg0
  let v173 : IVec S256x100000 32 := addi v169 v172
  let c_44 : IVec S_ 32 := constantI S_ 32 5#32
  let v174 : IVec S256x100000 32 := broadcastInDim S256x100000 ![] bcast_S_S256x100000 c_44
  let v175 : IVec S256x100000 32 := addi v173 v174
  (v171, v175)

def fn_threefry2x32_part8 {F : FTy → Type} [FloatOps F] (arg0 : IVec S_ 32) (v1 : IVec S_ 32) (v148 : IVec S256x100000 32) (v149 : IVec S256x100000 32) (v151 : IVec S256x100000 32) : IVec S256x100000 32 × IVec S256x100000 32 :=
  let c_39 : IVec S_ 32 := constantI S_ 32 17#32
  let v152 : IVec S256x100000 32 := broadcastInDim S256x100000 ![] bcast_S_S256x100000 c_39
  let v153 : IVec S256x100000 32 := Host.shrui v148 v152
  let v154 : IVec S256x100000 32 := ori v151 v153
  let v155 : IVec S256x100000 32 := xori v149 v154
  let v156 : IVec S256x100000 32 := addi v149 v155
  let c_40 : IVec S_ 32 := constantI S_ 32 26#32
  let v157 : IVec S256x100000 32 := broadcastInDim S256x100000 ![] bcast_S_S256x100000 c_40
  let v158 : IVec S256x100000 32 := Host.shli v155 v157
  let c_41 : IVec S_ 32 := constantI S_ 32 6#32
  let v159 : IVec S256x100000 32 := broadcastInDim S256x100000 ![] bcast_S_S256x100000 c_41
  let v160 : IVec S256x100000 32 := Host.shrui v155 v159
  let v161 : IVec S256x100000 32 := ori v158 v160
  let v162 : IVec S256x100000 32 := xori v156 v161
  let v163 : IVec S256x100000 32 := addi v156 v162
  let c_42 : IVec S_ 32 := constantI S_ 32 6#32
  let v164 : IVec S256x100000 32 := broadcastInDim S256x100000 ![] bcast_S_S256x100000 c_42
  let v165 : IVec S256x100000 32 := Host.shli v162 v164
  let c_43 : IVec S_ 32 := constantI S_ 32 26#32
  let v166 : IVec S256x100000 32 := broadcastInDim S256x100000 ![] bcast_S_S256x100000 c_43
  let v167 : IVec S256x100000 32 := Host.shrui v162 v166
  let v168 : IVec S256x100000 32 := ori v165 v167
  let v169 : IVec S256x100000 32 := xori v163 v168
  let v170 : IVec S256x100000 32 := broadcastInDim S256x100000 ![] bcast_S_S256x100000 v1
  fn_threefry2x32_part9 (F := F) arg0 v163 v169 v170

def fn_threefry2x32_part7 {F : FTy → Type} [FloatOps F] (arg0 : IVec S_ 32) (arg1 : IVec S_ 32) (v1 : IVec S_ 32) (v128 : IVec S256x100000 32) (v129 : IVec S256x100000 32) (v131 : IVec S256x100000 32) (c_34 : IVec S_ 32) : IVec S256x100000 32 × IVec S256x100000 32 :=
  let v132 : IVec S256x100000 32 := broadcastInDim S256x100000 ![] bcast_S_S256x100000 c_34
  let v133 : IVec S256x100000 32 := Host.shrui v128 v132
  let v134 : IVec S256x100000 32 := ori v131 v133
  let v135 : IVec S256x100000 32 := xori v129 v134
  let v136 : IVec S256x100000 32 := broadcastInDim S256x100000 ![] bcast_S_S256x100000 arg1
  let v137 : IVec S256x100000 32 := addi v129 v136
  let v138 : IVec S256x100000 32 := broadcastInDim S256x100000 ![] bcast_S_S256x100000 v1
  let v139 : IVec S256x100000 32 := addi v135 v138
  let c_35 : IVec S_ 32 := constantI S_ 32 4#32
  let v140 : IVec S256x100000 32 := broadcastInDim S256x100000 ![] bcast_S_S256x100000 c_35
  let v141 : IVec S256x100000 32 := addi v139 v140
  let v142 : IVec S256x100000 32 := addi v137 v141
  let c_36 : IVec S_ 32 := constantI S_ 32 13#32
  let v143 : IVec S256x100000 32 := broadcastInDim S256x100000 ![] bcast_S_S256x100000 c_36
  let v144 : IVec S256x100000 32 := Host.shli v141 v143
  let c_37 : IVec S_ 32 := constantI S_ 32 19#32
  let v145 : IVec S256x100000 32 := broadcastInDim S256x100000 ![] bcast_S_S256x100000 c_37
  let v146 : IVec S256x100000 32 := Host.shrui v141 v145
  let v147 : IVec S256x100000 32 := ori v144 v146
  let v148 : IVec S256x100000 32 := xori v142 v147
  let v149 : IVec S256x100000 32 := addi v142 v148
  let c_38 : IVec S_ 32 := constantI S_ 32 15#32
  let v150 : IVec S256x100000 32 := broadcastInDim S256x100000 ![] bcast_S_S256x100000 c_38
  let v151 : IVec S256x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S256x100000 32) (v113 : IVec S256x100000 32) : IVec S256x100000 32 × IVec S256x100000 32 :=
  let v114 : IVec S256x100000 32 := xori v108 v113
  let v115 : IVec S256x100000 32 := addi v108 v114
  let c_29 : IVec S_ 32 := constantI S_ 32 29#32
  let v116 : IVec S256x100000 32 := broadcastInDim S256x100000 ![] bcast_S_S256x100000 c_29
  let v117 : IVec S256x100000 32 := Host.shli v114 v116
  let c_30 : IVec S_ 32 := constantI S_ 32 3#32
  let v118 : IVec S256x100000 32 := broadcastInDim S256x100000 ![] bcast_S_S256x100000 c_30
  let v119 : IVec S256x100000 32 := Host.shrui v114 v118
  let v120 : IVec S256x100000 32 := ori v117 v119
  let v121 : IVec S256x100000 32 := xori v115 v120
  let v122 : IVec S256x100000 32 := addi v115 v121
  let c_31 : IVec S_ 32 := constantI S_ 32 16#32
  let v123 : IVec S256x100000 32 := broadcastInDim S256x100000 ![] bcast_S_S256x100000 c_31
  let v124 : IVec S256x100000 32 := Host.shli v121 v123
  let c_32 : IVec S_ 32 := constantI S_ 32 16#32
  let v125 : IVec S256x100000 32 := broadcastInDim S256x100000 ![] bcast_S_S256x100000 c_32
  let v126 : IVec S256x100000 32 := Host.shrui v121 v125
  let v127 : IVec S256x100000 32 := ori v124 v126
  let v128 : IVec S256x100000 32 := xori v122 v127
  let v129 : IVec S256x100000 32 := addi v122 v128
  let c_33 : IVec S_ 32 := constantI S_ 32 24#32
  let v130 : IVec S256x100000 32 := broadcastInDim S256x100000 ![] bcast_S_S256x100000 c_33
  let v131 : IVec S256x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S256x100000 32) (v94 : IVec S256x100000 32) : IVec S256x100000 32 × IVec S256x100000 32 :=
  let v95 : IVec S256x100000 32 := addi v88 v94
  let c_24 : IVec S_ 32 := constantI S_ 32 6#32
  let v96 : IVec S256x100000 32 := broadcastInDim S256x100000 ![] bcast_S_S256x100000 c_24
  let v97 : IVec S256x100000 32 := Host.shli v94 v96
  let c_25 : IVec S_ 32 := constantI S_ 32 26#32
  let v98 : IVec S256x100000 32 := broadcastInDim S256x100000 ![] bcast_S_S256x100000 c_25
  let v99 : IVec S256x100000 32 := Host.shrui v94 v98
  let v100 : IVec S256x100000 32 := ori v97 v99
  let v101 : IVec S256x100000 32 := xori v95 v100
  let v102 : IVec S256x100000 32 := broadcastInDim S256x100000 ![] bcast_S_S256x100000 arg0
  let v103 : IVec S256x100000 32 := addi v95 v102
  let v104 : IVec S256x100000 32 := broadcastInDim S256x100000 ![] bcast_S_S256x100000 arg1
  let v105 : IVec S256x100000 32 := addi v101 v104
  let c_26 : IVec S_ 32 := constantI S_ 32 3#32
  let v106 : IVec S256x100000 32 := broadcastInDim S256x100000 ![] bcast_S_S256x100000 c_26
  let v107 : IVec S256x100000 32 := addi v105 v106
  let v108 : IVec S256x100000 32 := addi v103 v107
  let c_27 : IVec S_ 32 := constantI S_ 32 17#32
  let v109 : IVec S256x100000 32 := broadcastInDim S256x100000 ![] bcast_S_S256x100000 c_27
  let v110 : IVec S256x100000 32 := Host.shli v107 v109
  let c_28 : IVec S_ 32 := constantI S_ 32 15#32
  let v111 : IVec S256x100000 32 := broadcastInDim S256x100000 ![] bcast_S_S256x100000 c_28
  let v112 : IVec S256x100000 32 := Host.shrui v107 v111
  let v113 : IVec S256x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S256x100000 32) (v74 : IVec S256x100000 32) (v75 : IVec S256x100000 32) : IVec S256x100000 32 × IVec S256x100000 32 :=
  let v76 : IVec S256x100000 32 := Host.shli v73 v75
  let c_19 : IVec S_ 32 := constantI S_ 32 19#32
  let v77 : IVec S256x100000 32 := broadcastInDim S256x100000 ![] bcast_S_S256x100000 c_19
  let v78 : IVec S256x100000 32 := Host.shrui v73 v77
  let v79 : IVec S256x100000 32 := ori v76 v78
  let v80 : IVec S256x100000 32 := xori v74 v79
  let v81 : IVec S256x100000 32 := addi v74 v80
  let c_20 : IVec S_ 32 := constantI S_ 32 15#32
  let v82 : IVec S256x100000 32 := broadcastInDim S256x100000 ![] bcast_S_S256x100000 c_20
  let v83 : IVec S256x100000 32 := Host.shli v80 v82
  let c_21 : IVec S_ 32 := constantI S_ 32 17#32
  let v84 : IVec S256x100000 32 := broadcastInDim S256x100000 ![] bcast_S_S256x100000 c_21
  let v85 : IVec S256x100000 32 := Host.shrui v80 v84
  let v86 : IVec S256x100000 32 := ori v83 v85
  let v87 : IVec S256x100000 32 := xori v81 v86
  let v88 : IVec S256x100000 32 := addi v81 v87
  let c_22 : IVec S_ 32 := constantI S_ 32 26#32
  let v89 : IVec S256x100000 32 := broadcastInDim S256x100000 ![] bcast_S_S256x100000 c_22
  let v90 : IVec S256x100000 32 := Host.shli v87 v89
  let c_23 : IVec S_ 32 := constantI S_ 32 6#32
  let v91 : IVec S256x100000 32 := broadcastInDim S256x100000 ![] bcast_S_S256x100000 c_23
  let v92 : IVec S256x100000 32 := Host.shrui v87 v91
  let v93 : IVec S256x100000 32 := ori v90 v92
  let v94 : IVec S256x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S256x100000 32) (v54 : IVec S256x100000 32) (v56 : IVec S256x100000 32) : IVec S256x100000 32 × IVec S256x100000 32 :=
  let c_14 : IVec S_ 32 := constantI S_ 32 16#32
  let v57 : IVec S256x100000 32 := broadcastInDim S256x100000 ![] bcast_S_S256x100000 c_14
  let v58 : IVec S256x100000 32 := Host.shrui v53 v57
  let v59 : IVec S256x100000 32 := ori v56 v58
  let v60 : IVec S256x100000 32 := xori v54 v59
  let v61 : IVec S256x100000 32 := addi v54 v60
  let c_15 : IVec S_ 32 := constantI S_ 32 24#32
  let v62 : IVec S256x100000 32 := broadcastInDim S256x100000 ![] bcast_S_S256x100000 c_15
  let v63 : IVec S256x100000 32 := Host.shli v60 v62
  let c_16 : IVec S_ 32 := constantI S_ 32 8#32
  let v64 : IVec S256x100000 32 := broadcastInDim S256x100000 ![] bcast_S_S256x100000 c_16
  let v65 : IVec S256x100000 32 := Host.shrui v60 v64
  let v66 : IVec S256x100000 32 := ori v63 v65
  let v67 : IVec S256x100000 32 := xori v61 v66
  let v68 : IVec S256x100000 32 := broadcastInDim S256x100000 ![] bcast_S_S256x100000 v1
  let v69 : IVec S256x100000 32 := addi v61 v68
  let v70 : IVec S256x100000 32 := broadcastInDim S256x100000 ![] bcast_S_S256x100000 arg0
  let v71 : IVec S256x100000 32 := addi v67 v70
  let c_17 : IVec S_ 32 := constantI S_ 32 2#32
  let v72 : IVec S256x100000 32 := broadcastInDim S256x100000 ![] bcast_S_S256x100000 c_17
  let v73 : IVec S256x100000 32 := addi v71 v72
  let v74 : IVec S256x100000 32 := addi v69 v73
  let c_18 : IVec S_ 32 := constantI S_ 32 13#32
  let v75 : IVec S256x100000 32 := broadcastInDim S256x100000 ![] bcast_S_S256x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S256x100000 32) (v37 : IVec S256x100000 32) (c_8 : IVec S_ 32) : IVec S256x100000 32 × IVec S256x100000 32 :=
  let v38 : IVec S256x100000 32 := broadcastInDim S256x100000 ![] bcast_S_S256x100000 c_8
  let v39 : IVec S256x100000 32 := addi v37 v38
  let v40 : IVec S256x100000 32 := addi v35 v39
  let c_9 : IVec S_ 32 := constantI S_ 32 17#32
  let v41 : IVec S256x100000 32 := broadcastInDim S256x100000 ![] bcast_S_S256x100000 c_9
  let v42 : IVec S256x100000 32 := Host.shli v39 v41
  let c_10 : IVec S_ 32 := constantI S_ 32 15#32
  let v43 : IVec S256x100000 32 := broadcastInDim S256x100000 ![] bcast_S_S256x100000 c_10
  let v44 : IVec S256x100000 32 := Host.shrui v39 v43
  let v45 : IVec S256x100000 32 := ori v42 v44
  let v46 : IVec S256x100000 32 := xori v40 v45
  let v47 : IVec S256x100000 32 := addi v40 v46
  let c_11 : IVec S_ 32 := constantI S_ 32 29#32
  let v48 : IVec S256x100000 32 := broadcastInDim S256x100000 ![] bcast_S_S256x100000 c_11
  let v49 : IVec S256x100000 32 := Host.shli v46 v48
  let c_12 : IVec S_ 32 := constantI S_ 32 3#32
  let v50 : IVec S256x100000 32 := broadcastInDim S256x100000 ![] bcast_S_S256x100000 c_12
  let v51 : IVec S256x100000 32 := Host.shrui v46 v50
  let v52 : IVec S256x100000 32 := ori v49 v51
  let v53 : IVec S256x100000 32 := xori v47 v52
  let v54 : IVec S256x100000 32 := addi v47 v53
  let c_13 : IVec S_ 32 := constantI S_ 32 16#32
  let v55 : IVec S256x100000 32 := broadcastInDim S256x100000 ![] bcast_S_S256x100000 c_13
  let v56 : IVec S256x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S256x100000 32) (v18 : IVec S256x100000 32) : IVec S256x100000 32 × IVec S256x100000 32 :=
  let v19 : IVec S256x100000 32 := xori v13 v18
  let v20 : IVec S256x100000 32 := addi v13 v19
  let c_4 : IVec S_ 32 := constantI S_ 32 26#32
  let v21 : IVec S256x100000 32 := broadcastInDim S256x100000 ![] bcast_S_S256x100000 c_4
  let v22 : IVec S256x100000 32 := Host.shli v19 v21
  let c_5 : IVec S_ 32 := constantI S_ 32 6#32
  let v23 : IVec S256x100000 32 := broadcastInDim S256x100000 ![] bcast_S_S256x100000 c_5
  let v24 : IVec S256x100000 32 := Host.shrui v19 v23
  let v25 : IVec S256x100000 32 := ori v22 v24
  let v26 : IVec S256x100000 32 := xori v20 v25
  let v27 : IVec S256x100000 32 := addi v20 v26
  let c_6 : IVec S_ 32 := constantI S_ 32 6#32
  let v28 : IVec S256x100000 32 := broadcastInDim S256x100000 ![] bcast_S_S256x100000 c_6
  let v29 : IVec S256x100000 32 := Host.shli v26 v28
  let c_7 : IVec S_ 32 := constantI S_ 32 26#32
  let v30 : IVec S256x100000 32 := broadcastInDim S256x100000 ![] bcast_S_S256x100000 c_7
  let v31 : IVec S256x100000 32 := Host.shrui v26 v30
  let v32 : IVec S256x100000 32 := ori v29 v31
  let v33 : IVec S256x100000 32 := xori v27 v32
  let v34 : IVec S256x100000 32 := broadcastInDim S256x100000 ![] bcast_S_S256x100000 arg1
  let v35 : IVec S256x100000 32 := addi v27 v34
  let v36 : IVec S256x100000 32 := broadcastInDim S256x100000 ![] bcast_S_S256x100000 v1
  let v37 : IVec S256x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S256x100000 32) (arg3 : IVec S256x100000 32) : IVec S256x100000 32 × IVec S256x100000 32 :=
  let v0 : IVec S_ 32 := xori arg0 arg1
  let c : IVec S_ 32 := constantI S_ 32 466688986#32
  let v1 : IVec S_ 32 := xori v0 c
  let v2 : IVec S256x100000 32 := broadcastInDim S256x100000 ![] bcast_S_S256x100000 arg0
  let v3 : IVec S256x100000 32 := addi arg2 v2
  let v4 : IVec S256x100000 32 := broadcastInDim S256x100000 ![] bcast_S_S256x100000 arg1
  let v5 : IVec S256x100000 32 := addi arg3 v4
  let v6 : IVec S256x100000 32 := addi v3 v5
  let c_0 : IVec S_ 32 := constantI S_ 32 13#32
  let v7 : IVec S256x100000 32 := broadcastInDim S256x100000 ![] bcast_S_S256x100000 c_0
  let v8 : IVec S256x100000 32 := Host.shli v5 v7
  let c_1 : IVec S_ 32 := constantI S_ 32 19#32
  let v9 : IVec S256x100000 32 := broadcastInDim S256x100000 ![] bcast_S_S256x100000 c_1
  let v10 : IVec S256x100000 32 := Host.shrui v5 v9
  let v11 : IVec S256x100000 32 := ori v8 v10
  let v12 : IVec S256x100000 32 := xori v6 v11
  let v13 : IVec S256x100000 32 := addi v6 v12
  let c_2 : IVec S_ 32 := constantI S_ 32 15#32
  let v14 : IVec S256x100000 32 := broadcastInDim S256x100000 ![] bcast_S_S256x100000 c_2
  let v15 : IVec S256x100000 32 := Host.shli v12 v14
  let c_3 : IVec S_ 32 := constantI S_ 32 17#32
  let v16 : IVec S256x100000 32 := broadcastInDim S256x100000 ![] bcast_S_S256x100000 c_3
  let v17 : IVec S256x100000 32 := Host.shrui v12 v16
  let v18 : IVec S256x100000 32 := ori v15 v17
  fn_threefry2x32_part1 (F := F) arg0 arg1 v1 v13 v18

def fn_uniform_part1 {F : FTy → Type} [FloatOps F] (v2 : FVec F S1x1 .f32) (v3 : FVec F S1x1 .f32) (v19_0 : IVec S256x100000 32) (v19_1 : IVec S256x100000 32) : FVec F S256x100000 .f32 :=
  let v20 : IVec S256x100000 32 := xori v19_0 v19_1
  let c_2 : IVec S_ 32 := constantI S_ 32 9#32
  let v21 : IVec S256x100000 32 := broadcastInDim S256x100000 ![] bcast_S_S256x100000 c_2
  let v22 : IVec S256x100000 32 := Host.shrui v20 v21
  let c_3 : IVec S_ 32 := constantI S_ 32 1065353216#32
  let v23 : IVec S256x100000 32 := broadcastInDim S256x100000 ![] bcast_S_S256x100000 c_3
  let v24 : IVec S256x100000 32 := ori v22 v23
  let v25 : FVec F S256x100000 .f32 := bitcastToFloat .f32 v24
  let cst : FVec F S_ .f32 := constant S_ .f32 0x3F800000#32
  let v26 : FVec F S256x100000 .f32 := broadcastInDim S256x100000 ![] bcast_S_S256x100000 cst
  let v27 : FVec F S256x100000 .f32 := subf v25 v26
  let v28 : FVec F S1x1 .f32 := subf v3 v2
  let v29 : FVec F S256x100000 .f32 := broadcastInDim S256x100000 ![0, 1] bcast_S1x1_S256x100000_0_1 v28
  let v30 : FVec F S256x100000 .f32 := mulf v27 v29
  let v31 : FVec F S256x100000 .f32 := broadcastInDim S256x100000 ![0, 1] bcast_S1x1_S256x100000_0_1 v2
  let v32 : FVec F S256x100000 .f32 := addf v30 v31
  let v33 : FVec F S256x100000 .f32 := broadcastInDim S256x100000 ![0, 1] bcast_S1x1_S256x100000_0_1 v2
  let v34 : FVec F S256x100000 .f32 := maximumf v33 v32
  v34

def fn_uniform {F : FTy → Type} [FloatOps F] (arg0 : IVec S2 32) (arg1 : FVec F S_ .f32) (arg2 : FVec F S_ .f32) : FVec F S256x100000 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S256x100000 64 := iotaInDim S256x100000 64 0
  let v9 : IVec S256x100000 64 := iotaInDim S256x100000 64 1
  let c : IVec S_ 64 := constantI S_ 64 100000#64
  let v10 : IVec S256x100000 64 := broadcastInDim S256x100000 ![] bcast_S_S256x100000 c
  let v11 : IVec S256x100000 64 := muli v10 v8
  let c_0 : IVec S_ 64 := constantI S_ 64 1#64
  let v12 : IVec S256x100000 64 := broadcastInDim S256x100000 ![] bcast_S_S256x100000 c_0
  let v13 : IVec S256x100000 64 := muli v12 v9
  let v14 : IVec S256x100000 64 := addi v11 v13
  let c_1 : IVec S_ 64 := constantI S_ 64 32#64
  let v15 : IVec S256x100000 64 := broadcastInDim S256x100000 ![] bcast_S_S256x100000 c_1
  let v16 : IVec S256x100000 64 := Host.shrui v14 v15
  let v17 : IVec S256x100000 32 := (trunci 32 · natLt_32_64) v14
  let v18 : IVec S256x100000 32 := (trunci 32 · natLt_32_64) v16
  let v19_0 : IVec S256x100000 32 := (fn_threefry2x32 (F := F) v5 v7 v18 v17).1
  let v19_1 : IVec S256x100000 32 := (fn_threefry2x32 (F := F) v5 v7 v18 v17).2
  fn_uniform_part1 (F := F) v2 v3 v19_0 v19_1

def fn_exponential {F : FTy → Type} [FloatOps F] (arg0 : IVec S2 32) : FVec F S256x100000 .f32 :=
  let cst : FVec F S_ .f32 := constant S_ .f32 0x00000000#32
  let cst_0 : FVec F S_ .f32 := constant S_ .f32 0x3F800000#32
  let v0 : FVec F S256x100000 .f32 := fn_uniform (F := F) arg0 cst cst_0
  let v1 : FVec F S256x100000 .f32 := Host.negf v0
  let v2 : FVec F S256x100000 .f32 := Host.log1p v1
  let v3 : FVec F S256x100000 .f32 := Host.negf v2
  v3

def fn_pad {F : FTy → Type} [FloatOps F] (arg0 : FVec F S32x8x100000 .f32) (arg1 : FVec F S_ .f32) : FVec F S32x8x102400 .f32 :=
  let v0 : FVec F S_ .f32 := id arg1
  let v1 : FVec F S32x8x102400 .f32 := (fun x v => pad S32x8x102400 ![0, 0, 0] ![0, 0, 2400] ![0, 0, 0] x v pads_S32x8x100000_S32x8x102400_000_000_024000 h_S_) arg0 v0
  v1

def fn_part1 {F : FTy → Type} [FloatOps F] (main_arg0 : FVec F S32x8x100000 .f32) (main_arg2 : FVec F S32x8x100000 .f32) (main_arg3 : IVec S32x8 32) (main_v15 : IVec S32x8x25 32) (main_v16 : IVec S32x8 32) : IVec S_ 1 × IVec S_ 1 × IVec S_ 1 :=
  let main_v17 : IVec S32x8 1 := cmpi .sge main_arg3 main_v16
  let main_c_5 : IVec S_ 32 := constantI S_ 32 100000#32
  let main_v18 : IVec S32x8 32 := broadcastInDim S32x8 ![] bcast_S_S32x8 main_c_5
  let main_v19 : IVec S32x8 1 := cmpi .slt main_arg3 main_v18
  let main_v20 : IVec S32x8 1 := andi main_v17 main_v19
  let main_c_6 : IVec S_ 1 := constantI S_ 1 1#1
  let main_v21 : IVec S_ 1 := (fun x v => Host.reduce IntOp.andi x v reducesTo_S32x8_S_d0_1 h_S_) main_v20 main_c_6
  let main_v22 : FVec F S32x8x100000 .f32 := subf main_arg0 main_arg2
  let main_cst_7 : FVec F S_ .f32 := constant S_ .f32 0x7F800000#32
  let main_v23 : FVec F S32x8x100000 .f32 := broadcastInDim S32x8x100000 ![] bcast_S_S32x8x100000 main_cst_7
  let main_v24 : IVec S32x8x100000 1 := cmpf .olt main_v22 main_v23
  let main_c_8 : IVec S_ 1 := constantI S_ 1 1#1
  let main_v25 : IVec S_ 1 := (fun x v => Host.reduce IntOp.andi x v reducesTo_S32x8x100000_S_d0_1_2 h_S_) main_v24 main_c_8
  let main_c_9 : IVec S_ 32 := constantI S_ 32 1#32
  let main_v26 : IVec S32x8x25 32 := broadcastInDim S32x8x25 ![] bcast_S_S32x8x25 main_c_9
  let main_v27 : IVec S32x8x25 1 := cmpi .eq main_v15 main_v26
  let main_c_10 : IVec S_ 1 := constantI S_ 1 1#1
  let main_v28 : IVec S_ 1 := (fun x v => Host.reduce IntOp.andi x v reducesTo_S32x8x25_S_d0_1_2 h_S_) main_v27 main_c_10
  (main_v21, main_v25, main_v28)

def fn {F : FTy → Type} [FloatOps F] (main_arg0 : FVec F S32x8x100000 .f32) (main_arg1 : IVec S32x1 32) (main_arg2 : FVec F S32x8x100000 .f32) (main_arg3 : IVec S32x8 32) : IVec S_ 1 × IVec S_ 1 × IVec S_ 1 :=
  let main_c : IVec S2 32 := fun i => lit0 (S2.rowMajor i)
  let main_v0 : FVec F S256x100000 .f32 := fn_exponential (F := F) main_c
  let main_v1 : FVec F S32x8x100000 .f32 := subf main_arg0 main_arg2
  let main_cst : FVec F S_ .f32 := constant S_ .f32 0x00800000#32
  let main_v2 : FVec F S32x8x100000 .f32 := broadcastInDim S32x8x100000 ![] bcast_S_S32x8x100000 main_cst
  let main_v3 : FVec F S32x8x100000 .f32 := maximumf main_v1 main_v2
  let main_cst_0 : FVec F S_ .f32 := constant S_ .f32 0x3F800000#32
  let main_v4 : FVec F S256x100000 .f32 := broadcastInDim S256x100000 ![] bcast_S_S256x100000 main_cst_0
  let main_v5 : FVec F S256x100000 .f32 := Host.divf main_v4 main_v0
  let main_v6 : FVec F S32x8x100000 .f32 := shapeCast S32x8x100000 main_v5 shapeCasts_S256x100000_S32x8x100000
  let main_v7 : FVec F S32x8x100000 .f32 := mulf main_v3 main_v6
  let main_cst_1 : FVec F S_ .f32 := constant S_ .f32 0xFF800000#32
  let main_v8 : FVec F S32x8x102400 .f32 := fn_pad (F := F) main_v7 main_cst_1
  let main_v9 : FVec F S32x8x25x4096 .f32 := shapeCast S32x8x25x4096 main_v8 shapeCasts_S32x8x102400_S32x8x25x4096
  let main_cst_2 : FVec F S_ .f32 := constant S_ .f32 0xFF800000#32
  let main_v10 : FVec F S32x8x25 .f32 := (fun x v => Host.reduce FloatOps.maximumf x v reducesTo_S32x8x25x4096_S32x8x25_d3 h_S_) main_v9 main_cst_2
  let main_v11 : FVec F S32x8x25x1 .f32 := broadcastInDim S32x8x25x1 ![0, 1, 2] bcast_S32x8x25_S32x8x25x1_0_1_2 main_v10
  let main_v12 : FVec F S32x8x25x4096 .f32 := broadcastInDim S32x8x25x4096 ![0, 1, 2, 3] bcast_S32x8x25x1_S32x8x25x4096_0_1_2_3 main_v11
  let main_v13 : IVec S32x8x25x4096 1 := cmpf .oeq main_v9 main_v12
  let main_v14 : IVec S32x8x25x4096 32 := (extui 32 · natLt_1_32) main_v13
  let main_c_3 : IVec S_ 32 := constantI S_ 32 0#32
  let main_v15 : IVec S32x8x25 32 := (fun x v => Host.reduce IntOp.addi x v reducesTo_S32x8x25x4096_S32x8x25_d3 h_S_) main_v14 main_c_3
  let main_c_4 : IVec S_ 32 := constantI S_ 32 0#32
  let main_v16 : IVec S32x8 32 := broadcastInDim S32x8 ![] bcast_S_S32x8 main_c_4
  fn_part1 (F := F) main_arg0 main_arg2 main_arg3 main_v15 main_v16
-- ==== Kernel.lean ====
abbrev S32x8x100000 : Shape := ⟨3, ![32, 8, 100000]⟩
abbrev S32x1 : Shape := ⟨2, ![32, 1]⟩
abbrev S32x8 : Shape := ⟨2, ![32, 8]⟩
abbrev S2 : Shape := ⟨1, ![2]⟩
abbrev S32x8x1 : Shape := ⟨3, ![32, 8, 1]⟩
abbrev S_ : Shape := ⟨0, ![]⟩
abbrev S1x1 : Shape := ⟨2, ![1, 1]⟩
abbrev S1 : Shape := ⟨1, ![1]⟩
abbrev S256x100000 : Shape := ⟨2, ![256, 100000]⟩
abbrev S256x102400 : Shape := ⟨2, ![256, 102400]⟩
abbrev S256x25x4096 : Shape := ⟨3, ![256, 25, 4096]⟩
abbrev S25x256x4096 : Shape := ⟨3, ![25, 256, 4096]⟩
abbrev S25x32x8x4096 : Shape := ⟨4, ![25, 32, 8, 4096]⟩
abbrev S32x9x1 : Shape := ⟨3, ![32, 9, 1]⟩
abbrev S32x8x4096 : Shape := ⟨3, ![32, 8, 4096]⟩
abbrev S1x32x8x4096 : Shape := ⟨4, ![1, 32, 8, 4096]⟩
abbrev S32x1x1 : Shape := ⟨3, ![32, 1, 1]⟩
abbrev S32x9 : Shape := ⟨2, ![32, 9]⟩

abbrev nBuf : Space → Nat
  | .hbm => 285
  | .vmem => 13
  | .smem => 0
  | _ => 0

abbrev hbmTy0_0 (i : Nat) : BufTy := match i % 128 with
  | 0 => ⟨S32x8x100000, .f32⟩
  | 1 => ⟨S32x1, .i32⟩
  | 2 => ⟨S32x8x100000, .f32⟩
  | 3 => ⟨S32x8, .i32⟩
  | 4 => ⟨S2, .i32⟩
  | 5 => ⟨S32x8x1, .f32⟩
  | 6 => ⟨S_, .f32⟩
  | 7 => ⟨S_, .f32⟩
  | 8 => ⟨S_, .f32⟩
  | 9 => ⟨S_, .f32⟩
  | 10 => ⟨S1x1, .f32⟩
  | 11 => ⟨S1x1, .f32⟩
  | 12 => ⟨S1, .i32⟩
  | 13 => ⟨S_, .i32⟩
  | 14 => ⟨S1, .i32⟩
  | 15 => ⟨S_, .i32⟩
  | 16 => ⟨S256x100000, .i64⟩
  | 17 => ⟨S256x100000, .i64⟩
  | 18 => ⟨S_, .i64⟩
  | 19 => ⟨S256x100000, .i64⟩
  | 20 => ⟨S256x100000, .i64⟩
  | 21 => ⟨S_, .i64⟩
  | 22 => ⟨S256x100000, .i64⟩
  | 23 => ⟨S256x100000, .i64⟩
  | 24 => ⟨S256x100000, .i64⟩
  | 25 => ⟨S_, .i64⟩
  | 26 => ⟨S256x100000, .i64⟩
  | 27 => ⟨S256x100000, .i64⟩
  | 28 => ⟨S256x100000, .i32⟩
  | 29 => ⟨S256x100000, .i32⟩
  | 30 => ⟨S_, .i32⟩
  | 31 => ⟨S_, .i32⟩
  | 32 => ⟨S_, .i32⟩
  | 33 => ⟨S256x100000, .i32⟩
  | 34 => ⟨S256x100000, .i32⟩
  | 35 => ⟨S256x100000, .i32⟩
  | 36 => ⟨S256x100000, .i32⟩
  | 37 => ⟨S256x100000, .i32⟩
  | 38 => ⟨S_, .i32⟩
  | 39 => ⟨S256x100000, .i32⟩
  | 40 => ⟨S256x100000, .i32⟩
  | 41 => ⟨S_, .i32⟩
  | 42 => ⟨S256x100000, .i32⟩
  | 43 => ⟨S256x100000, .i32⟩
  | 44 => ⟨S256x100000, .i32⟩
  | 45 => ⟨S256x100000, .i32⟩
  | 46 => ⟨S256x100000, .i32⟩
  | 47 => ⟨S_, .i32⟩
  | 48 => ⟨S256x100000, .i32⟩
  | 49 => ⟨S256x100000, .i32⟩
  | 50 => ⟨S_, .i32⟩
  | 51 => ⟨S256x100000, .i32⟩
  | 52 => ⟨S256x100000, .i32⟩
  | 53 => ⟨S256x100000, .i32⟩
  | 54 => ⟨S256x100000, .i32⟩
  | 55 => ⟨S256x100000, .i32⟩
  | 56 => ⟨S_, .i32⟩
  | 57 => ⟨S256x100000, .i32⟩
  | 58 => ⟨S256x100000, .i32⟩
  | 59 => ⟨S_, .i32⟩
  | 60 => ⟨S256x100000, .i32⟩
  | 61 => ⟨S256x100000, .i32⟩
  | 62 => ⟨S256x100000, .i32⟩
  | 63 => ⟨S256x100000, .i32⟩
  | 64 => ⟨S256x100000, .i32⟩
  | 65 => ⟨S_, .i32⟩
  | 66 => ⟨S256x100000, .i32⟩
  | 67 => ⟨S256x100000, .i32⟩
  | 68 => ⟨S_, .i32⟩
  | 69 => ⟨S256x100000, .i32⟩
  | 70 => ⟨S256x100000, .i32⟩
  | 71 => ⟨S256x100000, .i32⟩
  | 72 => ⟨S256x100000, .i32⟩
  | 73 => ⟨S256x100000, .i32⟩
  | 74 => ⟨S256x100000, .i32⟩
  | 75 => ⟨S256x100000, .i32⟩
  | 76 => ⟨S256x100000, .i32⟩
  | 77 => ⟨S_, .i32⟩
  | 78 => ⟨S256x100000, .i32⟩
  | 79 => ⟨S256x100000, .i32⟩
  | 80 => ⟨S256x100000, .i32⟩
  | 81 => ⟨S_, .i32⟩
  | 82 => ⟨S256x100000, .i32⟩
  | 83 => ⟨S256x100000, .i32⟩
  | 84 => ⟨S_, .i32⟩
  | 85 => ⟨S256x100000, .i32⟩
  | 86 => ⟨S256x100000, .i32⟩
  | 87 => ⟨S256x100000, .i32⟩
  | 88 => ⟨S256x100000, .i32⟩
  | 89 => ⟨S256x100000, .i32⟩
  | 90 => ⟨S_, .i32⟩
  | 91 => ⟨S256x100000, .i32⟩
  | 92 => ⟨S256x100000, .i32⟩
  | 93 => ⟨S_, .i32⟩
  | 94 => ⟨S256x100000, .i32⟩
  | 95 => ⟨S256x100000, .i32⟩
  | 96 => ⟨S256x100000, .i32⟩
  | 97 => ⟨S256x100000, .i32⟩
  | 98 => ⟨S256x100000, .i32⟩
  | 99 => ⟨S_, .i32⟩
  | 100 => ⟨S256x100000, .i32⟩
  | 101 => ⟨S256x100000, .i32⟩
  | 102 => ⟨S_, .i32⟩
  | 103 => ⟨S256x100000, .i32⟩
  | 104 => ⟨S256x100000, .i32⟩
  | 105 => ⟨S256x100000, .i32⟩
  | 106 => ⟨S256x100000, .i32⟩
  | 107 => ⟨S256x100000, .i32⟩
  | 108 => ⟨S_, .i32⟩
  | 109 => ⟨S256x100000, .i32⟩
  | 110 => ⟨S256x100000, .i32⟩
  | 111 => ⟨S_, .i32⟩
  | 112 => ⟨S256x100000, .i32⟩
  | 113 => ⟨S256x100000, .i32⟩
  | 114 => ⟨S256x100000, .i32⟩
  | 115 => ⟨S256x100000, .i32⟩
  | 116 => ⟨S256x100000, .i32⟩
  | 117 => ⟨S256x100000, .i32⟩
  | 118 => ⟨S256x100000, .i32⟩
  | 119 => ⟨S256x100000, .i32⟩
  | 120 => ⟨S_, .i32⟩
  | 121 => ⟨S256x100000, .i32⟩
  | 122 => ⟨S256x100000, .i32⟩
  | 123 => ⟨S256x100000, .i32⟩
  | 124 => ⟨S_, .i32⟩
  | 125 => ⟨S256x100000, .i32⟩
  | 126 => ⟨S256x100000, .i32⟩
  | 127 => ⟨S_, .i32⟩
  | _ => ⟨S32x8x100000, .f32⟩

abbrev hbmTy0_1 (i : Nat) : BufTy := match i % 128 with
  | 0 => ⟨S256x100000, .i32⟩
  | 1 => ⟨S256x100000, .i32⟩
  | 2 => ⟨S256x100000, .i32⟩
  | 3 => ⟨S256x100000, .i32⟩
  | 4 => ⟨S256x100000, .i32⟩
  | 5 => ⟨S_, .i32⟩
  | 6 => ⟨S256x100000, .i32⟩
  | 7 => ⟨S256x100000, .i32⟩
  | 8 => ⟨S_, .i32⟩
  | 9 => ⟨S256x100000, .i32⟩
  | 10 => ⟨S256x100000, .i32⟩
  | 11 => ⟨S256x100000, .i32⟩
  | 12 => ⟨S256x100000, .i32⟩
  | 13 => ⟨S256x100000, .i32⟩
  | 14 => ⟨S_, .i32⟩
  | 15 => ⟨S256x100000, .i32⟩
  | 16 => ⟨S256x100000, .i32⟩
  | 17 => ⟨S_, .i32⟩
  | 18 => ⟨S256x100000, .i32⟩
  | 19 => ⟨S256x100000, .i32⟩
  | 20 => ⟨S256x100000, .i32⟩
  | 21 => ⟨S256x100000, .i32⟩
  | 22 => ⟨S256x100000, .i32⟩
  | 23 => ⟨S_, .i32⟩
  | 24 => ⟨S256x100000, .i32⟩
  | 25 => ⟨S256x100000, .i32⟩
  | 26 => ⟨S_, .i32⟩
  | 27 => ⟨S256x100000, .i32⟩
  | 28 => ⟨S256x100000, .i32⟩
  | 29 => ⟨S256x100000, .i32⟩
  | 30 => ⟨S256x100000, .i32⟩
  | 31 => ⟨S256x100000, .i32⟩
  | 32 => ⟨S256x100000, .i32⟩
  | 33 => ⟨S256x100000, .i32⟩
  | 34 => ⟨S256x100000, .i32⟩
  | 35 => ⟨S_, .i32⟩
  | 36 => ⟨S256x100000, .i32⟩
  | 37 => ⟨S256x100000, .i32⟩
  | 38 => ⟨S256x100000, .i32⟩
  | 39 => ⟨S_, .i32⟩
  | 40 => ⟨S256x100000, .i32⟩
  | 41 => ⟨S256x100000, .i32⟩
  | 42 => ⟨S_, .i32⟩
  | 43 => ⟨S256x100000, .i32⟩
  | 44 => ⟨S256x100000, .i32⟩
  | 45 => ⟨S256x100000, .i32⟩
  | 46 => ⟨S256x100000, .i32⟩
  | 47 => ⟨S256x100000, .i32⟩
  | 48 => ⟨S_, .i32⟩
  | 49 => ⟨S256x100000, .i32⟩
  | 50 => ⟨S256x100000, .i32⟩
  | 51 => ⟨S_, .i32⟩
  | 52 => ⟨S256x100000, .i32⟩
  | 53 => ⟨S256x100000, .i32⟩
  | 54 => ⟨S256x100000, .i32⟩
  | 55 => ⟨S256x100000, .i32⟩
  | 56 => ⟨S256x100000, .i32⟩
  | 57 => ⟨S_, .i32⟩
  | 58 => ⟨S256x100000, .i32⟩
  | 59 => ⟨S256x100000, .i32⟩
  | 60 => ⟨S_, .i32⟩
  | 61 => ⟨S256x100000, .i32⟩
  | 62 => ⟨S256x100000, .i32⟩
  | 63 => ⟨S256x100000, .i32⟩
  | 64 => ⟨S256x100000, .i32⟩
  | 65 => ⟨S256x100000, .i32⟩
  | 66 => ⟨S_, .i32⟩
  | 67 => ⟨S256x100000, .i32⟩
  | 68 => ⟨S256x100000, .i32⟩
  | 69 => ⟨S_, .i32⟩
  | 70 => ⟨S256x100000, .i32⟩
  | 71 => ⟨S256x100000, .i32⟩
  | 72 => ⟨S256x100000, .i32⟩
  | 73 => ⟨S256x100000, .i32⟩
  | 74 => ⟨S256x100000, .i32⟩
  | 75 => ⟨S256x100000, .i32⟩
  | 76 => ⟨S256x100000, .i32⟩
  | 77 => ⟨S256x100000, .i32⟩
  | 78 => ⟨S_, .i32⟩
  | 79 => ⟨S256x100000, .i32⟩
  | 80 => ⟨S256x100000, .i32⟩
  | 81 => ⟨S256x100000, .i32⟩
  | 82 => ⟨S_, .i32⟩
  | 83 => ⟨S256x100000, .i32⟩
  | 84 => ⟨S256x100000, .i32⟩
  | 85 => ⟨S_, .i32⟩
  | 86 => ⟨S256x100000, .i32⟩
  | 87 => ⟨S256x100000, .i32⟩
  | 88 => ⟨S256x100000, .i32⟩
  | 89 => ⟨S256x100000, .i32⟩
  | 90 => ⟨S256x100000, .i32⟩
  | 91 => ⟨S_, .i32⟩
  | 92 => ⟨S256x100000, .i32⟩
  | 93 => ⟨S256x100000, .i32⟩
  | 94 => ⟨S_, .i32⟩
  | 95 => ⟨S256x100000, .i32⟩
  | 96 => ⟨S256x100000, .i32⟩
  | 97 => ⟨S256x100000, .i32⟩
  | 98 => ⟨S256x100000, .i32⟩
  | 99 => ⟨S256x100000, .i32⟩
  | 100 => ⟨S_, .i32⟩
  | 101 => ⟨S256x100000, .i32⟩
  | 102 => ⟨S256x100000, .i32⟩
  | 103 => ⟨S_, .i32⟩
  | 104 => ⟨S256x100000, .i32⟩
  | 105 => ⟨S256x100000, .i32⟩
  | 106 => ⟨S256x100000, .i32⟩
  | 107 => ⟨S256x100000, .i32⟩
  | 108 => ⟨S256x100000, .i32⟩
  | 109 => ⟨S_, .i32⟩
  | 110 => ⟨S256x100000, .i32⟩
  | 111 => ⟨S256x100000, .i32⟩
  | 112 => ⟨S_, .i32⟩
  | 113 => ⟨S256x100000, .i32⟩
  | 114 => ⟨S256x100000, .i32⟩
  | 115 => ⟨S256x100000, .i32⟩
  | 116 => ⟨S256x100000, .i32⟩
  | 117 => ⟨S256x100000, .i32⟩
  | 118 => ⟨S256x100000, .i32⟩
  | 119 => ⟨S256x100000, .i32⟩
  | 120 => ⟨S256x100000, .i32⟩
  | 121 => ⟨S_, .i32⟩
  | 122 => ⟨S256x100000, .i32⟩
  | 123 => ⟨S256x100000, .i32⟩
  | 124 => ⟨S256x100000, .i32⟩
  | 125 => ⟨S_, .i32⟩
  | 126 => ⟨S256x100000, .i32⟩
  | 127 => ⟨S256x100000, .i32⟩
  | _ => ⟨S32x8x100000, .f32⟩

abbrev hbmTy0_2 (i : Nat) : BufTy := match i % 128 with
  | 0 => ⟨S_, .i32⟩
  | 1 => ⟨S256x100000, .i32⟩
  | 2 => ⟨S256x100000, .i32⟩
  | 3 => ⟨S256x100000, .f32⟩
  | 4 => ⟨S_, .f32⟩
  | 5 => ⟨S256x100000, .f32⟩
  | 6 => ⟨S256x100000, .f32⟩
  | 7 => ⟨S1x1, .f32⟩
  | 8 => ⟨S256x100000, .f32⟩
  | 9 => ⟨S256x100000, .f32⟩
  | 10 => ⟨S256x100000, .f32⟩
  | 11 => ⟨S256x100000, .f32⟩
  | 12 => ⟨S256x100000, .f32⟩
  | 13 => ⟨S256x100000, .f32⟩
  | 14 => ⟨S256x100000, .f32⟩
  | 15 => ⟨S256x100000, .f32⟩
  | 16 => ⟨S256x100000, .f32⟩
  | 17 => ⟨S_, .f32⟩
  | 18 => ⟨S256x100000, .f32⟩
  | 19 => ⟨S256x100000, .f32⟩
  | 20 => ⟨S_, .i32⟩
  | 21 => ⟨S_, .f32⟩
  | 22 => ⟨S256x102400, .f32⟩
  | 23 => ⟨S256x25x4096, .f32⟩
  | 24 => ⟨S25x256x4096, .f32⟩
  | 25 => ⟨S25x32x8x4096, .f32⟩
  | 26 => ⟨S32x8x1, .i32⟩
  | 27 => ⟨S32x9x1, .i32⟩
  | 28 => ⟨S32x9, .i32⟩
  | _ => ⟨S32x8x100000, .f32⟩

abbrev hbmTy (i : Nat) : BufTy := match i / 128 with
  | 0 => hbmTy0_0 i
  | 1 => hbmTy0_1 i
  | 2 => hbmTy0_2 i
  | _ => ⟨S32x8x100000, .f32⟩

abbrev bufTy : (tb : Table) → Fin (tcTables nBuf tb) → BufTy
  | .hbm, ⟨i, _⟩ => hbmTy i
  | .local _ .vmem, ⟨0, _⟩ => ⟨S32x8x4096, .f32⟩
  | .local _ .vmem, ⟨1, _⟩ => ⟨S32x8x4096, .f32⟩
  | .local _ .vmem, ⟨2, _⟩ => ⟨S32x8x4096, .f32⟩
  | .local _ .vmem, ⟨3, _⟩ => ⟨S32x8x4096, .f32⟩
  | .local _ .vmem, ⟨4, _⟩ => ⟨S1x32x8x4096, .f32⟩
  | .local _ .vmem, ⟨5, _⟩ => ⟨S1x32x8x4096, .f32⟩
  | .local _ .vmem, ⟨6, _⟩ => ⟨S32x8x1, .i32⟩
  | .local _ .vmem, ⟨7, _⟩ => ⟨S32x8x1, .f32⟩
  | .local _ .vmem, ⟨8, _⟩ => ⟨S32x9x1, .i32⟩
  | .local _ .vmem, ⟨9, _⟩ => ⟨S32x8x1, .f32⟩
  | .local _ .vmem, ⟨10, _⟩ => ⟨S32x8x1, .f32⟩
  | .local _ .vmem, ⟨11, _⟩ => ⟨S32x8x1, .f32⟩
  | .local _ .vmem, ⟨12, _⟩ => ⟨S32x8x1, .i32⟩
  | _, _ => ⟨S32x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_call0_cst : Ref sig .tc := ⟨.hbm, 6, rfl⟩
abbrev main_call0_cst_0 : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_c : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_c_0 : Ref sig .tc := ⟨.hbm, 21, rfl⟩
abbrev main_call0_call0_v12 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_c_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_call0_v0 : Ref sig .tc := ⟨.hbm, 30, rfl⟩
abbrev main_call0_call0_call0_c : Ref sig .tc := ⟨.hbm, 31, rfl⟩
abbrev main_call0_call0_call0_v1 : Ref sig .tc := ⟨.hbm, 32, rfl⟩
abbrev main_call0_call0_call0_v2 : Ref sig .tc := ⟨.hbm, 33, rfl⟩
abbrev main_call0_call0_call0_v3 : Ref sig .tc := ⟨.hbm, 34, rfl⟩
abbrev main_call0_call0_call0_v4 : Ref sig .tc := ⟨.hbm, 35, rfl⟩
abbrev main_call0_call0_call0_v5 : Ref sig .tc := ⟨.hbm, 36, rfl⟩
abbrev main_call0_call0_call0_v6 : Ref sig .tc := ⟨.hbm, 37, rfl⟩
abbrev main_call0_call0_call0_c_0 : Ref sig .tc := ⟨.hbm, 38, rfl⟩
abbrev main_call0_call0_call0_v7 : Ref sig .tc := ⟨.hbm, 39, rfl⟩
abbrev main_call0_call0_call0_v8 : Ref sig .tc := ⟨.hbm, 40, rfl⟩
abbrev main_call0_call0_call0_c_1 : Ref sig .tc := ⟨.hbm, 41, rfl⟩
abbrev main_call0_call0_call0_v9 : Ref sig .tc := ⟨.hbm, 42, rfl⟩
abbrev main_call0_call0_call0_v10 : Ref sig .tc := ⟨.hbm, 43, rfl⟩
abbrev main_call0_call0_call0_v11 : Ref sig .tc := ⟨.hbm, 44, rfl⟩
abbrev main_call0_call0_call0_v12 : Ref sig .tc := ⟨.hbm, 45, rfl⟩
abbrev main_call0_call0_call0_v13 : Ref sig .tc := ⟨.hbm, 46, rfl⟩
abbrev main_call0_call0_call0_c_2 : Ref sig .tc := ⟨.hbm, 47, rfl⟩
abbrev main_call0_call0_call0_v14 : Ref sig .tc := ⟨.hbm, 48, rfl⟩
abbrev main_call0_call0_call0_v15 : Ref sig .tc := ⟨.hbm, 49, rfl⟩
abbrev main_call0_call0_call0_c_3 : Ref sig .tc := ⟨.hbm, 50, rfl⟩
abbrev main_call0_call0_call0_v16 : Ref sig .tc := ⟨.hbm, 51, rfl⟩
abbrev main_call0_call0_call0_v17 : Ref sig .tc := ⟨.hbm, 52, rfl⟩
abbrev main_call0_call0_call0_v18 : Ref sig .tc := ⟨.hbm, 53, rfl⟩
abbrev main_call0_call0_call0_v19 : Ref sig .tc := ⟨.hbm, 54, rfl⟩
abbrev main_call0_call0_call0_v20 : Ref sig .tc := ⟨.hbm, 55, rfl⟩
abbrev main_call0_call0_call0_c_4 : Ref sig .tc := ⟨.hbm, 56, rfl⟩
abbrev main_call0_call0_call0_v21 : Ref sig .tc := ⟨.hbm, 57, rfl⟩
abbrev main_call0_call0_call0_v22 : Ref sig .tc := ⟨.hbm, 58, rfl⟩
abbrev main_call0_call0_call0_c_5 : Ref sig .tc := ⟨.hbm, 59, rfl⟩
abbrev main_call0_call0_call0_v23 : Ref sig .tc := ⟨.hbm, 60, rfl⟩
abbrev main_call0_call0_call0_v24 : Ref sig .tc := ⟨.hbm, 61, rfl⟩
abbrev main_call0_call0_call0_v25 : Ref sig .tc := ⟨.hbm, 62, rfl⟩
abbrev main_call0_call0_call0_v26 : Ref sig .tc := ⟨.hbm, 63, rfl⟩
abbrev main_call0_call0_call0_v27 : Ref sig .tc := ⟨.hbm, 64, rfl⟩
abbrev main_call0_call0_call0_c_6 : Ref sig .tc := ⟨.hbm, 65, rfl⟩
abbrev main_call0_call0_call0_v28 : Ref sig .tc := ⟨.hbm, 66, rfl⟩
abbrev main_call0_call0_call0_v29 : Ref sig .tc := ⟨.hbm, 67, rfl⟩
abbrev main_call0_call0_call0_c_7 : Ref sig .tc := ⟨.hbm, 68, rfl⟩
abbrev main_call0_call0_call0_v30 : Ref sig .tc := ⟨.hbm, 69, rfl⟩
abbrev main_call0_call0_call0_v31 : Ref sig .tc := ⟨.hbm, 70, rfl⟩
abbrev main_call0_call0_call0_v32 : Ref sig .tc := ⟨.hbm, 71, rfl⟩
abbrev main_call0_call0_call0_v33 : Ref sig .tc := ⟨.hbm, 72, rfl⟩
abbrev main_call0_call0_call0_v34 : Ref sig .tc := ⟨.hbm, 73, rfl⟩
abbrev main_call0_call0_call0_v35 : Ref sig .tc := ⟨.hbm, 74, rfl⟩
abbrev main_call0_call0_call0_v36 : Ref sig .tc := ⟨.hbm, 75, rfl⟩
abbrev main_call0_call0_call0_v37 : Ref sig .tc := ⟨.hbm, 76, rfl⟩
abbrev main_call0_call0_call0_c_8 : Ref sig .tc := ⟨.hbm, 77, rfl⟩
abbrev main_call0_call0_call0_v38 : Ref sig .tc := ⟨.hbm, 78, rfl⟩
abbrev main_call0_call0_call0_v39 : Ref sig .tc := ⟨.hbm, 79, rfl⟩
abbrev main_call0_call0_call0_v40 : Ref sig .tc := ⟨.hbm, 80, rfl⟩
abbrev main_call0_call0_call0_c_9 : Ref sig .tc := ⟨.hbm, 81, rfl⟩
abbrev main_call0_call0_call0_v41 : Ref sig .tc := ⟨.hbm, 82, rfl⟩
abbrev main_call0_call0_call0_v42 : Ref sig .tc := ⟨.hbm, 83, rfl⟩
abbrev main_call0_call0_call0_c_10 : Ref sig .tc := ⟨.hbm, 84, rfl⟩
abbrev main_call0_call0_call0_v43 : Ref sig .tc := ⟨.hbm, 85, rfl⟩
abbrev main_call0_call0_call0_v44 : Ref sig .tc := ⟨.hbm, 86, rfl⟩
abbrev main_call0_call0_call0_v45 : Ref sig .tc := ⟨.hbm, 87, rfl⟩
abbrev main_call0_call0_call0_v46 : Ref sig .tc := ⟨.hbm, 88, rfl⟩
abbrev main_call0_call0_call0_v47 : Ref sig .tc := ⟨.hbm, 89, rfl⟩
abbrev main_call0_call0_call0_c_11 : Ref sig .tc := ⟨.hbm, 90, rfl⟩
abbrev main_call0_call0_call0_v48 : Ref sig .tc := ⟨.hbm, 91, rfl⟩
abbrev main_call0_call0_call0_v49 : Ref sig .tc := ⟨.hbm, 92, rfl⟩
abbrev main_call0_call0_call0_c_12 : Ref sig .tc := ⟨.hbm, 93, rfl⟩
abbrev main_call0_call0_call0_v50 : Ref sig .tc := ⟨.hbm, 94, rfl⟩
abbrev main_call0_call0_call0_v51 : Ref sig .tc := ⟨.hbm, 95, rfl⟩
abbrev main_call0_call0_call0_v52 : Ref sig .tc := ⟨.hbm, 96, rfl⟩
abbrev main_call0_call0_call0_v53 : Ref sig .tc := ⟨.hbm, 97, rfl⟩
abbrev main_call0_call0_call0_v54 : Ref sig .tc := ⟨.hbm, 98, rfl⟩
abbrev main_call0_call0_call0_c_13 : Ref sig .tc := ⟨.hbm, 99, rfl⟩
abbrev main_call0_call0_call0_v55 : Ref sig .tc := ⟨.hbm, 100, rfl⟩
abbrev main_call0_call0_call0_v56 : Ref sig .tc := ⟨.hbm, 101, rfl⟩
abbrev main_call0_call0_call0_c_14 : Ref sig .tc := ⟨.hbm, 102, rfl⟩
abbrev main_call0_call0_call0_v57 : Ref sig .tc := ⟨.hbm, 103, rfl⟩
abbrev main_call0_call0_call0_v58 : Ref sig .tc := ⟨.hbm, 104, rfl⟩
abbrev main_call0_call0_call0_v59 : Ref sig .tc := ⟨.hbm, 105, rfl⟩
abbrev main_call0_call0_call0_v60 : Ref sig .tc := ⟨.hbm, 106, rfl⟩
abbrev main_call0_call0_call0_v61 : Ref sig .tc := ⟨.hbm, 107, rfl⟩
abbrev main_call0_call0_call0_c_15 : Ref sig .tc := ⟨.hbm, 108, rfl⟩
abbrev main_call0_call0_call0_v62 : Ref sig .tc := ⟨.hbm, 109, rfl⟩
abbrev main_call0_call0_call0_v63 : Ref sig .tc := ⟨.hbm, 110, rfl⟩
abbrev main_call0_call0_call0_c_16 : Ref sig .tc := ⟨.hbm, 111, rfl⟩
abbrev main_call0_call0_call0_v64 : Ref sig .tc := ⟨.hbm, 112, rfl⟩
abbrev main_call0_call0_call0_v65 : Ref sig .tc := ⟨.hbm, 113, rfl⟩
abbrev main_call0_call0_call0_v66 : Ref sig .tc := ⟨.hbm, 114, rfl⟩
abbrev main_call0_call0_call0_v67 : Ref sig .tc := ⟨.hbm, 115, rfl⟩
abbrev main_call0_call0_call0_v68 : Ref sig .tc := ⟨.hbm, 116, rfl⟩
abbrev main_call0_call0_call0_v69 : Ref sig .tc := ⟨.hbm, 117, rfl⟩
abbrev main_call0_call0_call0_v70 : Ref sig .tc := ⟨.hbm, 118, rfl⟩
abbrev main_call0_call0_call0_v71 : Ref sig .tc := ⟨.hbm, 119, rfl⟩
abbrev main_call0_call0_call0_c_17 : Ref sig .tc := ⟨.hbm, 120, rfl⟩
abbrev main_call0_call0_call0_v72 : Ref sig .tc := ⟨.hbm, 121, rfl⟩
abbrev main_call0_call0_call0_v73 : Ref sig .tc := ⟨.hbm, 122, rfl⟩
abbrev main_call0_call0_call0_v74 : Ref sig .tc := ⟨.hbm, 123, rfl⟩
abbrev main_call0_call0_call0_c_18 : Ref sig .tc := ⟨.hbm, 124, rfl⟩
abbrev main_call0_call0_call0_v75 : Ref sig .tc := ⟨.hbm, 125, rfl⟩
abbrev main_call0_call0_call0_v76 : Ref sig .tc := ⟨.hbm, 126, rfl⟩
abbrev main_call0_call0_call0_c_19 : Ref sig .tc := ⟨.hbm, 127, rfl⟩
abbrev main_call0_call0_call0_v77 : Ref sig .tc := ⟨.hbm, 128, rfl⟩
abbrev main_call0_call0_call0_v78 : Ref sig .tc := ⟨.hbm, 129, rfl⟩
abbrev main_call0_call0_call0_v79 : Ref sig .tc := ⟨.hbm, 130, rfl⟩
abbrev main_call0_call0_call0_v80 : Ref sig .tc := ⟨.hbm, 131, rfl⟩
abbrev main_call0_call0_call0_v81 : Ref sig .tc := ⟨.hbm, 132, rfl⟩
abbrev main_call0_call0_call0_c_20 : Ref sig .tc := ⟨.hbm, 133, rfl⟩
abbrev main_call0_call0_call0_v82 : Ref sig .tc := ⟨.hbm, 134, rfl⟩
abbrev main_call0_call0_call0_v83 : Ref sig .tc := ⟨.hbm, 135, rfl⟩
abbrev main_call0_call0_call0_c_21 : Ref sig .tc := ⟨.hbm, 136, rfl⟩
abbrev main_call0_call0_call0_v84 : Ref sig .tc := ⟨.hbm, 137, rfl⟩
abbrev main_call0_call0_call0_v85 : Ref sig .tc := ⟨.hbm, 138, rfl⟩
abbrev main_call0_call0_call0_v86 : Ref sig .tc := ⟨.hbm, 139, rfl⟩
abbrev main_call0_call0_call0_v87 : Ref sig .tc := ⟨.hbm, 140, rfl⟩
abbrev main_call0_call0_call0_v88 : Ref sig .tc := ⟨.hbm, 141, rfl⟩
abbrev main_call0_call0_call0_c_22 : Ref sig .tc := ⟨.hbm, 142, rfl⟩
abbrev main_call0_call0_call0_v89 : Ref sig .tc := ⟨.hbm, 143, rfl⟩
abbrev main_call0_call0_call0_v90 : Ref sig .tc := ⟨.hbm, 144, rfl⟩
abbrev main_call0_call0_call0_c_23 : Ref sig .tc := ⟨.hbm, 145, rfl⟩
abbrev main_call0_call0_call0_v91 : Ref sig .tc := ⟨.hbm, 146, rfl⟩
abbrev main_call0_call0_call0_v92 : Ref sig .tc := ⟨.hbm, 147, rfl⟩
abbrev main_call0_call0_call0_v93 : Ref sig .tc := ⟨.hbm, 148, rfl⟩
abbrev main_call0_call0_call0_v94 : Ref sig .tc := ⟨.hbm, 149, rfl⟩
abbrev main_call0_call0_call0_v95 : Ref sig .tc := ⟨.hbm, 150, rfl⟩
abbrev main_call0_call0_call0_c_24 : Ref sig .tc := ⟨.hbm, 151, rfl⟩
abbrev main_call0_call0_call0_v96 : Ref sig .tc := ⟨.hbm, 152, rfl⟩
abbrev main_call0_call0_call0_v97 : Ref sig .tc := ⟨.hbm, 153, rfl⟩
abbrev main_call0_call0_call0_c_25 : Ref sig .tc := ⟨.hbm, 154, rfl⟩
abbrev main_call0_call0_call0_v98 : Ref sig .tc := ⟨.hbm, 155, rfl⟩
abbrev main_call0_call0_call0_v99 : Ref sig .tc := ⟨.hbm, 156, rfl⟩
abbrev main_call0_call0_call0_v100 : Ref sig .tc := ⟨.hbm, 157, rfl⟩
abbrev main_call0_call0_call0_v101 : Ref sig .tc := ⟨.hbm, 158, rfl⟩
abbrev main_call0_call0_call0_v102 : Ref sig .tc := ⟨.hbm, 159, rfl⟩
abbrev main_call0_call0_call0_v103 : Ref sig .tc := ⟨.hbm, 160, rfl⟩
abbrev main_call0_call0_call0_v104 : Ref sig .tc := ⟨.hbm, 161, rfl⟩
abbrev main_call0_call0_call0_v105 : Ref sig .tc := ⟨.hbm, 162, rfl⟩
abbrev main_call0_call0_call0_c_26 : Ref sig .tc := ⟨.hbm, 163, rfl⟩
abbrev main_call0_call0_call0_v106 : Ref sig .tc := ⟨.hbm, 164, rfl⟩
abbrev main_call0_call0_call0_v107 : Ref sig .tc := ⟨.hbm, 165, rfl⟩
abbrev main_call0_call0_call0_v108 : Ref sig .tc := ⟨.hbm, 166, rfl⟩
abbrev main_call0_call0_call0_c_27 : Ref sig .tc := ⟨.hbm, 167, rfl⟩
abbrev main_call0_call0_call0_v109 : Ref sig .tc := ⟨.hbm, 168, rfl⟩
abbrev main_call0_call0_call0_v110 : Ref sig .tc := ⟨.hbm, 169, rfl⟩
abbrev main_call0_call0_call0_c_28 : Ref sig .tc := ⟨.hbm, 170, rfl⟩
abbrev main_call0_call0_call0_v111 : Ref sig .tc := ⟨.hbm, 171, rfl⟩
abbrev main_call0_call0_call0_v112 : Ref sig .tc := ⟨.hbm, 172, rfl⟩
abbrev main_call0_call0_call0_v113 : Ref sig .tc := ⟨.hbm, 173, rfl⟩
abbrev main_call0_call0_call0_v114 : Ref sig .tc := ⟨.hbm, 174, rfl⟩
abbrev main_call0_call0_call0_v115 : Ref sig .tc := ⟨.hbm, 175, rfl⟩
abbrev main_call0_call0_call0_c_29 : Ref sig .tc := ⟨.hbm, 176, rfl⟩
abbrev main_call0_call0_call0_v116 : Ref sig .tc := ⟨.hbm, 177, rfl⟩
abbrev main_call0_call0_call0_v117 : Ref sig .tc := ⟨.hbm, 178, rfl⟩
abbrev main_call0_call0_call0_c_30 : Ref sig .tc := ⟨.hbm, 179, rfl⟩
abbrev main_call0_call0_call0_v118 : Ref sig .tc := ⟨.hbm, 180, rfl⟩
abbrev main_call0_call0_call0_v119 : Ref sig .tc := ⟨.hbm, 181, rfl⟩
abbrev main_call0_call0_call0_v120 : Ref sig .tc := ⟨.hbm, 182, rfl⟩
abbrev main_call0_call0_call0_v121 : Ref sig .tc := ⟨.hbm, 183, rfl⟩
abbrev main_call0_call0_call0_v122 : Ref sig .tc := ⟨.hbm, 184, rfl⟩
abbrev main_call0_call0_call0_c_31 : Ref sig .tc := ⟨.hbm, 185, rfl⟩
abbrev main_call0_call0_call0_v123 : Ref sig .tc := ⟨.hbm, 186, rfl⟩
abbrev main_call0_call0_call0_v124 : Ref sig .tc := ⟨.hbm, 187, rfl⟩
abbrev main_call0_call0_call0_c_32 : Ref sig .tc := ⟨.hbm, 188, rfl⟩
abbrev main_call0_call0_call0_v125 : Ref sig .tc := ⟨.hbm, 189, rfl⟩
abbrev main_call0_call0_call0_v126 : Ref sig .tc := ⟨.hbm, 190, rfl⟩
abbrev main_call0_call0_call0_v127 : Ref sig .tc := ⟨.hbm, 191, rfl⟩
abbrev main_call0_call0_call0_v128 : Ref sig .tc := ⟨.hbm, 192, rfl⟩
abbrev main_call0_call0_call0_v129 : Ref sig .tc := ⟨.hbm, 193, rfl⟩
abbrev main_call0_call0_call0_c_33 : Ref sig .tc := ⟨.hbm, 194, rfl⟩
abbrev main_call0_call0_call0_v130 : Ref sig .tc := ⟨.hbm, 195, rfl⟩
abbrev main_call0_call0_call0_v131 : Ref sig .tc := ⟨.hbm, 196, rfl⟩
abbrev main_call0_call0_call0_c_34 : Ref sig .tc := ⟨.hbm, 197, rfl⟩
abbrev main_call0_call0_call0_v132 : Ref sig .tc := ⟨.hbm, 198, rfl⟩
abbrev main_call0_call0_call0_v133 : Ref sig .tc := ⟨.hbm, 199, rfl⟩
abbrev main_call0_call0_call0_v134 : Ref sig .tc := ⟨.hbm, 200, rfl⟩
abbrev main_call0_call0_call0_v135 : Ref sig .tc := ⟨.hbm, 201, rfl⟩
abbrev main_call0_call0_call0_v136 : Ref sig .tc := ⟨.hbm, 202, rfl⟩
abbrev main_call0_call0_call0_v137 : Ref sig .tc := ⟨.hbm, 203, rfl⟩
abbrev main_call0_call0_call0_v138 : Ref sig .tc := ⟨.hbm, 204, rfl⟩
abbrev main_call0_call0_call0_v139 : Ref sig .tc := ⟨.hbm, 205, rfl⟩
abbrev main_call0_call0_call0_c_35 : Ref sig .tc := ⟨.hbm, 206, rfl⟩
abbrev main_call0_call0_call0_v140 : Ref sig .tc := ⟨.hbm, 207, rfl⟩
abbrev main_call0_call0_call0_v141 : Ref sig .tc := ⟨.hbm, 208, rfl⟩
abbrev main_call0_call0_call0_v142 : Ref sig .tc := ⟨.hbm, 209, rfl⟩
abbrev main_call0_call0_call0_c_36 : Ref sig .tc := ⟨.hbm, 210, rfl⟩
abbrev main_call0_call0_call0_v143 : Ref sig .tc := ⟨.hbm, 211, rfl⟩
abbrev main_call0_call0_call0_v144 : Ref sig .tc := ⟨.hbm, 212, rfl⟩
abbrev main_call0_call0_call0_c_37 : Ref sig .tc := ⟨.hbm, 213, rfl⟩
abbrev main_call0_call0_call0_v145 : Ref sig .tc := ⟨.hbm, 214, rfl⟩
abbrev main_call0_call0_call0_v146 : Ref sig .tc := ⟨.hbm, 215, rfl⟩
abbrev main_call0_call0_call0_v147 : Ref sig .tc := ⟨.hbm, 216, rfl⟩
abbrev main_call0_call0_call0_v148 : Ref sig .tc := ⟨.hbm, 217, rfl⟩
abbrev main_call0_call0_call0_v149 : Ref sig .tc := ⟨.hbm, 218, rfl⟩
abbrev main_call0_call0_call0_c_38 : Ref sig .tc := ⟨.hbm, 219, rfl⟩
abbrev main_call0_call0_call0_v150 : Ref sig .tc := ⟨.hbm, 220, rfl⟩
abbrev main_call0_call0_call0_v151 : Ref sig .tc := ⟨.hbm, 221, rfl⟩
abbrev main_call0_call0_call0_c_39 : Ref sig .tc := ⟨.hbm, 222, rfl⟩
abbrev main_call0_call0_call0_v152 : Ref sig .tc := ⟨.hbm, 223, rfl⟩
abbrev main_call0_call0_call0_v153 : Ref sig .tc := ⟨.hbm, 224, rfl⟩
abbrev main_call0_call0_call0_v154 : Ref sig .tc := ⟨.hbm, 225, rfl⟩
abbrev main_call0_call0_call0_v155 : Ref sig .tc := ⟨.hbm, 226, rfl⟩
abbrev main_call0_call0_call0_v156 : Ref sig .tc := ⟨.hbm, 227, rfl⟩
abbrev main_call0_call0_call0_c_40 : Ref sig .tc := ⟨.hbm, 228, rfl⟩
abbrev main_call0_call0_call0_v157 : Ref sig .tc := ⟨.hbm, 229, rfl⟩
abbrev main_call0_call0_call0_v158 : Ref sig .tc := ⟨.hbm, 230, rfl⟩
abbrev main_call0_call0_call0_c_41 : Ref sig .tc := ⟨.hbm, 231, rfl⟩
abbrev main_call0_call0_call0_v159 : Ref sig .tc := ⟨.hbm, 232, rfl⟩
abbrev main_call0_call0_call0_v160 : Ref sig .tc := ⟨.hbm, 233, rfl⟩
abbrev main_call0_call0_call0_v161 : Ref sig .tc := ⟨.hbm, 234, rfl⟩
abbrev main_call0_call0_call0_v162 : Ref sig .tc := ⟨.hbm, 235, rfl⟩
abbrev main_call0_call0_call0_v163 : Ref sig .tc := ⟨.hbm, 236, rfl⟩
abbrev main_call0_call0_call0_c_42 : Ref sig .tc := ⟨.hbm, 237, rfl⟩
abbrev main_call0_call0_call0_v164 : Ref sig .tc := ⟨.hbm, 238, rfl⟩
abbrev main_call0_call0_call0_v165 : Ref sig .tc := ⟨.hbm, 239, rfl⟩
abbrev main_call0_call0_call0_c_43 : Ref sig .tc := ⟨.hbm, 240, rfl⟩
abbrev main_call0_call0_call0_v166 : Ref sig .tc := ⟨.hbm, 241, rfl⟩
abbrev main_call0_call0_call0_v167 : Ref sig .tc := ⟨.hbm, 242, rfl⟩
abbrev main_call0_call0_call0_v168 : Ref sig .tc := ⟨.hbm, 243, rfl⟩
abbrev main_call0_call0_call0_v169 : Ref sig .tc := ⟨.hbm, 244, rfl⟩
abbrev main_call0_call0_call0_v170 : Ref sig .tc := ⟨.hbm, 245, rfl⟩
abbrev main_call0_call0_v19_0 : Ref sig .tc := ⟨.hbm, 246, rfl⟩
abbrev main_call0_call0_call0_v172 : Ref sig .tc := ⟨.hbm, 247, rfl⟩
abbrev main_call0_call0_call0_v173 : Ref sig .tc := ⟨.hbm, 248, rfl⟩
abbrev main_call0_call0_call0_c_44 : Ref sig .tc := ⟨.hbm, 249, rfl⟩
abbrev main_call0_call0_call0_v174 : Ref sig .tc := ⟨.hbm, 250, rfl⟩
abbrev main_call0_call0_v19_1 : Ref sig .tc := ⟨.hbm, 251, rfl⟩
abbrev main_call0_call0_v20 : Ref sig .tc := ⟨.hbm, 252, rfl⟩
abbrev main_call0_call0_c_2 : Ref sig .tc := ⟨.hbm, 253, rfl⟩
abbrev main_call0_call0_v21 : Ref sig .tc := ⟨.hbm, 254, rfl⟩
abbrev main_call0_call0_v22 : Ref sig .tc := ⟨.hbm, 255, rfl⟩
abbrev main_call0_call0_c_3 : Ref sig .tc := ⟨.hbm, 256, rfl⟩
abbrev main_call0_call0_v23 : Ref sig .tc := ⟨.hbm, 257, rfl⟩
abbrev main_call0_call0_v24 : Ref sig .tc := ⟨.hbm, 258, rfl⟩
abbrev main_call0_call0_v25 : Ref sig .tc := ⟨.hbm, 259, rfl⟩
abbrev main_call0_call0_cst : Ref sig .tc := ⟨.hbm, 260, rfl⟩
abbrev main_call0_call0_v26 : Ref sig .tc := ⟨.hbm, 261, rfl⟩
abbrev main_call0_call0_v27 : Ref sig .tc := ⟨.hbm, 262, rfl⟩
abbrev main_call0_call0_v28 : Ref sig .tc := ⟨.hbm, 263, rfl⟩
abbrev main_call0_call0_v29 : Ref sig .tc := ⟨.hbm, 264, rfl⟩
abbrev main_call0_call0_v30 : Ref sig .tc := ⟨.hbm, 265, rfl⟩
abbrev main_call0_call0_v31 : Ref sig .tc := ⟨.hbm, 266, rfl⟩
abbrev main_call0_call0_v32 : Ref sig .tc := ⟨.hbm, 267, rfl⟩
abbrev main_call0_call0_v33 : Ref sig .tc := ⟨.hbm, 268, rfl⟩
abbrev main_call0_v0 : Ref sig .tc := ⟨.hbm, 269, rfl⟩
abbrev main_call0_v1 : Ref sig .tc := ⟨.hbm, 270, rfl⟩
abbrev main_call0_v2 : Ref sig .tc := ⟨.hbm, 271, rfl⟩
abbrev main_v0 : Ref sig .tc := ⟨.hbm, 272, rfl⟩
abbrev main_cst_0 : Ref sig .tc := ⟨.hbm, 273, rfl⟩
abbrev main_v1 : Ref sig .tc := ⟨.hbm, 274, rfl⟩
abbrev main_v2 : Ref sig .tc := ⟨.hbm, 275, rfl⟩
abbrev main_c_1 : Ref sig .tc := ⟨.hbm, 276, rfl⟩
abbrev main_call1_v0 : Ref sig .tc := ⟨.hbm, 277, rfl⟩
abbrev main_v3 : Ref sig .tc := ⟨.hbm, 278, rfl⟩
abbrev main_v4 : Ref sig .tc := ⟨.hbm, 279, rfl⟩
abbrev main_v5 : Ref sig .tc := ⟨.hbm, 280, rfl⟩
abbrev main_v6 : Ref sig .tc := ⟨.hbm, 281, rfl⟩
abbrev main_v7 : Ref sig .tc := ⟨.hbm, 282, rfl⟩
abbrev main_v8 : Ref sig .tc := ⟨.hbm, 283, rfl⟩
abbrev main_v9 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_2 : BitVec 32 := 24#32
  let v6 : BitVec 1 := Scalar.cmpi .eq arg0 c24_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x8x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x9x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x8x100000 : Shape := ⟨3, ![32, 8, 100000]⟩
abbrev S32x1 : Shape := ⟨2, ![32, 1]⟩
abbrev S32x8 : Shape := ⟨2, ![32, 8]⟩
abbrev S2 : Shape := ⟨1, ![2]⟩
abbrev S32 : Shape := ⟨1, ![32]⟩
abbrev S8 : Shape := ⟨1, ![8]⟩
abbrev S1x8 : Shape := ⟨2, ![1, 8]⟩
abbrev S_ : Shape := ⟨0, ![]⟩
abbrev S32x8x1 : Shape := ⟨3, ![32, 8, 1]⟩
abbrev S32x8x3 : Shape := ⟨3, ![32, 8, 3]⟩
abbrev S256x100000 : Shape := ⟨2, ![256, 100000]⟩
abbrev S1x1 : Shape := ⟨2, ![1, 1]⟩
abbrev S1 : Shape := ⟨1, ![1]⟩
abbrev S256 : Shape := ⟨1, ![256]⟩
abbrev S32x9 : Shape := ⟨2, ![32, 9]⟩

abbrev nBuf : Space → Nat
  | .hbm => 400
  | .vmem => 0
  | .smem => 0
  | _ => 0

abbrev hbmTy0_0 (i : Nat) : BufTy := match i % 128 with
  | 0 => ⟨S32x8x100000, .f32⟩
  | 1 => ⟨S32x1, .i32⟩
  | 2 => ⟨S32x8x100000, .f32⟩
  | 3 => ⟨S32x8, .i32⟩
  | 4 => ⟨S32x8, .f32⟩
  | 5 => ⟨S2, .i32⟩
  | 6 => ⟨S32, .i32⟩
  | 7 => ⟨S32x1, .i32⟩
  | 8 => ⟨S8, .i32⟩
  | 9 => ⟨S1x8, .i32⟩
  | 10 => ⟨S_, .i32⟩
  | 11 => ⟨S32x1, .i32⟩
  | 12 => ⟨S32x1, .i1⟩
  | 13 => ⟨S_, .i32⟩
  | 14 => ⟨S32x1, .i32⟩
  | 15 => ⟨S32x1, .i32⟩
  | 16 => ⟨S32x1, .i32⟩
  | 17 => ⟨S_, .i32⟩
  | 18 => ⟨S1x8, .i32⟩
  | 19 => ⟨S1x8, .i1⟩
  | 20 => ⟨S_, .i32⟩
  | 21 => ⟨S1x8, .i32⟩
  | 22 => ⟨S1x8, .i32⟩
  | 23 => ⟨S1x8, .i32⟩
  | 24 => ⟨S_, .i32⟩
  | 25 => ⟨S32x8, .i32⟩
  | 26 => ⟨S32x8, .i1⟩
  | 27 => ⟨S_, .i32⟩
  | 28 => ⟨S32x8, .i32⟩
  | 29 => ⟨S32x8, .i32⟩
  | 30 => ⟨S32x8, .i32⟩
  | 31 => ⟨S32x8, .i32⟩
  | 32 => ⟨S32x8, .i32⟩
  | 33 => ⟨S32x8x1, .i32⟩
  | 34 => ⟨S32x8x1, .i32⟩
  | 35 => ⟨S32x8x1, .i32⟩
  | 36 => ⟨S32x8x3, .i32⟩
  | 37 => ⟨S32x8, .f32⟩
  | 38 => ⟨S_, .i32⟩
  | 39 => ⟨S32x1, .i32⟩
  | 40 => ⟨S32x1, .i1⟩
  | 41 => ⟨S_, .i32⟩
  | 42 => ⟨S32x1, .i32⟩
  | 43 => ⟨S32x1, .i32⟩
  | 44 => ⟨S32x1, .i32⟩
  | 45 => ⟨S_, .i32⟩
  | 46 => ⟨S1x8, .i32⟩
  | 47 => ⟨S1x8, .i1⟩
  | 48 => ⟨S_, .i32⟩
  | 49 => ⟨S1x8, .i32⟩
  | 50 => ⟨S1x8, .i32⟩
  | 51 => ⟨S1x8, .i32⟩
  | 52 => ⟨S_, .i32⟩
  | 53 => ⟨S32x8, .i32⟩
  | 54 => ⟨S32x8, .i1⟩
  | 55 => ⟨S_, .i32⟩
  | 56 => ⟨S32x8, .i32⟩
  | 57 => ⟨S32x8, .i32⟩
  | 58 => ⟨S32x8, .i32⟩
  | 59 => ⟨S32x8, .i32⟩
  | 60 => ⟨S32x8, .i32⟩
  | 61 => ⟨S32x8x1, .i32⟩
  | 62 => ⟨S32x8x1, .i32⟩
  | 63 => ⟨S32x8x1, .i32⟩
  | 64 => ⟨S32x8x3, .i32⟩
  | 65 => ⟨S32x8, .f32⟩
  | 66 => ⟨S32x8, .f32⟩
  | 67 => ⟨S_, .f32⟩
  | 68 => ⟨S32x8, .f32⟩
  | 69 => ⟨S32x8, .f32⟩
  | 70 => ⟨S32x8, .i1⟩
  | 71 => ⟨S32x8x100000, .f32⟩
  | 72 => ⟨S_, .f32⟩
  | 73 => ⟨S32x8x100000, .f32⟩
  | 74 => ⟨S32x8x100000, .f32⟩
  | 75 => ⟨S_, .f32⟩
  | 76 => ⟨S32x8, .f32⟩
  | 77 => ⟨S32x8x1, .f32⟩
  | 78 => ⟨S32x8x100000, .f32⟩
  | 79 => ⟨S32x8x100000, .f32⟩
  | 80 => ⟨S256x100000, .f32⟩
  | 81 => ⟨S_, .f32⟩
  | 82 => ⟨S_, .f32⟩
  | 83 => ⟨S_, .f32⟩
  | 84 => ⟨S_, .f32⟩
  | 85 => ⟨S1x1, .f32⟩
  | 86 => ⟨S1x1, .f32⟩
  | 87 => ⟨S1, .i32⟩
  | 88 => ⟨S_, .i32⟩
  | 89 => ⟨S1, .i32⟩
  | 90 => ⟨S_, .i32⟩
  | 91 => ⟨S256x100000, .i64⟩
  | 92 => ⟨S256x100000, .i64⟩
  | 93 => ⟨S_, .i64⟩
  | 94 => ⟨S256x100000, .i64⟩
  | 95 => ⟨S256x100000, .i64⟩
  | 96 => ⟨S_, .i64⟩
  | 97 => ⟨S256x100000, .i64⟩
  | 98 => ⟨S256x100000, .i64⟩
  | 99 => ⟨S256x100000, .i64⟩
  | 100 => ⟨S_, .i64⟩
  | 101 => ⟨S256x100000, .i64⟩
  | 102 => ⟨S256x100000, .i64⟩
  | 103 => ⟨S256x100000, .i32⟩
  | 104 => ⟨S256x100000, .i32⟩
  | 105 => ⟨S_, .i32⟩
  | 106 => ⟨S_, .i32⟩
  | 107 => ⟨S_, .i32⟩
  | 108 => ⟨S256x100000, .i32⟩
  | 109 => ⟨S256x100000, .i32⟩
  | 110 => ⟨S256x100000, .i32⟩
  | 111 => ⟨S256x100000, .i32⟩
  | 112 => ⟨S256x100000, .i32⟩
  | 113 => ⟨S_, .i32⟩
  | 114 => ⟨S256x100000, .i32⟩
  | 115 => ⟨S256x100000, .i32⟩
  | 116 => ⟨S_, .i32⟩
  | 117 => ⟨S256x100000, .i32⟩
  | 118 => ⟨S256x100000, .i32⟩
  | 119 => ⟨S256x100000, .i32⟩
  | 120 => ⟨S256x100000, .i32⟩
  | 121 => ⟨S256x100000, .i32⟩
  | 122 => ⟨S_, .i32⟩
  | 123 => ⟨S256x100000, .i32⟩
  | 124 => ⟨S256x100000, .i32⟩
  | 125 => ⟨S_, .i32⟩
  | 126 => ⟨S256x100000, .i32⟩
  | 127 => ⟨S256x100000, .i32⟩
  | _ => ⟨S32x8x100000, .f32⟩

abbrev hbmTy0_1 (i : Nat) : BufTy := match i % 128 with
  | 0 => ⟨S256x100000, .i32⟩
  | 1 => ⟨S256x100000, .i32⟩
  | 2 => ⟨S256x100000, .i32⟩
  | 3 => ⟨S_, .i32⟩
  | 4 => ⟨S256x100000, .i32⟩
  | 5 => ⟨S256x100000, .i32⟩
  | 6 => ⟨S_, .i32⟩
  | 7 => ⟨S256x100000, .i32⟩
  | 8 => ⟨S256x100000, .i32⟩
  | 9 => ⟨S256x100000, .i32⟩
  | 10 => ⟨S256x100000, .i32⟩
  | 11 => ⟨S256x100000, .i32⟩
  | 12 => ⟨S_, .i32⟩
  | 13 => ⟨S256x100000, .i32⟩
  | 14 => ⟨S256x100000, .i32⟩
  | 15 => ⟨S_, .i32⟩
  | 16 => ⟨S256x100000, .i32⟩
  | 17 => ⟨S256x100000, .i32⟩
  | 18 => ⟨S256x100000, .i32⟩
  | 19 => ⟨S256x100000, .i32⟩
  | 20 => ⟨S256x100000, .i32⟩
  | 21 => ⟨S256x100000, .i32⟩
  | 22 => ⟨S256x100000, .i32⟩
  | 23 => ⟨S256x100000, .i32⟩
  | 24 => ⟨S_, .i32⟩
  | 25 => ⟨S256x100000, .i32⟩
  | 26 => ⟨S256x100000, .i32⟩
  | 27 => ⟨S256x100000, .i32⟩
  | 28 => ⟨S_, .i32⟩
  | 29 => ⟨S256x100000, .i32⟩
  | 30 => ⟨S256x100000, .i32⟩
  | 31 => ⟨S_, .i32⟩
  | 32 => ⟨S256x100000, .i32⟩
  | 33 => ⟨S256x100000, .i32⟩
  | 34 => ⟨S256x100000, .i32⟩
  | 35 => ⟨S256x100000, .i32⟩
  | 36 => ⟨S256x100000, .i32⟩
  | 37 => ⟨S_, .i32⟩
  | 38 => ⟨S256x100000, .i32⟩
  | 39 => ⟨S256x100000, .i32⟩
  | 40 => ⟨S_, .i32⟩
  | 41 => ⟨S256x100000, .i32⟩
  | 42 => ⟨S256x100000, .i32⟩
  | 43 => ⟨S256x100000, .i32⟩
  | 44 => ⟨S256x100000, .i32⟩
  | 45 => ⟨S256x100000, .i32⟩
  | 46 => ⟨S_, .i32⟩
  | 47 => ⟨S256x100000, .i32⟩
  | 48 => ⟨S256x100000, .i32⟩
  | 49 => ⟨S_, .i32⟩
  | 50 => ⟨S256x100000, .i32⟩
  | 51 => ⟨S256x100000, .i32⟩
  | 52 => ⟨S256x100000, .i32⟩
  | 53 => ⟨S256x100000, .i32⟩
  | 54 => ⟨S256x100000, .i32⟩
  | 55 => ⟨S_, .i32⟩
  | 56 => ⟨S256x100000, .i32⟩
  | 57 => ⟨S256x100000, .i32⟩
  | 58 => ⟨S_, .i32⟩
  | 59 => ⟨S256x100000, .i32⟩
  | 60 => ⟨S256x100000, .i32⟩
  | 61 => ⟨S256x100000, .i32⟩
  | 62 => ⟨S256x100000, .i32⟩
  | 63 => ⟨S256x100000, .i32⟩
  | 64 => ⟨S256x100000, .i32⟩
  | 65 => ⟨S256x100000, .i32⟩
  | 66 => ⟨S256x100000, .i32⟩
  | 67 => ⟨S_, .i32⟩
  | 68 => ⟨S256x100000, .i32⟩
  | 69 => ⟨S256x100000, .i32⟩
  | 70 => ⟨S256x100000, .i32⟩
  | 71 => ⟨S_, .i32⟩
  | 72 => ⟨S256x100000, .i32⟩
  | 73 => ⟨S256x100000, .i32⟩
  | 74 => ⟨S_, .i32⟩
  | 75 => ⟨S256x100000, .i32⟩
  | 76 => ⟨S256x100000, .i32⟩
  | 77 => ⟨S256x100000, .i32⟩
  | 78 => ⟨S256x100000, .i32⟩
  | 79 => ⟨S256x100000, .i32⟩
  | 80 => ⟨S_, .i32⟩
  | 81 => ⟨S256x100000, .i32⟩
  | 82 => ⟨S256x100000, .i32⟩
  | 83 => ⟨S_, .i32⟩
  | 84 => ⟨S256x100000, .i32⟩
  | 85 => ⟨S256x100000, .i32⟩
  | 86 => ⟨S256x100000, .i32⟩
  | 87 => ⟨S256x100000, .i32⟩
  | 88 => ⟨S256x100000, .i32⟩
  | 89 => ⟨S_, .i32⟩
  | 90 => ⟨S256x100000, .i32⟩
  | 91 => ⟨S256x100000, .i32⟩
  | 92 => ⟨S_, .i32⟩
  | 93 => ⟨S256x100000, .i32⟩
  | 94 => ⟨S256x100000, .i32⟩
  | 95 => ⟨S256x100000, .i32⟩
  | 96 => ⟨S256x100000, .i32⟩
  | 97 => ⟨S256x100000, .i32⟩
  | 98 => ⟨S_, .i32⟩
  | 99 => ⟨S256x100000, .i32⟩
  | 100 => ⟨S256x100000, .i32⟩
  | 101 => ⟨S_, .i32⟩
  | 102 => ⟨S256x100000, .i32⟩
  | 103 => ⟨S256x100000, .i32⟩
  | 104 => ⟨S256x100000, .i32⟩
  | 105 => ⟨S256x100000, .i32⟩
  | 106 => ⟨S256x100000, .i32⟩
  | 107 => ⟨S256x100000, .i32⟩
  | 108 => ⟨S256x100000, .i32⟩
  | 109 => ⟨S256x100000, .i32⟩
  | 110 => ⟨S_, .i32⟩
  | 111 => ⟨S256x100000, .i32⟩
  | 112 => ⟨S256x100000, .i32⟩
  | 113 => ⟨S256x100000, .i32⟩
  | 114 => ⟨S_, .i32⟩
  | 115 => ⟨S256x100000, .i32⟩
  | 116 => ⟨S256x100000, .i32⟩
  | 117 => ⟨S_, .i32⟩
  | 118 => ⟨S256x100000, .i32⟩
  | 119 => ⟨S256x100000, .i32⟩
  | 120 => ⟨S256x100000, .i32⟩
  | 121 => ⟨S256x100000, .i32⟩
  | 122 => ⟨S256x100000, .i32⟩
  | 123 => ⟨S_, .i32⟩
  | 124 => ⟨S256x100000, .i32⟩
  | 125 => ⟨S256x100000, .i32⟩
  | 126 => ⟨S_, .i32⟩
  | 127 => ⟨S256x100000, .i32⟩
  | _ => ⟨S32x8x100000, .f32⟩

abbrev hbmTy0_2 (i : Nat) : BufTy := match i % 128 with
  | 0 => ⟨S256x100000, .i32⟩
  | 1 => ⟨S256x100000, .i32⟩
  | 2 => ⟨S256x100000, .i32⟩
  | 3 => ⟨S256x100000, .i32⟩
  | 4 => ⟨S_, .i32⟩
  | 5 => ⟨S256x100000, .i32⟩
  | 6 => ⟨S256x100000, .i32⟩
  | 7 => ⟨S_, .i32⟩
  | 8 => ⟨S256x100000, .i32⟩
  | 9 => ⟨S256x100000, .i32⟩
  | 10 => ⟨S256x100000, .i32⟩
  | 11 => ⟨S256x100000, .i32⟩
  | 12 => ⟨S256x100000, .i32⟩
  | 13 => ⟨S_, .i32⟩
  | 14 => ⟨S256x100000, .i32⟩
  | 15 => ⟨S256x100000, .i32⟩
  | 16 => ⟨S_, .i32⟩
  | 17 => ⟨S256x100000, .i32⟩
  | 18 => ⟨S256x100000, .i32⟩
  | 19 => ⟨S256x100000, .i32⟩
  | 20 => ⟨S256x100000, .i32⟩
  | 21 => ⟨S256x100000, .i32⟩
  | 22 => ⟨S256x100000, .i32⟩
  | 23 => ⟨S256x100000, .i32⟩
  | 24 => ⟨S256x100000, .i32⟩
  | 25 => ⟨S_, .i32⟩
  | 26 => ⟨S256x100000, .i32⟩
  | 27 => ⟨S256x100000, .i32⟩
  | 28 => ⟨S256x100000, .i32⟩
  | 29 => ⟨S_, .i32⟩
  | 30 => ⟨S256x100000, .i32⟩
  | 31 => ⟨S256x100000, .i32⟩
  | 32 => ⟨S_, .i32⟩
  | 33 => ⟨S256x100000, .i32⟩
  | 34 => ⟨S256x100000, .i32⟩
  | 35 => ⟨S256x100000, .i32⟩
  | 36 => ⟨S256x100000, .i32⟩
  | 37 => ⟨S256x100000, .i32⟩
  | 38 => ⟨S_, .i32⟩
  | 39 => ⟨S256x100000, .i32⟩
  | 40 => ⟨S256x100000, .i32⟩
  | 41 => ⟨S_, .i32⟩
  | 42 => ⟨S256x100000, .i32⟩
  | 43 => ⟨S256x100000, .i32⟩
  | 44 => ⟨S256x100000, .i32⟩
  | 45 => ⟨S256x100000, .i32⟩
  | 46 => ⟨S256x100000, .i32⟩
  | 47 => ⟨S_, .i32⟩
  | 48 => ⟨S256x100000, .i32⟩
  | 49 => ⟨S256x100000, .i32⟩
  | 50 => ⟨S_, .i32⟩
  | 51 => ⟨S256x100000, .i32⟩
  | 52 => ⟨S256x100000, .i32⟩
  | 53 => ⟨S256x100000, .i32⟩
  | 54 => ⟨S256x100000, .i32⟩
  | 55 => ⟨S256x100000, .i32⟩
  | 56 => ⟨S_, .i32⟩
  | 57 => ⟨S256x100000, .i32⟩
  | 58 => ⟨S256x100000, .i32⟩
  | 59 => ⟨S_, .i32⟩
  | 60 => ⟨S256x100000, .i32⟩
  | 61 => ⟨S256x100000, .i32⟩
  | 62 => ⟨S256x100000, .i32⟩
  | 63 => ⟨S256x100000, .i32⟩
  | 64 => ⟨S256x100000, .i32⟩
  | 65 => ⟨S256x100000, .i32⟩
  | 66 => ⟨S256x100000, .i32⟩
  | 67 => ⟨S256x100000, .i32⟩
  | 68 => ⟨S_, .i32⟩
  | 69 => ⟨S256x100000, .i32⟩
  | 70 => ⟨S256x100000, .i32⟩
  | 71 => ⟨S256x100000, .i32⟩
  | 72 => ⟨S_, .i32⟩
  | 73 => ⟨S256x100000, .i32⟩
  | 74 => ⟨S256x100000, .i32⟩
  | 75 => ⟨S_, .i32⟩
  | 76 => ⟨S256x100000, .i32⟩
  | 77 => ⟨S256x100000, .i32⟩
  | 78 => ⟨S256x100000, .f32⟩
  | 79 => ⟨S_, .f32⟩
  | 80 => ⟨S256x100000, .f32⟩
  | 81 => ⟨S256x100000, .f32⟩
  | 82 => ⟨S1x1, .f32⟩
  | 83 => ⟨S256x100000, .f32⟩
  | 84 => ⟨S256x100000, .f32⟩
  | 85 => ⟨S256x100000, .f32⟩
  | 86 => ⟨S256x100000, .f32⟩
  | 87 => ⟨S256x100000, .f32⟩
  | 88 => ⟨S256x100000, .f32⟩
  | 89 => ⟨S256x100000, .f32⟩
  | 90 => ⟨S256x100000, .f32⟩
  | 91 => ⟨S256x100000, .f32⟩
  | 92 => ⟨S256x100000, .f32⟩
  | 93 => ⟨S256x100000, .i32⟩
  | 94 => ⟨S_, .f32⟩
  | 95 => ⟨S_, .i32⟩
  | 96 => ⟨S256, .f32⟩
  | 97 => ⟨S256, .i32⟩
  | 98 => ⟨S32x8, .i32⟩
  | 99 => ⟨S32x8, .i1⟩
  | 100 => ⟨S_, .i1⟩
  | 101 => ⟨S32, .i1⟩
  | 102 => ⟨S32x8, .i32⟩
  | 103 => ⟨S_, .i1⟩
  | 104 => ⟨S_, .i32⟩
  | 105 => ⟨S32, .i1⟩
  | 106 => ⟨S32, .i32⟩
  | 107 => ⟨S_, .i32⟩
  | 108 => ⟨S_, .i32⟩
  | 109 => ⟨S32, .i32⟩
  | 110 => ⟨S32, .i32⟩
  | 111 => ⟨S8, .i32⟩
  | 112 => ⟨S1x8, .i32⟩
  | 113 => ⟨S32x1, .i32⟩
  | 114 => ⟨S32x8, .i32⟩
  | 115 => ⟨S32x8, .i32⟩
  | 116 => ⟨S32x8, .i1⟩
  | 117 => ⟨S32x1, .i32⟩
  | 118 => ⟨S32x8, .i32⟩
  | 119 => ⟨S32x8, .i32⟩
  | 120 => ⟨S32x8, .i1⟩
  | 121 => ⟨S_, .i32⟩
  | 122 => ⟨S32x8, .i32⟩
  | 123 => ⟨S32x8, .i32⟩
  | 124 => ⟨S32x1, .i32⟩
  | 125 => ⟨S32, .i32⟩
  | 126 => ⟨S_, .i32⟩
  | 127 => ⟨S32, .i32⟩
  | _ => ⟨S32x8x100000, .f32⟩

abbrev hbmTy0_3 (i : Nat) : BufTy := match i % 128 with
  | 0 => ⟨S32, .i1⟩
  | 1 => ⟨S32, .i32⟩
  | 2 => ⟨S_, .i32⟩
  | 3 => ⟨S_, .i32⟩
  | 4 => ⟨S32, .i32⟩
  | 5 => ⟨S32, .i32⟩
  | 6 => ⟨S_, .i32⟩
  | 7 => ⟨S32, .i32⟩
  | 8 => ⟨S32x8, .i1⟩
  | 9 => ⟨S32x8, .i32⟩
  | 10 => ⟨S32x8, .i32⟩
  | 11 => ⟨S32x8, .i32⟩
  | 12 => ⟨S32x8, .i32⟩
  | 13 => ⟨S32x8, .i32⟩
  | 14 => ⟨S32x1, .i32⟩
  | 15 => ⟨S32x9, .i32⟩
  | _ => ⟨S32x8x100000, .f32⟩

abbrev hbmTy (i : Nat) : BufTy := match i / 128 with
  | 0 => hbmTy0_0 i
  | 1 => hbmTy0_1 i
  | 2 => hbmTy0_2 i
  | 3 => hbmTy0_3 i
  | _ => ⟨S32x8x100000, .f32⟩

abbrev bufTy : (tb : Table) → Fin (tcTables nBuf tb) → BufTy
  | .hbm, ⟨i, _⟩ => hbmTy i
  | _, _ => ⟨S32x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_cst : Ref sig .tc := ⟨.hbm, 81, rfl⟩
abbrev main_call0_cst_0 : Ref sig .tc := ⟨.hbm, 82, rfl⟩
abbrev main_call0_call0_v0 : Ref sig .tc := ⟨.hbm, 83, rfl⟩
abbrev main_call0_call0_v1 : Ref sig .tc := ⟨.hbm, 84, rfl⟩
abbrev main_call0_call0_v2 : Ref sig .tc := ⟨.hbm, 85, rfl⟩
abbrev main_call0_call0_v3 : Ref sig .tc := ⟨.hbm, 86, rfl⟩
abbrev main_call0_call0_v4 : Ref sig .tc := ⟨.hbm, 87, rfl⟩
abbrev main_call0_call0_v5 : Ref sig .tc := ⟨.hbm, 88, rfl⟩
abbrev main_call0_call0_v6 : Ref sig .tc := ⟨.hbm, 89, rfl⟩
abbrev main_call0_call0_v7 : Ref sig .tc := ⟨.hbm, 90, rfl⟩
abbrev main_call0_call0_v8 : Ref sig .tc := ⟨.hbm, 91, rfl⟩
abbrev main_call0_call0_v9 : Ref sig .tc := ⟨.hbm, 92, rfl⟩
abbrev main_call0_call0_c : Ref sig .tc := ⟨.hbm, 93, rfl⟩
abbrev main_call0_call0_v10 : Ref sig .tc := ⟨.hbm, 94, rfl⟩
abbrev main_call0_call0_v11 : Ref sig .tc := ⟨.hbm, 95, rfl⟩
abbrev main_call0_call0_c_0 : Ref sig .tc := ⟨.hbm, 96, rfl⟩
abbrev main_call0_call0_v12 : Ref sig .tc := ⟨.hbm, 97, rfl⟩
abbrev main_call0_call0_v13 : Ref sig .tc := ⟨.hbm, 98, rfl⟩
abbrev main_call0_call0_v14 : Ref sig .tc := ⟨.hbm, 99, rfl⟩
abbrev main_call0_call0_c_1 : Ref sig .tc := ⟨.hbm, 100, rfl⟩
abbrev main_call0_call0_v15 : Ref sig .tc := ⟨.hbm, 101, rfl⟩
abbrev main_call0_call0_v16 : Ref sig .tc := ⟨.hbm, 102, rfl⟩
abbrev main_call0_call0_v17 : Ref sig .tc := ⟨.hbm, 103, rfl⟩
abbrev main_call0_call0_v18 : Ref sig .tc := ⟨.hbm, 104, rfl⟩
abbrev main_call0_call0_call0_v0 : Ref sig .tc := ⟨.hbm, 105, rfl⟩
abbrev main_call0_call0_call0_c : Ref sig .tc := ⟨.hbm, 106, rfl⟩
abbrev main_call0_call0_call0_v1 : Ref sig .tc := ⟨.hbm, 107, rfl⟩
abbrev main_call0_call0_call0_v2 : Ref sig .tc := ⟨.hbm, 108, rfl⟩
abbrev main_call0_call0_call0_v3 : Ref sig .tc := ⟨.hbm, 109, rfl⟩
abbrev main_call0_call0_call0_v4 : Ref sig .tc := ⟨.hbm, 110, rfl⟩
abbrev main_call0_call0_call0_v5 : Ref sig .tc := ⟨.hbm, 111, rfl⟩
abbrev main_call0_call0_call0_v6 : Ref sig .tc := ⟨.hbm, 112, rfl⟩
abbrev main_call0_call0_call0_c_0 : Ref sig .tc := ⟨.hbm, 113, rfl⟩
abbrev main_call0_call0_call0_v7 : Ref sig .tc := ⟨.hbm, 114, rfl⟩
abbrev main_call0_call0_call0_v8 : Ref sig .tc := ⟨.hbm, 115, rfl⟩
abbrev main_call0_call0_call0_c_1 : Ref sig .tc := ⟨.hbm, 116, rfl⟩
abbrev main_call0_call0_call0_v9 : Ref sig .tc := ⟨.hbm, 117, rfl⟩
abbrev main_call0_call0_call0_v10 : Ref sig .tc := ⟨.hbm, 118, rfl⟩
abbrev main_call0_call0_call0_v11 : Ref sig .tc := ⟨.hbm, 119, rfl⟩
abbrev main_call0_call0_call0_v12 : Ref sig .tc := ⟨.hbm, 120, rfl⟩
abbrev main_call0_call0_call0_v13 : Ref sig .tc := ⟨.hbm, 121, rfl⟩
abbrev main_call0_call0_call0_c_2 : Ref sig .tc := ⟨.hbm, 122, rfl⟩
abbrev main_call0_call0_call0_v14 : Ref sig .tc := ⟨.hbm, 123, rfl⟩
abbrev main_call0_call0_call0_v15 : Ref sig .tc := ⟨.hbm, 124, rfl⟩
abbrev main_call0_call0_call0_c_3 : Ref sig .tc := ⟨.hbm, 125, rfl⟩
abbrev main_call0_call0_call0_v16 : Ref sig .tc := ⟨.hbm, 126, rfl⟩
abbrev main_call0_call0_call0_v17 : Ref sig .tc := ⟨.hbm, 127, rfl⟩
abbrev main_call0_call0_call0_v18 : Ref sig .tc := ⟨.hbm, 128, rfl⟩
abbrev main_call0_call0_call0_v19 : Ref sig .tc := ⟨.hbm, 129, rfl⟩
abbrev main_call0_call0_call0_v20 : Ref sig .tc := ⟨.hbm, 130, rfl⟩
abbrev main_call0_call0_call0_c_4 : Ref sig .tc := ⟨.hbm, 131, rfl⟩
abbrev main_call0_call0_call0_v21 : Ref sig .tc := ⟨.hbm, 132, rfl⟩
abbrev main_call0_call0_call0_v22 : Ref sig .tc := ⟨.hbm, 133, rfl⟩
abbrev main_call0_call0_call0_c_5 : Ref sig .tc := ⟨.hbm, 134, rfl⟩
abbrev main_call0_call0_call0_v23 : Ref sig .tc := ⟨.hbm, 135, rfl⟩
abbrev main_call0_call0_call0_v24 : Ref sig .tc := ⟨.hbm, 136, rfl⟩
abbrev main_call0_call0_call0_v25 : Ref sig .tc := ⟨.hbm, 137, rfl⟩
abbrev main_call0_call0_call0_v26 : Ref sig .tc := ⟨.hbm, 138, rfl⟩
abbrev main_call0_call0_call0_v27 : Ref sig .tc := ⟨.hbm, 139, rfl⟩
abbrev main_call0_call0_call0_c_6 : Ref sig .tc := ⟨.hbm, 140, rfl⟩
abbrev main_call0_call0_call0_v28 : Ref sig .tc := ⟨.hbm, 141, rfl⟩
abbrev main_call0_call0_call0_v29 : Ref sig .tc := ⟨.hbm, 142, rfl⟩
abbrev main_call0_call0_call0_c_7 : Ref sig .tc := ⟨.hbm, 143, rfl⟩
abbrev main_call0_call0_call0_v30 : Ref sig .tc := ⟨.hbm, 144, rfl⟩
abbrev main_call0_call0_call0_v31 : Ref sig .tc := ⟨.hbm, 145, rfl⟩
abbrev main_call0_call0_call0_v32 : Ref sig .tc := ⟨.hbm, 146, rfl⟩
abbrev main_call0_call0_call0_v33 : Ref sig .tc := ⟨.hbm, 147, rfl⟩
abbrev main_call0_call0_call0_v34 : Ref sig .tc := ⟨.hbm, 148, rfl⟩
abbrev main_call0_call0_call0_v35 : Ref sig .tc := ⟨.hbm, 149, rfl⟩
abbrev main_call0_call0_call0_v36 : Ref sig .tc := ⟨.hbm, 150, rfl⟩
abbrev main_call0_call0_call0_v37 : Ref sig .tc := ⟨.hbm, 151, rfl⟩
abbrev main_call0_call0_call0_c_8 : Ref sig .tc := ⟨.hbm, 152, rfl⟩
abbrev main_call0_call0_call0_v38 : Ref sig .tc := ⟨.hbm, 153, rfl⟩
abbrev main_call0_call0_call0_v39 : Ref sig .tc := ⟨.hbm, 154, rfl⟩
abbrev main_call0_call0_call0_v40 : Ref sig .tc := ⟨.hbm, 155, rfl⟩
abbrev main_call0_call0_call0_c_9 : Ref sig .tc := ⟨.hbm, 156, rfl⟩
abbrev main_call0_call0_call0_v41 : Ref sig .tc := ⟨.hbm, 157, rfl⟩
abbrev main_call0_call0_call0_v42 : Ref sig .tc := ⟨.hbm, 158, rfl⟩
abbrev main_call0_call0_call0_c_10 : Ref sig .tc := ⟨.hbm, 159, rfl⟩
abbrev main_call0_call0_call0_v43 : Ref sig .tc := ⟨.hbm, 160, rfl⟩
abbrev main_call0_call0_call0_v44 : Ref sig .tc := ⟨.hbm, 161, rfl⟩
abbrev main_call0_call0_call0_v45 : Ref sig .tc := ⟨.hbm, 162, rfl⟩
abbrev main_call0_call0_call0_v46 : Ref sig .tc := ⟨.hbm, 163, rfl⟩
abbrev main_call0_call0_call0_v47 : Ref sig .tc := ⟨.hbm, 164, rfl⟩
abbrev main_call0_call0_call0_c_11 : Ref sig .tc := ⟨.hbm, 165, rfl⟩
abbrev main_call0_call0_call0_v48 : Ref sig .tc := ⟨.hbm, 166, rfl⟩
abbrev main_call0_call0_call0_v49 : Ref sig .tc := ⟨.hbm, 167, rfl⟩
abbrev main_call0_call0_call0_c_12 : Ref sig .tc := ⟨.hbm, 168, rfl⟩
abbrev main_call0_call0_call0_v50 : Ref sig .tc := ⟨.hbm, 169, rfl⟩
abbrev main_call0_call0_call0_v51 : Ref sig .tc := ⟨.hbm, 170, rfl⟩
abbrev main_call0_call0_call0_v52 : Ref sig .tc := ⟨.hbm, 171, rfl⟩
abbrev main_call0_call0_call0_v53 : Ref sig .tc := ⟨.hbm, 172, rfl⟩
abbrev main_call0_call0_call0_v54 : Ref sig .tc := ⟨.hbm, 173, rfl⟩
abbrev main_call0_call0_call0_c_13 : Ref sig .tc := ⟨.hbm, 174, rfl⟩
abbrev main_call0_call0_call0_v55 : Ref sig .tc := ⟨.hbm, 175, rfl⟩
abbrev main_call0_call0_call0_v56 : Ref sig .tc := ⟨.hbm, 176, rfl⟩
abbrev main_call0_call0_call0_c_14 : Ref sig .tc := ⟨.hbm, 177, rfl⟩
abbrev main_call0_call0_call0_v57 : Ref sig .tc := ⟨.hbm, 178, rfl⟩
abbrev main_call0_call0_call0_v58 : Ref sig .tc := ⟨.hbm, 179, rfl⟩
abbrev main_call0_call0_call0_v59 : Ref sig .tc := ⟨.hbm, 180, rfl⟩
abbrev main_call0_call0_call0_v60 : Ref sig .tc := ⟨.hbm, 181, rfl⟩
abbrev main_call0_call0_call0_v61 : Ref sig .tc := ⟨.hbm, 182, rfl⟩
abbrev main_call0_call0_call0_c_15 : Ref sig .tc := ⟨.hbm, 183, rfl⟩
abbrev main_call0_call0_call0_v62 : Ref sig .tc := ⟨.hbm, 184, rfl⟩
abbrev main_call0_call0_call0_v63 : Ref sig .tc := ⟨.hbm, 185, rfl⟩
abbrev main_call0_call0_call0_c_16 : Ref sig .tc := ⟨.hbm, 186, rfl⟩
abbrev main_call0_call0_call0_v64 : Ref sig .tc := ⟨.hbm, 187, rfl⟩
abbrev main_call0_call0_call0_v65 : Ref sig .tc := ⟨.hbm, 188, rfl⟩
abbrev main_call0_call0_call0_v66 : Ref sig .tc := ⟨.hbm, 189, rfl⟩
abbrev main_call0_call0_call0_v67 : Ref sig .tc := ⟨.hbm, 190, rfl⟩
abbrev main_call0_call0_call0_v68 : Ref sig .tc := ⟨.hbm, 191, rfl⟩
abbrev main_call0_call0_call0_v69 : Ref sig .tc := ⟨.hbm, 192, rfl⟩
abbrev main_call0_call0_call0_v70 : Ref sig .tc := ⟨.hbm, 193, rfl⟩
abbrev main_call0_call0_call0_v71 : Ref sig .tc := ⟨.hbm, 194, rfl⟩
abbrev main_call0_call0_call0_c_17 : Ref sig .tc := ⟨.hbm, 195, rfl⟩
abbrev main_call0_call0_call0_v72 : Ref sig .tc := ⟨.hbm, 196, rfl⟩
abbrev main_call0_call0_call0_v73 : Ref sig .tc := ⟨.hbm, 197, rfl⟩
abbrev main_call0_call0_call0_v74 : Ref sig .tc := ⟨.hbm, 198, rfl⟩
abbrev main_call0_call0_call0_c_18 : Ref sig .tc := ⟨.hbm, 199, rfl⟩
abbrev main_call0_call0_call0_v75 : Ref sig .tc := ⟨.hbm, 200, rfl⟩
abbrev main_call0_call0_call0_v76 : Ref sig .tc := ⟨.hbm, 201, rfl⟩
abbrev main_call0_call0_call0_c_19 : Ref sig .tc := ⟨.hbm, 202, rfl⟩
abbrev main_call0_call0_call0_v77 : Ref sig .tc := ⟨.hbm, 203, rfl⟩
abbrev main_call0_call0_call0_v78 : Ref sig .tc := ⟨.hbm, 204, rfl⟩
abbrev main_call0_call0_call0_v79 : Ref sig .tc := ⟨.hbm, 205, rfl⟩
abbrev main_call0_call0_call0_v80 : Ref sig .tc := ⟨.hbm, 206, rfl⟩
abbrev main_call0_call0_call0_v81 : Ref sig .tc := ⟨.hbm, 207, rfl⟩
abbrev main_call0_call0_call0_c_20 : Ref sig .tc := ⟨.hbm, 208, rfl⟩
abbrev main_call0_call0_call0_v82 : Ref sig .tc := ⟨.hbm, 209, rfl⟩
abbrev main_call0_call0_call0_v83 : Ref sig .tc := ⟨.hbm, 210, rfl⟩
abbrev main_call0_call0_call0_c_21 : Ref sig .tc := ⟨.hbm, 211, rfl⟩
abbrev main_call0_call0_call0_v84 : Ref sig .tc := ⟨.hbm, 212, rfl⟩
abbrev main_call0_call0_call0_v85 : Ref sig .tc := ⟨.hbm, 213, rfl⟩
abbrev main_call0_call0_call0_v86 : Ref sig .tc := ⟨.hbm, 214, rfl⟩
abbrev main_call0_call0_call0_v87 : Ref sig .tc := ⟨.hbm, 215, rfl⟩
abbrev main_call0_call0_call0_v88 : Ref sig .tc := ⟨.hbm, 216, rfl⟩
abbrev main_call0_call0_call0_c_22 : Ref sig .tc := ⟨.hbm, 217, rfl⟩
abbrev main_call0_call0_call0_v89 : Ref sig .tc := ⟨.hbm, 218, rfl⟩
abbrev main_call0_call0_call0_v90 : Ref sig .tc := ⟨.hbm, 219, rfl⟩
abbrev main_call0_call0_call0_c_23 : Ref sig .tc := ⟨.hbm, 220, rfl⟩
abbrev main_call0_call0_call0_v91 : Ref sig .tc := ⟨.hbm, 221, rfl⟩
abbrev main_call0_call0_call0_v92 : Ref sig .tc := ⟨.hbm, 222, rfl⟩
abbrev main_call0_call0_call0_v93 : Ref sig .tc := ⟨.hbm, 223, rfl⟩
abbrev main_call0_call0_call0_v94 : Ref sig .tc := ⟨.hbm, 224, rfl⟩
abbrev main_call0_call0_call0_v95 : Ref sig .tc := ⟨.hbm, 225, rfl⟩
abbrev main_call0_call0_call0_c_24 : Ref sig .tc := ⟨.hbm, 226, rfl⟩
abbrev main_call0_call0_call0_v96 : Ref sig .tc := ⟨.hbm, 227, rfl⟩
abbrev main_call0_call0_call0_v97 : Ref sig .tc := ⟨.hbm, 228, rfl⟩
abbrev main_call0_call0_call0_c_25 : Ref sig .tc := ⟨.hbm, 229, rfl⟩
abbrev main_call0_call0_call0_v98 : Ref sig .tc := ⟨.hbm, 230, rfl⟩
abbrev main_call0_call0_call0_v99 : Ref sig .tc := ⟨.hbm, 231, rfl⟩
abbrev main_call0_call0_call0_v100 : Ref sig .tc := ⟨.hbm, 232, rfl⟩
abbrev main_call0_call0_call0_v101 : Ref sig .tc := ⟨.hbm, 233, rfl⟩
abbrev main_call0_call0_call0_v102 : Ref sig .tc := ⟨.hbm, 234, rfl⟩
abbrev main_call0_call0_call0_v103 : Ref sig .tc := ⟨.hbm, 235, rfl⟩
abbrev main_call0_call0_call0_v104 : Ref sig .tc := ⟨.hbm, 236, rfl⟩
abbrev main_call0_call0_call0_v105 : Ref sig .tc := ⟨.hbm, 237, rfl⟩
abbrev main_call0_call0_call0_c_26 : Ref sig .tc := ⟨.hbm, 238, rfl⟩
abbrev main_call0_call0_call0_v106 : Ref sig .tc := ⟨.hbm, 239, rfl⟩
abbrev main_call0_call0_call0_v107 : Ref sig .tc := ⟨.hbm, 240, rfl⟩
abbrev main_call0_call0_call0_v108 : Ref sig .tc := ⟨.hbm, 241, rfl⟩
abbrev main_call0_call0_call0_c_27 : Ref sig .tc := ⟨.hbm, 242, rfl⟩
abbrev main_call0_call0_call0_v109 : Ref sig .tc := ⟨.hbm, 243, rfl⟩
abbrev main_call0_call0_call0_v110 : Ref sig .tc := ⟨.hbm, 244, rfl⟩
abbrev main_call0_call0_call0_c_28 : Ref sig .tc := ⟨.hbm, 245, rfl⟩
abbrev main_call0_call0_call0_v111 : Ref sig .tc := ⟨.hbm, 246, rfl⟩
abbrev main_call0_call0_call0_v112 : Ref sig .tc := ⟨.hbm, 247, rfl⟩
abbrev main_call0_call0_call0_v113 : Ref sig .tc := ⟨.hbm, 248, rfl⟩
abbrev main_call0_call0_call0_v114 : Ref sig .tc := ⟨.hbm, 249, rfl⟩
abbrev main_call0_call0_call0_v115 : Ref sig .tc := ⟨.hbm, 250, rfl⟩
abbrev main_call0_call0_call0_c_29 : Ref sig .tc := ⟨.hbm, 251, rfl⟩
abbrev main_call0_call0_call0_v116 : Ref sig .tc := ⟨.hbm, 252, rfl⟩
abbrev main_call0_call0_call0_v117 : Ref sig .tc := ⟨.hbm, 253, rfl⟩
abbrev main_call0_call0_call0_c_30 : Ref sig .tc := ⟨.hbm, 254, rfl⟩
abbrev main_call0_call0_call0_v118 : Ref sig .tc := ⟨.hbm, 255, rfl⟩
abbrev main_call0_call0_call0_v119 : Ref sig .tc := ⟨.hbm, 256, rfl⟩
abbrev main_call0_call0_call0_v120 : Ref sig .tc := ⟨.hbm, 257, rfl⟩
abbrev main_call0_call0_call0_v121 : Ref sig .tc := ⟨.hbm, 258, rfl⟩
abbrev main_call0_call0_call0_v122 : Ref sig .tc := ⟨.hbm, 259, rfl⟩
abbrev main_call0_call0_call0_c_31 : Ref sig .tc := ⟨.hbm, 260, rfl⟩
abbrev main_call0_call0_call0_v123 : Ref sig .tc := ⟨.hbm, 261, rfl⟩
abbrev main_call0_call0_call0_v124 : Ref sig .tc := ⟨.hbm, 262, rfl⟩
abbrev main_call0_call0_call0_c_32 : Ref sig .tc := ⟨.hbm, 263, rfl⟩
abbrev main_call0_call0_call0_v125 : Ref sig .tc := ⟨.hbm, 264, rfl⟩
abbrev main_call0_call0_call0_v126 : Ref sig .tc := ⟨.hbm, 265, rfl⟩
abbrev main_call0_call0_call0_v127 : Ref sig .tc := ⟨.hbm, 266, rfl⟩
abbrev main_call0_call0_call0_v128 : Ref sig .tc := ⟨.hbm, 267, rfl⟩
abbrev main_call0_call0_call0_v129 : Ref sig .tc := ⟨.hbm, 268, rfl⟩
abbrev main_call0_call0_call0_c_33 : Ref sig .tc := ⟨.hbm, 269, rfl⟩
abbrev main_call0_call0_call0_v130 : Ref sig .tc := ⟨.hbm, 270, rfl⟩
abbrev main_call0_call0_call0_v131 : Ref sig .tc := ⟨.hbm, 271, rfl⟩
abbrev main_call0_call0_call0_c_34 : Ref sig .tc := ⟨.hbm, 272, rfl⟩
abbrev main_call0_call0_call0_v132 : Ref sig .tc := ⟨.hbm, 273, rfl⟩
abbrev main_call0_call0_call0_v133 : Ref sig .tc := ⟨.hbm, 274, rfl⟩
abbrev main_call0_call0_call0_v134 : Ref sig .tc := ⟨.hbm, 275, rfl⟩
abbrev main_call0_call0_call0_v135 : Ref sig .tc := ⟨.hbm, 276, rfl⟩
abbrev main_call0_call0_call0_v136 : Ref sig .tc := ⟨.hbm, 277, rfl⟩
abbrev main_call0_call0_call0_v137 : Ref sig .tc := ⟨.hbm, 278, rfl⟩
abbrev main_call0_call0_call0_v138 : Ref sig .tc := ⟨.hbm, 279, rfl⟩
abbrev main_call0_call0_call0_v139 : Ref sig .tc := ⟨.hbm, 280, rfl⟩
abbrev main_call0_call0_call0_c_35 : Ref sig .tc := ⟨.hbm, 281, rfl⟩
abbrev main_call0_call0_call0_v140 : Ref sig .tc := ⟨.hbm, 282, rfl⟩
abbrev main_call0_call0_call0_v141 : Ref sig .tc := ⟨.hbm, 283, rfl⟩
abbrev main_call0_call0_call0_v142 : Ref sig .tc := ⟨.hbm, 284, rfl⟩
abbrev main_call0_call0_call0_c_36 : Ref sig .tc := ⟨.hbm, 285, rfl⟩
abbrev main_call0_call0_call0_v143 : Ref sig .tc := ⟨.hbm, 286, rfl⟩
abbrev main_call0_call0_call0_v144 : Ref sig .tc := ⟨.hbm, 287, rfl⟩
abbrev main_call0_call0_call0_c_37 : Ref sig .tc := ⟨.hbm, 288, rfl⟩
abbrev main_call0_call0_call0_v145 : Ref sig .tc := ⟨.hbm, 289, rfl⟩
abbrev main_call0_call0_call0_v146 : Ref sig .tc := ⟨.hbm, 290, rfl⟩
abbrev main_call0_call0_call0_v147 : Ref sig .tc := ⟨.hbm, 291, rfl⟩
abbrev main_call0_call0_call0_v148 : Ref sig .tc := ⟨.hbm, 292, rfl⟩
abbrev main_call0_call0_call0_v149 : Ref sig .tc := ⟨.hbm, 293, rfl⟩
abbrev main_call0_call0_call0_c_38 : Ref sig .tc := ⟨.hbm, 294, rfl⟩
abbrev main_call0_call0_call0_v150 : Ref sig .tc := ⟨.hbm, 295, rfl⟩
abbrev main_call0_call0_call0_v151 : Ref sig .tc := ⟨.hbm, 296, rfl⟩
abbrev main_call0_call0_call0_c_39 : Ref sig .tc := ⟨.hbm, 297, rfl⟩
abbrev main_call0_call0_call0_v152 : Ref sig .tc := ⟨.hbm, 298, rfl⟩
abbrev main_call0_call0_call0_v153 : Ref sig .tc := ⟨.hbm, 299, rfl⟩
abbrev main_call0_call0_call0_v154 : Ref sig .tc := ⟨.hbm, 300, rfl⟩
abbrev main_call0_call0_call0_v155 : Ref sig .tc := ⟨.hbm, 301, rfl⟩
abbrev main_call0_call0_call0_v156 : Ref sig .tc := ⟨.hbm, 302, rfl⟩
abbrev main_call0_call0_call0_c_40 : Ref sig .tc := ⟨.hbm, 303, rfl⟩
abbrev main_call0_call0_call0_v157 : Ref sig .tc := ⟨.hbm, 304, rfl⟩
abbrev main_call0_call0_call0_v158 : Ref sig .tc := ⟨.hbm, 305, rfl⟩
abbrev main_call0_call0_call0_c_41 : Ref sig .tc := ⟨.hbm, 306, rfl⟩
abbrev main_call0_call0_call0_v159 : Ref sig .tc := ⟨.hbm, 307, rfl⟩
abbrev main_call0_call0_call0_v160 : Ref sig .tc := ⟨.hbm, 308, rfl⟩
abbrev main_call0_call0_call0_v161 : Ref sig .tc := ⟨.hbm, 309, rfl⟩
abbrev main_call0_call0_call0_v162 : Ref sig .tc := ⟨.hbm, 310, rfl⟩
abbrev main_call0_call0_call0_v163 : Ref sig .tc := ⟨.hbm, 311, rfl⟩
abbrev main_call0_call0_call0_c_42 : Ref sig .tc := ⟨.hbm, 312, rfl⟩
abbrev main_call0_call0_call0_v164 : Ref sig .tc := ⟨.hbm, 313, rfl⟩
abbrev main_call0_call0_call0_v165 : Ref sig .tc := ⟨.hbm, 314, rfl⟩
abbrev main_call0_call0_call0_c_43 : Ref sig .tc := ⟨.hbm, 315, rfl⟩
abbrev main_call0_call0_call0_v166 : Ref sig .tc := ⟨.hbm, 316, rfl⟩
abbrev main_call0_call0_call0_v167 : Ref sig .tc := ⟨.hbm, 317, rfl⟩
abbrev main_call0_call0_call0_v168 : Ref sig .tc := ⟨.hbm, 318, rfl⟩
abbrev main_call0_call0_call0_v169 : Ref sig .tc := ⟨.hbm, 319, rfl⟩
abbrev main_call0_call0_call0_v170 : Ref sig .tc := ⟨.hbm, 320, rfl⟩
abbrev main_call0_call0_v19_0 : Ref sig .tc := ⟨.hbm, 321, rfl⟩
abbrev main_call0_call0_call0_v172 : Ref sig .tc := ⟨.hbm, 322, rfl⟩
abbrev main_call0_call0_call0_v173 : Ref sig .tc := ⟨.hbm, 323, rfl⟩
abbrev main_call0_call0_call0_c_44 : Ref sig .tc := ⟨.hbm, 324, rfl⟩
abbrev main_call0_call0_call0_v174 : Ref sig .tc := ⟨.hbm, 325, rfl⟩
abbrev main_call0_call0_v19_1 : Ref sig .tc := ⟨.hbm, 326, rfl⟩
abbrev main_call0_call0_v20 : Ref sig .tc := ⟨.hbm, 327, rfl⟩
abbrev main_call0_call0_c_2 : Ref sig .tc := ⟨.hbm, 328, rfl⟩
abbrev main_call0_call0_v21 : Ref sig .tc := ⟨.hbm, 329, rfl⟩
abbrev main_call0_call0_v22 : Ref sig .tc := ⟨.hbm, 330, rfl⟩
abbrev main_call0_call0_c_3 : Ref sig .tc := ⟨.hbm, 331, rfl⟩
abbrev main_call0_call0_v23 : Ref sig .tc := ⟨.hbm, 332, rfl⟩
abbrev main_call0_call0_v24 : Ref sig .tc := ⟨.hbm, 333, rfl⟩
abbrev main_call0_call0_v25 : Ref sig .tc := ⟨.hbm, 334, rfl⟩
abbrev main_call0_call0_cst : Ref sig .tc := ⟨.hbm, 335, rfl⟩
abbrev main_call0_call0_v26 : Ref sig .tc := ⟨.hbm, 336, rfl⟩
abbrev main_call0_call0_v27 : Ref sig .tc := ⟨.hbm, 337, rfl⟩
abbrev main_call0_call0_v28 : Ref sig .tc := ⟨.hbm, 338, rfl⟩
abbrev main_call0_call0_v29 : Ref sig .tc := ⟨.hbm, 339, rfl⟩
abbrev main_call0_call0_v30 : Ref sig .tc := ⟨.hbm, 340, rfl⟩
abbrev main_call0_call0_v31 : Ref sig .tc := ⟨.hbm, 341, rfl⟩
abbrev main_call0_call0_v32 : Ref sig .tc := ⟨.hbm, 342, rfl⟩
abbrev main_call0_call0_v33 : Ref sig .tc := ⟨.hbm, 343, rfl⟩
abbrev main_call0_v0 : Ref sig .tc := ⟨.hbm, 344, rfl⟩
abbrev main_call0_v1 : Ref sig .tc := ⟨.hbm, 345, rfl⟩
abbrev main_call0_v2 : Ref sig .tc := ⟨.hbm, 346, rfl⟩
abbrev main_v60 : Ref sig .tc := ⟨.hbm, 347, rfl⟩
abbrev main_v61 : Ref sig .tc := ⟨.hbm, 348, rfl⟩
abbrev main_call1_v0 : Ref sig .tc := ⟨.hbm, 349, rfl⟩
abbrev main_call1_cst : Ref sig .tc := ⟨.hbm, 350, rfl⟩
abbrev main_call1_c : Ref sig .tc := ⟨.hbm, 351, rfl⟩
abbrev main_call1_v1_0 : Ref sig .tc := ⟨.hbm, 352, rfl⟩
abbrev main_v62 : Ref sig .tc := ⟨.hbm, 353, rfl⟩
abbrev main_v63 : Ref sig .tc := ⟨.hbm, 354, rfl⟩
abbrev main_v64 : Ref sig .tc := ⟨.hbm, 355, rfl⟩
abbrev main_c_15 : Ref sig .tc := ⟨.hbm, 356, rfl⟩
abbrev main_v65 : Ref sig .tc := ⟨.hbm, 357, rfl⟩
abbrev main_call2_v0 : Ref sig .tc := ⟨.hbm, 358, rfl⟩
abbrev main_call2_c : Ref sig .tc := ⟨.hbm, 359, rfl⟩
abbrev main_call2_c_0 : Ref sig .tc := ⟨.hbm, 360, rfl⟩
abbrev main_call2_v1_0 : Ref sig .tc := ⟨.hbm, 361, rfl⟩
abbrev main_v66 : Ref sig .tc := ⟨.hbm, 362, rfl⟩
abbrev main_c_16 : Ref sig .tc := ⟨.hbm, 363, rfl⟩
abbrev main_call3_v0 : Ref sig .tc := ⟨.hbm, 364, rfl⟩
abbrev main_call3_v1 : Ref sig .tc := ⟨.hbm, 365, rfl⟩
abbrev main_v67 : Ref sig .tc := ⟨.hbm, 366, rfl⟩
abbrev main_v68 : Ref sig .tc := ⟨.hbm, 367, rfl⟩
abbrev main_v69 : Ref sig .tc := ⟨.hbm, 368, rfl⟩
abbrev main_v70 : Ref sig .tc := ⟨.hbm, 369, rfl⟩
abbrev main_v71 : Ref sig .tc := ⟨.hbm, 370, rfl⟩
abbrev main_v72 : Ref sig .tc := ⟨.hbm, 371, rfl⟩
abbrev main_v73 : Ref sig .tc := ⟨.hbm, 372, rfl⟩
abbrev main_v74 : Ref sig .tc := ⟨.hbm, 373, rfl⟩
abbrev main_v75 : Ref sig .tc := ⟨.hbm, 374, rfl⟩
abbrev main_v76 : Ref sig .tc := ⟨.hbm, 375, rfl⟩
abbrev main_v77 : Ref sig .tc := ⟨.hbm, 376, rfl⟩
abbrev main_c_17 : Ref sig .tc := ⟨.hbm, 377, rfl⟩
abbrev main_call4_v0 : Ref sig .tc := ⟨.hbm, 378, rfl⟩
abbrev main_v78 : Ref sig .tc := ⟨.hbm, 379, rfl⟩
abbrev main_v79 : Ref sig .tc := ⟨.hbm, 380, rfl⟩
abbrev main_v80 : Ref sig .tc := ⟨.hbm, 381, rfl⟩
abbrev main_c_18 : Ref sig .tc := ⟨.hbm, 382, rfl⟩
abbrev main_v81 : Ref sig .tc := ⟨.hbm, 383, rfl⟩
abbrev main_v82 : Ref sig .tc := ⟨.hbm, 384, rfl⟩
abbrev main_v83 : Ref sig .tc := ⟨.hbm, 385, rfl⟩
abbrev main_c_19 : Ref sig .tc := ⟨.hbm, 386, rfl⟩
abbrev main_call5_v0 : Ref sig .tc := ⟨.hbm, 387, rfl⟩
abbrev main_call5_v1 : Ref sig .tc := ⟨.hbm, 388, rfl⟩
abbrev main_v84 : Ref sig .tc := ⟨.hbm, 389, rfl⟩
abbrev main_c_20 : Ref sig .tc := ⟨.hbm, 390, rfl⟩
abbrev main_v85 : Ref sig .tc := ⟨.hbm, 391, rfl⟩
abbrev main_v86 : Ref sig .tc := ⟨.hbm, 392, rfl⟩
abbrev main_v87 : Ref sig .tc := ⟨.hbm, 393, rfl⟩
abbrev main_v88 : Ref sig .tc := ⟨.hbm, 394, rfl⟩
abbrev main_v89 : Ref sig .tc := ⟨.hbm, 395, rfl⟩
abbrev main_v90 : Ref sig .tc := ⟨.hbm, 396, rfl⟩
abbrev main_v91 : Ref sig .tc := ⟨.hbm, 397, rfl⟩
abbrev main_v92 : Ref sig .tc := ⟨.hbm, 398, rfl⟩
abbrev main_v93 : Ref sig .tc := ⟨.hbm, 399, rfl⟩

abbrev nD : Nat := 1
abbrev τ : Topo := Topo.v7x

variable {F : FTy → Type} [FloatOps F]
-- ==== Proof.BodyIdeal.lean ====
/- The kernel body, run once for each kind of grid point: the first block (where the scratch is set first), a later full
   block, and the last block (masked past the vocabulary's end), which also writes the result. Each statement says what
   the four scratch buffers and the result's staging buffer hold afterwards, as the body's own values of what it read. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four scratch buffers' contents: the two gathered entries, the greatest score so far and its coordinate. -/
structure St (F : FTy → Type) where
  selt : Vec F S32x8x1 .f32
  seld : Vec F S32x8x1 .f32
  rmax : Vec F S32x8x1 .f32
  ridx : Vec F S32x8x1 .i32

/-- The scratch as the first block sets it. -/
def st0 : St F := ⟨k0_pay1, k0_pay2, k0_pay3, k0_pay4⟩

/-- The scratch after a full block `j` of the target, the draft and the scores' factors, at the drafted tokens. -/
def stFull (j : BitVec 32) (T D : Vec F S32x8x4096 .f32) (Q : Vec F S1x32x8x4096 .f32) (K : Vec F S32x8x1 .i32) (s : St F) : St F :=
  ⟨k0_pay7 T (k0_pay11 j) K s.selt, k0_pay8 D (k0_pay11 j) K s.seld, k0_pay15 T D Q s.rmax s.rmax,
    k0_pay5 (k0_pay16 j T D Q s.rmax s.ridx)⟩

/-- The scratch after the last block. -/
def stTail (j : BitVec 32) (T D : Vec F S32x8x4096 .f32) (Q : Vec F S1x32x8x4096 .f32) (K : Vec F S32x8x1 .i32) (s : St F) : St F :=
  ⟨k0_pay25 T (k0_pay17 j) K s.selt, k0_pay26 D (k0_pay17 j) K s.seld, k0_pay21 j T D Q s.rmax s.rmax,
    k0_pay23 (k0_pay20 j T D Q s.rmax) (k0_pay22 j T D Q) s.ridx⟩

/-- The result's staging buffer after the last block: eight columns of tokens, and the last column. -/
def outTail (K : Vec F S32x8x1 .i32) (U : Vec F S32x8x1 .f32) (s : St F) (X : Vec F S32x9x1 .i32) : Vec F S32x9x1 .i32 :=
  VecWindow.put (VecWindow.put X ![0, 0, 0] S32x8x1.size (k0_pay9 s.selt s.seld U K s.ridx)) ![0, 8, 0] S32x1x1.size
    (k0_pay10 : Vec F S32x1x1 .i32)

/-- The body at the first point. -/
theorem run_first (c : Dev nD) (i : grid0.Coords) (hi : (i 0).val = 0)
    (arg1 : Memref sig .tc .vmem S32x8x4096 .f32) (harg1 : arg1.IsWhole)
    (arg2 : Memref sig .tc .vmem S32x8x4096 .f32) (harg2 : arg2.IsWhole)
    (arg3 : Memref sig .tc .vmem S1x32x8x4096 .f32) (harg3 : arg3.IsWhole)
    (arg4 : Memref sig .tc .vmem S32x8x1 .i32) (harg4 : arg4.IsWhole)
    (arg5 : Memref sig .tc .vmem S32x8x1 .f32) (harg5 : arg5.IsWhole)
    (arg6 : Memref sig .tc .vmem S32x9x1 .i32) (harg6 : arg6.IsWhole)
    (arg7 : Memref sig .tc .vmem S32x8x1 .f32) (harg7 : arg7.IsWhole)
    (arg8 : Memref sig .tc .vmem S32x8x1 .f32) (harg8 : arg8.IsWhole)
    (arg9 : Memref sig .tc .vmem S32x8x1 .f32) (harg9 : arg9.IsWhole)
    (arg10 : Memref sig .tc .vmem S32x8x1 .i32) (harg10 : arg10.IsWhole)
    (T D : Vec F S32x8x4096 .f32) (Q : Vec F S1x32x8x4096 .f32) (W : Vec F S32x8x1 .i32) (U : Vec F S32x8x1 .f32)
    (X : Vec F S32x9x1 .i32) (s : St F) (K : PUnit → sProp 𝕄) :
    iprop(owns (c : Thread nD τ) arg1 fullShare T ∗ owns (c : Thread nD τ) arg2 fullShare D ∗ owns (c : Thread nD τ) arg3 fullShare Q ∗ owns (c : Thread nD τ) arg4 fullShare W ∗ owns (c : Thread nD τ) arg5 fullShare U ∗ owns (c : Thread nD τ) arg6 fullShare X ∗ owns (c : Thread nD τ) arg7 fullShare s.selt ∗ owns (c : Thread nD τ) arg8 fullShare s.seld ∗ owns (c : Thread nD τ) arg9 fullShare s.rmax ∗ owns (c : Thread nD τ) arg10 fullShare s.ridx
        ∗ (iprop(owns (c : Thread nD τ) arg1 fullShare T ∗ owns (c : Thread nD τ) arg2 fullShare D ∗ owns (c : Thread nD τ) arg3 fullShare Q ∗ owns (c : Thread nD τ) arg4 fullShare W ∗ owns (c : Thread nD τ) arg5 fullShare U ∗ owns (c : Thread nD τ) arg6 fullShare X ∗ owns (c : Thread nD τ) arg7 fullShare (stFull (BitVec.ofNat 32 (i 0).val) T D Q W st0).selt ∗ owns (c : Thread nD τ) arg8 fullShare (stFull (BitVec.ofNat 32 (i 0).val) T D Q W st0).seld ∗ owns (c : Thread nD τ) arg9 fullShare (stFull (BitVec.ofNat 32 (i 0).val) T D Q W st0).rmax ∗ owns (c : Thread nD τ) arg10 fullShare (stFull (BitVec.ofNat 32 (i 0).val) T D Q W st0).ridx) -∗ K ⟨⟩))
      ⊢ wp frame (wpE (defs₀ (F := F)) Variants.none c none) Set.univ
          (cc0__lambda_ i arg1 harg1 arg2 harg2 arg3 harg3 arg4 harg4 arg5 harg5 arg6 harg6 arg7 harg7 arg8 harg8 arg9 harg9 arg10 harg10) K := by
  have h1 : Scalar.cmpi .ne (Scalar.extui (Scalar.cmpi .eq (BitVec.ofNat 32 (i 0).val) 0#32)) 0#32 = 1#1 := by
    rw [hi]; decide
  have h2 : Scalar.cmpi .ne (Scalar.extui (Scalar.cmpi .slt (BitVec.ofNat 32 (i 0).val) 24#32)) 0#32 = 1#1 := by
    rw [hi]; decide
  have h3 : ¬ k0_cond3 i = 1#1 := by
    unfold k0_cond3
    rw [hi]; decide
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; try delta run_first.sl.r run_first.sl.r_2 run_first.sl.v44 run_first.sl.H7_1
    try delta run_first.sl.H7_1
    simp (proj := false) only [View.read_writes_full, View.readAt_full, View.readCov_full, hf1, hf2, hf3, hf4, hf5, hf6, hf7, hf8, hf9, hf10]; rfl
  isplitl [H8]
  · iexists _; isplitr; swap; · iexact H8
    ipureintro; try delta run_first.sl.r_1 run_first.sl.r_2 run_first.sl.v53 run_first.sl.H8_1
    try delta run_first.sl.H8_1
    simp (proj := false) only [View.read_writes_full, View.readAt_full, View.readCov_full, hf1, hf2, hf3, hf4, hf5, hf6, hf7, hf8, hf9, hf10]; rfl
  isplitl [H9]
  · iexists _; isplitr; swap; · iexact H9
    ipureintro; try delta run_first.sl.v25 run_first.sl.H9_1
    try delta run_first.sl.H9_1
    simp (proj := false) only [View.read_writes_full, View.readAt_full, View.readCov_full, hf1, hf2, hf3, hf4, hf5, hf6, hf7, hf8, hf9, hf10]; rfl
  · iexists _; isplitr; swap; · iexact H10
    ipureintro; try delta run_first.sl.r_3 run_first.sl.H10_1
    try delta run_first.sl.v25 run_first.sl.v35
    try delta run_first.sl.H9_1 run_first.sl.H10_1
    simp (proj := false) only [View.read_writes_full, View.readAt_full, View.readCov_full, hf1, hf2, hf3, hf4, hf5, hf6, hf7, hf8, hf9, hf10]; rfl

/-- The body at a later point before the last. -/
theorem run_mid (c : Dev nD) (i : grid0.Coords) (hi : 0 < (i 0).val ∧ (i 0).val < 24)
    (arg1 : Memref sig .tc .vmem S32x8x4096 .f32) (harg1 : arg1.IsWhole)
    (arg2 : Memref sig .tc .vmem S32x8x4096 .f32) (harg2 : arg2.IsWhole)
    (arg3 : Memref sig .tc .vmem S1x32x8x4096 .f32) (harg3 : arg3.IsWhole)
    (arg4 : Memref sig .tc .vmem S32x8x1 .i32) (harg4 : arg4.IsWhole)
    (arg5 : Memref sig .tc .vmem S32x8x1 .f32) (harg5 : arg5.IsWhole)
    (arg6 : Memref sig .tc .vmem S32x9x1 .i32) (harg6 : arg6.IsWhole)
    (arg7 : Memref sig .tc .vmem S32x8x1 .f32) (harg7 : arg7.IsWhole)
    (arg8 : Memref sig .tc .vmem S32x8x1 .f32) (harg8 : arg8.IsWhole)
    (arg9 : Memref sig .tc .vmem S32x8x1 .f32) (harg9 : arg9.IsWhole)
    (arg10 : Memref sig .tc .vmem S32x8x1 .i32) (harg10 : arg10.IsWhole)
    (T D : Vec F S32x8x4096 .f32) (Q : Vec F S1x32x8x4096 .f32) (W : Vec F S32x8x1 .i32) (U : Vec F S32x8x1 .f32)
    (X : Vec F S32x9x1 .i32) (s : St F) (K : PUnit → sProp 𝕄) :
    iprop(owns (c : Thread nD τ) arg1 fullShare T ∗ owns (c : Thread nD τ) arg2 fullShare D ∗ owns (c : Thread nD τ) arg3 fullShare Q ∗ owns (c : Thread nD τ) arg4 fullShare W ∗ owns (c : Thread nD τ) arg5 fullShare U ∗ owns (c : Thread nD τ) arg6 fullShare X ∗ owns (c : Thread nD τ) arg7 fullShare s.selt ∗ owns (c : Thread nD τ) arg8 fullShare s.seld ∗ owns (c : Thread nD τ) arg9 fullShare s.rmax ∗ owns (c : Thread nD τ) arg10 fullShare s.ridx
        ∗ (iprop(owns (c : Thread nD τ) arg1 fullShare T ∗ owns (c : Thread nD τ) arg2 fullShare D ∗ owns (c : Thread nD τ) arg3 fullShare Q ∗ owns (c : Thread nD τ) arg4 fullShare W ∗ owns (c : Thread nD τ) arg5 fullShare U ∗ owns (c : Thread nD τ) arg6 fullShare X ∗ owns (c : Thread nD τ) arg7 fullShare (stFull (BitVec.ofNat 32 (i 0).val) T D Q W s).selt ∗ owns (c : Thread nD τ) arg8 fullShare (stFull (BitVec.ofNat 32 (i 0).val) T D Q W s).seld ∗ owns (c : Thread nD τ) arg9 fullShare (stFull (BitVec.ofNat 32 (i 0).val) T D Q W s).rmax ∗ owns (c : Thread nD τ) arg10 fullShare (stFull (BitVec.ofNat 32 (i 0).val) T D Q W s).ridx) -∗ K ⟨⟩))
      ⊢ wp frame (wpE (defs₀ (F := F)) Variants.none c none) Set.univ
          (cc0__lambda_ i arg1 harg1 arg2 harg2 arg3 harg3 arg4 harg4 arg5 harg5 arg6 harg6 arg7 harg7 arg8 harg8 arg9 harg9 arg10 harg10) K := by
  have h1 : ¬ Scalar.cmpi .ne (Scalar.extui (Scalar.cmpi .eq (BitVec.ofNat 32 (i 0).val) 0#32)) 0#32 = 1#1 := by
    exact (by decide : ∀ n, n < 24 → 0 < n → ¬ Scalar.cmpi .ne (Scalar.extui (Scalar.cmpi .eq (BitVec.ofNat 32 n) 0#32)) 0#32 = 1#1) _ hi.2 hi.1
  have h2 : Scalar.cmpi .ne (Scalar.extui (Scalar.cmpi .slt (BitVec.ofNat 32 (i 0).val) 24#32)) 0#32 = 1#1 := by
    exact (by decide : ∀ n, n < 24 → 0 < n → Scalar.cmpi .ne (Scalar.extui (Scalar.cmpi .slt (BitVec.ofNat 32 n) 24#32)) 0#32 = 1#1) _ hi.2 hi.1
  have h3 : ¬ k0_cond3 i = 1#1 := by
    unfold k0_cond3
    exact (by decide : ∀ n, n < 24 → 0 < n → ¬ Scalar.cmpi .ne (Scalar.extui (Scalar.cmpi .eq (BitVec.ofNat 32 n) 24#32)) 0#32 = 1#1) _ hi.2 hi.1
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; try delta run_mid.sl.r run_mid.sl.r_2
    simp (proj := false) only [View.read_writes_full, View.readAt_full, View.readCov_full, hf1, hf2, hf3, hf4, hf5, hf6, hf7, hf8, hf9, hf10]; rfl
  isplitl [H8]
  · iexists _; isplitr; swap; · iexact H8
    ipureintro; try delta run_mid.sl.r_1 run_mid.sl.r_2
    simp (proj := false) only [View.read_writes_full, View.readAt_full, View.readCov_full, hf1, hf2, hf3, hf4, hf5, hf6, hf7, hf8, hf9, hf10]; rfl
  isplitl [H9]
  · iexists _; isplitr; swap; · iexact H9
    ipureintro; simp (proj := false) only [View.read_writes_full, View.readAt_full, View.readCov_full, hf1, hf2, hf3, hf4, hf5, hf6, hf7, hf8, hf9, hf10]; rfl
  · iexists _; isplitr; swap; · iexact H10
    ipureintro; try delta run_mid.sl.r_3
    simp (proj := false) only [View.read_writes_full, View.readAt_full, View.readCov_full, hf1, hf2, hf3, hf4, hf5, hf6, hf7, hf8, hf9, hf10]; rfl

/-- The body at the last point. -/
theorem run_last (c : Dev nD) (i : grid0.Coords) (hi : (i 0).val = 24)
    (arg1 : Memref sig .tc .vmem S32x8x4096 .f32) (harg1 : arg1.IsWhole)
    (arg2 : Memref sig .tc .vmem S32x8x4096 .f32) (harg2 : arg2.IsWhole)
    (arg3 : Memref sig .tc .vmem S1x32x8x4096 .f32) (harg3 : arg3.IsWhole)
    (arg4 : Memref sig .tc .vmem S32x8x1 .i32) (harg4 : arg4.IsWhole)
    (arg5 : Memref sig .tc .vmem S32x8x1 .f32) (harg5 : arg5.IsWhole)
    (arg6 : Memref sig .tc .vmem S32x9x1 .i32) (harg6 : arg6.IsWhole)
    (arg7 : Memref sig .tc .vmem S32x8x1 .f32) (harg7 : arg7.IsWhole)
    (arg8 : Memref sig .tc .vmem S32x8x1 .f32) (harg8 : arg8.IsWhole)
    (arg9 : Memref sig .tc .vmem S32x8x1 .f32) (harg9 : arg9.IsWhole)
    (arg10 : Memref sig .tc .vmem S32x8x1 .i32) (harg10 : arg10.IsWhole)
    (T D : Vec F S32x8x4096 .f32) (Q : Vec F S1x32x8x4096 .f32) (W : Vec F S32x8x1 .i32) (U : Vec F S32x8x1 .f32)
    (X : Vec F S32x9x1 .i32) (s : St F) (K : PUnit → sProp 𝕄) :
    iprop(owns (c : Thread nD τ) arg1 fullShare T ∗ owns (c : Thread nD τ) arg2 fullShare D ∗ owns (c : Thread nD τ) arg3 fullShare Q ∗ owns (c : Thread nD τ) arg4 fullShare W ∗ owns (c : Thread nD τ) arg5 fullShare U ∗ owns (c : Thread nD τ) arg6 fullShare X ∗ owns (c : Thread nD τ) arg7 fullShare s.selt ∗ owns (c : Thread nD τ) arg8 fullShare s.seld ∗ owns (c : Thread nD τ) arg9 fullShare s.rmax ∗ owns (c : Thread nD τ) arg10 fullShare s.ridx
        ∗ (iprop(owns (c : Thread nD τ) arg1 fullShare T ∗ owns (c : Thread nD τ) arg2 fullShare D ∗ owns (c : Thread nD τ) arg3 fullShare Q ∗ owns (c : Thread nD τ) arg4 fullShare W ∗ owns (c : Thread nD τ) arg5 fullShare U ∗ owns (c : Thread nD τ) arg6 fullShare (outTail W U (stTail (BitVec.ofNat 32 (i 0).val) T D Q W s) X) ∗ owns (c : Thread nD τ) arg7 fullShare (stTail (BitVec.ofNat 32 (i 0).val) T D Q W s).selt ∗ owns (c : Thread nD τ) arg8 fullShare (stTail (BitVec.ofNat 32 (i 0).val) T D Q W s).seld ∗ owns (c : Thread nD τ) arg9 fullShare (stTail (BitVec.ofNat 32 (i 0).val) T D Q W s).rmax ∗ owns (c : Thread nD τ) arg10 fullShare (stTail (BitVec.ofNat 32 (i 0).val) T D Q W s).ridx) -∗ K ⟨⟩))
      ⊢ wp frame (wpE (defs₀ (F := F)) Variants.none c none) Set.univ
          (cc0__lambda_ i arg1 harg1 arg2 harg2 arg3 harg3 arg4 harg4 arg5 harg5 arg6 harg6 arg7 harg7 arg8 harg8 arg9 harg9 arg10 harg10) K := by
  have h1 : ¬ Scalar.cmpi .ne (Scalar.extui (Scalar.cmpi .eq (BitVec.ofNat 32 (i 0).val) 0#32)) 0#32 = 1#1 := by
    rw [hi]; decide
  have h2 : ¬ Scalar.cmpi .ne (Scalar.extui (Scalar.cmpi .slt (BitVec.ofNat 32 (i 0).val) 24#32)) 0#32 = 1#1 := by
    rw [hi]; decide
  have h3 : k0_cond3 i = 1#1 := by
    unfold k0_cond3
    rw [hi]; decide
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; try delta run_last.sl.v66 run_last.sl.v67 run_last.sl.v88
    try delta run_last.sl.H7_1 run_last.sl.H8_1 run_last.sl.H10_1
    try delta run_last.sl.r run_last.sl.r_1 run_last.sl.r_2 run_last.sl.r_3 run_last.sl.r_4 run_last.sl.r_5
    simp (proj := false) only [View.read_writes_cons_put, View.writes_nil, View.readAt_full, View.readCov_full, hf1, hf2, hf3, hf4, hf5, hf6, hf7, hf8, hf9, hf10]; rfl
  isplitl [H7]
  · iexists _; isplitr; swap; · iexact H7
    ipureintro; try delta run_last.sl.H7_1
    try delta run_last.sl.r run_last.sl.r_1 run_last.sl.r_2 run_last.sl.r_3 run_last.sl.r_4 run_last.sl.r_5
    simp (proj := false) only [View.read_writes_full, View.readAt_full, View.readCov_full, hf1, hf2, hf3, hf4, hf5, hf6, hf7, hf8, hf9, hf10]; rfl
  isplitl [H8]
  · iexists _; isplitr; swap; · iexact H8
    ipureintro; try delta run_last.sl.H8_1
    try delta run_last.sl.r run_last.sl.r_1 run_last.sl.r_2 run_last.sl.r_3 run_last.sl.r_4 run_last.sl.r_5
    simp (proj := false) only [View.read_writes_full, View.readAt_full, View.readCov_full, hf1, hf2, hf3, hf4, hf5, hf6, hf7, hf8, hf9, hf10]; rfl
  isplitl [H9]
  · iexists _; isplitr; swap; · iexact H9
    ipureintro; simp (proj := false) only [View.read_writes_full, View.readAt_full, View.readCov_full, hf1, hf2, hf3, hf4, hf5, hf6, hf7, hf8, hf9, hf10]; rfl
  · iexists _; isplitr; swap; · iexact H10
    ipureintro; try delta run_last.sl.H10_1
    try delta run_last.sl.r run_last.sl.r_1 run_last.sl.r_2 run_last.sl.r_3 run_last.sl.r_4 run_last.sl.r_5
    simp (proj := false) only [View.read_writes_full, View.readAt_full, View.readCov_full, hf1, hf2, hf3, hf4, hf5, hf6, hf7, hf8, hf9, hf10]; rfl

end Cert.KernelIdeal.Hand

end
-- ==== Proof.FrameIdeal.lean ====
/- What the pipeline's run leaves of the arguments, whatever the body writes to the result: the proof data, the body's
   obligation at every grid point, and the run. -/
module

public import proofs.«01_k».proof.Proof.BodyIdeal
public import proofs.«01_k».proof.Proof.Gen.KernelIdeal.Frame

@[expose] public section

noncomputable section

namespace Cert.KernelIdeal.HandF

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body is handed -/

/-- The target's block at point `t` as its staging buffer holds it: the block inside the array, `d` past the array's end. -/
def Tb (c : Dev nD) (t : Fin cfg0.N) (d : Vec F S32x8x4096 .f32) : Vec F S32x8x4096 .f32 :=
  win0_0.fill (grid0.coords t) d (iblk m c 0 t)
/-- The draft's block, likewise. -/
def Db (c : Dev nD) (t : Fin cfg0.N) (d : Vec F S32x8x4096 .f32) : Vec F S32x8x4096 .f32 :=
  win0_1.fill (grid0.coords t) d (iblk m c 1 t)
/-- The block of the scores' factors. -/
def Qb (c : Dev nD) (t : Fin cfg0.N) : Vec F S1x32x8x4096 .f32 := iblk m c 2 t
/-- The drafted tokens. -/
def Wb (c : Dev nD) (t : Fin cfg0.N) : Vec F S32x8x1 .i32 := iblk m c 3 t
/-- The acceptance draws. -/
def Ub (c : Dev nD) (t : Fin cfg0.N) : Vec F S32x8x1 .f32 := iblk m c 4 t

/-- The scratch buffers held whole at `s`. -/
def scr (c : Dev nD) (s : St F) : sProp 𝕄 :=
  iprop(owns (c : Thread nD τ) (Memref.whole cc0_scratch0) fullShare s.selt
    ∗ owns (c : Thread nD τ) (Memref.whole cc0_scratch1) fullShare s.seld
    ∗ owns (c : Thread nD τ) (Memref.whole cc0_scratch2) fullShare s.rmax
    ∗ owns (c : Thread nD τ) (Memref.whole cc0_scratch3) fullShare s.ridx)

/-- The proof data: the arrays as the region finds them; every input's buffer left as found; the result's buffer at `O`
    after the last point; between points the scratch at some contents of which `Inv` holds. -/
def dats (Inv : Dev nD → ℕ → St F → Prop) (O : Dev nD → Vec F S32x9x1 .i32) (_ : Fin 1) (c : Dev nD) :
    Dat τ (Elt F) Unit ℕ (UR sig nD τ) ℕ cfg0 c where
  A w := V m c (Pipeline.arrRef spec0 w)
  after w t := match w with
    | ⟨0, _⟩ => Tb m c t (fun _ => Scalar.ofBits .f32 0#32)
    | ⟨1, _⟩ => Db m c t (fun _ => Scalar.ofBits .f32 0#32)
    | ⟨2, _⟩ => Qb m c t
    | ⟨3, _⟩ => Wb m c t
    | ⟨4, _⟩ => Ub m c t
    | ⟨5, _⟩ => O c
  Φ t := iprop(∃ s : St F, ⌜Inv c t.val s⌝ ∗ scr c s ∗ ∃ r, prngReg c r)
  q _ := fullShare
  owed _ := 0

variable (Inv : Dev nD → ℕ → St F → Prop) (O : Dev nD → Vec F S32x9x1 .i32)

theorem A_eq (c : Dev nD) (w : Fin cfg0.W) : (dats m Inv O 0 c).A w = V m c (Pipeline.arrRef spec0 w) := by dsimp only [dats]

theorem coords_eq (t : Fin cfg0.N) : (grid0.coords t 0).val = t.val := by
  revert t; exact (by decide : ∀ t : Fin grid0.N, (grid0.coords t 0).val = t.val)

theorem before_0 (c : Dev nD) (t : Fin cfg0.N) (d) : (dats m Inv O 0 c).before (0 : Fin 6) t d = Tb m c t d := by
  unfold Dat.before; rw [if_pos (fetch0_0 t)]; rfl
theorem before_1 (c : Dev nD) (t : Fin cfg0.N) (d) : (dats m Inv O 0 c).before (1 : Fin 6) t d = Db m c t d := by
  unfold Dat.before; rw [if_pos (fetch0_1 t)]; rfl
theorem before_2 (c : Dev nD) (t : Fin cfg0.N) (d) : (dats m Inv O 0 c).before (2 : Fin 6) t d = Qb m c t :=
  before0_2_of m (dats m Inv O 0 c) (A_eq m Inv O c 2) (fun _ => rfl) t d
theorem before_3 (c : Dev nD) (t : Fin cfg0.N) (d) : (dats m Inv O 0 c).before (3 : Fin 6) t d = Wb m c t :=
  before0_3_of m (dats m Inv O 0 c) (A_eq m Inv O c 3) (fun _ => rfl) t d
theorem before_4 (c : Dev nD) (t : Fin cfg0.N) (d) : (dats m Inv O 0 c).before (4 : Fin 6) t d = Ub m c t :=
  before0_4_of m (dats m Inv O 0 c) (A_eq m Inv O c 4) (fun _ => rfl) t d

theorem flush_no (t : Fin cfg0.N) (h : t.val < 24) : (cfg0.win 5).flush t = false := by
  rw [← Bool.not_eq_true, flush0_5 t]; omega
theorem idle_yes (t : Fin cfg0.N) (h : t.val < 24) : cfg0.idle 5 (cfg0.grid.coords t) = true :=
  (by decide : ∀ t : Fin grid0.N, t.val < 24 → idle0 5 (grid0.coords t) = true) t h
theorem idle_no (t : Fin cfg0.N) (h : t.val = 24) : cfg0.idle 5 (cfg0.grid.coords t) = false :=
  (by decide : ∀ t : Fin grid0.N, t.val = 24 → idle0 5 (grid0.coords t) = false) t h

/-- What every step must keep of the scratch (`Inv`), and, when `e` is set, leave in the result at the last point. -/
structure Steps (e : Prop) : Prop where
  start : ∀ c s, Inv c 0 s
  first : ∀ c (t : Fin cfg0.N) d0 d1, t.val = 0 →
    Inv c 1 (stFull (BitVec.ofNat 32 (grid0.coords t 0).val) (Tb m c t d0) (Db m c t d1) (Qb m c t) (Wb m c t) st0)
  mid : ∀ c (t : Fin cfg0.N) d0 d1 s, 0 < t.val → t.val < 24 → Inv c t.val s →
    Inv c (t.val + 1) (stFull (BitVec.ofNat 32 (grid0.coords t 0).val) (Tb m c t d0) (Db m c t d1) (Qb m c t) (Wb m c t) s)
  last : ∀ c (t : Fin cfg0.N) d0 d1 s, t.val = 24 → Inv c 24 s →
    Inv c 25 (stTail (BitVec.ofNat 32 (grid0.coords t 0).val) (Tb m c t d0) (Db m c t d1) (Qb m c t) (Wb m c t) s)
  out : ∀ c (t : Fin cfg0.N) d0 d1 s X, e → t.val = 24 → Inv c 24 s →
    outTail (Wb m c t) (Ub m c t)
      (stTail (BitVec.ofNat 32 (grid0.coords t 0).val) (Tb m c t d0) (Db m c t d1) (Qb m c t) (Wb m c t) s) X = O c

/-- The body at point `t`: from the scratch as `Inv` says and the six staging buffers, to the scratch as `Inv` says after
    the point, the inputs' buffers as they were, and the result's buffer untouched before the last point. -/
theorem body_at {e : Prop} (hs : Steps m Inv O e) (c : Dev nD) (t : Fin cfg0.N) (d0 d1 : Vec F S32x8x4096 .f32) (X : Vec F S32x9x1 .i32)
    (K : PUnit → sProp 𝕄) :
    iprop((∃ s : St F, ⌜Inv c t.val s⌝ ∗ scr c s ∗ ∃ r, prngReg c r)
        ∗ owns (c : Thread nD τ) (st0_0 t) fullShare (Tb m c t d0) ∗ owns (c : Thread nD τ) (st0_1 t) fullShare (Db m c t d1)
        ∗ owns (c : Thread nD τ) (st0_2 t) fullShare (Qb m c t) ∗ owns (c : Thread nD τ) (st0_3 t) fullShare (Wb m c t)
        ∗ owns (c : Thread nD τ) (st0_4 t) fullShare (Ub m c t) ∗ owns (c : Thread nD τ) (st0_5 t) fullShare X
        ∗ (iprop((∃ s : St F, ⌜Inv c (t.val + 1) s⌝ ∗ scr c s ∗ ∃ r, prngReg c r)
            ∗ owns (c : Thread nD τ) (st0_0 t) fullShare (Tb m c t d0) ∗ owns (c : Thread nD τ) (st0_1 t) fullShare (Db m c t d1)
            ∗ owns (c : Thread nD τ) (st0_2 t) fullShare (Qb m c t) ∗ owns (c : Thread nD τ) (st0_3 t) fullShare (Wb m c t)
            ∗ owns (c : Thread nD τ) (st0_4 t) fullShare (Ub m c t)
            ∗ ∃ Y, ⌜(t.val < 24 → Y = X) ∧ (t.val = 24 → e → Y = O c)⌝ ∗ owns (c : Thread nD τ) (st0_5 t) fullShare Y) -∗ K ⟨⟩))
      ⊢ wp frame (wpE (defs₀ (F := F)) Variants.none c none) Set.univ (bodyAt0 t) K := by
  unfold scr bodyAt0
  iintro ⟨⟨%s, %hI, ⟨HS0, HS1, HS2, HS3⟩, Hg⟩, H0, H1, H2, H3, H4, H5, Hk⟩
  have hc := coords_eq t
  have ht : t.val < 25 := lt_of_lt_of_eq t.isLt N_0
  rcases Nat.eq_zero_or_pos t.val with h0 | h0
  · iapply (run_first c (grid0.coords t) (hc.trans h0) (st0_0 t) _ (st0_1 t) _ (st0_2 t) _ (st0_3 t) _ (st0_4 t) _ (st0_5 t) _
      (Memref.whole cc0_scratch0) _ (Memref.whole cc0_scratch1) _ (Memref.whole cc0_scratch2) _ (Memref.whole cc0_scratch3) _
      (Tb m c t d0) (Db m c t d1) (Qb m c t) (Wb m c t) (Ub m c t) X s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    iapply Hk
    isplitl [HS0 HS1 HS2 HS3 Hg]
    · iexists _; isplitr; swap
      · isplitl [HS0 HS1 HS2 HS3]
        · isplitl [HS0]; · iexact HS0
          isplitl [HS1]; · iexact HS1
          isplitl [HS2]; · iexact HS2
          iexact HS3
        iexact Hg
      ipureintro; rw [h0]; exact hs.first c t d0 d1 h0
    isplitl [H0]; · iexact H0
    isplitl [H1]; · iexact H1
    isplitl [H2]; · iexact H2
    isplitl [H3]; · iexact H3
    isplitl [H4]; · iexact H4
    iexists _; isplitr; swap; · iexact H5
    ipureintro; exact ⟨fun _ => rfl, fun h => absurd h (by omega)⟩
  rcases Nat.lt_or_ge t.val 24 with h1 | h1
  · iapply (run_mid c (grid0.coords t) ⟨hc.symm ▸ h0, hc.symm ▸ h1⟩ (st0_0 t) _ (st0_1 t) _ (st0_2 t) _ (st0_3 t) _ (st0_4 t) _ (st0_5 t) _
      (Memref.whole cc0_scratch0) _ (Memref.whole cc0_scratch1) _ (Memref.whole cc0_scratch2) _ (Memref.whole cc0_scratch3) _
      (Tb m c t d0) (Db m c t d1) (Qb m c t) (Wb m c t) (Ub m c t) X s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    iapply Hk
    isplitl [HS0 HS1 HS2 HS3 Hg]
    · iexists _; isplitr; swap
      · isplitl [HS0 HS1 HS2 HS3]
        · isplitl [HS0]; · iexact HS0
          isplitl [HS1]; · iexact HS1
          isplitl [HS2]; · iexact HS2
          iexact HS3
        iexact Hg
      ipureintro; exact hs.mid c t d0 d1 s h0 h1 hI
    isplitl [H0]; · iexact H0
    isplitl [H1]; · iexact H1
    isplitl [H2]; · iexact H2
    isplitl [H3]; · iexact H3
    isplitl [H4]; · iexact H4
    iexists _; isplitr; swap; · iexact H5
    ipureintro; exact ⟨fun _ => rfl, fun h => absurd h (by omega)⟩
  · have h24 : t.val = 24 := by omega
    rw [h24] at hI
    iapply (run_last c (grid0.coords t) (hc.trans h24) (st0_0 t) _ (st0_1 t) _ (st0_2 t) _ (st0_3 t) _ (st0_4 t) _ (st0_5 t) _
      (Memref.whole cc0_scratch0) _ (Memref.whole cc0_scratch1) _ (Memref.whole cc0_scratch2) _ (Memref.whole cc0_scratch3) _
      (Tb m c t d0) (Db m c t d1) (Qb m c t) (Wb m c t) (Ub m c t) X s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    iapply Hk
    isplitl [HS0 HS1 HS2 HS3 Hg]
    · iexists _; isplitr; swap
      · isplitl [HS0 HS1 HS2 HS3]
        · isplitl [HS0]; · iexact HS0
          isplitl [HS1]; · iexact HS1
          isplitl [HS2]; · iexact HS2
          iexact HS3
        iexact Hg
      ipureintro; rw [h24]; exact hs.last c t d0 d1 s h24 hI
    isplitl [H0]; · iexact H0
    isplitl [H1]; · iexact H1
    isplitl [H2]; · iexact H2
    isplitl [H3]; · iexact H3
    isplitl [H4]; · iexact H4
    iexists _; isplitr; swap; · iexact H5
    ipureintro; exact ⟨fun h => absurd h (by omega), fun _ he => hs.out c t d0 d1 s X he h24 hI⟩

/-- The body table's row at the point is the body at the point. -/
theorem defs₀_row (t : Fin cfg0.N) : defs₀ (F := F) .tc cfg0.body (cfg0.bodyArgs t (cfg0.slots t)) = bodyAt0 t := by
  unfold defs₀; rw [Defs.onTc_tc]

theorem cut_T (c : Dev nD) (t : Fin cfg0.N) (d : Vec F S32x8x4096 .f32) : win0_0.cut (grid0.coords t) (Tb m c t d) = iblk m c 0 t :=
  win0_0.cut_fill _ _ _
theorem cut_D (c : Dev nD) (t : Fin cfg0.N) (d : Vec F S32x8x4096 .f32) : win0_1.cut (grid0.coords t) (Db m c t d) = iblk m c 1 t :=
  win0_1.cut_fill _ _ _

/-- The result's window is forgotten. -/
def forgets0 : Fin 6 → Bool := fun w => decide (w = 5)

/-- The body's obligation at every point. -/
theorem body_obligation {e : Prop} (hs : Steps m Inv O e) (c : Dev nD) :
    BodyObligationLoose (dats m Inv O 0 c) (defs₀ (F := F)) Variants.none () Set.univ forgets0 := fun t => by
  rw [bigSep_W0, bigSep_W0, defs₀_row]
  have ht : t.val < 25 := lt_of_lt_of_eq t.isLt N_0
  simp only [forgets0, Fin.isValue, Fin.reduceEq, decide_false, decide_true]
  rw [show (dats m Inv O 0 c).owesAt () t.succ = (dats m Inv O 0 c).owesAt () t.castSucc from rfl,
    show (dats m Inv O 0 c).Φ t.castSucc = iprop(∃ s : St F, ⌜Inv c t.val s⌝ ∗ scr c s ∗ ∃ r, prngReg c r) from rfl,
    show (dats m Inv O 0 c).Φ t.succ = iprop(∃ s : St F, ⌜Inv c (t.val + 1) s⌝ ∗ scr c s ∗ ∃ r, prngReg c r) from rfl]
  iintro ⟨HΦ, Ho, ⟨%d0, H0⟩, ⟨%d1, H1⟩, ⟨%d2, H2⟩, ⟨%d3, H3⟩, ⟨%d4, H4⟩, ⟨%d5, H5⟩⟩
  rw [before_0, before_1, before_2, before_3, before_4]
  iapply (body_at m Inv O hs c t d0 d1 d5 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  iintro ⟨HΦ, H0, H1, H2, H3, H4, ⟨%Y, %hY, H5⟩⟩
  isplitl [HΦ]; · iexact HΦ
  isplitl [Ho]; · iexact Ho
  isplitl [H0]
  · iexists d0; rw [show (dats m Inv O 0 c).after 0 t = Tb m c t (fun _ => Scalar.ofBits .f32 0#32) from rfl, cut_T]; iexact H0
  isplitl [H1]
  · iexists d1; rw [show (dats m Inv O 0 c).after 1 t = Db m c t (fun _ => Scalar.ofBits .f32 0#32) from rfl, cut_D]; iexact H1
  isplitl [H2]; · iexact H2
  isplitl [H3]; · iexact H3
  isplitl [H4]; · iexact H4
  iexists Y; iexact H5

theorem enter {e : Prop} (hs : Steps m Inv O e) (c : Dev nD) :
    Pipeline.ΦA (Val := Elt F) (U := UR sig nD τ) spec0 c ⊢ (dats m Inv O 0 c).Φ 0 := by
  rw [show (dats m Inv O 0 c).Φ 0 = iprop(∃ s : St F, ⌜Inv c 0 s⌝ ∗ scr c s ∗ ∃ r, prngReg c r) from rfl]
  unfold Pipeline.ΦA scr
  rw [scopedRest0_eq]; simp only [owns_whole]
  iintro ⟨⟨⟨%s0, H0⟩, ⟨%s1, H1⟩, ⟨%s2, H2⟩, ⟨%s3, H3⟩⟩, Hg⟩
  iexists ⟨s0, s1, s2, s3⟩
  isplitr; · ipureintro; exact hs.start c _
  isplitl [H0 H1 H2 H3]
  · isplitl [H0]; · iexact H0
    isplitl [H1]; · iexact H1
    isplitl [H2]; · iexact H2
    iexact H3
  iexact Hg

theorem leave (c : Dev nD) :
    (dats m Inv O 0 c).Φ (Fin.last cfg0.N) ⊢ Pipeline.ΦA (Val := Elt F) (U := UR sig nD τ) spec0 c := by
  rw [show (dats m Inv O 0 c).Φ (Fin.last cfg0.N) = iprop(∃ s : St F, ⌜Inv c cfg0.N s⌝ ∗ scr c s ∗ ∃ r, prngReg c r) from rfl]
  unfold Pipeline.ΦA scr
  rw [scopedRest0_eq]; simp only [owns_whole]
  iintro ⟨%s, -, ⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

/-- The lines after the region write the reshaped result only. -/
theorem tail_writes : ∀ ops ∈ ([hostOps1] : List (List (HloOp τ sig (Elt F)))), ∀ op ∈ ops,
    ∀ b : Ref sig .tc, Proc.devRef .tc b ∈ op.writes → b ∈ ({main_v9} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

/-- Nothing is asked of the scratch. -/
theorem steps_any : Steps m (fun _ _ _ => True) O False where
  start _ _ := trivial
  first _ _ _ _ _ := trivial
  mid _ _ _ _ _ _ _ _ := trivial
  last _ _ _ _ _ _ _ := trivial
  out _ _ _ _ _ _ h := h.elim

/-- The run with the result forgotten: every execution ends, the arguments as they were. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  have O : Dev nD → Vec F S32x9x1 .i32 := fun _ _ => 0#32
  refine
    (Pipeline.θ_run_frame_around_T_track_forget cfgs (dats m (fun _ _ _ => True) O) (0 : Fin 1) launch0 defs₀ Variants.none forgets0
      {main_v9} m ρ main (hbody := fun c => body_obligation m _ O (steps_any m O) c)
      (hshare := fun c => (dats m _ O 0 c).share_full fun _ => rfl) (howed := fun _ _ => rfl) (V₀ := V0 m) (opss := [hostOps1])
      (hsub := sfx_sub) (hfresh := sfx_fresh) (hkeep := sfx_keeps) (hT := tail_writes) (hmain := hmain m Variants.none)
      (hA := fun c w => A_eq m _ O c w) (hin := fun c => enter m _ O (steps_any m O) c) (hout := fun c => leave m _ O c)
      (Q' := _) (hQ' := fun r hr => ⟨fun c => ?_, hr.2⟩))
  have h := hr.1
  refine ⟨?_, ?_, ?_, ?_⟩
  · exact (Pipeline.RDat.FramePostR.arr_in h c 0 rfl).trans (V_main_arg0 m c)
  · exact ((h c).2 main_arg1 (by decide)).trans (V_main_arg1 m c)
  · exact (Pipeline.RDat.FramePostR.arr_in h c 1 rfl).trans (V_main_arg2 m c)
  · exact ((h c).2 main_arg3 (by decide)).trans (V_main_arg3 m c)

end Cert.KernelIdeal.HandF

end
-- ==== Proof.RefOps.lean ====
/- The reference's host operations as lists, in the program's order, a called function's operations a list of its own; @main is
   their chain, and its run leaves every buffer as the operations in order leave it. -/
module

public import proofs.«01_k».proof.Proof.Gen.ReferenceIdeal
public import Idealize.ShloMosaic.Lib.Pipeline.Frame
public import Idealize.ShloMosaic.Lib.Pipeline.Regions
public import Idealize.ShloMosaic.Lib.StableHlo.RunRead
public import Idealize.ShloMosaic.Lib.StableHlo.RunHlo
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable {F : FTy → Type} [FloatOps F]

set_option maxHeartbeats 40000000 in  -- a long list
/-- The 77 operations of @main that come first. -/
abbrev ops0 : List (HloOp τ sig (Elt F)) :=
  ( StableHlo.nullary main_cst (fun i => FloatOps.ofBits .f32 (lit0 (S32x8.rowMajor i)))
  :: StableHlo.nullary main_c (fun i => lit1 (S2.rowMajor i))
  :: StableHlo.nullary main_v0 (iotaInDim S32 32 0)
  :: StableHlo.unary main_v0 main_v1 (broadcastInDim S32x1 ![0] bcast_S32_S32x1_0 : (⟨S32, .i32⟩ : BufTy).Contents (Elt F) → (⟨S32x1, .i32⟩ : BufTy).Contents (Elt F))
  :: StableHlo.nullary main_v2 (iotaInDim S8 32 0)
  :: StableHlo.unary main_v2 main_v3 (broadcastInDim S1x8 ![1] bcast_S8_S1x8_1 : (⟨S8, .i32⟩ : BufTy).Contents (Elt F) → (⟨S1x8, .i32⟩ : BufTy).Contents (Elt F))
  :: StableHlo.nullary main_c_0 (constantI S_ 32 0#32)
  :: StableHlo.unary main_c_0 main_v4 (broadcastInDim S32x1 ![] bcast_S_S32x1 : (⟨S_, .i32⟩ : BufTy).Contents (Elt F) → (⟨S32x1, .i32⟩ : BufTy).Contents (Elt F))
  :: StableHlo.binary main_v1 main_v4 main_v5 (cmpi .slt : (⟨S32x1, .i32⟩ : BufTy).Contents (Elt F) → (⟨S32x1, .i32⟩ : BufTy).Contents (Elt F) → (⟨S32x1, .i1⟩ : BufTy).Contents (Elt F))
  :: StableHlo.nullary main_c_1 (constantI S_ 32 32#32)
  :: StableHlo.unary main_c_1 main_v6 (broadcastInDim S32x1 ![] bcast_S_S32x1 : (⟨S_, .i32⟩ : BufTy).Contents (Elt F) → (⟨S32x1, .i32⟩ : BufTy).Contents (Elt F))
  :: StableHlo.binary main_v1 main_v6 main_v7 (addi : (⟨S32x1, .i32⟩ : BufTy).Contents (Elt F) → (⟨S32x1, .i32⟩ : BufTy).Contents (Elt F) → (⟨S32x1, .i32⟩ : BufTy).Contents (Elt F))
  :: StableHlo.ternary main_v5 main_v7 main_v1 main_v8 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F))
  :: StableHlo.nullary main_c_2 (constantI S_ 32 0#32)
  :: StableHlo.unary main_c_2 main_v9 (broadcastInDim S1x8 ![] bcast_S_S1x8 : (⟨S_, .i32⟩ : BufTy).Contents (Elt F) → (⟨S1x8, .i32⟩ : BufTy).Contents (Elt F))
  :: StableHlo.binary main_v3 main_v9 main_v10 (cmpi .slt : (⟨S1x8, .i32⟩ : BufTy).Contents (Elt F) → (⟨S1x8, .i32⟩ : BufTy).Contents (Elt F) → (⟨S1x8, .i1⟩ : BufTy).Contents (Elt F))
  :: StableHlo.nullary main_c_3 (constantI S_ 32 8#32)
  :: StableHlo.unary main_c_3 main_v11 (broadcastInDim S1x8 ![] bcast_S_S1x8 : (⟨S_, .i32⟩ : BufTy).Contents (Elt F) → (⟨S1x8, .i32⟩ : BufTy).Contents (Elt F))
  :: StableHlo.binary main_v3 main_v11 main_v12 (addi : (⟨S1x8, .i32⟩ : BufTy).Contents (Elt F) → (⟨S1x8, .i32⟩ : BufTy).Contents (Elt F) → (⟨S1x8, .i32⟩ : BufTy).Contents (Elt F))
  :: StableHlo.ternary main_v10 main_v12 main_v3 main_v13 (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F))
  :: StableHlo.nullary main_c_4 (constantI S_ 32 0#32)
  :: StableHlo.unary main_c_4 main_v14 (broadcastInDim S32x8 ![] bcast_S_S32x8 : (⟨S_, .i32⟩ : BufTy).Contents (Elt F) → (⟨S32x8, .i32⟩ : BufTy).Contents (Elt F))
  :: StableHlo.binary main_arg3 main_v14 main_v15 (cmpi .slt : (⟨S32x8, .i32⟩ : BufTy).Contents (Elt F) → (⟨S32x8, .i32⟩ : BufTy).Contents (Elt F) → (⟨S32x8, .i1⟩ : BufTy).Contents (Elt F))
  :: StableHlo.nullary main_c_5 (constantI S_ 32 100000#32)
  :: StableHlo.unary main_c_5 main_v16 (broadcastInDim S32x8 ![] bcast_S_S32x8 : (⟨S_, .i32⟩ : BufTy).Contents (Elt F) → (⟨S32x8, .i32⟩ : BufTy).Contents (Elt F))
  :: StableHlo.binary main_arg3 main_v16 main_v17 (addi : (⟨S32x8, .i32⟩ : BufTy).Contents (Elt F) → (⟨S32x8, .i32⟩ : BufTy).Contents (Elt F) → (⟨S32x8, .i32⟩ : BufTy).Contents (Elt F))
  :: StableHlo.ternary main_v15 main_v17 main_arg3 main_v18 (select : (⟨S32x8, .i1⟩ : BufTy).Contents (Elt F) → (⟨S32x8, .i32⟩ : BufTy).Contents (Elt F) → (⟨S32x8, .i32⟩ : BufTy).Contents (Elt F) → (⟨S32x8, .i32⟩ : BufTy).Contents (Elt F))
  :: StableHlo.unary main_v8 main_v19 (broadcastInDim S32x8 ![0, 1] bcast_S32x1_S32x8_0_1 : (⟨S32x1, .i32⟩ : BufTy).Contents (Elt F) → (⟨S32x8, .i32⟩ : BufTy).Contents (Elt F))
  :: StableHlo.unary main_v13 main_v20 (broadcastInDim S32x8 ![0, 1] bcast_S1x8_S32x8_0_1 : (⟨S1x8, .i32⟩ : BufTy).Contents (Elt F) → (⟨S32x8, .i32⟩ : BufTy).Contents (Elt F))
  :: StableHlo.unary main_v19 main_v21 (broadcastInDim S32x8x1 ![0, 1] bcast_S32x8_S32x8x1_0_1 : (⟨S32x8, .i32⟩ : BufTy).Contents (Elt F) → (⟨S32x8x1, .i32⟩ : BufTy).Contents (Elt F))
  :: StableHlo.unary main_v20 main_v22 (broadcastInDim S32x8x1 ![0, 1] bcast_S32x8_S32x8x1_0_1 : (⟨S32x8, .i32⟩ : BufTy).Contents (Elt F) → (⟨S32x8x1, .i32⟩ : BufTy).Contents (Elt F))
  :: StableHlo.unary main_v18 main_v23 (broadcastInDim S32x8x1 ![0, 1] bcast_S32x8_S32x8x1_0_1 : (⟨S32x8, .i32⟩ : BufTy).Contents (Elt F) → (⟨S32x8x1, .i32⟩ : BufTy).Contents (Elt F))
  :: StableHlo.nary ![main_v21, main_v22, main_v23] main_v24 (fun u => (concatenate S32x8x3 2 [⟨S32x8x1, (u 0 : (⟨S32x8x1, .i32⟩ : BufTy).Contents (Elt F))⟩, ⟨S32x8x1, (u 1 : (⟨S32x8x1, .i32⟩ : BufTy).Contents (Elt F))⟩, ⟨S32x8x1, (u 2 : (⟨S32x8x1, .i32⟩ : BufTy).Contents (Elt F))⟩] concatenates_S32x8x1_S32x8x1_S32x8x1_S32x8x3_d2 : (⟨S32x8x3, .i32⟩ : BufTy).Contents (Elt F)))
  :: StableHlo.binary main_arg2 main_v24 main_v25 ((fun x i => Host.gather gather_S32x8x100000_S32x8x3_S32x8_n_012_n_n_012_2_111 x i) : (⟨S32x8x100000, .f32⟩ : BufTy).Contents (Elt F) → (⟨S32x8x3, .i32⟩ : BufTy).Contents (Elt F) → (⟨S32x8, .f32⟩ : BufTy).Contents (Elt F))
  :: StableHlo.nullary main_c_6 (constantI S_ 32 0#32)
  :: StableHlo.unary main_c_6 main_v26 (broadcastInDim S32x1 ![] bcast_S_S32x1 : (⟨S_, .i32⟩ : BufTy).Contents (Elt F) → (⟨S32x1, .i32⟩ : BufTy).Contents (Elt F))
  :: StableHlo.binary main_v1 main_v26 main_v27 (cmpi .slt : (⟨S32x1, .i32⟩ : BufTy).Contents (Elt F) → (⟨S32x1, .i32⟩ : BufTy).Contents (Elt F) → (⟨S32x1, .i1⟩ : BufTy).Contents (Elt F))
  :: StableHlo.nullary main_c_7 (constantI S_ 32 32#32)
  :: StableHlo.unary main_c_7 main_v28 (broadcastInDim S32x1 ![] bcast_S_S32x1 : (⟨S_, .i32⟩ : BufTy).Contents (Elt F) → (⟨S32x1, .i32⟩ : BufTy).Contents (Elt F))
  :: StableHlo.binary main_v1 main_v28 main_v29 (addi : (⟨S32x1, .i32⟩ : BufTy).Contents (Elt F) → (⟨S32x1, .i32⟩ : BufTy).Contents (Elt F) → (⟨S32x1, .i32⟩ : BufTy).Contents (Elt F))
  :: StableHlo.ternary main_v27 main_v29 main_v1 main_v30 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F))
  :: StableHlo.nullary main_c_8 (constantI S_ 32 0#32)
  :: StableHlo.unary main_c_8 main_v31 (broadcastInDim S1x8 ![] bcast_S_S1x8 : (⟨S_, .i32⟩ : BufTy).Contents (Elt F) → (⟨S1x8, .i32⟩ : BufTy).Contents (Elt F))
  :: StableHlo.binary main_v3 main_v31 main_v32 (cmpi .slt : (⟨S1x8, .i32⟩ : BufTy).Contents (Elt F) → (⟨S1x8, .i32⟩ : BufTy).Contents (Elt F) → (⟨S1x8, .i1⟩ : BufTy).Contents (Elt F))
  :: StableHlo.nullary main_c_9 (constantI S_ 32 8#32)
  :: StableHlo.unary main_c_9 main_v33 (broadcastInDim S1x8 ![] bcast_S_S1x8 : (⟨S_, .i32⟩ : BufTy).Contents (Elt F) → (⟨S1x8, .i32⟩ : BufTy).Contents (Elt F))
  :: StableHlo.binary main_v3 main_v33 main_v34 (addi : (⟨S1x8, .i32⟩ : BufTy).Contents (Elt F) → (⟨S1x8, .i32⟩ : BufTy).Contents (Elt F) → (⟨S1x8, .i32⟩ : BufTy).Contents (Elt F))
  :: StableHlo.ternary main_v32 main_v34 main_v3 main_v35 (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F))
  :: StableHlo.nullary main_c_10 (constantI S_ 32 0#32)
  :: StableHlo.unary main_c_10 main_v36 (broadcastInDim S32x8 ![] bcast_S_S32x8 : (⟨S_, .i32⟩ : BufTy).Contents (Elt F) → (⟨S32x8, .i32⟩ : BufTy).Contents (Elt F))
  :: StableHlo.binary main_arg3 main_v36 main_v37 (cmpi .slt : (⟨S32x8, .i32⟩ : BufTy).Contents (Elt F) → (⟨S32x8, .i32⟩ : BufTy).Contents (Elt F) → (⟨S32x8, .i1⟩ : BufTy).Contents (Elt F))
  :: StableHlo.nullary main_c_11 (constantI S_ 32 100000#32)
  :: StableHlo.unary main_c_11 main_v38 (broadcastInDim S32x8 ![] bcast_S_S32x8 : (⟨S_, .i32⟩ : BufTy).Contents (Elt F) → (⟨S32x8, .i32⟩ : BufTy).Contents (Elt F))
  :: StableHlo.binary main_arg3 main_v38 main_v39 (addi : (⟨S32x8, .i32⟩ : BufTy).Contents (Elt F) → (⟨S32x8, .i32⟩ : BufTy).Contents (Elt F) → (⟨S32x8, .i32⟩ : BufTy).Contents (Elt F))
  :: StableHlo.ternary main_v37 main_v39 main_arg3 main_v40 (select : (⟨S32x8, .i1⟩ : BufTy).Contents (Elt F) → (⟨S32x8, .i32⟩ : BufTy).Contents (Elt F) → (⟨S32x8, .i32⟩ : BufTy).Contents (Elt F) → (⟨S32x8, .i32⟩ : BufTy).Contents (Elt F))
  :: StableHlo.unary main_v30 main_v41 (broadcastInDim S32x8 ![0, 1] bcast_S32x1_S32x8_0_1 : (⟨S32x1, .i32⟩ : BufTy).Contents (Elt F) → (⟨S32x8, .i32⟩ : BufTy).Contents (Elt F))
  :: StableHlo.unary main_v35 main_v42 (broadcastInDim S32x8 ![0, 1] bcast_S1x8_S32x8_0_1 : (⟨S1x8, .i32⟩ : BufTy).Contents (Elt F) → (⟨S32x8, .i32⟩ : BufTy).Contents (Elt F))
  :: StableHlo.unary main_v41 main_v43 (broadcastInDim S32x8x1 ![0, 1] bcast_S32x8_S32x8x1_0_1 : (⟨S32x8, .i32⟩ : BufTy).Contents (Elt F) → (⟨S32x8x1, .i32⟩ : BufTy).Contents (Elt F))
  :: StableHlo.unary main_v42 main_v44 (broadcastInDim S32x8x1 ![0, 1] bcast_S32x8_S32x8x1_0_1 : (⟨S32x8, .i32⟩ : BufTy).Contents (Elt F) → (⟨S32x8x1, .i32⟩ : BufTy).Contents (Elt F))
  :: StableHlo.unary main_v40 main_v45 (broadcastInDim S32x8x1 ![0, 1] bcast_S32x8_S32x8x1_0_1 : (⟨S32x8, .i32⟩ : BufTy).Contents (Elt F) → (⟨S32x8x1, .i32⟩ : BufTy).Contents (Elt F))
  :: StableHlo.nary ![main_v43, main_v44, main_v45] main_v46 (fun u => (concatenate S32x8x3 2 [⟨S32x8x1, (u 0 : (⟨S32x8x1, .i32⟩ : BufTy).Contents (Elt F))⟩, ⟨S32x8x1, (u 1 : (⟨S32x8x1, .i32⟩ : BufTy).Contents (Elt F))⟩, ⟨S32x8x1, (u 2 : (⟨S32x8x1, .i32⟩ : BufTy).Contents (Elt F))⟩] concatenates_S32x8x1_S32x8x1_S32x8x1_S32x8x3_d2 : (⟨S32x8x3, .i32⟩ : BufTy).Contents (Elt F)))
  :: StableHlo.binary main_arg0 main_v46 main_v47 ((fun x i => Host.gather gather_S32x8x100000_S32x8x3_S32x8_n_012_n_n_012_2_111 x i) : (⟨S32x8x100000, .f32⟩ : BufTy).Contents (Elt F) → (⟨S32x8x3, .i32⟩ : BufTy).Contents (Elt F) → (⟨S32x8, .f32⟩ : BufTy).Contents (Elt F))
  :: StableHlo.binary main_v47 main_v25 main_v48 (Host.divf : (⟨S32x8, .f32⟩ : BufTy).Contents (Elt F) → (⟨S32x8, .f32⟩ : BufTy).Contents (Elt F) → (⟨S32x8, .f32⟩ : BufTy).Contents (Elt F))
  :: StableHlo.nullary main_cst_12 (constant S_ .f32 0x3F800000#32)
  :: StableHlo.unary main_cst_12 main_v49 (broadcastInDim S32x8 ![] bcast_S_S32x8 : (⟨S_, .f32⟩ : BufTy).Contents (Elt F) → (⟨S32x8, .f32⟩ : BufTy).Contents (Elt F))
  :: StableHlo.binary main_v48 main_v49 main_v50 (minimumf : (⟨S32x8, .f32⟩ : BufTy).Contents (Elt F) → (⟨S32x8, .f32⟩ : BufTy).Contents (Elt F) → (⟨S32x8, .f32⟩ : BufTy).Contents (Elt F))
  :: StableHlo.binary main_cst main_v50 main_v51 (cmpf .olt : (⟨S32x8, .f32⟩ : BufTy).Contents (Elt F) → (⟨S32x8, .f32⟩ : BufTy).Contents (Elt F) → (⟨S32x8, .i1⟩ : BufTy).Contents (Elt F))
  :: StableHlo.binary main_arg0 main_arg2 main_v52 (subf : (⟨S32x8x100000, .f32⟩ : BufTy).Contents (Elt F) → (⟨S32x8x100000, .f32⟩ : BufTy).Contents (Elt F) → (⟨S32x8x100000, .f32⟩ : BufTy).Contents (Elt F))
  :: StableHlo.nullary main_cst_13 (constant S_ .f32 0x00800000#32)
  :: StableHlo.unary main_cst_13 main_v53 (broadcastInDim S32x8x100000 ![] bcast_S_S32x8x100000 : (⟨S_, .f32⟩ : BufTy).Contents (Elt F) → (⟨S32x8x100000, .f32⟩ : BufTy).Contents (Elt F))
  :: StableHlo.binary main_v52 main_v53 main_v54 (maximumf : (⟨S32x8x100000, .f32⟩ : BufTy).Contents (Elt F) → (⟨S32x8x100000, .f32⟩ : BufTy).Contents (Elt F) → (⟨S32x8x100000, .f32⟩ : BufTy).Contents (Elt F))
  :: StableHlo.nullary main_cst_14 (constant S_ .f32 0x00000000#32)
  :: StableHlo.binary main_v54 main_cst_14 main_v55 ((fun x v => Host.reduceAdd x v reducesTo_S32x8x100000_S32x8_d2 h_S_) : (⟨S32x8x100000, .f32⟩ : BufTy).Contents (Elt F) → (⟨S_, .f32⟩ : BufTy).Contents (Elt F) → (⟨S32x8, .f32⟩ : BufTy).Contents (Elt F))
  :: StableHlo.unary main_v55 main_v56 (broadcastInDim S32x8x1 ![0, 1] bcast_S32x8_S32x8x1_0_1 : (⟨S32x8, .f32⟩ : BufTy).Contents (Elt F) → (⟨S32x8x1, .f32⟩ : BufTy).Contents (Elt F))
  :: StableHlo.unary main_v56 main_v57 (broadcastInDim S32x8x100000 ![0, 1, 2] bcast_S32x8x1_S32x8x100000_0_1_2 : (⟨S32x8x1, .f32⟩ : BufTy).Contents (Elt F) → (⟨S32x8x100000, .f32⟩ : BufTy).Contents (Elt F))
  :: StableHlo.binary main_v54 main_v57 main_v58 (Host.divf : (⟨S32x8x100000, .f32⟩ : BufTy).Contents (Elt F) → (⟨S32x8x100000, .f32⟩ : BufTy).Contents (Elt F) → (⟨S32x8x100000, .f32⟩ : BufTy).Contents (Elt F))
  :: StableHlo.reshape main_v58 main_v59 (rfl : (.f32 : EltTy) = .f32) shapeCasts_S32x8x100000_S256x100000
  :: [] )
set_option maxHeartbeats 40000000 in  -- a long list
/-- They touch TensorCore buffers only. -/
theorem ops0_sub : (ops0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.reshape_bufs_sub ..⟩
set_option maxHeartbeats 40000000 in  -- a long list
/-- Each determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in  -- a long list
/-- The 267 operations of @exponential that come next. -/
abbrev ops1 : List (HloOp τ sig (Elt F)) :=
  ( StableHlo.TRef.nullary (.of main_call0_cst : StableHlo.TRef sig ⟨S_, .f32⟩) (constant S_ .f32 0x00000000#32)
  :: StableHlo.TRef.nullary (.of main_call0_cst_0 : StableHlo.TRef sig ⟨S_, .f32⟩) (constant S_ .f32 0x3F800000#32)
  :: StableHlo.TRef.unary (.of main_call0_cst : StableHlo.TRef sig ⟨S_, .f32⟩) (.of main_call0_call0_v0 : StableHlo.TRef sig ⟨S_, .f32⟩) id
  :: StableHlo.TRef.unary (.of main_call0_cst_0 : StableHlo.TRef sig ⟨S_, .f32⟩) (.of main_call0_call0_v1 : StableHlo.TRef sig ⟨S_, .f32⟩) id
  :: StableHlo.TRef.unary (.of main_call0_call0_v0 : StableHlo.TRef sig ⟨S_, .f32⟩) (.of main_call0_call0_v2 : StableHlo.TRef sig ⟨S1x1, .f32⟩) (broadcastInDim S1x1 ![] bcast_S_S1x1)
  :: StableHlo.TRef.unary (.of main_call0_call0_v1 : StableHlo.TRef sig ⟨S_, .f32⟩) (.of main_call0_call0_v3 : StableHlo.TRef sig ⟨S1x1, .f32⟩) (broadcastInDim S1x1 ![] bcast_S_S1x1)
  :: StableHlo.TRef.unary (.of main_c : StableHlo.TRef sig ⟨S2, .i32⟩) (.of main_call0_call0_v4 : StableHlo.TRef sig ⟨S1, .i32⟩) (extractStridedSlice S1 ![0] · slices_S2_S1_0)
  :: StableHlo.TRef.reshape (.of main_call0_call0_v4 : StableHlo.TRef sig ⟨S1, .i32⟩) (.of main_call0_call0_v5 : StableHlo.TRef sig ⟨S_, .i32⟩) (rfl : (.i32 : EltTy) = .i32) shapeCasts_S1_S_
  :: StableHlo.TRef.unary (.of main_c : StableHlo.TRef sig ⟨S2, .i32⟩) (.of main_call0_call0_v6 : StableHlo.TRef sig ⟨S1, .i32⟩) (extractStridedSlice S1 ![1] · slices_S2_S1_1)
  :: StableHlo.TRef.reshape (.of main_call0_call0_v6 : StableHlo.TRef sig ⟨S1, .i32⟩) (.of main_call0_call0_v7 : StableHlo.TRef sig ⟨S_, .i32⟩) (rfl : (.i32 : EltTy) = .i32) shapeCasts_S1_S_
  :: StableHlo.TRef.nullary (.of main_call0_call0_v8 : StableHlo.TRef sig ⟨S256x100000, .i64⟩) (iotaInDim S256x100000 64 0)
  :: StableHlo.TRef.nullary (.of main_call0_call0_v9 : StableHlo.TRef sig ⟨S256x100000, .i64⟩) (iotaInDim S256x100000 64 1)
  :: StableHlo.TRef.nullary (.of main_call0_call0_c : StableHlo.TRef sig ⟨S_, .i64⟩) (constantI S_ 64 100000#64)
  :: StableHlo.TRef.unary (.of main_call0_call0_c : StableHlo.TRef sig ⟨S_, .i64⟩) (.of main_call0_call0_v10 : StableHlo.TRef sig ⟨S256x100000, .i64⟩) (broadcastInDim S256x100000 ![] bcast_S_S256x100000)
  :: StableHlo.TRef.binary (.of main_call0_call0_v10 : StableHlo.TRef sig ⟨S256x100000, .i64⟩) (.of main_call0_call0_v8 : StableHlo.TRef sig ⟨S256x100000, .i64⟩) (.of main_call0_call0_v11 : StableHlo.TRef sig ⟨S256x100000, .i64⟩) muli
  :: StableHlo.TRef.nullary (.of main_call0_call0_c_0 : StableHlo.TRef sig ⟨S_, .i64⟩) (constantI S_ 64 1#64)
  :: StableHlo.TRef.unary (.of main_call0_call0_c_0 : StableHlo.TRef sig ⟨S_, .i64⟩) (.of main_call0_call0_v12 : StableHlo.TRef sig ⟨S256x100000, .i64⟩) (broadcastInDim S256x100000 ![] bcast_S_S256x100000)
  :: StableHlo.TRef.binary (.of main_call0_call0_v12 : StableHlo.TRef sig ⟨S256x100000, .i64⟩) (.of main_call0_call0_v9 : StableHlo.TRef sig ⟨S256x100000, .i64⟩) (.of main_call0_call0_v13 : StableHlo.TRef sig ⟨S256x100000, .i64⟩) muli
  :: StableHlo.TRef.binary (.of main_call0_call0_v11 : StableHlo.TRef sig ⟨S256x100000, .i64⟩) (.of main_call0_call0_v13 : StableHlo.TRef sig ⟨S256x100000, .i64⟩) (.of main_call0_call0_v14 : StableHlo.TRef sig ⟨S256x100000, .i64⟩) addi
  :: StableHlo.TRef.nullary (.of main_call0_call0_c_1 : StableHlo.TRef sig ⟨S_, .i64⟩) (constantI S_ 64 32#64)
  :: StableHlo.TRef.unary (.of main_call0_call0_c_1 : StableHlo.TRef sig ⟨S_, .i64⟩) (.of main_call0_call0_v15 : StableHlo.TRef sig ⟨S256x100000, .i64⟩) (broadcastInDim S256x100000 ![] bcast_S_S256x100000)
  :: StableHlo.TRef.binary (.of main_call0_call0_v14 : StableHlo.TRef sig ⟨S256x100000, .i64⟩) (.of main_call0_call0_v15 : StableHlo.TRef sig ⟨S256x100000, .i64⟩) (.of main_call0_call0_v16 : StableHlo.TRef sig ⟨S256x100000, .i64⟩) Host.shrui
  :: StableHlo.TRef.unary (.of main_call0_call0_v14 : StableHlo.TRef sig ⟨S256x100000, .i64⟩) (.of main_call0_call0_v17 : StableHlo.TRef sig ⟨S256x100000, .i32⟩) (trunci 32 · natLt_32_64)
  :: StableHlo.TRef.unary (.of main_call0_call0_v16 : StableHlo.TRef sig ⟨S256x100000, .i64⟩) (.of main_call0_call0_v18 : StableHlo.TRef sig ⟨S256x100000, .i32⟩) (trunci 32 · natLt_32_64)
  :: StableHlo.TRef.binary (.of main_call0_call0_v5 : StableHlo.TRef sig ⟨S_, .i32⟩) (.of main_call0_call0_v7 : StableHlo.TRef sig ⟨S_, .i32⟩) (.of main_call0_call0_call0_v0 : StableHlo.TRef sig ⟨S_, .i32⟩) xori
  :: StableHlo.TRef.nullary (.of main_call0_call0_call0_c : StableHlo.TRef sig ⟨S_, .i32⟩) (constantI S_ 32 466688986#32)
  :: StableHlo.TRef.binary (.of main_call0_call0_call0_v0 : StableHlo.TRef sig ⟨S_, .i32⟩) (.of main_call0_call0_call0_c : StableHlo.TRef sig ⟨S_, .i32⟩) (.of main_call0_call0_call0_v1 : StableHlo.TRef sig ⟨S_, .i32⟩) xori
  :: StableHlo.TRef.unary (.of main_call0_call0_v5 : StableHlo.TRef sig ⟨S_, .i32⟩) (.of main_call0_call0_call0_v2 : StableHlo.TRef sig ⟨S256x100000, .i32⟩) (broadcastInDim S256x100000 ![] bcast_S_S256x100000)
  :: StableHlo.TRef.binary (.of main_call0_call0_v18 : StableHlo.TRef sig ⟨S256x100000, .i32⟩) (.of main_call0_call0_call0_v2 : StableHlo.TRef sig ⟨S256x100000, .i32⟩) (.of main_call0_call0_call0_v3 : StableHlo.TRef sig ⟨S256x100000, .i32⟩) addi
  :: StableHlo.TRef.unary (.of main_call0_call0_v7 : StableHlo.TRef sig ⟨S_, .i32⟩) (.of main_call0_call0_call0_v4 : StableHlo.TRef sig ⟨S256x100000, .i32⟩) (broadcastInDim S256x100000 ![] bcast_S_S256x100000)
  :: StableHlo.TRef.binary (.of main_call0_call0_v17 : StableHlo.TRef sig ⟨S256x100000, .i32⟩) (.of main_call0_call0_call0_v4 : StableHlo.TRef sig ⟨S256x100000, .i32⟩) (.of main_call0_call0_call0_v5 : StableHlo.TRef sig ⟨S256x100000, .i32⟩) addi
  :: StableHlo.TRef.binary (.of main_call0_call0_call0_v3 : StableHlo.TRef sig ⟨S256x100000, .i32⟩) (.of main_call0_call0_call0_v5 : StableHlo.TRef sig ⟨S256x100000, .i32⟩) (.of main_call0_call0_call0_v6 : StableHlo.TRef sig ⟨S256x100000, .i32⟩) addi
  :: StableHlo.TRef.nullary (.of main_call0_call0_call0_c_0 : StableHlo.TRef sig ⟨S_, .i32⟩) (constantI S_ 32 13#32)
  :: StableHlo.TRef.unary (.of main_call0_call0_call0_c_0 : StableHlo.TRef sig ⟨S_, .i32⟩) (.of main_call0_call0_call0_v7 : StableHlo.TRef sig ⟨S256x100000, .i32⟩) (broadcastInDim S256x100000 ![] bcast_S_S256x100000)
  :: StableHlo.TRef.binary (.of main_call0_call0_call0_v5 : StableHlo.TRef sig ⟨S256x100000, .i32⟩) (.of main_call0_call0_call0_v7 : StableHlo.TRef sig ⟨S256x100000, .i32⟩) (.of main_call0_call0_call0_v8 : StableHlo.TRef sig ⟨S256x100000, .i32⟩) Host.shli
  :: StableHlo.TRef.nullary (.of main_call0_call0_call0_c_1 : StableHlo.TRef sig ⟨S_, .i32⟩) (constantI S_ 32 19#32)
  :: StableHlo.TRef.unary (.of main_call0_call0_call0_c_1 : StableHlo.TRef sig ⟨S_, .i32⟩) (.of main_call0_call0_call0_v9 : StableHlo.TRef sig ⟨S256x100000, .i32⟩) (broadcastInDim S256x100000 ![] bcast_S_S256x100000)
  :: StableHlo.TRef.binary (.of main_call0_call0_call0_v5 : StableHlo.TRef sig ⟨S256x100000, .i32⟩) (.of main_call0_call0_call0_v9 : StableHlo.TRef sig ⟨S256x100000, .i32⟩) (.of main_call0_call0_call0_v10 : StableHlo.TRef sig ⟨S256x100000, .i32⟩) Host.shrui
  :: StableHlo.TRef.binary (.of main_call0_call0_call0_v8 : StableHlo.TRef sig ⟨S256x100000, .i32⟩) (.of main_call0_call0_call0_v10 : StableHlo.TRef sig ⟨S256x100000, .i32⟩) (.of main_call0_call0_call0_v11 : StableHlo.TRef sig ⟨S256x100000, .i32⟩) ori
  :: StableHlo.TRef.binary (.of main_call0_call0_call0_v6 : StableHlo.TRef sig ⟨S256x100000, .i32⟩) (.of main_call0_call0_call0_v11 : StableHlo.TRef sig ⟨S256x100000, .i32⟩) (.of main_call0_call0_call0_v12 : StableHlo.TRef sig ⟨S256x100000, .i32⟩) xori
  :: StableHlo.TRef.binary (.of main_call0_call0_call0_v6 : StableHlo.TRef sig ⟨S256x100000, .i32⟩) (.of main_call0_call0_call0_v12 : StableHlo.TRef sig ⟨S256x100000, .i32⟩) (.of main_call0_call0_call0_v13 : StableHlo.TRef sig ⟨S256x100000, .i32⟩) addi
  :: StableHlo.TRef.nullary (.of main_call0_call0_call0_c_2 : StableHlo.TRef sig ⟨S_, .i32⟩) (constantI S_ 32 15#32)
  :: StableHlo.TRef.unary (.of main_call0_call0_call0_c_2 : StableHlo.TRef sig ⟨S_, .i32⟩) (.of main_call0_call0_call0_v14 : StableHlo.TRef sig ⟨S256x100000, .i32⟩) (broadcastInDim S256x100000 ![] bcast_S_S256x100000)
  :: StableHlo.TRef.binary (.of main_call0_call0_call0_v12 : StableHlo.TRef sig ⟨S256x100000, .i32⟩) (.of main_call0_call0_call0_v14 : StableHlo.TRef sig ⟨S256x100000, .i32⟩) (.of main_call0_call0_call0_v15 : StableHlo.TRef sig ⟨S256x100000, .i32⟩) Host.shli
  :: StableHlo.TRef.nullary (.of main_call0_call0_call0_c_3 : StableHlo.TRef sig ⟨S_, .i32⟩) (constantI S_ 32 17#32)
  :: StableHlo.TRef.unary (.of main_call0_call0_call0_c_3 : StableHlo.TRef sig ⟨S_, .i32⟩) (.of main_call0_call0_call0_v16 : StableHlo.TRef sig ⟨S256x100000, .i32⟩) (broadcastInDim S256x100000 ![] bcast_S_S256x100000)
  :: StableHlo.TRef.binary (.of main_call0_call0_call0_v12 : StableHlo.TRef sig ⟨S256x100000, .i32⟩) (.of main_call0_call0_call0_v16 : StableHlo.TRef sig ⟨S256x100000, .i32⟩) (.of main_call0_call0_call0_v17 : StableHlo.TRef sig ⟨S256x100000, .i32⟩) Host.shrui
  :: StableHlo.TRef.binary (.of main_call0_call0_call0_v15 : StableHlo.TRef sig ⟨S256x100000, .i32⟩) (.of main_call0_call0_call0_v17 : StableHlo.TRef sig ⟨S256x100000, .i32⟩) (.of main_call0_call0_call0_v18 : StableHlo.TRef sig ⟨S256x100000, .i32⟩) ori
  :: StableHlo.TRef.binary (.of main_call0_call0_call0_v13 : StableHlo.TRef sig ⟨S256x100000, .i32⟩) (.of main_call0_call0_call0_v18 : StableHlo.TRef sig ⟨S256x100000, .i32⟩) (.of main_call0_call0_call0_v19 : StableHlo.TRef sig ⟨S256x100000, .i32⟩) xori
  :: StableHlo.TRef.binary (.of main_call0_call0_call0_v13 : StableHlo.TRef sig ⟨S256x100000, .i32⟩) (.of main_call0_call0_call0_v19 : StableHlo.TRef sig ⟨S256x100000, .i32⟩) (.of main_call0_call0_call0_v20 : StableHlo.TRef sig ⟨S256x100000, .i32⟩) addi
  :: StableHlo.TRef.nullary (.of main_call0_call0_call0_c_4 : StableHlo.TRef sig ⟨S_, .i32⟩) (constantI S_ 32 26#32)
  :: StableHlo.TRef.unary (.of main_call0_call0_call0_c_4 : StableHlo.TRef sig ⟨S_, .i32⟩) (.of main_call0_call0_call0_v21 : StableHlo.TRef sig ⟨S256x100000, .i32⟩) (broadcastInDim S256x100000 ![] bcast_S_S256x100000)
  :: StableHlo.TRef.binary (.of main_call0_call0_call0_v19 : StableHlo.TRef sig ⟨S256x100000, .i32⟩) (.of main_call0_call0_call0_v21 : StableHlo.TRef sig ⟨S256x100000, .i32⟩) (.of main_call0_call0_call0_v22 : StableHlo.TRef sig ⟨S256x100000, .i32⟩) Host.shli
  :: StableHlo.TRef.nullary (.of main_call0_call0_call0_c_5 : StableHlo.TRef sig ⟨S_, .i32⟩) (constantI S_ 32 6#32)
  :: StableHlo.TRef.unary (.of main_call0_call0_call0_c_5 : StableHlo.TRef sig ⟨S_, .i32⟩) (.of main_call0_call0_call0_v23 : StableHlo.TRef sig ⟨S256x100000, .i32⟩) (broadcastInDim S256x100000 ![] bcast_S_S256x100000)
  :: StableHlo.TRef.binary (.of main_call0_call0_call0_v19 : StableHlo.TRef sig ⟨S256x100000, .i32⟩) (.of main_call0_call0_call0_v23 : StableHlo.TRef sig ⟨S256x100000, .i32⟩) (.of main_call0_call0_call0_v24 : StableHlo.TRef sig ⟨S256x100000, .i32⟩) Host.shrui
  :: StableHlo.TRef.binary (.of main_call0_call0_call0_v22 : StableHlo.TRef sig ⟨S256x100000, .i32⟩) (.of main_call0_call0_call0_v24 : StableHlo.TRef sig ⟨S256x100000, .i32⟩) (.of main_call0_call0_call0_v25 : StableHlo.TRef sig ⟨S256x100000, .i32⟩) ori
  :: StableHlo.TRef.binary (.of main_call0_call0_call0_v20 : StableHlo.TRef sig ⟨S256x100000, .i32⟩) (.of main_call0_call0_call0_v25 : StableHlo.TRef sig ⟨S256x100000, .i32⟩) (.of main_call0_call0_call0_v26 : StableHlo.TRef sig ⟨S256x100000, .i32⟩) xori
  :: StableHlo.TRef.binary (.of main_call0_call0_call0_v20 : StableHlo.TRef sig ⟨S256x100000, .i32⟩) (.of main_call0_call0_call0_v26 : StableHlo.TRef sig ⟨S256x100000, .i32⟩) (.of main_call0_call0_call0_v27 : StableHlo.TRef sig ⟨S256x100000, .i32⟩) addi
  :: StableHlo.TRef.nullary (.of main_call0_call0_call0_c_6 : StableHlo.TRef sig ⟨S_, .i32⟩) (constantI S_ 32 6#32)
  :: StableHlo.TRef.unary (.of main_call0_call0_call0_c_6 : StableHlo.TRef sig ⟨S_, .i32⟩) (.of main_call0_call0_call0_v28 : StableHlo.TRef sig ⟨S256x100000, .i32⟩) (broadcastInDim S256x100000 ![] bcast_S_S256x100000)
  :: StableHlo.TRef.binary (.of main_call0_call0_call0_v26 : StableHlo.TRef sig ⟨S256x100000, .i32⟩) (.of main_call0_call0_call0_v28 : StableHlo.TRef sig ⟨S256x100000, .i32⟩) (.of main_call0_call0_call0_v29 : StableHlo.TRef sig ⟨S256x100000, .i32⟩) Host.shli
  :: StableHlo.TRef.nullary (.of main_call0_call0_call0_c_7 : StableHlo.TRef sig ⟨S_, .i32⟩) (constantI S_ 32 26#32)
  :: StableHlo.TRef.unary (.of main_call0_call0_call0_c_7 : StableHlo.TRef sig ⟨S_, .i32⟩) (.of main_call0_call0_call0_v30 : StableHlo.TRef sig ⟨S256x100000, .i32⟩) (broadcastInDim S256x100000 ![] bcast_S_S256x100000)
  :: StableHlo.TRef.binary (.of main_call0_call0_call0_v26 : StableHlo.TRef sig ⟨S256x100000, .i32⟩) (.of main_call0_call0_call0_v30 : StableHlo.TRef sig ⟨S256x100000, .i32⟩) (.of main_call0_call0_call0_v31 : StableHlo.TRef sig ⟨S256x100000, .i32⟩) Host.shrui
  :: StableHlo.TRef.binary (.of main_call0_call0_call0_v29 : StableHlo.TRef sig ⟨S256x100000, .i32⟩) (.of main_call0_call0_call0_v31 : StableHlo.TRef sig ⟨S256x100000, .i32⟩) (.of main_call0_call0_call0_v32 : StableHlo.TRef sig ⟨S256x100000, .i32⟩) ori
  :: StableHlo.TRef.binary (.of main_call0_call0_call0_v27 : StableHlo.TRef sig ⟨S256x100000, .i32⟩) (.of main_call0_call0_call0_v32 : StableHlo.TRef sig ⟨S256x100000, .i32⟩) (.of main_call0_call0_call0_v33 : StableHlo.TRef sig ⟨S256x100000, .i32⟩) xori
  :: StableHlo.TRef.unary (.of main_call0_call0_v7 : StableHlo.TRef sig ⟨S_, .i32⟩) (.of main_call0_call0_call0_v34 : StableHlo.TRef sig ⟨S256x100000, .i32⟩) (broadcastInDim S256x100000 ![] bcast_S_S256x100000)
  :: StableHlo.TRef.binary (.of main_call0_call0_call0_v27 : StableHlo.TRef sig ⟨S256x100000, .i32⟩) (.of main_call0_call0_call0_v34 : StableHlo.TRef sig ⟨S256x100000, .i32⟩) (.of main_call0_call0_call0_v35 : StableHlo.TRef sig ⟨S256x100000, .i32⟩) addi
  :: StableHlo.TRef.unary (.of main_call0_call0_call0_v1 : StableHlo.TRef sig ⟨S_, .i32⟩) (.of main_call0_call0_call0_v36 : StableHlo.TRef sig ⟨S256x100000, .i32⟩) (broadcastInDim S256x100000 ![] bcast_S_S256x100000)
  :: StableHlo.TRef.binary (.of main_call0_call0_call0_v33 : StableHlo.TRef sig ⟨S256x100000, .i32⟩) (.of main_call0_call0_call0_v36 : StableHlo.TRef sig ⟨S256x100000, .i32⟩) (.of main_call0_call0_call0_v37 : StableHlo.TRef sig ⟨S256x100000, .i32⟩) addi
  :: StableHlo.TRef.nullary (.of main_call0_call0_call0_c_8 : StableHlo.TRef sig ⟨S_, .i32⟩) (constantI S_ 32 1#32)
  :: StableHlo.TRef.unary (.of main_call0_call0_call0_c_8 : StableHlo.TRef sig ⟨S_, .i32⟩) (.of main_call0_call0_call0_v38 : StableHlo.TRef sig ⟨S256x100000, .i32⟩) (broadcastInDim S256x100000 ![] bcast_S_S256x100000)
  :: StableHlo.TRef.binary (.of main_call0_call0_call0_v37 : StableHlo.TRef sig ⟨S256x100000, .i32⟩) (.of main_call0_call0_call0_v38 : StableHlo.TRef sig ⟨S256x100000, .i32⟩) (.of main_call0_call0_call0_v39 : StableHlo.TRef sig ⟨S256x100000, .i32⟩) addi
  :: StableHlo.TRef.binary (.of main_call0_call0_call0_v35 : StableHlo.TRef sig ⟨S256x100000, .i32⟩) (.of main_call0_call0_call0_v39 : StableHlo.TRef sig ⟨S256x100000, .i32⟩) (.of main_call0_call0_call0_v40 : StableHlo.TRef sig ⟨S256x100000, .i32⟩) addi
  :: StableHlo.TRef.nullary (.of main_call0_call0_call0_c_9 : StableHlo.TRef sig ⟨S_, .i32⟩) (constantI S_ 32 17#32)
  :: StableHlo.TRef.unary (.of main_call0_call0_call0_c_9 : StableHlo.TRef sig ⟨S_, .i32⟩) (.of main_call0_call0_call0_v41 : StableHlo.TRef sig ⟨S256x100000, .i32⟩) (broadcastInDim S256x100000 ![] bcast_S_S256x100000)
  :: StableHlo.TRef.binary (.of main_call0_call0_call0_v39 : StableHlo.TRef sig ⟨S256x100000, .i32⟩) (.of main_call0_call0_call0_v41 : StableHlo.TRef sig ⟨S256x100000, .i32⟩) (.of main_call0_call0_call0_v42 : StableHlo.TRef sig ⟨S256x100000, .i32⟩) Host.shli
  :: StableHlo.TRef.nullary (.of main_call0_call0_call0_c_10 : StableHlo.TRef sig ⟨S_, .i32⟩) (constantI S_ 32 15#32)
  :: StableHlo.TRef.unary (.of main_call0_call0_call0_c_10 : StableHlo.TRef sig ⟨S_, .i32⟩) (.of main_call0_call0_call0_v43 : StableHlo.TRef sig ⟨S256x100000, .i32⟩) (broadcastInDim S256x100000 ![] bcast_S_S256x100000)
  :: StableHlo.TRef.binary (.of main_call0_call0_call0_v39 : StableHlo.TRef sig ⟨S256x100000, .i32⟩) (.of main_call0_call0_call0_v43 : StableHlo.TRef sig ⟨S256x100000, .i32⟩) (.of main_call0_call0_call0_v44 : StableHlo.TRef sig ⟨S256x100000, .i32⟩) Host.shrui
  :: StableHlo.TRef.binary (.of main_call0_call0_call0_v42 : StableHlo.TRef sig ⟨S256x100000, .i32⟩) (.of main_call0_call0_call0_v44 : StableHlo.TRef sig ⟨S256x100000, .i32⟩) (.of main_call0_call0_call0_v45 : StableHlo.TRef sig ⟨S256x100000, .i32⟩) ori
  :: StableHlo.TRef.binary (.of main_call0_call0_call0_v40 : StableHlo.TRef sig ⟨S256x100000, .i32⟩) (.of main_call0_call0_call0_v45 : StableHlo.TRef sig ⟨S256x100000, .i32⟩) (.of main_call0_call0_call0_v46 : StableHlo.TRef sig ⟨S256x100000, .i32⟩) xori
  :: StableHlo.TRef.binary (.of main_call0_call0_call0_v40 : StableHlo.TRef sig ⟨S256x100000, .i32⟩) (.of main_call0_call0_call0_v46 : StableHlo.TRef sig ⟨S256x100000, .i32⟩) (.of main_call0_call0_call0_v47 : StableHlo.TRef sig ⟨S256x100000, .i32⟩) addi
  :: StableHlo.TRef.nullary (.of main_call0_call0_call0_c_11 : StableHlo.TRef sig ⟨S_, .i32⟩) (constantI S_ 32 29#32)
  :: StableHlo.TRef.unary (.of main_call0_call0_call0_c_11 : StableHlo.TRef sig ⟨S_, .i32⟩) (.of main_call0_call0_call0_v48 : StableHlo.TRef sig ⟨S256x100000, .i32⟩) (broadcastInDim S256x100000 ![] bcast_S_S256x100000)
  :: StableHlo.TRef.binary (.of main_call0_call0_call0_v46 : StableHlo.TRef sig ⟨S256x100000, .i32⟩) (.of main_call0_call0_call0_v48 : StableHlo.TRef sig ⟨S256x100000, .i32⟩) (.of main_call0_call0_call0_v49 : StableHlo.TRef sig ⟨S256x100000, .i32⟩) Host.shli
  :: StableHlo.TRef.nullary (.of main_call0_call0_call0_c_12 : StableHlo.TRef sig ⟨S_, .i32⟩) (constantI S_ 32 3#32)
  :: StableHlo.TRef.unary (.of main_call0_call0_call0_c_12 : StableHlo.TRef sig ⟨S_, .i32⟩) (.of main_call0_call0_call0_v50 : StableHlo.TRef sig ⟨S256x100000, .i32⟩) (broadcastInDim S256x100000 ![] bcast_S_S256x100000)
  :: StableHlo.TRef.binary (.of main_call0_call0_call0_v46 : StableHlo.TRef sig ⟨S256x100000, .i32⟩) (.of main_call0_call0_call0_v50 : StableHlo.TRef sig ⟨S256x100000, .i32⟩) (.of main_call0_call0_call0_v51 : StableHlo.TRef sig ⟨S256x100000, .i32⟩) Host.shrui
  :: StableHlo.TRef.binary (.of main_call0_call0_call0_v49 : StableHlo.TRef sig ⟨S256x100000, .i32⟩) (.of main_call0_call0_call0_v51 : StableHlo.TRef sig ⟨S256x100000, .i32⟩) (.of main_call0_call0_call0_v52 : StableHlo.TRef sig ⟨S256x100000, .i32⟩) ori
  :: StableHlo.TRef.binary (.of main_call0_call0_call0_v47 : StableHlo.TRef sig ⟨S256x100000, .i32⟩) (.of main_call0_call0_call0_v52 : StableHlo.TRef sig ⟨S256x100000, .i32⟩) (.of main_call0_call0_call0_v53 : StableHlo.TRef sig ⟨S256x100000, .i32⟩) xori
  :: StableHlo.TRef.binary (.of main_call0_call0_call0_v47 : StableHlo.TRef sig ⟨S256x100000, .i32⟩) (.of main_call0_call0_call0_v53 : StableHlo.TRef sig ⟨S256x100000, .i32⟩) (.of main_call0_call0_call0_v54 : StableHlo.TRef sig ⟨S256x100000, .i32⟩) addi
  :: StableHlo.TRef.nullary (.of main_call0_call0_call0_c_13 : StableHlo.TRef sig ⟨S_, .i32⟩) (constantI S_ 32 16#32)
  :: StableHlo.TRef.unary (.of main_call0_call0_call0_c_13 : StableHlo.TRef sig ⟨S_, .i32⟩) (.of main_call0_call0_call0_v55 : StableHlo.TRef sig ⟨S256x100000, .i32⟩) (broadcastInDim S256x100000 ![] bcast_S_S256x100000)
  :: StableHlo.TRef.binary (.of main_call0_call0_call0_v53 : StableHlo.TRef sig ⟨S256x100000, .i32⟩) (.of main_call0_call0_call0_v55 : StableHlo.TRef sig ⟨S256x100000, .i32⟩) (.of main_call0_call0_call0_v56 : StableHlo.TRef sig ⟨S256x100000, .i32⟩) Host.shli
  :: StableHlo.TRef.nullary (.of main_call0_call0_call0_c_14 : StableHlo.TRef sig ⟨S_, .i32⟩) (constantI S_ 32 16#32)
  :: StableHlo.TRef.unary (.of main_call0_call0_call0_c_14 : StableHlo.TRef sig ⟨S_, .i32⟩) (.of main_call0_call0_call0_v57 : StableHlo.TRef sig ⟨S256x100000, .i32⟩) (broadcastInDim S256x100000 ![] bcast_S_S256x100000)
  :: StableHlo.TRef.binary (.of main_call0_call0_call0_v53 : StableHlo.TRef sig ⟨S256x100000, .i32⟩) (.of main_call0_call0_call0_v57 : StableHlo.TRef sig ⟨S256x100000, .i32⟩) (.of main_call0_call0_call0_v58 : StableHlo.TRef sig ⟨S256x100000, .i32⟩) Host.shrui
  :: StableHlo.TRef.binary (.of main_call0_call0_call0_v56 : StableHlo.TRef sig ⟨S256x100000, .i32⟩) (.of main_call0_call0_call0_v58 : StableHlo.TRef sig ⟨S256x100000, .i32⟩) (.of main_call0_call0_call0_v59 : StableHlo.TRef sig ⟨S256x100000, .i32⟩) ori
  :: StableHlo.TRef.binary (.of main_call0_call0_call0_v54 : StableHlo.TRef sig ⟨S256x100000, .i32⟩) (.of main_call0_call0_call0_v59 : StableHlo.TRef sig ⟨S256x100000, .i32⟩) (.of main_call0_call0_call0_v60 : StableHlo.TRef sig ⟨S256x100000, .i32⟩) xori
  :: StableHlo.TRef.binary (.of main_call0_call0_call0_v54 : StableHlo.TRef sig ⟨S256x100000, .i32⟩) (.of main_call0_call0_call0_v60 : StableHlo.TRef sig ⟨S256x100000, .i32⟩) (.of main_call0_call0_call0_v61 : StableHlo.TRef sig ⟨S256x100000, .i32⟩) addi
  :: StableHlo.TRef.nullary (.of main_call0_call0_call0_c_15 : StableHlo.TRef sig ⟨S_, .i32⟩) (constantI S_ 32 24#32)
  :: StableHlo.TRef.unary (.of main_call0_call0_call0_c_15 : StableHlo.TRef sig ⟨S_, .i32⟩) (.of main_call0_call0_call0_v62 : StableHlo.TRef sig ⟨S256x100000, .i32⟩) (broadcastInDim S256x100000 ![] bcast_S_S256x100000)
  :: StableHlo.TRef.binary (.of main_call0_call0_call0_v60 : StableHlo.TRef sig ⟨S256x100000, .i32⟩) (.of main_call0_call0_call0_v62 : StableHlo.TRef sig ⟨S256x100000, .i32⟩) (.of main_call0_call0_call0_v63 : StableHlo.TRef sig ⟨S256x100000, .i32⟩) Host.shli
  :: StableHlo.TRef.nullary (.of main_call0_call0_call0_c_16 : StableHlo.TRef sig ⟨S_, .i32⟩) (constantI S_ 32 8#32)
  :: StableHlo.TRef.unary (.of main_call0_call0_call0_c_16 : StableHlo.TRef sig ⟨S_, .i32⟩) (.of main_call0_call0_call0_v64 : StableHlo.TRef sig ⟨S256x100000, .i32⟩) (broadcastInDim S256x100000 ![] bcast_S_S256x100000)
  :: StableHlo.TRef.binary (.of main_call0_call0_call0_v60 : StableHlo.TRef sig ⟨S256x100000, .i32⟩) (.of main_call0_call0_call0_v64 : StableHlo.TRef sig ⟨S256x100000, .i32⟩) (.of main_call0_call0_call0_v65 : StableHlo.TRef sig ⟨S256x100000, .i32⟩) Host.shrui
  :: StableHlo.TRef.binary (.of main_call0_call0_call0_v63 : StableHlo.TRef sig ⟨S256x100000, .i32⟩) (.of main_call0_call0_call0_v65 : StableHlo.TRef sig ⟨S256x100000, .i32⟩) (.of main_call0_call0_call0_v66 : StableHlo.TRef sig ⟨S256x100000, .i32⟩) ori
  :: StableHlo.TRef.binary (.of main_call0_call0_call0_v61 : StableHlo.TRef sig ⟨S256x100000, .i32⟩) (.of main_call0_call0_call0_v66 : StableHlo.TRef sig ⟨S256x100000, .i32⟩) (.of main_call0_call0_call0_v67 : StableHlo.TRef sig ⟨S256x100000, .i32⟩) xori
  :: StableHlo.TRef.unary (.of main_call0_call0_call0_v1 : StableHlo.TRef sig ⟨S_, .i32⟩) (.of main_call0_call0_call0_v68 : StableHlo.TRef sig ⟨S256x100000, .i32⟩) (broadcastInDim S256x100000 ![] bcast_S_S256x100000)
  :: StableHlo.TRef.binary (.of main_call0_call0_call0_v61 : StableHlo.TRef sig ⟨S256x100000, .i32⟩) (.of main_call0_call0_call0_v68 : StableHlo.TRef sig ⟨S256x100000, .i32⟩) (.of main_call0_call0_call0_v69 : StableHlo.TRef sig ⟨S256x100000, .i32⟩) addi
  :: StableHlo.TRef.unary (.of main_call0_call0_v5 : StableHlo.TRef sig ⟨S_, .i32⟩) (.of main_call0_call0_call0_v70 : StableHlo.TRef sig ⟨S256x100000, .i32⟩) (broadcastInDim S256x100000 ![] bcast_S_S256x100000)
  :: StableHlo.TRef.binary (.of main_call0_call0_call0_v67 : StableHlo.TRef sig ⟨S256x100000, .i32⟩) (.of main_call0_call0_call0_v70 : StableHlo.TRef sig ⟨S256x100000, .i32⟩) (.of main_call0_call0_call0_v71 : StableHlo.TRef sig ⟨S256x100000, .i32⟩) addi
  :: StableHlo.TRef.nullary (.of main_call0_call0_call0_c_17 : StableHlo.TRef sig ⟨S_, .i32⟩) (constantI S_ 32 2#32)
  :: StableHlo.TRef.unary (.of main_call0_call0_call0_c_17 : StableHlo.TRef sig ⟨S_, .i32⟩) (.of main_call0_call0_call0_v72 : StableHlo.TRef sig ⟨S256x100000, .i32⟩) (broadcastInDim S256x100000 ![] bcast_S_S256x100000)
  :: StableHlo.TRef.binary (.of main_call0_call0_call0_v71 : StableHlo.TRef sig ⟨S256x100000, .i32⟩) (.of main_call0_call0_call0_v72 : StableHlo.TRef sig ⟨S256x100000, .i32⟩) (.of main_call0_call0_call0_v73 : StableHlo.TRef sig ⟨S256x100000, .i32⟩) addi
  :: StableHlo.TRef.binary (.of main_call0_call0_call0_v69 : StableHlo.TRef sig ⟨S256x100000, .i32⟩) (.of main_call0_call0_call0_v73 : StableHlo.TRef sig ⟨S256x100000, .i32⟩) (.of main_call0_call0_call0_v74 : StableHlo.TRef sig ⟨S256x100000, .i32⟩) addi
  :: StableHlo.TRef.nullary (.of main_call0_call0_call0_c_18 : StableHlo.TRef sig ⟨S_, .i32⟩) (constantI S_ 32 13#32)
  :: StableHlo.TRef.unary (.of main_call0_call0_call0_c_18 : StableHlo.TRef sig ⟨S_, .i32⟩) (.of main_call0_call0_call0_v75 : StableHlo.TRef sig ⟨S256x100000, .i32⟩) (broadcastInDim S256x100000 ![] bcast_S_S256x100000)
  :: StableHlo.TRef.binary (.of main_call0_call0_call0_v73 : StableHlo.TRef sig ⟨S256x100000, .i32⟩) (.of main_call0_call0_call0_v75 : StableHlo.TRef sig ⟨S256x100000, .i32⟩) (.of main_call0_call0_call0_v76 : StableHlo.TRef sig ⟨S256x100000, .i32⟩) Host.shli
  :: StableHlo.TRef.nullary (.of main_call0_call0_call0_c_19 : StableHlo.TRef sig ⟨S_, .i32⟩) (constantI S_ 32 19#32)
  :: StableHlo.TRef.unary (.of main_call0_call0_call0_c_19 : StableHlo.TRef sig ⟨S_, .i32⟩) (.of main_call0_call0_call0_v77 : StableHlo.TRef sig ⟨S256x100000, .i32⟩) (broadcastInDim S256x100000 ![] bcast_S_S256x100000)
  :: StableHlo.TRef.binary (.of main_call0_call0_call0_v73 : StableHlo.TRef sig ⟨S256x100000, .i32⟩) (.of main_call0_call0_call0_v77 : StableHlo.TRef sig ⟨S256x100000, .i32⟩) (.of main_call0_call0_call0_v78 : StableHlo.TRef sig ⟨S256x100000, .i32⟩) Host.shrui
  :: StableHlo.TRef.binary (.of main_call0_call0_call0_v76 : StableHlo.TRef sig ⟨S256x100000, .i32⟩) (.of main_call0_call0_call0_v78 : StableHlo.TRef sig ⟨S256x100000, .i32⟩) (.of main_call0_call0_call0_v79 : StableHlo.TRef sig ⟨S256x100000, .i32⟩) ori
  :: StableHlo.TRef.binary (.of main_call0_call0_call0_v74 : StableHlo.TRef sig ⟨S256x100000, .i32⟩) (.of main_call0_call0_call0_v79 : StableHlo.TRef sig ⟨S256x100000, .i32⟩) (.of main_call0_call0_call0_v80 : StableHlo.TRef sig ⟨S256x100000, .i32⟩) xori
  :: StableHlo.TRef.binary (.of main_call0_call0_call0_v74 : StableHlo.TRef sig ⟨S256x100000, .i32⟩) (.of main_call0_call0_call0_v80 : StableHlo.TRef sig ⟨S256x100000, .i32⟩) (.of main_call0_call0_call0_v81 : StableHlo.TRef sig ⟨S256x100000, .i32⟩) addi
  :: StableHlo.TRef.nullary (.of main_call0_call0_call0_c_20 : StableHlo.TRef sig ⟨S_, .i32⟩) (constantI S_ 32 15#32)
  :: StableHlo.TRef.unary (.of main_call0_call0_call0_c_20 : StableHlo.TRef sig ⟨S_, .i32⟩) (.of main_call0_call0_call0_v82 : StableHlo.TRef sig ⟨S256x100000, .i32⟩) (broadcastInDim S256x100000 ![] bcast_S_S256x100000)
  :: StableHlo.TRef.binary (.of main_call0_call0_call0_v80 : StableHlo.TRef sig ⟨S256x100000, .i32⟩) (.of main_call0_call0_call0_v82 : StableHlo.TRef sig ⟨S256x100000, .i32⟩) (.of main_call0_call0_call0_v83 : StableHlo.TRef sig ⟨S256x100000, .i32⟩) Host.shli
  :: StableHlo.TRef.nullary (.of main_call0_call0_call0_c_21 : StableHlo.TRef sig ⟨S_, .i32⟩) (constantI S_ 32 17#32)
  :: StableHlo.TRef.unary (.of main_call0_call0_call0_c_21 : StableHlo.TRef sig ⟨S_, .i32⟩) (.of main_call0_call0_call0_v84 : StableHlo.TRef sig ⟨S256x100000, .i32⟩) (broadcastInDim S256x100000 ![] bcast_S_S256x100000)
  :: StableHlo.TRef.binary (.of main_call0_call0_call0_v80 : StableHlo.TRef sig ⟨S256x100000, .i32⟩) (.of main_call0_call0_call0_v84 : StableHlo.TRef sig ⟨S256x100000, .i32⟩) (.of main_call0_call0_call0_v85 : StableHlo.TRef sig ⟨S256x100000, .i32⟩) Host.shrui
  :: StableHlo.TRef.binary (.of main_call0_call0_call0_v83 : StableHlo.TRef sig ⟨S256x100000, .i32⟩) (.of main_call0_call0_call0_v85 : StableHlo.TRef sig ⟨S256x100000, .i32⟩) (.of main_call0_call0_call0_v86 : StableHlo.TRef sig ⟨S256x100000, .i32⟩) ori
  :: StableHlo.TRef.binary (.of main_call0_call0_call0_v81 : StableHlo.TRef sig ⟨S256x100000, .i32⟩) (.of main_call0_call0_call0_v86 : StableHlo.TRef sig ⟨S256x100000, .i32⟩) (.of main_call0_call0_call0_v87 : StableHlo.TRef sig ⟨S256x100000, .i32⟩) xori
  :: StableHlo.TRef.binary (.of main_call0_call0_call0_v81 : StableHlo.TRef sig ⟨S256x100000, .i32⟩) (.of main_call0_call0_call0_v87 : StableHlo.TRef sig ⟨S256x100000, .i32⟩) (.of main_call0_call0_call0_v88 : StableHlo.TRef sig ⟨S256x100000, .i32⟩) addi
  :: StableHlo.TRef.nullary (.of main_call0_call0_call0_c_22 : StableHlo.TRef sig ⟨S_, .i32⟩) (constantI S_ 32 26#32)
  :: StableHlo.TRef.unary (.of main_call0_call0_call0_c_22 : StableHlo.TRef sig ⟨S_, .i32⟩) (.of main_call0_call0_call0_v89 : StableHlo.TRef sig ⟨S256x100000, .i32⟩) (broadcastInDim S256x100000 ![] bcast_S_S256x100000)
  :: StableHlo.TRef.binary (.of main_call0_call0_call0_v87 : StableHlo.TRef sig ⟨S256x100000, .i32⟩) (.of main_call0_call0_call0_v89 : StableHlo.TRef sig ⟨S256x100000, .i32⟩) (.of main_call0_call0_call0_v90 : StableHlo.TRef sig ⟨S256x100000, .i32⟩) Host.shli
  :: StableHlo.TRef.nullary (.of main_call0_call0_call0_c_23 : StableHlo.TRef sig ⟨S_, .i32⟩) (constantI S_ 32 6#32)
  :: StableHlo.TRef.unary (.of main_call0_call0_call0_c_23 : StableHlo.TRef sig ⟨S_, .i32⟩) (.of main_call0_call0_call0_v91 : StableHlo.TRef sig ⟨S256x100000, .i32⟩) (broadcastInDim S256x100000 ![] bcast_S_S256x100000)
  :: StableHlo.TRef.binary (.of main_call0_call0_call0_v87 : StableHlo.TRef sig ⟨S256x100000, .i32⟩) (.of main_call0_call0_call0_v91 : StableHlo.TRef sig ⟨S256x100000, .i32⟩) (.of main_call0_call0_call0_v92 : StableHlo.TRef sig ⟨S256x100000, .i32⟩) Host.shrui
  :: StableHlo.TRef.binary (.of main_call0_call0_call0_v90 : StableHlo.TRef sig ⟨S256x100000, .i32⟩) (.of main_call0_call0_call0_v92 : StableHlo.TRef sig ⟨S256x100000, .i32⟩) (.of main_call0_call0_call0_v93 : StableHlo.TRef sig ⟨S256x100000, .i32⟩) ori
  :: StableHlo.TRef.binary (.of main_call0_call0_call0_v88 : StableHlo.TRef sig ⟨S256x100000, .i32⟩) (.of main_call0_call0_call0_v93 : StableHlo.TRef sig ⟨S256x100000, .i32⟩) (.of main_call0_call0_call0_v94 : StableHlo.TRef sig ⟨S256x100000, .i32⟩) xori
  :: StableHlo.TRef.binary (.of main_call0_call0_call0_v88 : StableHlo.TRef sig ⟨S256x100000, .i32⟩) (.of main_call0_call0_call0_v94 : StableHlo.TRef sig ⟨S256x100000, .i32⟩) (.of main_call0_call0_call0_v95 : StableHlo.TRef sig ⟨S256x100000, .i32⟩) addi
  :: StableHlo.TRef.nullary (.of main_call0_call0_call0_c_24 : StableHlo.TRef sig ⟨S_, .i32⟩) (constantI S_ 32 6#32)
  :: StableHlo.TRef.unary (.of main_call0_call0_call0_c_24 : StableHlo.TRef sig ⟨S_, .i32⟩) (.of main_call0_call0_call0_v96 : StableHlo.TRef sig ⟨S256x100000, .i32⟩) (broadcastInDim S256x100000 ![] bcast_S_S256x100000)
  :: StableHlo.TRef.binary (.of main_call0_call0_call0_v94 : StableHlo.TRef sig ⟨S256x100000, .i32⟩) (.of main_call0_call0_call0_v96 : StableHlo.TRef sig ⟨S256x100000, .i32⟩) (.of main_call0_call0_call0_v97 : StableHlo.TRef sig ⟨S256x100000, .i32⟩) Host.shli
  :: StableHlo.TRef.nullary (.of main_call0_call0_call0_c_25 : StableHlo.TRef sig ⟨S_, .i32⟩) (constantI S_ 32 26#32)
  :: StableHlo.TRef.unary (.of main_call0_call0_call0_c_25 : StableHlo.TRef sig ⟨S_, .i32⟩) (.of main_call0_call0_call0_v98 : StableHlo.TRef sig ⟨S256x100000, .i32⟩) (broadcastInDim S256x100000 ![] bcast_S_S256x100000)
  :: StableHlo.TRef.binary (.of main_call0_call0_call0_v94 : StableHlo.TRef sig ⟨S256x100000, .i32⟩) (.of main_call0_call0_call0_v98 : StableHlo.TRef sig ⟨S256x100000, .i32⟩) (.of main_call0_call0_call0_v99 : StableHlo.TRef sig ⟨S256x100000, .i32⟩) Host.shrui
  :: StableHlo.TRef.binary (.of main_call0_call0_call0_v97 : StableHlo.TRef sig ⟨S256x100000, .i32⟩) (.of main_call0_call0_call0_v99 : StableHlo.TRef sig ⟨S256x100000, .i32⟩) (.of main_call0_call0_call0_v100 : StableHlo.TRef sig ⟨S256x100000, .i32⟩) ori
  :: StableHlo.TRef.binary (.of main_call0_call0_call0_v95 : StableHlo.TRef sig ⟨S256x100000, .i32⟩) (.of main_call0_call0_call0_v100 : StableHlo.TRef sig ⟨S256x100000, .i32⟩) (.of main_call0_call0_call0_v101 : StableHlo.TRef sig ⟨S256x100000, .i32⟩) xori
  :: StableHlo.TRef.unary (.of main_call0_call0_v5 : StableHlo.TRef sig ⟨S_, .i32⟩) (.of main_call0_call0_call0_v102 : StableHlo.TRef sig ⟨S256x100000, .i32⟩) (broadcastInDim S256x100000 ![] bcast_S_S256x100000)
  :: StableHlo.TRef.binary (.of main_call0_call0_call0_v95 : StableHlo.TRef sig ⟨S256x100000, .i32⟩) (.of main_call0_call0_call0_v102 : StableHlo.TRef sig ⟨S256x100000, .i32⟩) (.of main_call0_call0_call0_v103 : StableHlo.TRef sig ⟨S256x100000, .i32⟩) addi
  :: StableHlo.TRef.unary (.of main_call0_call0_v7 : StableHlo.TRef sig ⟨S_, .i32⟩) (.of main_call0_call0_call0_v104 : StableHlo.TRef sig ⟨S256x100000, .i32⟩) (broadcastInDim S256x100000 ![] bcast_S_S256x100000)
  :: StableHlo.TRef.binary (.of main_call0_call0_call0_v101 : StableHlo.TRef sig ⟨S256x100000, .i32⟩) (.of main_call0_call0_call0_v104 : StableHlo.TRef sig ⟨S256x100000, .i32⟩) (.of main_call0_call0_call0_v105 : StableHlo.TRef sig ⟨S256x100000, .i32⟩) addi
  :: StableHlo.TRef.nullary (.of main_call0_call0_call0_c_26 : StableHlo.TRef sig ⟨S_, .i32⟩) (constantI S_ 32 3#32)
  :: StableHlo.TRef.unary (.of main_call0_call0_call0_c_26 : StableHlo.TRef sig ⟨S_, .i32⟩) (.of main_call0_call0_call0_v106 : StableHlo.TRef sig ⟨S256x100000, .i32⟩) (broadcastInDim S256x100000 ![] bcast_S_S256x100000)
  :: StableHlo.TRef.binary (.of main_call0_call0_call0_v105 : StableHlo.TRef sig ⟨S256x100000, .i32⟩) (.of main_call0_call0_call0_v106 : StableHlo.TRef sig ⟨S256x100000, .i32⟩) (.of main_call0_call0_call0_v107 : StableHlo.TRef sig ⟨S256x100000, .i32⟩) addi
  :: StableHlo.TRef.binary (.of main_call0_call0_call0_v103 : StableHlo.TRef sig ⟨S256x100000, .i32⟩) (.of main_call0_call0_call0_v107 : StableHlo.TRef sig ⟨S256x100000, .i32⟩) (.of main_call0_call0_call0_v108 : StableHlo.TRef sig ⟨S256x100000, .i32⟩) addi
  :: StableHlo.TRef.nullary (.of main_call0_call0_call0_c_27 : StableHlo.TRef sig ⟨S_, .i32⟩) (constantI S_ 32 17#32)
  :: StableHlo.TRef.unary (.of main_call0_call0_call0_c_27 : StableHlo.TRef sig ⟨S_, .i32⟩) (.of main_call0_call0_call0_v109 : StableHlo.TRef sig ⟨S256x100000, .i32⟩) (broadcastInDim S256x100000 ![] bcast_S_S256x100000)
  :: StableHlo.TRef.binary (.of main_call0_call0_call0_v107 : StableHlo.TRef sig ⟨S256x100000, .i32⟩) (.of main_call0_call0_call0_v109 : StableHlo.TRef sig ⟨S256x100000, .i32⟩) (.of main_call0_call0_call0_v110 : StableHlo.TRef sig ⟨S256x100000, .i32⟩) Host.shli
  :: StableHlo.TRef.nullary (.of main_call0_call0_call0_c_28 : StableHlo.TRef sig ⟨S_, .i32⟩) (constantI S_ 32 15#32)
  :: StableHlo.TRef.unary (.of main_call0_call0_call0_c_28 : StableHlo.TRef sig ⟨S_, .i32⟩) (.of main_call0_call0_call0_v111 : StableHlo.TRef sig ⟨S256x100000, .i32⟩) (broadcastInDim S256x100000 ![] bcast_S_S256x100000)
  :: StableHlo.TRef.binary (.of main_call0_call0_call0_v107 : StableHlo.TRef sig ⟨S256x100000, .i32⟩) (.of main_call0_call0_call0_v111 : StableHlo.TRef sig ⟨S256x100000, .i32⟩) (.of main_call0_call0_call0_v112 : StableHlo.TRef sig ⟨S256x100000, .i32⟩) Host.shrui
  :: StableHlo.TRef.binary (.of main_call0_call0_call0_v110 : StableHlo.TRef sig ⟨S256x100000, .i32⟩) (.of main_call0_call0_call0_v112 : StableHlo.TRef sig ⟨S256x100000, .i32⟩) (.of main_call0_call0_call0_v113 : StableHlo.TRef sig ⟨S256x100000, .i32⟩) ori
  :: StableHlo.TRef.binary (.of main_call0_call0_call0_v108 : StableHlo.TRef sig ⟨S256x100000, .i32⟩) (.of main_call0_call0_call0_v113 : StableHlo.TRef sig ⟨S256x100000, .i32⟩) (.of main_call0_call0_call0_v114 : StableHlo.TRef sig ⟨S256x100000, .i32⟩) xori
  :: StableHlo.TRef.binary (.of main_call0_call0_call0_v108 : StableHlo.TRef sig ⟨S256x100000, .i32⟩) (.of main_call0_call0_call0_v114 : StableHlo.TRef sig ⟨S256x100000, .i32⟩) (.of main_call0_call0_call0_v115 : StableHlo.TRef sig ⟨S256x100000, .i32⟩) addi
  :: StableHlo.TRef.nullary (.of main_call0_call0_call0_c_29 : StableHlo.TRef sig ⟨S_, .i32⟩) (constantI S_ 32 29#32)
  :: StableHlo.TRef.unary (.of main_call0_call0_call0_c_29 : StableHlo.TRef sig ⟨S_, .i32⟩) (.of main_call0_call0_call0_v116 : StableHlo.TRef sig ⟨S256x100000, .i32⟩) (broadcastInDim S256x100000 ![] bcast_S_S256x100000)
  :: StableHlo.TRef.binary (.of main_call0_call0_call0_v114 : StableHlo.TRef sig ⟨S256x100000, .i32⟩) (.of main_call0_call0_call0_v116 : StableHlo.TRef sig ⟨S256x100000, .i32⟩) (.of main_call0_call0_call0_v117 : StableHlo.TRef sig ⟨S256x100000, .i32⟩) Host.shli
  :: StableHlo.TRef.nullary (.of main_call0_call0_call0_c_30 : StableHlo.TRef sig ⟨S_, .i32⟩) (constantI S_ 32 3#32)
  :: StableHlo.TRef.unary (.of main_call0_call0_call0_c_30 : StableHlo.TRef sig ⟨S_, .i32⟩) (.of main_call0_call0_call0_v118 : StableHlo.TRef sig ⟨S256x100000, .i32⟩) (broadcastInDim S256x100000 ![] bcast_S_S256x100000)
  :: StableHlo.TRef.binary (.of main_call0_call0_call0_v114 : StableHlo.TRef sig ⟨S256x100000, .i32⟩) (.of main_call0_call0_call0_v118 : StableHlo.TRef sig ⟨S256x100000, .i32⟩) (.of main_call0_call0_call0_v119 : StableHlo.TRef sig ⟨S256x100000, .i32⟩) Host.shrui
  :: StableHlo.TRef.binary (.of main_call0_call0_call0_v117 : StableHlo.TRef sig ⟨S256x100000, .i32⟩) (.of main_call0_call0_call0_v119 : StableHlo.TRef sig ⟨S256x100000, .i32⟩) (.of main_call0_call0_call0_v120 : StableHlo.TRef sig ⟨S256x100000, .i32⟩) ori
  :: StableHlo.TRef.binary (.of main_call0_call0_call0_v115 : StableHlo.TRef sig ⟨S256x100000, .i32⟩) (.of main_call0_call0_call0_v120 : StableHlo.TRef sig ⟨S256x100000, .i32⟩) (.of main_call0_call0_call0_v121 : StableHlo.TRef sig ⟨S256x100000, .i32⟩) xori
  :: StableHlo.TRef.binary (.of main_call0_call0_call0_v115 : StableHlo.TRef sig ⟨S256x100000, .i32⟩) (.of main_call0_call0_call0_v121 : StableHlo.TRef sig ⟨S256x100000, .i32⟩) (.of main_call0_call0_call0_v122 : StableHlo.TRef sig ⟨S256x100000, .i32⟩) addi
  :: StableHlo.TRef.nullary (.of main_call0_call0_call0_c_31 : StableHlo.TRef sig ⟨S_, .i32⟩) (constantI S_ 32 16#32)
  :: StableHlo.TRef.unary (.of main_call0_call0_call0_c_31 : StableHlo.TRef sig ⟨S_, .i32⟩) (.of main_call0_call0_call0_v123 : StableHlo.TRef sig ⟨S256x100000, .i32⟩) (broadcastInDim S256x100000 ![] bcast_S_S256x100000)
  :: StableHlo.TRef.binary (.of main_call0_call0_call0_v121 : StableHlo.TRef sig ⟨S256x100000, .i32⟩) (.of main_call0_call0_call0_v123 : StableHlo.TRef sig ⟨S256x100000, .i32⟩) (.of main_call0_call0_call0_v124 : StableHlo.TRef sig ⟨S256x100000, .i32⟩) Host.shli
  :: StableHlo.TRef.nullary (.of main_call0_call0_call0_c_32 : StableHlo.TRef sig ⟨S_, .i32⟩) (constantI S_ 32 16#32)
  :: StableHlo.TRef.unary (.of main_call0_call0_call0_c_32 : StableHlo.TRef sig ⟨S_, .i32⟩) (.of main_call0_call0_call0_v125 : StableHlo.TRef sig ⟨S256x100000, .i32⟩) (broadcastInDim S256x100000 ![] bcast_S_S256x100000)
  :: StableHlo.TRef.binary (.of main_call0_call0_call0_v121 : StableHlo.TRef sig ⟨S256x100000, .i32⟩) (.of main_call0_call0_call0_v125 : StableHlo.TRef sig ⟨S256x100000, .i32⟩) (.of main_call0_call0_call0_v126 : StableHlo.TRef sig ⟨S256x100000, .i32⟩) Host.shrui
  :: StableHlo.TRef.binary (.of main_call0_call0_call0_v124 : StableHlo.TRef sig ⟨S256x100000, .i32⟩) (.of main_call0_call0_call0_v126 : StableHlo.TRef sig ⟨S256x100000, .i32⟩) (.of main_call0_call0_call0_v127 : StableHlo.TRef sig ⟨S256x100000, .i32⟩) ori
  :: StableHlo.TRef.binary (.of main_call0_call0_call0_v122 : StableHlo.TRef sig ⟨S256x100000, .i32⟩) (.of main_call0_call0_call0_v127 : StableHlo.TRef sig ⟨S256x100000, .i32⟩) (.of main_call0_call0_call0_v128 : StableHlo.TRef sig ⟨S256x100000, .i32⟩) xori
  :: StableHlo.TRef.binary (.of main_call0_call0_call0_v122 : StableHlo.TRef sig ⟨S256x100000, .i32⟩) (.of main_call0_call0_call0_v128 : StableHlo.TRef sig ⟨S256x100000, .i32⟩) (.of main_call0_call0_call0_v129 : StableHlo.TRef sig ⟨S256x100000, .i32⟩) addi
  :: StableHlo.TRef.nullary (.of main_call0_call0_call0_c_33 : StableHlo.TRef sig ⟨S_, .i32⟩) (constantI S_ 32 24#32)
  :: StableHlo.TRef.unary (.of main_call0_call0_call0_c_33 : StableHlo.TRef sig ⟨S_, .i32⟩) (.of main_call0_call0_call0_v130 : StableHlo.TRef sig ⟨S256x100000, .i32⟩) (broadcastInDim S256x100000 ![] bcast_S_S256x100000)
  :: StableHlo.TRef.binary (.of main_call0_call0_call0_v128 : StableHlo.TRef sig ⟨S256x100000, .i32⟩) (.of main_call0_call0_call0_v130 : StableHlo.TRef sig ⟨S256x100000, .i32⟩) (.of main_call0_call0_call0_v131 : StableHlo.TRef sig ⟨S256x100000, .i32⟩) Host.shli
  :: StableHlo.TRef.nullary (.of main_call0_call0_call0_c_34 : StableHlo.TRef sig ⟨S_, .i32⟩) (constantI S_ 32 8#32)
  :: StableHlo.TRef.unary (.of main_call0_call0_call0_c_34 : StableHlo.TRef sig ⟨S_, .i32⟩) (.of main_call0_call0_call0_v132 : StableHlo.TRef sig ⟨S256x100000, .i32⟩) (broadcastInDim S256x100000 ![] bcast_S_S256x100000)
  :: StableHlo.TRef.binary (.of main_call0_call0_call0_v128 : StableHlo.TRef sig ⟨S256x100000, .i32⟩) (.of main_call0_call0_call0_v132 : StableHlo.TRef sig ⟨S256x100000, .i32⟩) (.of main_call0_call0_call0_v133 : StableHlo.TRef sig ⟨S256x100000, .i32⟩) Host.shrui
  :: StableHlo.TRef.binary (.of main_call0_call0_call0_v131 : StableHlo.TRef sig ⟨S256x100000, .i32⟩) (.of main_call0_call0_call0_v133 : StableHlo.TRef sig ⟨S256x100000, .i32⟩) (.of main_call0_call0_call0_v134 : StableHlo.TRef sig ⟨S256x100000, .i32⟩) ori
  :: StableHlo.TRef.binary (.of main_call0_call0_call0_v129 : StableHlo.TRef sig ⟨S256x100000, .i32⟩) (.of main_call0_call0_call0_v134 : StableHlo.TRef sig ⟨S256x100000, .i32⟩) (.of main_call0_call0_call0_v135 : StableHlo.TRef sig ⟨S256x100000, .i32⟩) xori
  :: StableHlo.TRef.unary (.of main_call0_call0_v7 : StableHlo.TRef sig ⟨S_, .i32⟩) (.of main_call0_call0_call0_v136 : StableHlo.TRef sig ⟨S256x100000, .i32⟩) (broadcastInDim S256x100000 ![] bcast_S_S256x100000)
  :: StableHlo.TRef.binary (.of main_call0_call0_call0_v129 : StableHlo.TRef sig ⟨S256x100000, .i32⟩) (.of main_call0_call0_call0_v136 : StableHlo.TRef sig ⟨S256x100000, .i32⟩) (.of main_call0_call0_call0_v137 : StableHlo.TRef sig ⟨S256x100000, .i32⟩) addi
  :: StableHlo.TRef.unary (.of main_call0_call0_call0_v1 : StableHlo.TRef sig ⟨S_, .i32⟩) (.of main_call0_call0_call0_v138 : StableHlo.TRef sig ⟨S256x100000, .i32⟩) (broadcastInDim S256x100000 ![] bcast_S_S256x100000)
  :: StableHlo.TRef.binary (.of main_call0_call0_call0_v135 : StableHlo.TRef sig ⟨S256x100000, .i32⟩) (.of main_call0_call0_call0_v138 : StableHlo.TRef sig ⟨S256x100000, .i32⟩) (.of main_call0_call0_call0_v139 : StableHlo.TRef sig ⟨S256x100000, .i32⟩) addi
  :: StableHlo.TRef.nullary (.of main_call0_call0_call0_c_35 : StableHlo.TRef sig ⟨S_, .i32⟩) (constantI S_ 32 4#32)
  :: StableHlo.TRef.unary (.of main_call0_call0_call0_c_35 : StableHlo.TRef sig ⟨S_, .i32⟩) (.of main_call0_call0_call0_v140 : StableHlo.TRef sig ⟨S256x100000, .i32⟩) (broadcastInDim S256x100000 ![] bcast_S_S256x100000)
  :: StableHlo.TRef.binary (.of main_call0_call0_call0_v139 : StableHlo.TRef sig ⟨S256x100000, .i32⟩) (.of main_call0_call0_call0_v140 : StableHlo.TRef sig ⟨S256x100000, .i32⟩) (.of main_call0_call0_call0_v141 : StableHlo.TRef sig ⟨S256x100000, .i32⟩) addi
  :: StableHlo.TRef.binary (.of main_call0_call0_call0_v137 : StableHlo.TRef sig ⟨S256x100000, .i32⟩) (.of main_call0_call0_call0_v141 : StableHlo.TRef sig ⟨S256x100000, .i32⟩) (.of main_call0_call0_call0_v142 : StableHlo.TRef sig ⟨S256x100000, .i32⟩) addi
  :: StableHlo.TRef.nullary (.of main_call0_call0_call0_c_36 : StableHlo.TRef sig ⟨S_, .i32⟩) (constantI S_ 32 13#32)
  :: StableHlo.TRef.unary (.of main_call0_call0_call0_c_36 : StableHlo.TRef sig ⟨S_, .i32⟩) (.of main_call0_call0_call0_v143 : StableHlo.TRef sig ⟨S256x100000, .i32⟩) (broadcastInDim S256x100000 ![] bcast_S_S256x100000)
  :: StableHlo.TRef.binary (.of main_call0_call0_call0_v141 : StableHlo.TRef sig ⟨S256x100000, .i32⟩) (.of main_call0_call0_call0_v143 : StableHlo.TRef sig ⟨S256x100000, .i32⟩) (.of main_call0_call0_call0_v144 : StableHlo.TRef sig ⟨S256x100000, .i32⟩) Host.shli
  :: StableHlo.TRef.nullary (.of main_call0_call0_call0_c_37 : StableHlo.TRef sig ⟨S_, .i32⟩) (constantI S_ 32 19#32)
  :: StableHlo.TRef.unary (.of main_call0_call0_call0_c_37 : StableHlo.TRef sig ⟨S_, .i32⟩) (.of main_call0_call0_call0_v145 : StableHlo.TRef sig ⟨S256x100000, .i32⟩) (broadcastInDim S256x100000 ![] bcast_S_S256x100000)
  :: StableHlo.TRef.binary (.of main_call0_call0_call0_v141 : StableHlo.TRef sig ⟨S256x100000, .i32⟩) (.of main_call0_call0_call0_v145 : StableHlo.TRef sig ⟨S256x100000, .i32⟩) (.of main_call0_call0_call0_v146 : StableHlo.TRef sig ⟨S256x100000, .i32⟩) Host.shrui
  :: StableHlo.TRef.binary (.of main_call0_call0_call0_v144 : StableHlo.TRef sig ⟨S256x100000, .i32⟩) (.of main_call0_call0_call0_v146 : StableHlo.TRef sig ⟨S256x100000, .i32⟩) (.of main_call0_call0_call0_v147 : StableHlo.TRef sig ⟨S256x100000, .i32⟩) ori
  :: StableHlo.TRef.binary (.of main_call0_call0_call0_v142 : StableHlo.TRef sig ⟨S256x100000, .i32⟩) (.of main_call0_call0_call0_v147 : StableHlo.TRef sig ⟨S256x100000, .i32⟩) (.of main_call0_call0_call0_v148 : StableHlo.TRef sig ⟨S256x100000, .i32⟩) xori
  :: StableHlo.TRef.binary (.of main_call0_call0_call0_v142 : StableHlo.TRef sig ⟨S256x100000, .i32⟩) (.of main_call0_call0_call0_v148 : StableHlo.TRef sig ⟨S256x100000, .i32⟩) (.of main_call0_call0_call0_v149 : StableHlo.TRef sig ⟨S256x100000, .i32⟩) addi
  :: StableHlo.TRef.nullary (.of main_call0_call0_call0_c_38 : StableHlo.TRef sig ⟨S_, .i32⟩) (constantI S_ 32 15#32)
  :: StableHlo.TRef.unary (.of main_call0_call0_call0_c_38 : StableHlo.TRef sig ⟨S_, .i32⟩) (.of main_call0_call0_call0_v150 : StableHlo.TRef sig ⟨S256x100000, .i32⟩) (broadcastInDim S256x100000 ![] bcast_S_S256x100000)
  :: StableHlo.TRef.binary (.of main_call0_call0_call0_v148 : StableHlo.TRef sig ⟨S256x100000, .i32⟩) (.of main_call0_call0_call0_v150 : StableHlo.TRef sig ⟨S256x100000, .i32⟩) (.of main_call0_call0_call0_v151 : StableHlo.TRef sig ⟨S256x100000, .i32⟩) Host.shli
  :: StableHlo.TRef.nullary (.of main_call0_call0_call0_c_39 : StableHlo.TRef sig ⟨S_, .i32⟩) (constantI S_ 32 17#32)
  :: StableHlo.TRef.unary (.of main_call0_call0_call0_c_39 : StableHlo.TRef sig ⟨S_, .i32⟩) (.of main_call0_call0_call0_v152 : StableHlo.TRef sig ⟨S256x100000, .i32⟩) (broadcastInDim S256x100000 ![] bcast_S_S256x100000)
  :: StableHlo.TRef.binary (.of main_call0_call0_call0_v148 : StableHlo.TRef sig ⟨S256x100000, .i32⟩) (.of main_call0_call0_call0_v152 : StableHlo.TRef sig ⟨S256x100000, .i32⟩) (.of main_call0_call0_call0_v153 : StableHlo.TRef sig ⟨S256x100000, .i32⟩) Host.shrui
  :: StableHlo.TRef.binary (.of main_call0_call0_call0_v151 : StableHlo.TRef sig ⟨S256x100000, .i32⟩) (.of main_call0_call0_call0_v153 : StableHlo.TRef sig ⟨S256x100000, .i32⟩) (.of main_call0_call0_call0_v154 : StableHlo.TRef sig ⟨S256x100000, .i32⟩) ori
  :: StableHlo.TRef.binary (.of main_call0_call0_call0_v149 : StableHlo.TRef sig ⟨S256x100000, .i32⟩) (.of main_call0_call0_call0_v154 : StableHlo.TRef sig ⟨S256x100000, .i32⟩) (.of main_call0_call0_call0_v155 : StableHlo.TRef sig ⟨S256x100000, .i32⟩) xori
  :: StableHlo.TRef.binary (.of main_call0_call0_call0_v149 : StableHlo.TRef sig ⟨S256x100000, .i32⟩) (.of main_call0_call0_call0_v155 : StableHlo.TRef sig ⟨S256x100000, .i32⟩) (.of main_call0_call0_call0_v156 : StableHlo.TRef sig ⟨S256x100000, .i32⟩) addi
  :: StableHlo.TRef.nullary (.of main_call0_call0_call0_c_40 : StableHlo.TRef sig ⟨S_, .i32⟩) (constantI S_ 32 26#32)
  :: StableHlo.TRef.unary (.of main_call0_call0_call0_c_40 : StableHlo.TRef sig ⟨S_, .i32⟩) (.of main_call0_call0_call0_v157 : StableHlo.TRef sig ⟨S256x100000, .i32⟩) (broadcastInDim S256x100000 ![] bcast_S_S256x100000)
  :: StableHlo.TRef.binary (.of main_call0_call0_call0_v155 : StableHlo.TRef sig ⟨S256x100000, .i32⟩) (.of main_call0_call0_call0_v157 : StableHlo.TRef sig ⟨S256x100000, .i32⟩) (.of main_call0_call0_call0_v158 : StableHlo.TRef sig ⟨S256x100000, .i32⟩) Host.shli
  :: StableHlo.TRef.nullary (.of main_call0_call0_call0_c_41 : StableHlo.TRef sig ⟨S_, .i32⟩) (constantI S_ 32 6#32)
  :: StableHlo.TRef.unary (.of main_call0_call0_call0_c_41 : StableHlo.TRef sig ⟨S_, .i32⟩) (.of main_call0_call0_call0_v159 : StableHlo.TRef sig ⟨S256x100000, .i32⟩) (broadcastInDim S256x100000 ![] bcast_S_S256x100000)
  :: StableHlo.TRef.binary (.of main_call0_call0_call0_v155 : StableHlo.TRef sig ⟨S256x100000, .i32⟩) (.of main_call0_call0_call0_v159 : StableHlo.TRef sig ⟨S256x100000, .i32⟩) (.of main_call0_call0_call0_v160 : StableHlo.TRef sig ⟨S256x100000, .i32⟩) Host.shrui
  :: StableHlo.TRef.binary (.of main_call0_call0_call0_v158 : StableHlo.TRef sig ⟨S256x100000, .i32⟩) (.of main_call0_call0_call0_v160 : StableHlo.TRef sig ⟨S256x100000, .i32⟩) (.of main_call0_call0_call0_v161 : StableHlo.TRef sig ⟨S256x100000, .i32⟩) ori
  :: StableHlo.TRef.binary (.of main_call0_call0_call0_v156 : StableHlo.TRef sig ⟨S256x100000, .i32⟩) (.of main_call0_call0_call0_v161 : StableHlo.TRef sig ⟨S256x100000, .i32⟩) (.of main_call0_call0_call0_v162 : StableHlo.TRef sig ⟨S256x100000, .i32⟩) xori
  :: StableHlo.TRef.binary (.of main_call0_call0_call0_v156 : StableHlo.TRef sig ⟨S256x100000, .i32⟩) (.of main_call0_call0_call0_v162 : StableHlo.TRef sig ⟨S256x100000, .i32⟩) (.of main_call0_call0_call0_v163 : StableHlo.TRef sig ⟨S256x100000, .i32⟩) addi
  :: StableHlo.TRef.nullary (.of main_call0_call0_call0_c_42 : StableHlo.TRef sig ⟨S_, .i32⟩) (constantI S_ 32 6#32)
  :: StableHlo.TRef.unary (.of main_call0_call0_call0_c_42 : StableHlo.TRef sig ⟨S_, .i32⟩) (.of main_call0_call0_call0_v164 : StableHlo.TRef sig ⟨S256x100000, .i32⟩) (broadcastInDim S256x100000 ![] bcast_S_S256x100000)
  :: StableHlo.TRef.binary (.of main_call0_call0_call0_v162 : StableHlo.TRef sig ⟨S256x100000, .i32⟩) (.of main_call0_call0_call0_v164 : StableHlo.TRef sig ⟨S256x100000, .i32⟩) (.of main_call0_call0_call0_v165 : StableHlo.TRef sig ⟨S256x100000, .i32⟩) Host.shli
  :: StableHlo.TRef.nullary (.of main_call0_call0_call0_c_43 : StableHlo.TRef sig ⟨S_, .i32⟩) (constantI S_ 32 26#32)
  :: StableHlo.TRef.unary (.of main_call0_call0_call0_c_43 : StableHlo.TRef sig ⟨S_, .i32⟩) (.of main_call0_call0_call0_v166 : StableHlo.TRef sig ⟨S256x100000, .i32⟩) (broadcastInDim S256x100000 ![] bcast_S_S256x100000)
  :: StableHlo.TRef.binary (.of main_call0_call0_call0_v162 : StableHlo.TRef sig ⟨S256x100000, .i32⟩) (.of main_call0_call0_call0_v166 : StableHlo.TRef sig ⟨S256x100000, .i32⟩) (.of main_call0_call0_call0_v167 : StableHlo.TRef sig ⟨S256x100000, .i32⟩) Host.shrui
  :: StableHlo.TRef.binary (.of main_call0_call0_call0_v165 : StableHlo.TRef sig ⟨S256x100000, .i32⟩) (.of main_call0_call0_call0_v167 : StableHlo.TRef sig ⟨S256x100000, .i32⟩) (.of main_call0_call0_call0_v168 : StableHlo.TRef sig ⟨S256x100000, .i32⟩) ori
  :: StableHlo.TRef.binary (.of main_call0_call0_call0_v163 : StableHlo.TRef sig ⟨S256x100000, .i32⟩) (.of main_call0_call0_call0_v168 : StableHlo.TRef sig ⟨S256x100000, .i32⟩) (.of main_call0_call0_call0_v169 : StableHlo.TRef sig ⟨S256x100000, .i32⟩) xori
  :: StableHlo.TRef.unary (.of main_call0_call0_call0_v1 : StableHlo.TRef sig ⟨S_, .i32⟩) (.of main_call0_call0_call0_v170 : StableHlo.TRef sig ⟨S256x100000, .i32⟩) (broadcastInDim S256x100000 ![] bcast_S_S256x100000)
  :: StableHlo.TRef.binary (.of main_call0_call0_call0_v163 : StableHlo.TRef sig ⟨S256x100000, .i32⟩) (.of main_call0_call0_call0_v170 : StableHlo.TRef sig ⟨S256x100000, .i32⟩) (.of main_call0_call0_v19_0 : StableHlo.TRef sig ⟨S256x100000, .i32⟩) addi
  :: StableHlo.TRef.unary (.of main_call0_call0_v5 : StableHlo.TRef sig ⟨S_, .i32⟩) (.of main_call0_call0_call0_v172 : StableHlo.TRef sig ⟨S256x100000, .i32⟩) (broadcastInDim S256x100000 ![] bcast_S_S256x100000)
  :: StableHlo.TRef.binary (.of main_call0_call0_call0_v169 : StableHlo.TRef sig ⟨S256x100000, .i32⟩) (.of main_call0_call0_call0_v172 : StableHlo.TRef sig ⟨S256x100000, .i32⟩) (.of main_call0_call0_call0_v173 : StableHlo.TRef sig ⟨S256x100000, .i32⟩) addi
  :: StableHlo.TRef.nullary (.of main_call0_call0_call0_c_44 : StableHlo.TRef sig ⟨S_, .i32⟩) (constantI S_ 32 5#32)
  :: StableHlo.TRef.unary (.of main_call0_call0_call0_c_44 : StableHlo.TRef sig ⟨S_, .i32⟩) (.of main_call0_call0_call0_v174 : StableHlo.TRef sig ⟨S256x100000, .i32⟩) (broadcastInDim S256x100000 ![] bcast_S_S256x100000)
  :: StableHlo.TRef.binary (.of main_call0_call0_call0_v173 : StableHlo.TRef sig ⟨S256x100000, .i32⟩) (.of main_call0_call0_call0_v174 : StableHlo.TRef sig ⟨S256x100000, .i32⟩) (.of main_call0_call0_v19_1 : StableHlo.TRef sig ⟨S256x100000, .i32⟩) addi
  :: StableHlo.TRef.binary (.of main_call0_call0_v19_0 : StableHlo.TRef sig ⟨S256x100000, .i32⟩) (.of main_call0_call0_v19_1 : StableHlo.TRef sig ⟨S256x100000, .i32⟩) (.of main_call0_call0_v20 : StableHlo.TRef sig ⟨S256x100000, .i32⟩) xori
  :: StableHlo.TRef.nullary (.of main_call0_call0_c_2 : StableHlo.TRef sig ⟨S_, .i32⟩) (constantI S_ 32 9#32)
  :: StableHlo.TRef.unary (.of main_call0_call0_c_2 : StableHlo.TRef sig ⟨S_, .i32⟩) (.of main_call0_call0_v21 : StableHlo.TRef sig ⟨S256x100000, .i32⟩) (broadcastInDim S256x100000 ![] bcast_S_S256x100000)
  :: StableHlo.TRef.binary (.of main_call0_call0_v20 : StableHlo.TRef sig ⟨S256x100000, .i32⟩) (.of main_call0_call0_v21 : StableHlo.TRef sig ⟨S256x100000, .i32⟩) (.of main_call0_call0_v22 : StableHlo.TRef sig ⟨S256x100000, .i32⟩) Host.shrui
  :: StableHlo.TRef.nullary (.of main_call0_call0_c_3 : StableHlo.TRef sig ⟨S_, .i32⟩) (constantI S_ 32 1065353216#32)
  :: StableHlo.TRef.unary (.of main_call0_call0_c_3 : StableHlo.TRef sig ⟨S_, .i32⟩) (.of main_call0_call0_v23 : StableHlo.TRef sig ⟨S256x100000, .i32⟩) (broadcastInDim S256x100000 ![] bcast_S_S256x100000)
  :: StableHlo.TRef.binary (.of main_call0_call0_v22 : StableHlo.TRef sig ⟨S256x100000, .i32⟩) (.of main_call0_call0_v23 : StableHlo.TRef sig ⟨S256x100000, .i32⟩) (.of main_call0_call0_v24 : StableHlo.TRef sig ⟨S256x100000, .i32⟩) ori
  :: StableHlo.TRef.unary (.of main_call0_call0_v24 : StableHlo.TRef sig ⟨S256x100000, .i32⟩) (.of main_call0_call0_v25 : StableHlo.TRef sig ⟨S256x100000, .f32⟩) (bitcastToFloat .f32)
  :: StableHlo.TRef.nullary (.of main_call0_call0_cst : StableHlo.TRef sig ⟨S_, .f32⟩) (constant S_ .f32 0x3F800000#32)
  :: StableHlo.TRef.unary (.of main_call0_call0_cst : StableHlo.TRef sig ⟨S_, .f32⟩) (.of main_call0_call0_v26 : StableHlo.TRef sig ⟨S256x100000, .f32⟩) (broadcastInDim S256x100000 ![] bcast_S_S256x100000)
  :: StableHlo.TRef.binary (.of main_call0_call0_v25 : StableHlo.TRef sig ⟨S256x100000, .f32⟩) (.of main_call0_call0_v26 : StableHlo.TRef sig ⟨S256x100000, .f32⟩) (.of main_call0_call0_v27 : StableHlo.TRef sig ⟨S256x100000, .f32⟩) subf
  :: StableHlo.TRef.binary (.of main_call0_call0_v3 : StableHlo.TRef sig ⟨S1x1, .f32⟩) (.of main_call0_call0_v2 : StableHlo.TRef sig ⟨S1x1, .f32⟩) (.of main_call0_call0_v28 : StableHlo.TRef sig ⟨S1x1, .f32⟩) subf
  :: StableHlo.TRef.unary (.of main_call0_call0_v28 : StableHlo.TRef sig ⟨S1x1, .f32⟩) (.of main_call0_call0_v29 : StableHlo.TRef sig ⟨S256x100000, .f32⟩) (broadcastInDim S256x100000 ![0, 1] bcast_S1x1_S256x100000_0_1)
  :: StableHlo.TRef.binary (.of main_call0_call0_v27 : StableHlo.TRef sig ⟨S256x100000, .f32⟩) (.of main_call0_call0_v29 : StableHlo.TRef sig ⟨S256x100000, .f32⟩) (.of main_call0_call0_v30 : StableHlo.TRef sig ⟨S256x100000, .f32⟩) mulf
  :: StableHlo.TRef.unary (.of main_call0_call0_v2 : StableHlo.TRef sig ⟨S1x1, .f32⟩) (.of main_call0_call0_v31 : StableHlo.TRef sig ⟨S256x100000, .f32⟩) (broadcastInDim S256x100000 ![0, 1] bcast_S1x1_S256x100000_0_1)
  :: StableHlo.TRef.binary (.of main_call0_call0_v30 : StableHlo.TRef sig ⟨S256x100000, .f32⟩) (.of main_call0_call0_v31 : StableHlo.TRef sig ⟨S256x100000, .f32⟩) (.of main_call0_call0_v32 : StableHlo.TRef sig ⟨S256x100000, .f32⟩) addf
  :: StableHlo.TRef.unary (.of main_call0_call0_v2 : StableHlo.TRef sig ⟨S1x1, .f32⟩) (.of main_call0_call0_v33 : StableHlo.TRef sig ⟨S256x100000, .f32⟩) (broadcastInDim S256x100000 ![0, 1] bcast_S1x1_S256x100000_0_1)
  :: StableHlo.TRef.binary (.of main_call0_call0_v33 : StableHlo.TRef sig ⟨S256x100000, .f32⟩) (.of main_call0_call0_v32 : StableHlo.TRef sig ⟨S256x100000, .f32⟩) (.of main_call0_v0 : StableHlo.TRef sig ⟨S256x100000, .f32⟩) maximumf
  :: StableHlo.TRef.unary (.of main_call0_v0 : StableHlo.TRef sig ⟨S256x100000, .f32⟩) (.of main_call0_v1 : StableHlo.TRef sig ⟨S256x100000, .f32⟩) Host.negf
  :: StableHlo.TRef.unary (.of main_call0_v1 : StableHlo.TRef sig ⟨S256x100000, .f32⟩) (.of main_call0_v2 : StableHlo.TRef sig ⟨S256x100000, .f32⟩) Host.log1p
  :: StableHlo.TRef.unary (.of main_call0_v2 : StableHlo.TRef sig ⟨S256x100000, .f32⟩) (.of main_v60 : StableHlo.TRef sig ⟨S256x100000, .f32⟩) Host.negf
  :: [] )
set_option maxHeartbeats 40000000 in  -- a long list
/-- They touch TensorCore buffers only. -/
theorem ops1_sub : (ops1 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub ..⟩
set_option maxHeartbeats 40000000 in  -- a long list
/-- Each determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in  -- a long list
/-- The 1 operations of @main that come next. -/
abbrev ops2 : List (HloOp τ sig (Elt F)) :=
  ( StableHlo.binary main_v59 main_v60 main_v61 (Host.divf : (⟨S256x100000, .f32⟩ : BufTy).Contents (Elt F) → (⟨S256x100000, .f32⟩ : BufTy).Contents (Elt F) → (⟨S256x100000, .f32⟩ : BufTy).Contents (Elt F))
  :: [] )
set_option maxHeartbeats 40000000 in  -- a long list
/-- They touch TensorCore buffers only. -/
theorem ops2_sub : (ops2 : List (HloOp τ sig (Elt F))).Forall fun op => op.bufs ⊆ StableHlo.tcRefs τ sig :=
  StableHlo.binary_bufs_sub ..
set_option maxHeartbeats 40000000 in  -- a long list
/-- Each determines its result. -/
theorem ops2_fresh : (ops2 : List (HloOp τ sig (Elt F))).Forall fun op => op.fresh = ∅ :=
  rfl

set_option maxHeartbeats 40000000 in  -- a long list
/-- The 5 operations of @argmax that come next. -/
abbrev ops3 : List (HloOp τ sig (Elt F)) :=
  ( StableHlo.TRef.nullary (.of main_call1_v0 : StableHlo.TRef sig ⟨S256x100000, .i32⟩) (iotaInDim S256x100000 32 1)
  :: StableHlo.TRef.nullary (.of main_call1_cst : StableHlo.TRef sig ⟨S_, .f32⟩) (constant S_ .f32 0xFF800000#32)
  :: StableHlo.TRef.nullary (.of main_call1_c : StableHlo.TRef sig ⟨S_, .i32⟩) (constantI S_ 32 0#32)
  :: StableHlo.TRef.quaternary (.of main_v61 : StableHlo.TRef sig ⟨S256x100000, .f32⟩) (.of main_call1_v0 : StableHlo.TRef sig ⟨S256x100000, .i32⟩) (.of main_call1_cst : StableHlo.TRef sig ⟨S_, .f32⟩) (.of main_call1_c : StableHlo.TRef sig ⟨S_, .i32⟩) (.of main_call1_v1_0 : StableHlo.TRef sig ⟨S256, .f32⟩) (fun x y u v j => (Host.argReduce reducer_argmax_f32_i32 x y u v reducesTo_S256x100000_S256_d1 h_S_ j).1)
  :: StableHlo.TRef.quaternary (.of main_v61 : StableHlo.TRef sig ⟨S256x100000, .f32⟩) (.of main_call1_v0 : StableHlo.TRef sig ⟨S256x100000, .i32⟩) (.of main_call1_cst : StableHlo.TRef sig ⟨S_, .f32⟩) (.of main_call1_c : StableHlo.TRef sig ⟨S_, .i32⟩) (.of main_v62 : StableHlo.TRef sig ⟨S256, .i32⟩) (fun x y u v j => (Host.argReduce reducer_argmax_f32_i32 x y u v reducesTo_S256x100000_S256_d1 h_S_ j).2)
  :: [] )
set_option maxHeartbeats 40000000 in  -- a long list
/-- They touch TensorCore buffers only. -/
theorem ops3_sub : (ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long list
/-- Each determines its result. -/
theorem ops3_fresh : (ops3 : List (HloOp τ sig (Elt F))).Forall fun op => op.fresh = ∅ :=
  ⟨rfl, rfl, rfl, rfl, rfl⟩

set_option maxHeartbeats 40000000 in  -- a long list
/-- The 4 operations of @main that come next. -/
abbrev ops4 : List (HloOp τ sig (Elt F)) :=
  ( StableHlo.reshape main_v62 main_v63 (rfl : (.i32 : EltTy) = .i32) shapeCasts_S256_S32x8
  :: StableHlo.unary main_v51 main_v64 (noti : (⟨S32x8, .i1⟩ : BufTy).Contents (Elt F) → (⟨S32x8, .i1⟩ : BufTy).Contents (Elt F))
  :: StableHlo.nullary main_c_15 (constantI S_ 1 0#1)
  :: StableHlo.binary main_v64 main_c_15 main_v65 ((fun x v => Host.reduce IntOp.ori x v reducesTo_S32x8_S32_d1 h_S_) : (⟨S32x8, .i1⟩ : BufTy).Contents (Elt F) → (⟨S_, .i1⟩ : BufTy).Contents (Elt F) → (⟨S32, .i1⟩ : BufTy).Contents (Elt F))
  :: [] )
set_option maxHeartbeats 40000000 in  -- a long list
/-- They touch TensorCore buffers only. -/
theorem ops4_sub : (ops4 : List (HloOp τ sig (Elt F))).Forall fun op => op.bufs ⊆ StableHlo.tcRefs τ sig :=
  ⟨StableHlo.reshape_bufs_sub .., StableHlo.unary_bufs_sub .., StableHlo.nullary_bufs_sub .., StableHlo.binary_bufs_sub ..⟩
set_option maxHeartbeats 40000000 in  -- a long list
/-- Each determines its result. -/
theorem ops4_fresh : (ops4 : List (HloOp τ sig (Elt F))).Forall fun op => op.fresh = ∅ :=
  ⟨rfl, rfl, rfl, rfl⟩

set_option maxHeartbeats 40000000 in  -- a long list
/-- The 5 operations of @argmax_0 that come next. -/
abbrev ops5 : List (HloOp τ sig (Elt F)) :=
  ( StableHlo.TRef.nullary (.of main_call2_v0 : StableHlo.TRef sig ⟨S32x8, .i32⟩) (iotaInDim S32x8 32 1)
  :: StableHlo.TRef.nullary (.of main_call2_c : StableHlo.TRef sig ⟨S_, .i1⟩) (constantI S_ 1 0#1)
  :: StableHlo.TRef.nullary (.of main_call2_c_0 : StableHlo.TRef sig ⟨S_, .i32⟩) (constantI S_ 32 0#32)
  :: StableHlo.TRef.quaternary (.of main_v64 : StableHlo.TRef sig ⟨S32x8, .i1⟩) (.of main_call2_v0 : StableHlo.TRef sig ⟨S32x8, .i32⟩) (.of main_call2_c : StableHlo.TRef sig ⟨S_, .i1⟩) (.of main_call2_c_0 : StableHlo.TRef sig ⟨S_, .i32⟩) (.of main_call2_v1_0 : StableHlo.TRef sig ⟨S32, .i1⟩) (fun x y u v j => (Host.reduce2 reducer_argmax_i1_i32 x y u v reducesTo_S32x8_S32_d1 h_S_ j).1)
  :: StableHlo.TRef.quaternary (.of main_v64 : StableHlo.TRef sig ⟨S32x8, .i1⟩) (.of main_call2_v0 : StableHlo.TRef sig ⟨S32x8, .i32⟩) (.of main_call2_c : StableHlo.TRef sig ⟨S_, .i1⟩) (.of main_call2_c_0 : StableHlo.TRef sig ⟨S_, .i32⟩) (.of main_v66 : StableHlo.TRef sig ⟨S32, .i32⟩) (fun x y u v j => (Host.reduce2 reducer_argmax_i1_i32 x y u v reducesTo_S32x8_S32_d1 h_S_ j).2)
  :: [] )
set_option maxHeartbeats 40000000 in  -- a long list
/-- They touch TensorCore buffers only. -/
theorem ops5_sub : (ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long list
/-- Each determines its result. -/
theorem ops5_fresh : (ops5 : List (HloOp τ sig (Elt F))).Forall fun op => op.fresh = ∅ :=
  ⟨rfl, rfl, rfl, rfl, rfl⟩

set_option maxHeartbeats 40000000 in  -- a long list
/-- The 1 operations of @main that come next. -/
abbrev ops6 : List (HloOp τ sig (Elt F)) :=
  ( StableHlo.nullary main_c_16 (constantI S_ 32 8#32)
  :: [] )
set_option maxHeartbeats 40000000 in  -- a long list
/-- They touch TensorCore buffers only. -/
theorem ops6_sub : (ops6 : List (HloOp τ sig (Elt F))).Forall fun op => op.bufs ⊆ StableHlo.tcRefs τ sig :=
  StableHlo.nullary_bufs_sub ..
set_option maxHeartbeats 40000000 in  -- a long list
/-- Each determines its result. -/
theorem ops6_fresh : (ops6 : List (HloOp τ sig (Elt F))).Forall fun op => op.fresh = ∅ :=
  rfl

set_option maxHeartbeats 40000000 in  -- a long list
/-- The 3 operations of @where that come next. -/
abbrev ops7 : List (HloOp τ sig (Elt F)) :=
  ( StableHlo.TRef.unary (.of main_c_16 : StableHlo.TRef sig ⟨S_, .i32⟩) (.of main_call3_v0 : StableHlo.TRef sig ⟨S_, .i32⟩) id
  :: StableHlo.TRef.unary (.of main_call3_v0 : StableHlo.TRef sig ⟨S_, .i32⟩) (.of main_call3_v1 : StableHlo.TRef sig ⟨S32, .i32⟩) (broadcastInDim S32 ![] bcast_S_S32)
  :: StableHlo.TRef.ternary (.of main_v65 : StableHlo.TRef sig ⟨S32, .i1⟩) (.of main_v66 : StableHlo.TRef sig ⟨S32, .i32⟩) (.of main_call3_v1 : StableHlo.TRef sig ⟨S32, .i32⟩) (.of main_v67 : StableHlo.TRef sig ⟨S32, .i32⟩) select
  :: [] )
set_option maxHeartbeats 40000000 in  -- a long list
/-- They touch TensorCore buffers only. -/
theorem ops7_sub : (ops7 : List (HloOp τ sig (Elt F))).Forall fun op => op.bufs ⊆ StableHlo.tcRefs τ sig :=
  ⟨StableHlo.unary_bufs_sub .., StableHlo.unary_bufs_sub .., StableHlo.ternary_bufs_sub ..⟩
set_option maxHeartbeats 40000000 in  -- a long list
/-- Each determines its result. -/
theorem ops7_fresh : (ops7 : List (HloOp τ sig (Elt F))).Forall fun op => op.fresh = ∅ :=
  ⟨rfl, rfl, rfl⟩

set_option maxHeartbeats 40000000 in  -- a long list
/-- The 11 operations of @main that come next. -/
abbrev ops8 : List (HloOp τ sig (Elt F)) :=
  ( StableHlo.nullary main_v68 (iotaInDim S8 32 0)
  :: StableHlo.unary main_v68 main_v69 (broadcastInDim S1x8 ![1] bcast_S8_S1x8_1 : (⟨S8, .i32⟩ : BufTy).Contents (Elt F) → (⟨S1x8, .i32⟩ : BufTy).Contents (Elt F))
  :: StableHlo.unary main_v67 main_v70 (broadcastInDim S32x1 ![0] bcast_S32_S32x1_0 : (⟨S32, .i32⟩ : BufTy).Contents (Elt F) → (⟨S32x1, .i32⟩ : BufTy).Contents (Elt F))
  :: StableHlo.unary main_v69 main_v71 (broadcastInDim S32x8 ![0, 1] bcast_S1x8_S32x8_0_1 : (⟨S1x8, .i32⟩ : BufTy).Contents (Elt F) → (⟨S32x8, .i32⟩ : BufTy).Contents (Elt F))
  :: StableHlo.unary main_v70 main_v72 (broadcastInDim S32x8 ![0, 1] bcast_S32x1_S32x8_0_1 : (⟨S32x1, .i32⟩ : BufTy).Contents (Elt F) → (⟨S32x8, .i32⟩ : BufTy).Contents (Elt F))
  :: StableHlo.binary main_v71 main_v72 main_v73 (cmpi .slt : (⟨S32x8, .i32⟩ : BufTy).Contents (Elt F) → (⟨S32x8, .i32⟩ : BufTy).Contents (Elt F) → (⟨S32x8, .i1⟩ : BufTy).Contents (Elt F))
  :: StableHlo.unary main_v67 main_v74 (broadcastInDim S32x1 ![0] bcast_S32_S32x1_0 : (⟨S32, .i32⟩ : BufTy).Contents (Elt F) → (⟨S32x1, .i32⟩ : BufTy).Contents (Elt F))
  :: StableHlo.unary main_v69 main_v75 (broadcastInDim S32x8 ![0, 1] bcast_S1x8_S32x8_0_1 : (⟨S1x8, .i32⟩ : BufTy).Contents (Elt F) → (⟨S32x8, .i32⟩ : BufTy).Contents (Elt F))
  :: StableHlo.unary main_v74 main_v76 (broadcastInDim S32x8 ![0, 1] bcast_S32x1_S32x8_0_1 : (⟨S32x1, .i32⟩ : BufTy).Contents (Elt F) → (⟨S32x8, .i32⟩ : BufTy).Contents (Elt F))
  :: StableHlo.binary main_v75 main_v76 main_v77 (cmpi .eq : (⟨S32x8, .i32⟩ : BufTy).Contents (Elt F) → (⟨S32x8, .i32⟩ : BufTy).Contents (Elt F) → (⟨S32x8, .i1⟩ : BufTy).Contents (Elt F))
  :: StableHlo.nullary main_c_17 (constantI S_ 32 4294967295#32)
  :: [] )
set_option maxHeartbeats 40000000 in  -- a long list
/-- They touch TensorCore buffers only. -/
theorem ops8_sub : (ops8 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub ..⟩
set_option maxHeartbeats 40000000 in  -- a long list
/-- Each determines its result. -/
theorem ops8_fresh : (ops8 : List (HloOp τ sig (Elt F))).Forall fun op => op.fresh = ∅ :=
  ⟨rfl, rfl, rfl, rfl, rfl, rfl, rfl, rfl, rfl, rfl, rfl⟩

set_option maxHeartbeats 40000000 in  -- a long list
/-- The 2 operations of @where_1 that come next. -/
abbrev ops9 : List (HloOp τ sig (Elt F)) :=
  ( StableHlo.TRef.unary (.of main_c_17 : StableHlo.TRef sig ⟨S_, .i32⟩) (.of main_call4_v0 : StableHlo.TRef sig ⟨S32x8, .i32⟩) (broadcastInDim S32x8 ![] bcast_S_S32x8)
  :: StableHlo.TRef.ternary (.of main_v73 : StableHlo.TRef sig ⟨S32x8, .i1⟩) (.of main_arg3 : StableHlo.TRef sig ⟨S32x8, .i32⟩) (.of main_call4_v0 : StableHlo.TRef sig ⟨S32x8, .i32⟩) (.of main_v78 : StableHlo.TRef sig ⟨S32x8, .i32⟩) select
  :: [] )
set_option maxHeartbeats 40000000 in  -- a long list
/-- They touch TensorCore buffers only. -/
theorem ops9_sub : (ops9 : List (HloOp τ sig (Elt F))).Forall fun op => op.bufs ⊆ StableHlo.tcRefs τ sig :=
  ⟨StableHlo.unary_bufs_sub .., StableHlo.ternary_bufs_sub ..⟩
set_option maxHeartbeats 40000000 in  -- a long list
/-- Each determines its result. -/
theorem ops9_fresh : (ops9 : List (HloOp τ sig (Elt F))).Forall fun op => op.fresh = ∅ :=
  ⟨rfl, rfl⟩

set_option maxHeartbeats 40000000 in  -- a long list
/-- The 7 operations of @main that come next. -/
abbrev ops10 : List (HloOp τ sig (Elt F)) :=
  ( StableHlo.unary main_v78 main_v79 ((extractStridedSlice S32x1 ![0, 7] · slices_S32x8_S32x1_0_7) : (⟨S32x8, .i32⟩ : BufTy).Contents (Elt F) → (⟨S32x1, .i32⟩ : BufTy).Contents (Elt F))
  :: StableHlo.reshape main_v79 main_v80 (rfl : (.i32 : EltTy) = .i32) shapeCasts_S32x1_S32
  :: StableHlo.nullary main_c_18 (constantI S_ 32 4294967295#32)
  :: StableHlo.unary main_c_18 main_v81 (broadcastInDim S32 ![] bcast_S_S32 : (⟨S_, .i32⟩ : BufTy).Contents (Elt F) → (⟨S32, .i32⟩ : BufTy).Contents (Elt F))
  :: StableHlo.binary main_v80 main_v81 main_v82 (cmpi .ne : (⟨S32, .i32⟩ : BufTy).Contents (Elt F) → (⟨S32, .i32⟩ : BufTy).Contents (Elt F) → (⟨S32, .i1⟩ : BufTy).Contents (Elt F))
  :: StableHlo.reshape main_arg1 main_v83 (rfl : (.i32 : EltTy) = .i32) shapeCasts_S32x1_S32
  :: StableHlo.nullary main_c_19 (constantI S_ 32 4294967295#32)
  :: [] )
set_option maxHeartbeats 40000000 in  -- a long list
/-- They touch TensorCore buffers only. -/
theorem ops10_sub : (ops10 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.reshape_bufs_sub .., StableHlo.nullary_bufs_sub ..⟩
set_option maxHeartbeats 40000000 in  -- a long list
/-- Each determines its result. -/
theorem ops10_fresh : (ops10 : List (HloOp τ sig (Elt F))).Forall fun op => op.fresh = ∅ :=
  ⟨rfl, rfl, rfl, rfl, rfl, rfl, rfl⟩

set_option maxHeartbeats 40000000 in  -- a long list
/-- The 3 operations of @where that come next. -/
abbrev ops11 : List (HloOp τ sig (Elt F)) :=
  ( StableHlo.TRef.unary (.of main_c_19 : StableHlo.TRef sig ⟨S_, .i32⟩) (.of main_call5_v0 : StableHlo.TRef sig ⟨S_, .i32⟩) id
  :: StableHlo.TRef.unary (.of main_call5_v0 : StableHlo.TRef sig ⟨S_, .i32⟩) (.of main_call5_v1 : StableHlo.TRef sig ⟨S32, .i32⟩) (broadcastInDim S32 ![] bcast_S_S32)
  :: StableHlo.TRef.ternary (.of main_v82 : StableHlo.TRef sig ⟨S32, .i1⟩) (.of main_v83 : StableHlo.TRef sig ⟨S32, .i32⟩) (.of main_call5_v1 : StableHlo.TRef sig ⟨S32, .i32⟩) (.of main_v84 : StableHlo.TRef sig ⟨S32, .i32⟩) select
  :: [] )
set_option maxHeartbeats 40000000 in  -- a long list
/-- They touch TensorCore buffers only. -/
theorem ops11_sub : (ops11 : List (HloOp τ sig (Elt F))).Forall fun op => op.bufs ⊆ StableHlo.tcRefs τ sig :=
  ⟨StableHlo.unary_bufs_sub .., StableHlo.unary_bufs_sub .., StableHlo.ternary_bufs_sub ..⟩
set_option maxHeartbeats 40000000 in  -- a long list
/-- Each determines its result. -/
theorem ops11_fresh : (ops11 : List (HloOp τ sig (Elt F))).Forall fun op => op.fresh = ∅ :=
  ⟨rfl, rfl, rfl⟩

set_option maxHeartbeats 40000000 in  -- a long list
/-- The 10 operations of @main that come next. -/
abbrev ops12 : List (HloOp τ sig (Elt F)) :=
  ( StableHlo.nullary main_c_20 (constantI S_ 32 4294967295#32)
  :: StableHlo.unary main_c_20 main_v85 (broadcastInDim S32 ![] bcast_S_S32 : (⟨S_, .i32⟩ : BufTy).Contents (Elt F) → (⟨S32, .i32⟩ : BufTy).Contents (Elt F))
  :: StableHlo.unary main_v77 main_v86 (noti : (⟨S32x8, .i1⟩ : BufTy).Contents (Elt F) → (⟨S32x8, .i1⟩ : BufTy).Contents (Elt F))
  :: StableHlo.unary main_v86 main_v87 ((extui 32 · natLt_1_32) : (⟨S32x8, .i1⟩ : BufTy).Contents (Elt F) → (⟨S32x8, .i32⟩ : BufTy).Contents (Elt F))
  :: StableHlo.binary main_v78 main_v87 main_v88 (muli : (⟨S32x8, .i32⟩ : BufTy).Contents (Elt F) → (⟨S32x8, .i32⟩ : BufTy).Contents (Elt F) → (⟨S32x8, .i32⟩ : BufTy).Contents (Elt F))
  :: StableHlo.unary main_v77 main_v89 ((extui 32 · natLt_1_32) : (⟨S32x8, .i1⟩ : BufTy).Contents (Elt F) → (⟨S32x8, .i32⟩ : BufTy).Contents (Elt F))
  :: StableHlo.binary main_v63 main_v89 main_v90 (muli : (⟨S32x8, .i32⟩ : BufTy).Contents (Elt F) → (⟨S32x8, .i32⟩ : BufTy).Contents (Elt F) → (⟨S32x8, .i32⟩ : BufTy).Contents (Elt F))
  :: StableHlo.binary main_v88 main_v90 main_v91 (addi : (⟨S32x8, .i32⟩ : BufTy).Contents (Elt F) → (⟨S32x8, .i32⟩ : BufTy).Contents (Elt F) → (⟨S32x8, .i32⟩ : BufTy).Contents (Elt F))
  :: StableHlo.unary main_v85 main_v92 (broadcastInDim S32x1 ![0] bcast_S32_S32x1_0 : (⟨S32, .i32⟩ : BufTy).Contents (Elt F) → (⟨S32x1, .i32⟩ : BufTy).Contents (Elt F))
  :: StableHlo.binary main_v91 main_v92 main_v93 ((fun a b => concatenate S32x9 1 [⟨S32x8, a⟩, ⟨S32x1, b⟩] concatenates_S32x8_S32x1_S32x9_d1) : (⟨S32x8, .i32⟩ : BufTy).Contents (Elt F) → (⟨S32x1, .i32⟩ : BufTy).Contents (Elt F) → (⟨S32x9, .i32⟩ : BufTy).Contents (Elt F))
  :: [] )
set_option maxHeartbeats 40000000 in  -- a long list
/-- They touch TensorCore buffers only. -/
theorem ops12_sub : (ops12 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub ..⟩
set_option maxHeartbeats 40000000 in  -- a long list
/-- Each determines its result. -/
theorem ops12_fresh : (ops12 : List (HloOp τ sig (Elt F))).Forall fun op => op.fresh = ∅ :=
  ⟨rfl, rfl, rfl, rfl, rfl, rfl, rfl, rfl, rfl, rfl⟩

/-- The stretches, in order. -/
abbrev segs : List (List (HloOp τ sig (Elt F))) := [ops0, ops1, ops2, ops3, ops4, ops5, ops6, ops7, ops8, ops9, ops10, ops11, ops12]

/-- @main is the chain of the stretches. -/
theorem main_chain (c : Dev nD) : main (F := F) c = (Pipeline.chain
  [ StableHlo.seq ops0,
    StableHlo.seq ops1,
    StableHlo.seq ops2,
    StableHlo.seq ops3,
    StableHlo.seq ops4,
    StableHlo.seq ops5,
    StableHlo.seq ops6,
    StableHlo.seq ops7,
    StableHlo.seq ops8,
    StableHlo.seq ops9,
    StableHlo.seq ops10,
    StableHlo.seq ops11,
    StableHlo.seq ops12 ] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

theorem main_seq (c : Dev nD) : main (F := F) c = StableHlo.seq (List.flatten segs) := by
  rw [main_chain c]
  have h := StableHlo.chain_map_seq_append (nD := nD) (Λ := Pipeline.Sig Λ₀ (Fin 0) fun p => (pcfgs (F := F) p).Adm) (segs (F := F)) []
  rw [List.append_nil] at h
  exact h.trans (bind_pure _)

theorem all_of_segs (p : HloOp τ sig (Elt F) → Prop) (h : segs.Forall fun l => l.Forall p) : (List.flatten segs).Forall p := by
  rw [List.forall_iff_forall_mem] at h ⊢
  intro op hop
  obtain ⟨l, hl, ho⟩ := List.mem_flatten.mp hop
  exact List.forall_iff_forall_mem.mp (h l hl) op ho

theorem segs_sub : (List.flatten segs : List (HloOp τ sig (Elt F))).Forall fun op => op.bufs ⊆ StableHlo.tcRefs τ sig :=
  all_of_segs _ ⟨ops0_sub, ops1_sub, ops2_sub, ops3_sub, ops4_sub, ops5_sub, ops6_sub, ops7_sub, ops8_sub, ops9_sub, ops10_sub, ops11_sub, ops12_sub⟩
theorem segs_fresh : ∀ op ∈ (List.flatten segs : List (HloOp τ sig (Elt F))), op.fresh = ∅ :=
  List.forall_iff_forall_mem.mp (all_of_segs _ ⟨ops0_fresh, ops1_fresh, ops2_fresh, ops3_fresh, ops4_fresh, ops5_fresh, ops6_fresh, ops7_fresh, ops8_fresh, ops9_fresh, ops10_fresh, ops11_fresh, ops12_fresh⟩)

variable (m : (ℓ : Loc nD τ sig) → Buf (Elt F) ℓ) (ρ : Dev nD → PrngReg)

/-- What the operations in order leave in every buffer of device `c`. -/
def R (c : Dev nD) : Valuation τ sig (Elt F) := StableHlo.after (List.flatten segs) (StableHlo.launchContents m c)

/-- The reference's run. -/
theorem run_main : θ_run (defs (F := F)) (onTc (τ := τ) (main (F := F))) ⟨m, fun _ => 0, ρ⟩ fun r =>
    ∀ (c : Dev nD) (b : Ref sig .tc), r.2.mem ((c.tc : Thread nD τ).loc b) = R m c (Proc.devRef .tc b) :=
  StableHlo.run_hlo (defs (F := F)) (main (F := F)) main_seq (by decide) (by decide) segs_sub segs_fresh m ρ

/-- The contents after each stretch. -/
theorem R_eq (c : Dev nD) : R m c = StableHlo.after ops12 (StableHlo.after ops11 (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 (StableHlo.launchContents m c))))))))))))) := by
  unfold R segs
  simp only [List.flatten_cons, List.flatten_nil, StableHlo.after_append, StableHlo.after_nil]

set_option maxHeartbeats 4000000 in
theorem R_arg0 (c : Dev nD) : R m c (Proc.devRef .tc main_arg0) = m ((c.tc : Thread nD τ).loc main_arg0) := by
  rw [R_eq]; after_reads_simp

set_option maxHeartbeats 4000000 in
theorem R_arg1 (c : Dev nD) : R m c (Proc.devRef .tc main_arg1) = m ((c.tc : Thread nD τ).loc main_arg1) := by
  rw [R_eq]; after_reads_simp

set_option maxHeartbeats 4000000 in
theorem R_arg2 (c : Dev nD) : R m c (Proc.devRef .tc main_arg2) = m ((c.tc : Thread nD τ).loc main_arg2) := by
  rw [R_eq]; after_reads_simp

set_option maxHeartbeats 4000000 in
theorem R_arg3 (c : Dev nD) : R m c (Proc.devRef .tc main_arg3) = m ((c.tc : Thread nD τ).loc main_arg3) := by
  rw [R_eq]; after_reads_simp

/-- The reference's frame: the arguments as they were, and no semaphore to speak of. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_mono (run_main m ρ) fun r h => ⟨fun c => ⟨(h c main_arg0).trans (R_arg0 m c), (h c main_arg1).trans (R_arg1 m c),
    (h c main_arg2).trans (R_arg2 m c), (h c main_arg3).trans (R_arg3 m c)⟩, sem_eq_zero_of_no_sems rfl r.2⟩

end Cert.ReferenceIdeal.Hand

end
-- ==== Proof.RunIdeal.lean ====
/- The pipeline's proof data over a statement of the scratch between grid points, the body's obligation at every grid point
   from what each step must keep, and the run. -/
module

public import proofs.«01_k».proof.Proof.BodyIdeal
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body is handed -/

/-- The target's block at point `t` as its staging buffer holds it: the block inside the array, `d` past the array's end. -/
def Tb (c : Dev nD) (t : Fin cfg0.N) (d : Vec F S32x8x4096 .f32) : Vec F S32x8x4096 .f32 :=
  win0_0.fill (grid0.coords t) d (iblk m c 0 t)
/-- The draft's block, likewise. -/
def Db (c : Dev nD) (t : Fin cfg0.N) (d : Vec F S32x8x4096 .f32) : Vec F S32x8x4096 .f32 :=
  win0_1.fill (grid0.coords t) d (iblk m c 1 t)
/-- The block of the scores' factors. -/
def Qb (c : Dev nD) (t : Fin cfg0.N) : Vec F S1x32x8x4096 .f32 := iblk m c 2 t
/-- The drafted tokens. -/
def Wb (c : Dev nD) (t : Fin cfg0.N) : Vec F S32x8x1 .i32 := iblk m c 3 t
/-- The acceptance draws. -/
def Ub (c : Dev nD) (t : Fin cfg0.N) : Vec F S32x8x1 .f32 := iblk m c 4 t

/-- The scratch buffers held whole at `s`. -/
def scr (c : Dev nD) (s : St F) : sProp 𝕄 :=
  iprop(owns (c : Thread nD τ) (Memref.whole cc0_scratch0) fullShare s.selt
    ∗ owns (c : Thread nD τ) (Memref.whole cc0_scratch1) fullShare s.seld
    ∗ owns (c : Thread nD τ) (Memref.whole cc0_scratch2) fullShare s.rmax
    ∗ owns (c : Thread nD τ) (Memref.whole cc0_scratch3) fullShare s.ridx)

/-- The proof data: the arrays as the region finds them; every input's buffer left as found; the result's buffer at `O`
    after the last point; between points the scratch at some contents of which `Inv` holds. -/
def dats (Inv : Dev nD → ℕ → St F → Prop) (O : Dev nD → Vec F S32x9x1 .i32) (_ : Fin 1) (c : Dev nD) :
    Dat τ (Elt F) Unit ℕ (UR sig nD τ) ℕ cfg0 c where
  A w := V m c (Pipeline.arrRef spec0 w)
  after w t := match w with
    | ⟨0, _⟩ => Tb m c t (fun _ => Scalar.ofBits .f32 0#32)
    | ⟨1, _⟩ => Db m c t (fun _ => Scalar.ofBits .f32 0#32)
    | ⟨2, _⟩ => Qb m c t
    | ⟨3, _⟩ => Wb m c t
    | ⟨4, _⟩ => Ub m c t
    | ⟨5, _⟩ => O c
  Φ t := iprop(∃ s : St F, ⌜Inv c t.val s⌝ ∗ scr c s ∗ ∃ r, prngReg c r)
  q _ := fullShare
  owed _ := 0

variable (Inv : Dev nD → ℕ → St F → Prop) (O : Dev nD → Vec F S32x9x1 .i32)

theorem A_eq (c : Dev nD) (w : Fin cfg0.W) : (dats m Inv O 0 c).A w = V m c (Pipeline.arrRef spec0 w) := by dsimp only [dats]

theorem coords_eq (t : Fin cfg0.N) : (grid0.coords t 0).val = t.val := by
  revert t; exact (by decide : ∀ t : Fin grid0.N, (grid0.coords t 0).val = t.val)

theorem before_0 (c : Dev nD) (t : Fin cfg0.N) (d) : (dats m Inv O 0 c).before (0 : Fin 6) t d = Tb m c t d := by
  unfold Dat.before; rw [if_pos (fetch0_0 t)]; rfl
theorem before_1 (c : Dev nD) (t : Fin cfg0.N) (d) : (dats m Inv O 0 c).before (1 : Fin 6) t d = Db m c t d := by
  unfold Dat.before; rw [if_pos (fetch0_1 t)]; rfl
theorem before_2 (c : Dev nD) (t : Fin cfg0.N) (d) : (dats m Inv O 0 c).before (2 : Fin 6) t d = Qb m c t :=
  before0_2_of m (dats m Inv O 0 c) (A_eq m Inv O c 2) (fun _ => rfl) t d
theorem before_3 (c : Dev nD) (t : Fin cfg0.N) (d) : (dats m Inv O 0 c).before (3 : Fin 6) t d = Wb m c t :=
  before0_3_of m (dats m Inv O 0 c) (A_eq m Inv O c 3) (fun _ => rfl) t d
theorem before_4 (c : Dev nD) (t : Fin cfg0.N) (d) : (dats m Inv O 0 c).before (4 : Fin 6) t d = Ub m c t :=
  before0_4_of m (dats m Inv O 0 c) (A_eq m Inv O c 4) (fun _ => rfl) t d

theorem flush_no (t : Fin cfg0.N) (h : t.val < 24) : (cfg0.win 5).flush t = false := by
  rw [← Bool.not_eq_true, flush0_5 t]; omega
theorem idle_yes (t : Fin cfg0.N) (h : t.val < 24) : cfg0.idle 5 (cfg0.grid.coords t) = true :=
  (by decide : ∀ t : Fin grid0.N, t.val < 24 → idle0 5 (grid0.coords t) = true) t h
theorem idle_no (t : Fin cfg0.N) (h : t.val = 24) : cfg0.idle 5 (cfg0.grid.coords t) = false :=
  (by decide : ∀ t : Fin grid0.N, t.val = 24 → idle0 5 (grid0.coords t) = false) t h

/-- What every step must keep of the scratch (`Inv`), and, when `e` is set, leave in the result at the last point. -/
structure Steps (e : Prop) : Prop where
  start : ∀ c s, Inv c 0 s
  first : ∀ c (t : Fin cfg0.N) d0 d1, t.val = 0 →
    Inv c 1 (stFull (BitVec.ofNat 32 (grid0.coords t 0).val) (Tb m c t d0) (Db m c t d1) (Qb m c t) (Wb m c t) st0)
  mid : ∀ c (t : Fin cfg0.N) d0 d1 s, 0 < t.val → t.val < 24 → Inv c t.val s →
    Inv c (t.val + 1) (stFull (BitVec.ofNat 32 (grid0.coords t 0).val) (Tb m c t d0) (Db m c t d1) (Qb m c t) (Wb m c t) s)
  last : ∀ c (t : Fin cfg0.N) d0 d1 s, t.val = 24 → Inv c 24 s →
    Inv c 25 (stTail (BitVec.ofNat 32 (grid0.coords t 0).val) (Tb m c t d0) (Db m c t d1) (Qb m c t) (Wb m c t) s)
  out : ∀ c (t : Fin cfg0.N) d0 d1 s X, e → t.val = 24 → Inv c 24 s →
    outTail (Wb m c t) (Ub m c t)
      (stTail (BitVec.ofNat 32 (grid0.coords t 0).val) (Tb m c t d0) (Db m c t d1) (Qb m c t) (Wb m c t) s) X = O c

/-- The body at point `t`: from the scratch as `Inv` says and the six staging buffers, to the scratch as `Inv` says after
    the point, the inputs' buffers as they were, and the result's buffer untouched before the last point. -/
theorem body_at {e : Prop} (hs : Steps m Inv O e) (c : Dev nD) (t : Fin cfg0.N) (d0 d1 : Vec F S32x8x4096 .f32) (X : Vec F S32x9x1 .i32)
    (K : PUnit → sProp 𝕄) :
    iprop((∃ s : St F, ⌜Inv c t.val s⌝ ∗ scr c s ∗ ∃ r, prngReg c r)
        ∗ owns (c : Thread nD τ) (st0_0 t) fullShare (Tb m c t d0) ∗ owns (c : Thread nD τ) (st0_1 t) fullShare (Db m c t d1)
        ∗ owns (c : Thread nD τ) (st0_2 t) fullShare (Qb m c t) ∗ owns (c : Thread nD τ) (st0_3 t) fullShare (Wb m c t)
        ∗ owns (c : Thread nD τ) (st0_4 t) fullShare (Ub m c t) ∗ owns (c : Thread nD τ) (st0_5 t) fullShare X
        ∗ (iprop((∃ s : St F, ⌜Inv c (t.val + 1) s⌝ ∗ scr c s ∗ ∃ r, prngReg c r)
            ∗ owns (c : Thread nD τ) (st0_0 t) fullShare (Tb m c t d0) ∗ owns (c : Thread nD τ) (st0_1 t) fullShare (Db m c t d1)
            ∗ owns (c : Thread nD τ) (st0_2 t) fullShare (Qb m c t) ∗ owns (c : Thread nD τ) (st0_3 t) fullShare (Wb m c t)
            ∗ owns (c : Thread nD τ) (st0_4 t) fullShare (Ub m c t)
            ∗ ∃ Y, ⌜(t.val < 24 → Y = X) ∧ (t.val = 24 → e → Y = O c)⌝ ∗ owns (c : Thread nD τ) (st0_5 t) fullShare Y) -∗ K ⟨⟩))
      ⊢ wp frame (wpE (defs₀ (F := F)) Variants.none c none) Set.univ (bodyAt0 t) K := by
  unfold scr bodyAt0
  iintro ⟨⟨%s, %hI, ⟨HS0, HS1, HS2, HS3⟩, Hg⟩, H0, H1, H2, H3, H4, H5, Hk⟩
  have hc := coords_eq t
  have ht : t.val < 25 := lt_of_lt_of_eq t.isLt N_0
  rcases Nat.eq_zero_or_pos t.val with h0 | h0
  · iapply (run_first c (grid0.coords t) (hc.trans h0) (st0_0 t) _ (st0_1 t) _ (st0_2 t) _ (st0_3 t) _ (st0_4 t) _ (st0_5 t) _
      (Memref.whole cc0_scratch0) _ (Memref.whole cc0_scratch1) _ (Memref.whole cc0_scratch2) _ (Memref.whole cc0_scratch3) _
      (Tb m c t d0) (Db m c t d1) (Qb m c t) (Wb m c t) (Ub m c t) X s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    iapply Hk
    isplitl [HS0 HS1 HS2 HS3 Hg]
    · iexists _; isplitr; swap
      · isplitl [HS0 HS1 HS2 HS3]
        · isplitl [HS0]; · iexact HS0
          isplitl [HS1]; · iexact HS1
          isplitl [HS2]; · iexact HS2
          iexact HS3
        iexact Hg
      ipureintro; rw [h0]; exact hs.first c t d0 d1 h0
    isplitl [H0]; · iexact H0
    isplitl [H1]; · iexact H1
    isplitl [H2]; · iexact H2
    isplitl [H3]; · iexact H3
    isplitl [H4]; · iexact H4
    iexists _; isplitr; swap; · iexact H5
    ipureintro; exact ⟨fun _ => rfl, fun h => absurd h (by omega)⟩
  rcases Nat.lt_or_ge t.val 24 with h1 | h1
  · iapply (run_mid c (grid0.coords t) ⟨hc.symm ▸ h0, hc.symm ▸ h1⟩ (st0_0 t) _ (st0_1 t) _ (st0_2 t) _ (st0_3 t) _ (st0_4 t) _ (st0_5 t) _
      (Memref.whole cc0_scratch0) _ (Memref.whole cc0_scratch1) _ (Memref.whole cc0_scratch2) _ (Memref.whole cc0_scratch3) _
      (Tb m c t d0) (Db m c t d1) (Qb m c t) (Wb m c t) (Ub m c t) X s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    iapply Hk
    isplitl [HS0 HS1 HS2 HS3 Hg]
    · iexists _; isplitr; swap
      · isplitl [HS0 HS1 HS2 HS3]
        · isplitl [HS0]; · iexact HS0
          isplitl [HS1]; · iexact HS1
          isplitl [HS2]; · iexact HS2
          iexact HS3
        iexact Hg
      ipureintro; exact hs.mid c t d0 d1 s h0 h1 hI
    isplitl [H0]; · iexact H0
    isplitl [H1]; · iexact H1
    isplitl [H2]; · iexact H2
    isplitl [H3]; · iexact H3
    isplitl [H4]; · iexact H4
    iexists _; isplitr; swap; · iexact H5
    ipureintro; exact ⟨fun _ => rfl, fun h => absurd h (by omega)⟩
  · have h24 : t.val = 24 := by omega
    rw [h24] at hI
    iapply (run_last c (grid0.coords t) (hc.trans h24) (st0_0 t) _ (st0_1 t) _ (st0_2 t) _ (st0_3 t) _ (st0_4 t) _ (st0_5 t) _
      (Memref.whole cc0_scratch0) _ (Memref.whole cc0_scratch1) _ (Memref.whole cc0_scratch2) _ (Memref.whole cc0_scratch3) _
      (Tb m c t d0) (Db m c t d1) (Qb m c t) (Wb m c t) (Ub m c t) X s _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    iapply Hk
    isplitl [HS0 HS1 HS2 HS3 Hg]
    · iexists _; isplitr; swap
      · isplitl [HS0 HS1 HS2 HS3]
        · isplitl [HS0]; · iexact HS0
          isplitl [HS1]; · iexact HS1
          isplitl [HS2]; · iexact HS2
          iexact HS3
        iexact Hg
      ipureintro; rw [h24]; exact hs.last c t d0 d1 s h24 hI
    isplitl [H0]; · iexact H0
    isplitl [H1]; · iexact H1
    isplitl [H2]; · iexact H2
    isplitl [H3]; · iexact H3
    isplitl [H4]; · iexact H4
    iexists _; isplitr; swap; · iexact H5
    ipureintro; exact ⟨fun h => absurd h (by omega), fun _ he => hs.out c t d0 d1 s X he h24 hI⟩

/-- The body table's row at the point is the body at the point. -/
theorem defs₀_row (t : Fin cfg0.N) : defs₀ (F := F) .tc cfg0.body (cfg0.bodyArgs t (cfg0.slots t)) = bodyAt0 t := by
  unfold defs₀; rw [Defs.onTc_tc]

theorem cut_T (c : Dev nD) (t : Fin cfg0.N) (d : Vec F S32x8x4096 .f32) : win0_0.cut (grid0.coords t) (Tb m c t d) = iblk m c 0 t :=
  win0_0.cut_fill _ _ _
theorem cut_D (c : Dev nD) (t : Fin cfg0.N) (d : Vec F S32x8x4096 .f32) : win0_1.cut (grid0.coords t) (Db m c t d) = iblk m c 1 t :=
  win0_1.cut_fill _ _ _

theorem before_5 (c : Dev nD) (t : Fin cfg0.N) (d) : (dats m Inv O 0 c).before (5 : Fin 6) t d = d := by
  have ht : t.val < 25 := lt_of_lt_of_eq t.isLt N_0
  obtain ⟨n, hn⟩ : ∃ n, t.val = n := ⟨_, rfl⟩
  induction n generalizing t with
  | zero =>
    unfold Dat.before
    rw [if_neg (by rw [(cfg0.win 5).fetch_out rfl t]; exact Bool.false_ne_true), if_pos hn]
  | succ n ih =>
    unfold Dat.before
    rw [if_neg (by rw [(cfg0.win 5).fetch_out rfl t]; exact Bool.false_ne_true), if_neg (by omega)]
    dsimp only
    rw [if_neg (by rw [flush_no _ (by show t.val - 1 < 24; omega)]; exact Bool.false_ne_true)]
    have hi := idle_yes ⟨t.val - 1, by omega⟩ (by show t.val - 1 < 24; omega)
    have e : (dats m Inv O 0 c).found (5 : Fin 6) ⟨t.val - 1, by omega⟩ d = d := by
      rw [Dat.found_eq_before]; exact ih _ (by show t.val - 1 < 25; omega) (by show t.val - 1 = n; omega)
    split
    · exact e
    · next h => exact absurd (hi.symm.trans h) (by decide)

/-- The body's obligation at every point. -/
theorem body_obligation {e : Prop} (hs : Steps m Inv O e) (he : e) (c : Dev nD) :
    BodyObligationLoose (dats m Inv O 0 c) (defs₀ (F := F)) Variants.none () Set.univ := fun t => by
  rw [bigSep_W0, bigSep_W0, defs₀_row]
  have ht : t.val < 25 := lt_of_lt_of_eq t.isLt N_0
  simp only
  rw [show (dats m Inv O 0 c).owesAt () t.succ = (dats m Inv O 0 c).owesAt () t.castSucc from rfl,
    show (dats m Inv O 0 c).Φ t.castSucc = iprop(∃ s : St F, ⌜Inv c t.val s⌝ ∗ scr c s ∗ ∃ r, prngReg c r) from rfl,
    show (dats m Inv O 0 c).Φ t.succ = iprop(∃ s : St F, ⌜Inv c (t.val + 1) s⌝ ∗ scr c s ∗ ∃ r, prngReg c r) from rfl]
  iintro ⟨HΦ, Ho, ⟨%d0, H0⟩, ⟨%d1, H1⟩, ⟨%d2, H2⟩, ⟨%d3, H3⟩, ⟨%d4, H4⟩, ⟨%d5, H5⟩⟩
  rw [before_0, before_1, before_2, before_3, before_4, before_5]
  iapply (body_at m Inv O hs c t d0 d1 d5 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  iintro ⟨HΦ, H0, H1, H2, H3, H4, ⟨%Y, %hY, H5⟩⟩
  isplitl [HΦ]; · iexact HΦ
  isplitl [Ho]; · iexact Ho
  isplitl [H0]
  · iexists d0; rw [show (dats m Inv O 0 c).after 0 t = Tb m c t (fun _ => Scalar.ofBits .f32 0#32) from rfl, cut_T]; iexact H0
  isplitl [H1]
  · iexists d1; rw [show (dats m Inv O 0 c).after 1 t = Db m c t (fun _ => Scalar.ofBits .f32 0#32) from rfl, cut_D]; iexact H1
  isplitl [H2]; · iexact H2
  isplitl [H3]; · iexact H3
  isplitl [H4]; · iexact H4
  rcases Nat.lt_or_ge t.val 24 with h1 | h1
  · rw [show idle0 5 (grid0.coords t) = true from idle_yes t h1, show (win0 5).flush t = false from flush_no t h1]
    iexists d5; rw [before_5, ← hY.1 h1]; iexact H5
  · have h24 : t.val = 24 := by omega
    rw [show idle0 5 (grid0.coords t) = false from idle_no t h24]
    rw [show (dats m Inv O 0 c).after 5 t = O c from rfl, ← hY.2 h24 he]; iexact H5

theorem enter {e : Prop} (hs : Steps m Inv O e) (c : Dev nD) :
    Pipeline.ΦA (Val := Elt F) (U := UR sig nD τ) spec0 c ⊢ (dats m Inv O 0 c).Φ 0 := by
  rw [show (dats m Inv O 0 c).Φ 0 = iprop(∃ s : St F, ⌜Inv c 0 s⌝ ∗ scr c s ∗ ∃ r, prngReg c r) from rfl]
  unfold Pipeline.ΦA scr
  rw [scopedRest0_eq]; simp only [owns_whole]
  iintro ⟨⟨⟨%s0, H0⟩, ⟨%s1, H1⟩, ⟨%s2, H2⟩, ⟨%s3, H3⟩⟩, Hg⟩
  iexists ⟨s0, s1, s2, s3⟩
  isplitr; · ipureintro; exact hs.start c _
  isplitl [H0 H1 H2 H3]
  · isplitl [H0]; · iexact H0
    isplitl [H1]; · iexact H1
    isplitl [H2]; · iexact H2
    iexact H3
  iexact Hg

theorem leave (c : Dev nD) :
    (dats m Inv O 0 c).Φ (Fin.last cfg0.N) ⊢ Pipeline.ΦA (Val := Elt F) (U := UR sig nD τ) spec0 c := by
  rw [show (dats m Inv O 0 c).Φ (Fin.last cfg0.N) = iprop(∃ s : St F, ⌜Inv c cfg0.N s⌝ ∗ scr c s ∗ ∃ r, prngReg c r) from rfl]
  unfold Pipeline.ΦA scr
  rw [scopedRest0_eq]; simp only [owns_whole]
  iintro ⟨%s, -, ⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

-- the run's implicit arguments are found by unification through plain definitions
set_option backward.isDefEq.respectTransparency.types false in
/-- The run with the result named: every array ends as the data say, every other buffer as the lines after the region leave it. -/
theorem run_main {e : Prop} (hs : Steps m Inv O e) (he : e) :
    θ_run defs (onTc (τ := τ) (main (F := F))) (s₀ m ρ)
      (fun r => Pipeline.FramePost cfgs (dats m Inv O) 0 (Pipeline.afterTail₀ cfgs (dats m Inv O) 0 (V0 m) [hostOps1]) r
        ∧ r.2.sem = fun _ => 0) :=
  Pipeline.θ_run_frame_around_track cfgs (dats m Inv O) (0 : Fin 1) launch0 defs₀ Variants.none m ρ main
    (hbody := fun c => body_obligation m Inv O hs he c)
    (hshare := fun c => (dats m Inv O 0 c).share_full fun _ => rfl) (howed := fun _ _ => rfl) (V₀ := V0 m) (opss := [hostOps1])
    (hsub := sfx_sub) (hfresh := sfx_fresh) (hkeep := sfx_keeps) (hmain := hmain m Variants.none)
    (hA := fun c w => A_eq m Inv O c w) (hin := fun c => enter m Inv O hs c) (hout := fun c => leave m Inv O c) (Q' := _)

end Cert.KernelIdeal.Hand

end
-- ==== Proof.Best.lean ====
/- The first greatest of a row read block by block, and the one entry of a row picked out by its position. -/
module

public import Idealize.ShloMosaic.Lib.Pointwise
public import Idealize.ShloMosaic.PureOps.Ideal.Laws

@[expose] public section

noncomputable section

namespace Cert.Best

open Idealize.ShloMosaic

/-- `k` is the first place below `n` where `x` is greatest. -/
def First (n : ℕ) (x : ℕ → EReal) (k : ℕ) : Prop :=
  k < n ∧ (∀ v, v < n → x v ≤ x k) ∧ ∀ v, v < k → x v < x k

theorem First.unique {n : ℕ} {x : ℕ → EReal} {k k' : ℕ} (h : First n x k) (h' : First n x k') : k = k' := by
  rcases Nat.lt_trichotomy k k' with c | c | c
  · exact absurd (h'.2.2 k c) (not_lt.mpr (h.2.1 k' h'.1))
  · exact c
  · exact absurd (h.2.2 k' c) (not_lt.mpr (h'.2.1 k h.1))

theorem exists_first {n : ℕ} (hn : 0 < n) (x : ℕ → EReal) : ∃ k, First n x k := by
  classical
  have hne : (Finset.range n).Nonempty := ⟨0, Finset.mem_range.mpr hn⟩
  obtain ⟨m, hm, hmax⟩ := Finset.exists_max_image (Finset.range n) x hne
  have hex : ∃ k, k < n ∧ ∀ v, v < n → x v ≤ x k :=
    ⟨m, Finset.mem_range.mp hm, fun v hv => hmax v (Finset.mem_range.mpr hv)⟩
  refine ⟨Nat.find hex, (Nat.find_spec hex).1, (Nat.find_spec hex).2, fun v hv => ?_⟩
  by_contra hc
  have hv' := Nat.find_min hex hv
  apply hv'
  refine ⟨lt_trans hv (Nat.find_spec hex).1, fun w hw => ((Nat.find_spec hex).2 w hw).trans (not_lt.mp hc)⟩

/-- Where a row is a block's reading, the reduction's index word is the first greatest place. -/
theorem reduceIndex_first {s t : Shape} {a : Fin s.rank} (h : s.Reduces [a] t) (x : s.Idx → EReal) (j : t.Idx)
    (y : ℕ → EReal) (hy : ∀ k : Fin (s.size a), x (h.lift j k) = y k.val) {k : ℕ} (hk : First (s.size a) y k) :
    Ideal.reduceIndex .argMax a h x j = BitVec.ofNat 32 k := by
  classical
  unfold Ideal.reduceIndex
  have key : (((Finset.univ.filter (fun i : s.Idx => h.drop i = j)).filter (fun i =>
      ∀ i' ∈ Finset.univ.filter (fun i : s.Idx => h.drop i = j), ¬ (x i < x i'))).image (fun i => (i a).val)).min = ((k : ℕ) : WithTop ℕ) := by
    apply le_antisymm
    · apply Finset.min_le
      rw [Finset.mem_image]
      refine ⟨h.lift j ⟨k, hk.1⟩, ?_, ?_⟩
      · simp only [Finset.mem_filter, Finset.mem_univ, true_and]
        refine ⟨h.drop_lift j _, fun i' hi' => ?_⟩
        rw [not_lt, hy ⟨k, hk.1⟩, ← h.lift_drop i', hi', hy (i' a)]
        exact hk.2.1 _ (i' a).isLt
      · rw [h.lift_val]; simp [Shape.Reduces.liftVal]
    · apply Finset.le_min
      intro v hv
      rw [Finset.mem_image] at hv
      obtain ⟨i, hi, rfl⟩ := hv
      simp only [Finset.mem_filter, Finset.mem_univ, true_and] at hi
      by_contra hc
      have hlt : (i a).val < k := by
        by_contra hge
        exact hc (WithTop.coe_le_coe.mpr (not_lt.mp hge))
      have h1 := hi.2 (h.lift j ⟨k, hk.1⟩) (h.drop_lift j _)
      rw [hy ⟨k, hk.1⟩, ← h.lift_drop i, hi.1, hy (i a)] at h1
      exact h1 (hk.2.2 _ hlt)
  simp only [if_true]
  exact congrArg (fun w : WithTop ℕ => BitVec.ofNat 32 (Option.getD w 0)) key

/-- … and the reduction's maximum is the row's value there. -/
theorem fold_max_first {n : ℕ} (z : Fin n → EReal) (y : ℕ → EReal) (hy : ∀ k : Fin n, z k = y k.val) {k : ℕ}
    (hk : First n y k) : (Finset.univ : Finset (Fin n)).fold max ⊥ z = y k := by
  apply le_antisymm
  · rw [Finset.fold_max_le]
    exact ⟨bot_le, fun i _ => by rw [hy i]; exact hk.2.1 _ i.isLt⟩
  · rw [Finset.le_fold_max]
    exact .inr ⟨⟨k, hk.1⟩, Finset.mem_univ _, (hy ⟨k, hk.1⟩).ge⟩

/-- What the running maximum and its index word say of the first `N` entries of the row. -/
def Run (f : ℕ → EReal) (N : ℕ) (M : EReal) (i : BitVec 32) : Prop :=
  (N = 0 ∧ M = ⊥) ∨ ∃ j, First N f j ∧ M = f j ∧ i = BitVec.ofNat 32 j

/-- One block of `L` further entries, the rest of the block at the least value. -/
theorem Run.step {f : ℕ → EReal} {N L n : ℕ} {M : EReal} {i : BitVec 32} (hr : Run f N M i) (x : ℕ → EReal) (hL : L ≤ n)
    (h0 : 0 < L) (hx : ∀ l, l < L → x l = f (N + l)) (hb : ∀ l, L ≤ l → l < n → x l = ⊥) (hf : ∀ v, v < N + L → ⊥ < f v)
    {k : ℕ} (hk : First n x k) (w : BitVec 32) (hw : w = BitVec.ofNat 32 (N + k)) :
    Run f (N + L) (if M < x k then x k else M) (if M < x k then w else i) := by
  have hx0 : ⊥ < x 0 := by rw [hx 0 h0]; exact hf _ (by omega)
  have hkb : ⊥ < x k := hx0.trans_le (hk.2.1 0 (by omega))
  have hkL : k < L := by
    by_contra hc
    rw [hb k (not_lt.mp hc) hk.1] at hkb; exact lt_irrefl _ hkb
  have hk' : x k = f (N + k) := hx k hkL
  right
  by_cases hM : M < x k
  · rw [if_pos hM, if_pos hM]
    refine ⟨N + k, ⟨by omega, fun v hv => ?_, fun v hv => ?_⟩, hk', hw⟩
    · rw [← hk']
      by_cases hvN : v < N
      · rcases hr with ⟨h, _⟩ | ⟨j, hj, hMj, _⟩
        · omega
        · exact ((hj.2.1 v hvN).trans hMj.ge).trans hM.le
      · have := hk.2.1 (v - N) (by omega)
        rwa [hx (v - N) (by omega), show N + (v - N) = v by omega] at this
    · rw [← hk']
      by_cases hvN : v < N
      · rcases hr with ⟨h, _⟩ | ⟨j, hj, hMj, _⟩
        · omega
        · exact ((hj.2.1 v hvN).trans hMj.ge).trans_lt hM
      · have := hk.2.2 (v - N) (by omega)
        rwa [hx (v - N) (by omega), show N + (v - N) = v by omega] at this
  · rw [if_neg hM, if_neg hM]
    rcases hr with ⟨h, hbot⟩ | ⟨j, hj, hMj, hi⟩
    · exact absurd (hbot ▸ hkb) hM
    · refine ⟨j, ⟨lt_of_lt_of_le hj.1 (by omega), fun v hv => ?_, hj.2.2⟩, hMj, hi⟩
      by_cases hvN : v < N
      · exact hj.2.1 v hvN
      · have := hk.2.1 (v - N) (by omega)
        rw [hx (v - N) (by omega), show N + (v - N) = v by omega] at this
        exact this.trans ((not_lt.mp hM).trans hMj.le)

/-- The entry of a row at position `p`, once the first `N` entries have been passed over; zero before. -/
def picked (A : ℕ → EReal) (p N : ℕ) : EReal := if p < N then A p else 0

/-- One block of the sum that picks the entry out: the words counting the block's places against the position's word. -/
theorem picked_step (A : ℕ → EReal) (tok : BitVec 32) (t : ℕ) (ht : t < 25) (x : Fin 4096 → EReal) (htok : tok.toNat < 100000)
    (hx : ∀ l : Fin 4096, t * 4096 + l.val < 100000 → x l = A (t * 4096 + l.val)) :
    picked A tok.toNat (t * 4096)
      + ∑ l : Fin 4096, (if BitVec.ofNat 32 l.val + BitVec.ofNat 32 t * 4096#32 = tok then x l else 0)
      = picked A tok.toNat ((t + 1) * 4096) := by
  have hword : ∀ l : Fin 4096, (BitVec.ofNat 32 l.val + BitVec.ofNat 32 t * 4096#32 = tok) ↔ t * 4096 + l.val = tok.toNat := by
    intro l
    have := l.isLt
    rw [← BitVec.toNat_inj, BitVec.toNat_add, BitVec.toNat_mul, BitVec.toNat_ofNat, BitVec.toNat_ofNat, BitVec.toNat_ofNat]
    omega
  simp only [hword]
  clear hword
  rw [Nat.add_one_mul t 4096]
  unfold picked
  by_cases h1 : tok.toNat < t * 4096
  · have h1' : tok.toNat < t * 4096 + 4096 := Nat.lt_of_lt_of_le h1 (Nat.le_add_right _ _)
    rw [if_pos h1, if_pos h1', Finset.sum_eq_zero, add_zero]
    intro l _
    have hne : ¬ t * 4096 + l.val = tok.toNat := by omega
    rw [if_neg hne]
  · rw [if_neg h1, zero_add]
    by_cases h2 : tok.toNat < t * 4096 + 4096
    · rw [if_pos h2, Finset.sum_eq_single (⟨tok.toNat - t * 4096, by omega⟩ : Fin 4096)]
      · have e : t * 4096 + (tok.toNat - t * 4096) = tok.toNat := by omega
        rw [if_pos e, hx ⟨tok.toNat - t * 4096, by omega⟩ (by rw [show t * 4096 + (tok.toNat - t * 4096) = tok.toNat from e]; exact htok)]
        exact congrArg A e
      · intro l _ hl
        have hne : ¬ t * 4096 + l.val = tok.toNat := by
          intro h; apply hl; apply Fin.ext; show l.val = tok.toNat - t * 4096; omega
        rw [if_neg hne]
      · intro h; exact absurd (Finset.mem_univ _) h
    · rw [if_neg h2, Finset.sum_eq_zero]
      intro l _
      have := l.isLt
      have hne : ¬ t * 4096 + l.val = tok.toNat := by omega
      rw [if_neg hne]

end Cert.Best

end
-- ==== Proof.Rows.lean ====
/- What one grid point's update of the scratch does to one (batch, position) row: the running first greatest of the scores and
   the two entries picked out by the drafted token. -/
module

public import proofs.«01_k».proof.Proof.RunIdeal
public import proofs.«01_k».proof.Proof.Best
public import Idealize.ShloMosaic.Lib.Pointwise

@[expose] public section

noncomputable section

namespace Cert.KernelIdeal.Hand

open Cert.KernelIdeal Cert.KernelIdeal.Gen
open Idealize.ShloMosaic
open Cert.Best

/-- The least positive normal number, below which no difference of probabilities is taken. -/
def tiny : EReal := Ideal.ofBits .f32 0x00800000#32

theorem ofBits_neg_inf : Ideal.ofBits .f32 0xFF800000#32 = ⊥ := by
  simp [Ideal.ofBits, Ideal.ieee]

/-- A row's score at a place. -/
def score (At Ad Aq : ℕ → EReal) (v : ℕ) : EReal := max (At v - Ad v) tiny * Aq v

/-- The scratch's four entries of one row after `n` blocks, `N` places of the row read. -/
structure RowInv (At Ad Aq : ℕ → EReal) (tok : BitVec 32) (b : Fin 32) (k : Fin 8) (n N : ℕ) (s : St Ideal) : Prop where
  selt : s.selt (ix3 b k 0) = picked At tok.toNat (n * 4096)
  seld : s.seld (ix3 b k 0) = picked Ad tok.toNat (n * 4096)
  run : Run (score At Ad Aq) N (s.rmax (ix3 b k 0)) (s.ridx (ix3 b k 0))

theorem row_start (At Ad Aq : ℕ → EReal) (tok : BitVec 32) (b : Fin 32) (k : Fin 8) : RowInv At Ad Aq tok b k 0 0 (st0 (F := Ideal)) := by
  refine ⟨?_, ?_, .inl ⟨rfl, ?_⟩⟩
  · unfold st0 picked
    unfold_payloads
    pointwise
    simp
  · unfold st0 picked
    unfold_payloads
    pointwise
    simp
  · unfold st0
    unfold_payloads
    pointwise
    exact ofBits_neg_inf

theorem select_eq {α : Type} (a b : BitVec 32) (x y : α) :
    Scalar.select (IntOp.cmpi .eq a b) x y = if a = b then x else y := by
  by_cases h : a = b
  · simp [Scalar.select, IntOp.cmpi, h]
  · have : (a == b) = false := by simpa using h
    simp [Scalar.select, IntOp.cmpi, h, this]

/-- The sums that pick entries out, as sums over places. -/
theorem pick7 (T : Vec Ideal S32x8x4096 .f32) (t : BitVec 32) (K : Vec Ideal S32x8x1 .i32) (s : Vec Ideal S32x8x1 .f32) (b : Fin 32) (k : Fin 8) :
    k0_pay7 T (k0_pay11 t) K s (ix3 b k 0)
      = s (ix3 b k 0) + ∑ l : Fin 4096, (if BitVec.ofNat 32 l.val + t * 4096#32 = K (ix3 b k 0) then T (ix3 b k l) else 0) := by
  unfold_payloads
  pointwise
  simp only [select_eq]
  rfl
theorem pick8 (T : Vec Ideal S32x8x4096 .f32) (t : BitVec 32) (K : Vec Ideal S32x8x1 .i32) (s : Vec Ideal S32x8x1 .f32) (b : Fin 32) (k : Fin 8) :
    k0_pay8 T (k0_pay11 t) K s (ix3 b k 0)
      = s (ix3 b k 0) + ∑ l : Fin 4096, (if BitVec.ofNat 32 l.val + t * 4096#32 = K (ix3 b k 0) then T (ix3 b k l) else 0) :=
  pick7 T t K s b k
theorem pick25 (T : Vec Ideal S32x8x4096 .f32) (t : BitVec 32) (K : Vec Ideal S32x8x1 .i32) (s : Vec Ideal S32x8x1 .f32) (b : Fin 32) (k : Fin 8) :
    k0_pay25 T (k0_pay17 t) K s (ix3 b k 0)
      = s (ix3 b k 0) + ∑ l : Fin 4096, (if BitVec.ofNat 32 l.val + t * 4096#32 = K (ix3 b k 0) then T (ix3 b k l) else 0) :=
  pick7 T t K s b k
theorem pick26 (T : Vec Ideal S32x8x4096 .f32) (t : BitVec 32) (K : Vec Ideal S32x8x1 .i32) (s : Vec Ideal S32x8x1 .f32) (b : Fin 32) (k : Fin 8) :
    k0_pay26 T (k0_pay17 t) K s (ix3 b k 0)
      = s (ix3 b k 0) + ∑ l : Fin 4096, (if BitVec.ofNat 32 l.val + t * 4096#32 = K (ix3 b k 0) then T (ix3 b k l) else 0) :=
  pick7 T t K s b k

theorem pay12_at (T D : Vec Ideal S32x8x4096 .f32) (Q : Vec Ideal S1x32x8x4096 .f32) (b : Fin 32) (k : Fin 8) (l : Fin 4096) :
    k0_pay12 T D Q (ix3 b k l) = max (T (ix3 b k l) - D (ix3 b k l)) tiny * Q (ix4 0 b k l) := by
  unfold_payloads
  pointwise
  rfl

theorem pay18_at (t : BitVec 32) (T D : Vec Ideal S32x8x4096 .f32) (Q : Vec Ideal S1x32x8x4096 .f32) (b : Fin 32) (k : Fin 8) (l : Fin 4096) :
    k0_pay18 t T D Q (ix3 b k l)
      = Scalar.select (IntOp.cmpi .slt (BitVec.ofNat 32 l.val + t * 4096#32) 100000#32)
          (max (T (ix3 b k l) - D (ix3 b k l)) tiny * Q (ix4 0 b k l)) ⊥ := by
  unfold_payloads
  pointwise
  rw [ofBits_neg_inf]
  rfl

theorem lift_at (b : Fin 32) (k : Fin 8) (l : Fin 4096) : reduces_S32x8x4096_S32x8.lift (ix2 b k) l = ix3 b k l := by
  funext a; fin_cases a <;> rfl

theorem rindex_at (X : FVec Ideal S32x8x4096 .f32) (b : Fin 32) (k : Fin 8) (x : ℕ → EReal) (hx : ∀ l : Fin 4096, X (ix3 b k l) = x l.val)
    {p : ℕ} (hp : First 4096 x p) :
    reduceIndex .argMax 2 S32x8 X reduces_S32x8x4096_S32x8 (ix2 b k) = BitVec.ofNat 32 p := by
  exact reduceIndex_first reduces_S32x8x4096_S32x8 X (ix2 b k) x (fun l => (congrArg X (lift_at b k l)).trans (hx l)) hp

theorem rmax_at (X : FVec Ideal S32x8x4096 .f32) (b : Fin 32) (k : Fin 8) (x : ℕ → EReal) (hx : ∀ l : Fin 4096, X (ix3 b k l) = x l.val)
    {p : ℕ} (hp : First 4096 x p) :
    Finset.fold max (Ideal.ofBits FTy.f32 0xFF800000#32) (fun l => X (ix3 b k l)) Finset.univ = x p := by
  rw [ofBits_neg_inf]; exact fold_max_first _ x hx hp

/-- The running maximum and its index after a block, from the block's first greatest. -/
theorem max_full (t : BitVec 32) (T D : Vec Ideal S32x8x4096 .f32) (Q : Vec Ideal S1x32x8x4096 .f32) (s : St Ideal) (b : Fin 32) (k : Fin 8)
    (x : ℕ → EReal) (hx : ∀ l : Fin 4096, k0_pay12 T D Q (ix3 b k l) = x l.val) {p : ℕ} (hp : First 4096 x p) :
    k0_pay15 T D Q s.rmax s.rmax (ix3 b k 0) = (if s.rmax (ix3 b k 0) < x p then x p else s.rmax (ix3 b k 0))
    ∧ k0_pay5 (k0_pay16 t T D Q s.rmax s.ridx) (ix3 b k 0)
        = (if s.rmax (ix3 b k 0) < x p then BitVec.ofNat 32 p + t * 4096#32 else s.ridx (ix3 b k 0)) := by
  have e13 : k0_pay13 T D Q (ix3 b k 0) = x p := by
    delta k0_pay13
    pointwise
    exact rmax_at _ b k x hx hp
  constructor
  · delta k0_pay15 k0_pay14
    pointwise
    rw [e13]
  · delta k0_pay5 k0_pay16 k0_pay14
    pointwise
    rw [e13, rindex_at _ b k x hx hp]
    rfl
theorem max_tail (t : BitVec 32) (T D : Vec Ideal S32x8x4096 .f32) (Q : Vec Ideal S1x32x8x4096 .f32) (s : St Ideal) (b : Fin 32) (k : Fin 8)
    (x : ℕ → EReal) (hx : ∀ l : Fin 4096, k0_pay18 t T D Q (ix3 b k l) = x l.val) {p : ℕ} (hp : First 4096 x p) :
    k0_pay21 t T D Q s.rmax s.rmax (ix3 b k 0) = (if s.rmax (ix3 b k 0) < x p then x p else s.rmax (ix3 b k 0))
    ∧ k0_pay23 (k0_pay20 t T D Q s.rmax) (k0_pay22 t T D Q) s.ridx (ix3 b k 0)
        = (if s.rmax (ix3 b k 0) < x p then BitVec.ofNat 32 p + t * 4096#32 else s.ridx (ix3 b k 0)) := by
  have e13 : k0_pay19 t T D Q (ix3 b k 0) = x p := by
    delta k0_pay19
    pointwise
    exact rmax_at _ b k x hx hp
  constructor
  · delta k0_pay21 k0_pay20
    pointwise
    rw [e13]
  · delta k0_pay23 k0_pay20 k0_pay22
    pointwise
    rw [e13, rindex_at _ b k x hx hp]
    rfl

end Cert.KernelIdeal.Hand

end
-- ==== Proof.Steps.lean ====
/- One block's step of a row: a whole block, and the last one with the places past the row's end masked out. -/
module

public import proofs.«01_k».proof.Proof.Rows

@[expose] public section

noncomputable section

namespace Cert.KernelIdeal.Hand

open Cert.KernelIdeal Cert.KernelIdeal.Gen
open Idealize.ShloMosaic
open Cert.Best

theorem place_word (t p : ℕ) (ht : t < 25) (hp : p < 4096) :
    BitVec.ofNat 32 p + BitVec.ofNat 32 t * 4096#32 = BitVec.ofNat 32 (t * 4096 + p) := by
  rw [← BitVec.toNat_inj, BitVec.toNat_add, BitVec.toNat_mul, BitVec.toNat_ofNat, BitVec.toNat_ofNat, BitVec.toNat_ofNat, BitVec.toNat_ofNat]
  omega

variable {At Ad Aq : ℕ → EReal} {tok : BitVec 32} {b : Fin 32} {k : Fin 8}

/-- A whole block. -/
theorem row_full (htok : tok.toNat < 100000) (hf : ∀ v, v < 100000 → ⊥ < score At Ad Aq v) (t : ℕ) (ht : t < 24)
    (T D : Vec Ideal S32x8x4096 .f32) (Q : Vec Ideal S1x32x8x4096 .f32) (K : Vec Ideal S32x8x1 .i32) (s : St Ideal)
    (hT : ∀ l : Fin 4096, t * 4096 + l.val < 100000 → T (ix3 b k l) = At (t * 4096 + l.val))
    (hD : ∀ l : Fin 4096, t * 4096 + l.val < 100000 → D (ix3 b k l) = Ad (t * 4096 + l.val))
    (hQ : ∀ l : Fin 4096, t * 4096 + l.val < 100000 → Q (ix4 0 b k l) = Aq (t * 4096 + l.val))
    (hK : K (ix3 b k 0) = tok) (hs : RowInv At Ad Aq tok b k t (t * 4096) s) :
    RowInv At Ad Aq tok b k (t + 1) ((t + 1) * 4096) (stFull (BitVec.ofNat 32 t) T D Q K s) := by
  have hx : ∀ l : Fin 4096, k0_pay12 T D Q (ix3 b k l) = (fun l => score At Ad Aq (t * 4096 + l)) l.val := by
    intro l
    have hl : t * 4096 + l.val < 100000 := by have := l.isLt; omega
    rw [pay12_at, hT l hl, hD l hl, hQ l hl]; rfl
  obtain ⟨p, hp⟩ := exists_first (n := 4096) (by decide) (fun l => score At Ad Aq (t * 4096 + l))
  obtain ⟨h1, h2⟩ := max_full (BitVec.ofNat 32 t) T D Q s b k _ hx hp
  refine ⟨?_, ?_, ?_⟩
  · exact (pick7 T _ K s.selt b k).trans (by rw [hs.selt, hK]; exact picked_step At tok t (by omega) _ htok hT)
  · exact (pick8 D _ K s.seld b k).trans (by rw [hs.seld, hK]; exact picked_step Ad tok t (by omega) _ htok hD)
  · unfold stFull
    dsimp only
    rw [h1, h2, Nat.add_one_mul]
    exact Run.step (N := t * 4096) (L := 4096) (n := 4096) hs.run (fun l => score At Ad Aq (t * 4096 + l)) (Nat.le_refl _) (Nat.succ_pos _) (fun l _ => rfl)
      (fun l h h' => absurd h' (Nat.not_lt.mpr h)) (fun v hv => hf v (by omega)) hp _ (place_word t p (by omega) hp.1)

theorem select_slt {α : Type} (n : ℕ) (hn : n < 2 ^ 31) (x y : α) :
    Scalar.select (IntOp.cmpi .slt (BitVec.ofNat 32 n) 100000#32) x y = if n < 100000 then x else y := by
  have : (BitVec.ofNat 32 n).slt 100000#32 = decide (n < 100000) := by
    have e : (BitVec.ofNat 32 n).toInt = n := by
      rw [BitVec.toInt_ofNat', Int.bmod_eq_of_le (by omega) (by omega)]
    have e' : (100000#32 : BitVec 32).toInt = 100000 := by decide
    rw [BitVec.slt_eq_decide, e, e']
    congr 1
    rw [eq_iff_iff]; omega
  by_cases h : n < 100000 <;> simp [Scalar.select, IntOp.cmpi, this, h]

/-- The last block, the places past the row's end masked out. -/
theorem row_tail (htok : tok.toNat < 100000) (hf : ∀ v, v < 100000 → ⊥ < score At Ad Aq v) (t : ℕ) (ht : t = 24)
    (T D : Vec Ideal S32x8x4096 .f32) (Q : Vec Ideal S1x32x8x4096 .f32) (K : Vec Ideal S32x8x1 .i32) (s : St Ideal)
    (hT : ∀ l : Fin 4096, t * 4096 + l.val < 100000 → T (ix3 b k l) = At (t * 4096 + l.val))
    (hD : ∀ l : Fin 4096, t * 4096 + l.val < 100000 → D (ix3 b k l) = Ad (t * 4096 + l.val))
    (hQ : ∀ l : Fin 4096, t * 4096 + l.val < 100000 → Q (ix4 0 b k l) = Aq (t * 4096 + l.val))
    (hK : K (ix3 b k 0) = tok) (hs : RowInv At Ad Aq tok b k t (t * 4096) s) :
    RowInv At Ad Aq tok b k (t + 1) 100000 (stTail (BitVec.ofNat 32 t) T D Q K s) := by
  have hx : ∀ l : Fin 4096, k0_pay18 (BitVec.ofNat 32 t) T D Q (ix3 b k l)
      = (fun l => if t * 4096 + l < 100000 then score At Ad Aq (t * 4096 + l) else ⊥) l.val := by
    intro l
    have hl' := l.isLt
    rw [pay18_at, place_word t l.val (by omega) hl', select_slt _ (by omega)]
    show _ = if t * 4096 + l.val < 100000 then score At Ad Aq (t * 4096 + l.val) else ⊥
    by_cases hl : t * 4096 + l.val < 100000
    · rw [if_pos hl, if_pos hl, hT l hl, hD l hl, hQ l hl]; rfl
    · rw [if_neg hl, if_neg hl]
  obtain ⟨p, hp⟩ := exists_first (n := 4096) (by decide) (fun l => if t * 4096 + l < 100000 then score At Ad Aq (t * 4096 + l) else ⊥)
  obtain ⟨h1, h2⟩ := max_tail (BitVec.ofNat 32 t) T D Q s b k _ hx hp
  refine ⟨?_, ?_, ?_⟩
  · exact (pick25 T _ K s.selt b k).trans (by rw [hs.selt, hK]; exact picked_step At tok t (by omega) _ htok hT)
  · exact (pick26 D _ K s.seld b k).trans (by rw [hs.seld, hK]; exact picked_step Ad tok t (by omega) _ htok hD)
  · unfold stTail
    dsimp only
    have hN : (100000 : ℕ) = t * 4096 + 1696 := by omega
    rw [h1, h2, show Run (score At Ad Aq) 100000 = Run (score At Ad Aq) (t * 4096 + 1696) from congrArg _ hN]
    exact Run.step (N := t * 4096) (L := 1696) (n := 4096) hs.run (fun l => if t * 4096 + l < 100000 then score At Ad Aq (t * 4096 + l) else ⊥) (by omega) (Nat.succ_pos _)
      (fun l h => if_pos (by omega)) (fun l h h' => if_neg (by omega))
      (fun v hv => hf v (by omega)) hp _ (place_word t p (by omega) hp.1)

end Cert.KernelIdeal.Hand

end
-- ==== Proof.Draw.lean ====
/- The draw of the exponential variates as a function of the random key, cut into stretches: the same for both programs. -/
module

public import proofs.«01_k».proof.Proof.Gen.ReferenceIdeal

@[expose] public section

noncomputable section

namespace Cert.Draw

open Cert.ReferenceIdeal Cert.ReferenceIdeal.Gen
open Idealize.ShloMosaic

variable {F : FTy → Type} [FloatOps F]

/-- Stretch 0, its value `u_v2`. -/
def f_u_v2  : FVec F S1x1 .f32 :=
  let main_call0_cst : FVec F S_ .f32 := (constant S_ .f32 0x00000000#32)
  let main_call0_call0_v0 : FVec F S_ .f32 := id main_call0_cst
  let main_call0_call0_v2 : FVec F S1x1 .f32 := (broadcastInDim S1x1 ![] bcast_S_S1x1) main_call0_call0_v0
  main_call0_call0_v2

/-- That value as a function of the key. -/
def u_v2 (key : IVec S2 32) : FVec F S1x1 .f32 :=
  f_u_v2

/-- Stretch 0, its value `u_v3`. -/
def f_u_v3  : FVec F S1x1 .f32 :=
  let main_call0_cst_0 : FVec F S_ .f32 := (constant S_ .f32 0x3F800000#32)
  let main_call0_call0_v1 : FVec F S_ .f32 := id main_call0_cst_0
  let main_call0_call0_v3 : FVec F S1x1 .f32 := (broadcastInDim S1x1 ![] bcast_S_S1x1) main_call0_call0_v1
  main_call0_call0_v3

/-- That value as a function of the key. -/
def u_v3 (key : IVec S2 32) : FVec F S1x1 .f32 :=
  f_u_v3

/-- Stretch 0, its value `u_v5`. -/
def f_u_v5 (main_c : IVec S2 32) : IVec S_ 32 :=
  let main_call0_call0_v4 : IVec S1 32 := (extractStridedSlice S1 ![0] · slices_S2_S1_0) main_c
  let main_call0_call0_v5 : IVec S_ 32 := shapeCast S_ main_call0_call0_v4 shapeCasts_S1_S_
  main_call0_call0_v5

/-- That value as a function of the key. -/
def u_v5 (key : IVec S2 32) : IVec S_ 32 :=
  f_u_v5 key

/-- Stretch 0, its value `u_v7`. -/
def f_u_v7 (main_c : IVec S2 32) : IVec S_ 32 :=
  let main_call0_call0_v6 : IVec S1 32 := (extractStridedSlice S1 ![1] · slices_S2_S1_1) main_c
  let main_call0_call0_v7 : IVec S_ 32 := shapeCast S_ main_call0_call0_v6 shapeCasts_S1_S_
  main_call0_call0_v7

/-- That value as a function of the key. -/
def u_v7 (key : IVec S2 32) : IVec S_ 32 :=
  f_u_v7 key

/-- Stretch 0, its value `u_v14`. -/
def f_u_v14  : IVec S256x100000 64 :=
  let main_call0_call0_v8 : IVec S256x100000 64 := (iotaInDim S256x100000 64 0)
  let main_call0_call0_v9 : IVec S256x100000 64 := (iotaInDim S256x100000 64 1)
  let main_call0_call0_c : IVec S_ 64 := (constantI S_ 64 100000#64)
  let main_call0_call0_v10 : IVec S256x100000 64 := (broadcastInDim S256x100000 ![] bcast_S_S256x100000) main_call0_call0_c
  let main_call0_call0_v11 : IVec S256x100000 64 := muli main_call0_call0_v10 main_call0_call0_v8
  let main_call0_call0_c_0 : IVec S_ 64 := (constantI S_ 64 1#64)
  let main_call0_call0_v12 : IVec S256x100000 64 := (broadcastInDim S256x100000 ![] bcast_S_S256x100000) main_call0_call0_c_0
  let main_call0_call0_v13 : IVec S256x100000 64 := muli main_call0_call0_v12 main_call0_call0_v9
  let main_call0_call0_v14 : IVec S256x100000 64 := addi main_call0_call0_v11 main_call0_call0_v13
  main_call0_call0_v14

/-- That value as a function of the key. -/
def u_v14 (key : IVec S2 32) : IVec S256x100000 64 :=
  f_u_v14

/-- Stretch 0, its value `u_v16`. -/
def f_u_v16  : IVec S256x100000 64 :=
  let main_call0_call0_v8 : IVec S256x100000 64 := (iotaInDim S256x100000 64 0)
  let main_call0_call0_v9 : IVec S256x100000 64 := (iotaInDim S256x100000 64 1)
  let main_call0_call0_c : IVec S_ 64 := (constantI S_ 64 100000#64)
  let main_call0_call0_v10 : IVec S256x100000 64 := (broadcastInDim S256x100000 ![] bcast_S_S256x100000) main_call0_call0_c
  let main_call0_call0_v11 : IVec S256x100000 64 := muli main_call0_call0_v10 main_call0_call0_v8
  let main_call0_call0_c_0 : IVec S_ 64 := (constantI S_ 64 1#64)
  let main_call0_call0_v12 : IVec S256x100000 64 := (broadcastInDim S256x100000 ![] bcast_S_S256x100000) main_call0_call0_c_0
  let main_call0_call0_v13 : IVec S256x100000 64 := muli main_call0_call0_v12 main_call0_call0_v9
  let main_call0_call0_v14 : IVec S256x100000 64 := addi main_call0_call0_v11 main_call0_call0_v13
  let main_call0_call0_c_1 : IVec S_ 64 := (constantI S_ 64 32#64)
  let main_call0_call0_v15 : IVec S256x100000 64 := (broadcastInDim S256x100000 ![] bcast_S_S256x100000) main_call0_call0_c_1
  let main_call0_call0_v16 : IVec S256x100000 64 := Host.shrui main_call0_call0_v14 main_call0_call0_v15
  main_call0_call0_v16

/-- That value as a function of the key. -/
def u_v16 (key : IVec S2 32) : IVec S256x100000 64 :=
  f_u_v16

/-- Stretch 1, its value `t_v1`. -/
def f_t_v1 (main_call0_call0_v5 : IVec S_ 32) (main_call0_call0_v7 : IVec S_ 32) : IVec S_ 32 :=
  let main_call0_call0_call0_v0 : IVec S_ 32 := xori main_call0_call0_v5 main_call0_call0_v7
  let main_call0_call0_call0_c : IVec S_ 32 := (constantI S_ 32 466688986#32)
  let main_call0_call0_call0_v1 : IVec S_ 32 := xori main_call0_call0_call0_v0 main_call0_call0_call0_c
  main_call0_call0_call0_v1

/-- That value as a function of the key. -/
def t_v1 (key : IVec S2 32) : IVec S_ 32 :=
  f_t_v1 (u_v5 key) (u_v7 key)

/-- Stretch 1, its value `t_v12`. -/
def f_t_v12 (main_call0_call0_v14 : IVec S256x100000 64) (main_call0_call0_v16 : IVec S256x100000 64) (main_call0_call0_v5 : IVec S_ 32) (main_call0_call0_v7 : IVec S_ 32) : IVec S256x100000 32 :=
  let main_call0_call0_v17 : IVec S256x100000 32 := (trunci 32 · natLt_32_64) main_call0_call0_v14
  let main_call0_call0_v18 : IVec S256x100000 32 := (trunci 32 · natLt_32_64) main_call0_call0_v16
  let main_call0_call0_call0_v2 : IVec S256x100000 32 := (broadcastInDim S256x100000 ![] bcast_S_S256x100000) main_call0_call0_v5
  let main_call0_call0_call0_v3 : IVec S256x100000 32 := addi main_call0_call0_v18 main_call0_call0_call0_v2
  let main_call0_call0_call0_v4 : IVec S256x100000 32 := (broadcastInDim S256x100000 ![] bcast_S_S256x100000) main_call0_call0_v7
  let main_call0_call0_call0_v5 : IVec S256x100000 32 := addi main_call0_call0_v17 main_call0_call0_call0_v4
  let main_call0_call0_call0_v6 : IVec S256x100000 32 := addi main_call0_call0_call0_v3 main_call0_call0_call0_v5
  let main_call0_call0_call0_c_0 : IVec S_ 32 := (constantI S_ 32 13#32)
  let main_call0_call0_call0_v7 : IVec S256x100000 32 := (broadcastInDim S256x100000 ![] bcast_S_S256x100000) main_call0_call0_call0_c_0
  let main_call0_call0_call0_v8 : IVec S256x100000 32 := Host.shli main_call0_call0_call0_v5 main_call0_call0_call0_v7
  let main_call0_call0_call0_c_1 : IVec S_ 32 := (constantI S_ 32 19#32)
  let main_call0_call0_call0_v9 : IVec S256x100000 32 := (broadcastInDim S256x100000 ![] bcast_S_S256x100000) main_call0_call0_call0_c_1
  let main_call0_call0_call0_v10 : IVec S256x100000 32 := Host.shrui main_call0_call0_call0_v5 main_call0_call0_call0_v9
  let main_call0_call0_call0_v11 : IVec S256x100000 32 := ori main_call0_call0_call0_v8 main_call0_call0_call0_v10
  let main_call0_call0_call0_v12 : IVec S256x100000 32 := xori main_call0_call0_call0_v6 main_call0_call0_call0_v11
  main_call0_call0_call0_v12

/-- That value as a function of the key. -/
def t_v12 (key : IVec S2 32) : IVec S256x100000 32 :=
  f_t_v12 (u_v14 key) (u_v16 key) (u_v5 key) (u_v7 key)

/-- Stretch 1, its value `t_v13`. -/
def f_t_v13 (main_call0_call0_v14 : IVec S256x100000 64) (main_call0_call0_v16 : IVec S256x100000 64) (main_call0_call0_v5 : IVec S_ 32) (main_call0_call0_v7 : IVec S_ 32) : IVec S256x100000 32 :=
  let main_call0_call0_v17 : IVec S256x100000 32 := (trunci 32 · natLt_32_64) main_call0_call0_v14
  let main_call0_call0_v18 : IVec S256x100000 32 := (trunci 32 · natLt_32_64) main_call0_call0_v16
  let main_call0_call0_call0_v2 : IVec S256x100000 32 := (broadcastInDim S256x100000 ![] bcast_S_S256x100000) main_call0_call0_v5
  let main_call0_call0_call0_v3 : IVec S256x100000 32 := addi main_call0_call0_v18 main_call0_call0_call0_v2
  let main_call0_call0_call0_v4 : IVec S256x100000 32 := (broadcastInDim S256x100000 ![] bcast_S_S256x100000) main_call0_call0_v7
  let main_call0_call0_call0_v5 : IVec S256x100000 32 := addi main_call0_call0_v17 main_call0_call0_call0_v4
  let main_call0_call0_call0_v6 : IVec S256x100000 32 := addi main_call0_call0_call0_v3 main_call0_call0_call0_v5
  let main_call0_call0_call0_c_0 : IVec S_ 32 := (constantI S_ 32 13#32)
  let main_call0_call0_call0_v7 : IVec S256x100000 32 := (broadcastInDim S256x100000 ![] bcast_S_S256x100000) main_call0_call0_call0_c_0
  let main_call0_call0_call0_v8 : IVec S256x100000 32 := Host.shli main_call0_call0_call0_v5 main_call0_call0_call0_v7
  let main_call0_call0_call0_c_1 : IVec S_ 32 := (constantI S_ 32 19#32)
  let main_call0_call0_call0_v9 : IVec S256x100000 32 := (broadcastInDim S256x100000 ![] bcast_S_S256x100000) main_call0_call0_call0_c_1
  let main_call0_call0_call0_v10 : IVec S256x100000 32 := Host.shrui main_call0_call0_call0_v5 main_call0_call0_call0_v9
  let main_call0_call0_call0_v11 : IVec S256x100000 32 := ori main_call0_call0_call0_v8 main_call0_call0_call0_v10
  let main_call0_call0_call0_v12 : IVec S256x100000 32 := xori main_call0_call0_call0_v6 main_call0_call0_call0_v11
  let main_call0_call0_call0_v13 : IVec S256x100000 32 := addi main_call0_call0_call0_v6 main_call0_call0_call0_v12
  main_call0_call0_call0_v13

/-- That value as a function of the key. -/
def t_v13 (key : IVec S2 32) : IVec S256x100000 32 :=
  f_t_v13 (u_v14 key) (u_v16 key) (u_v5 key) (u_v7 key)

/-- Stretch 1, its value `t_v15`. -/
def f_t_v15 (main_call0_call0_v14 : IVec S256x100000 64) (main_call0_call0_v16 : IVec S256x100000 64) (main_call0_call0_v5 : IVec S_ 32) (main_call0_call0_v7 : IVec S_ 32) : IVec S256x100000 32 :=
  let main_call0_call0_v17 : IVec S256x100000 32 := (trunci 32 · natLt_32_64) main_call0_call0_v14
  let main_call0_call0_v18 : IVec S256x100000 32 := (trunci 32 · natLt_32_64) main_call0_call0_v16
  let main_call0_call0_call0_v2 : IVec S256x100000 32 := (broadcastInDim S256x100000 ![] bcast_S_S256x100000) main_call0_call0_v5
  let main_call0_call0_call0_v3 : IVec S256x100000 32 := addi main_call0_call0_v18 main_call0_call0_call0_v2
  let main_call0_call0_call0_v4 : IVec S256x100000 32 := (broadcastInDim S256x100000 ![] bcast_S_S256x100000) main_call0_call0_v7
  let main_call0_call0_call0_v5 : IVec S256x100000 32 := addi main_call0_call0_v17 main_call0_call0_call0_v4
  let main_call0_call0_call0_v6 : IVec S256x100000 32 := addi main_call0_call0_call0_v3 main_call0_call0_call0_v5
  let main_call0_call0_call0_c_0 : IVec S_ 32 := (constantI S_ 32 13#32)
  let main_call0_call0_call0_v7 : IVec S256x100000 32 := (broadcastInDim S256x100000 ![] bcast_S_S256x100000) main_call0_call0_call0_c_0
  let main_call0_call0_call0_v8 : IVec S256x100000 32 := Host.shli main_call0_call0_call0_v5 main_call0_call0_call0_v7
  let main_call0_call0_call0_c_1 : IVec S_ 32 := (constantI S_ 32 19#32)
  let main_call0_call0_call0_v9 : IVec S256x100000 32 := (broadcastInDim S256x100000 ![] bcast_S_S256x100000) main_call0_call0_call0_c_1
  let main_call0_call0_call0_v10 : IVec S256x100000 32 := Host.shrui main_call0_call0_call0_v5 main_call0_call0_call0_v9
  let main_call0_call0_call0_v11 : IVec S256x100000 32 := ori main_call0_call0_call0_v8 main_call0_call0_call0_v10
  let main_call0_call0_call0_v12 : IVec S256x100000 32 := xori main_call0_call0_call0_v6 main_call0_call0_call0_v11
  let main_call0_call0_call0_c_2 : IVec S_ 32 := (constantI S_ 32 15#32)
  let main_call0_call0_call0_v14 : IVec S256x100000 32 := (broadcastInDim S256x100000 ![] bcast_S_S256x100000) main_call0_call0_call0_c_2
  let main_call0_call0_call0_v15 : IVec S256x100000 32 := Host.shli main_call0_call0_call0_v12 main_call0_call0_call0_v14
  main_call0_call0_call0_v15

/-- That value as a function of the key. -/
def t_v15 (key : IVec S2 32) : IVec S256x100000 32 :=
  f_t_v15 (u_v14 key) (u_v16 key) (u_v5 key) (u_v7 key)

/-- Stretch 2, its value `t_v27`. -/
def f_t_v27 (main_call0_call0_call0_v12 : IVec S256x100000 32) (main_call0_call0_call0_v15 : IVec S256x100000 32) (main_call0_call0_call0_v13 : IVec S256x100000 32) : IVec S256x100000 32 :=
  let main_call0_call0_call0_c_3 : IVec S_ 32 := (constantI S_ 32 17#32)
  let main_call0_call0_call0_v16 : IVec S256x100000 32 := (broadcastInDim S256x100000 ![] bcast_S_S256x100000) main_call0_call0_call0_c_3
  let main_call0_call0_call0_v17 : IVec S256x100000 32 := Host.shrui main_call0_call0_call0_v12 main_call0_call0_call0_v16
  let main_call0_call0_call0_v18 : IVec S256x100000 32 := ori main_call0_call0_call0_v15 main_call0_call0_call0_v17
  let main_call0_call0_call0_v19 : IVec S256x100000 32 := xori main_call0_call0_call0_v13 main_call0_call0_call0_v18
  let main_call0_call0_call0_v20 : IVec S256x100000 32 := addi main_call0_call0_call0_v13 main_call0_call0_call0_v19
  let main_call0_call0_call0_c_4 : IVec S_ 32 := (constantI S_ 32 26#32)
  let main_call0_call0_call0_v21 : IVec S256x100000 32 := (broadcastInDim S256x100000 ![] bcast_S_S256x100000) main_call0_call0_call0_c_4
  let main_call0_call0_call0_v22 : IVec S256x100000 32 := Host.shli main_call0_call0_call0_v19 main_call0_call0_call0_v21
  let main_call0_call0_call0_c_5 : IVec S_ 32 := (constantI S_ 32 6#32)
  let main_call0_call0_call0_v23 : IVec S256x100000 32 := (broadcastInDim S256x100000 ![] bcast_S_S256x100000) main_call0_call0_call0_c_5
  let main_call0_call0_call0_v24 : IVec S256x100000 32 := Host.shrui main_call0_call0_call0_v19 main_call0_call0_call0_v23
  let main_call0_call0_call0_v25 : IVec S256x100000 32 := ori main_call0_call0_call0_v22 main_call0_call0_call0_v24
  let main_call0_call0_call0_v26 : IVec S256x100000 32 := xori main_call0_call0_call0_v20 main_call0_call0_call0_v25
  let main_call0_call0_call0_v27 : IVec S256x100000 32 := addi main_call0_call0_call0_v20 main_call0_call0_call0_v26
  main_call0_call0_call0_v27

/-- That value as a function of the key. -/
def t_v27 (key : IVec S2 32) : IVec S256x100000 32 :=
  f_t_v27 (t_v12 key) (t_v15 key) (t_v13 key)

/-- Stretch 2, its value `t_v32`. -/
def f_t_v32 (main_call0_call0_call0_v12 : IVec S256x100000 32) (main_call0_call0_call0_v15 : IVec S256x100000 32) (main_call0_call0_call0_v13 : IVec S256x100000 32) : IVec S256x100000 32 :=
  let main_call0_call0_call0_c_3 : IVec S_ 32 := (constantI S_ 32 17#32)
  let main_call0_call0_call0_v16 : IVec S256x100000 32 := (broadcastInDim S256x100000 ![] bcast_S_S256x100000) main_call0_call0_call0_c_3
  let main_call0_call0_call0_v17 : IVec S256x100000 32 := Host.shrui main_call0_call0_call0_v12 main_call0_call0_call0_v16
  let main_call0_call0_call0_v18 : IVec S256x100000 32 := ori main_call0_call0_call0_v15 main_call0_call0_call0_v17
  let main_call0_call0_call0_v19 : IVec S256x100000 32 := xori main_call0_call0_call0_v13 main_call0_call0_call0_v18
  let main_call0_call0_call0_v20 : IVec S256x100000 32 := addi main_call0_call0_call0_v13 main_call0_call0_call0_v19
  let main_call0_call0_call0_c_4 : IVec S_ 32 := (constantI S_ 32 26#32)
  let main_call0_call0_call0_v21 : IVec S256x100000 32 := (broadcastInDim S256x100000 ![] bcast_S_S256x100000) main_call0_call0_call0_c_4
  let main_call0_call0_call0_v22 : IVec S256x100000 32 := Host.shli main_call0_call0_call0_v19 main_call0_call0_call0_v21
  let main_call0_call0_call0_c_5 : IVec S_ 32 := (constantI S_ 32 6#32)
  let main_call0_call0_call0_v23 : IVec S256x100000 32 := (broadcastInDim S256x100000 ![] bcast_S_S256x100000) main_call0_call0_call0_c_5
  let main_call0_call0_call0_v24 : IVec S256x100000 32 := Host.shrui main_call0_call0_call0_v19 main_call0_call0_call0_v23
  let main_call0_call0_call0_v25 : IVec S256x100000 32 := ori main_call0_call0_call0_v22 main_call0_call0_call0_v24
  let main_call0_call0_call0_v26 : IVec S256x100000 32 := xori main_call0_call0_call0_v20 main_call0_call0_call0_v25
  let main_call0_call0_call0_c_6 : IVec S_ 32 := (constantI S_ 32 6#32)
  let main_call0_call0_call0_v28 : IVec S256x100000 32 := (broadcastInDim S256x100000 ![] bcast_S_S256x100000) main_call0_call0_call0_c_6
  let main_call0_call0_call0_v29 : IVec S256x100000 32 := Host.shli main_call0_call0_call0_v26 main_call0_call0_call0_v28
  let main_call0_call0_call0_c_7 : IVec S_ 32 := (constantI S_ 32 26#32)
  let main_call0_call0_call0_v30 : IVec S256x100000 32 := (broadcastInDim S256x100000 ![] bcast_S_S256x100000) main_call0_call0_call0_c_7
  let main_call0_call0_call0_v31 : IVec S256x100000 32 := Host.shrui main_call0_call0_call0_v26 main_call0_call0_call0_v30
  let main_call0_call0_call0_v32 : IVec S256x100000 32 := ori main_call0_call0_call0_v29 main_call0_call0_call0_v31
  main_call0_call0_call0_v32

/-- That value as a function of the key. -/
def t_v32 (key : IVec S2 32) : IVec S256x100000 32 :=
  f_t_v32 (t_v12 key) (t_v15 key) (t_v13 key)

/-- Stretch 3, its value `t_v46`. -/
def f_t_v46 (main_call0_call0_call0_v27 : IVec S256x100000 32) (main_call0_call0_call0_v32 : IVec S256x100000 32) (main_call0_call0_v7 : IVec S_ 32) (main_call0_call0_call0_v1 : IVec S_ 32) : IVec S256x100000 32 :=
  let main_call0_call0_call0_v33 : IVec S256x100000 32 := xori main_call0_call0_call0_v27 main_call0_call0_call0_v32
  let main_call0_call0_call0_v34 : IVec S256x100000 32 := (broadcastInDim S256x100000 ![] bcast_S_S256x100000) main_call0_call0_v7
  let main_call0_call0_call0_v35 : IVec S256x100000 32 := addi main_call0_call0_call0_v27 main_call0_call0_call0_v34
  let main_call0_call0_call0_v36 : IVec S256x100000 32 := (broadcastInDim S256x100000 ![] bcast_S_S256x100000) main_call0_call0_call0_v1
  let main_call0_call0_call0_v37 : IVec S256x100000 32 := addi main_call0_call0_call0_v33 main_call0_call0_call0_v36
  let main_call0_call0_call0_c_8 : IVec S_ 32 := (constantI S_ 32 1#32)
  let main_call0_call0_call0_v38 : IVec S256x100000 32 := (broadcastInDim S256x100000 ![] bcast_S_S256x100000) main_call0_call0_call0_c_8
  let main_call0_call0_call0_v39 : IVec S256x100000 32 := addi main_call0_call0_call0_v37 main_call0_call0_call0_v38
  let main_call0_call0_call0_v40 : IVec S256x100000 32 := addi main_call0_call0_call0_v35 main_call0_call0_call0_v39
  let main_call0_call0_call0_c_9 : IVec S_ 32 := (constantI S_ 32 17#32)
  let main_call0_call0_call0_v41 : IVec S256x100000 32 := (broadcastInDim S256x100000 ![] bcast_S_S256x100000) main_call0_call0_call0_c_9
  let main_call0_call0_call0_v42 : IVec S256x100000 32 := Host.shli main_call0_call0_call0_v39 main_call0_call0_call0_v41
  let main_call0_call0_call0_c_10 : IVec S_ 32 := (constantI S_ 32 15#32)
  let main_call0_call0_call0_v43 : IVec S256x100000 32 := (broadcastInDim S256x100000 ![] bcast_S_S256x100000) main_call0_call0_call0_c_10
  let main_call0_call0_call0_v44 : IVec S256x100000 32 := Host.shrui main_call0_call0_call0_v39 main_call0_call0_call0_v43
  let main_call0_call0_call0_v45 : IVec S256x100000 32 := ori main_call0_call0_call0_v42 main_call0_call0_call0_v44
  let main_call0_call0_call0_v46 : IVec S256x100000 32 := xori main_call0_call0_call0_v40 main_call0_call0_call0_v45
  main_call0_call0_call0_v46

/-- That value as a function of the key. -/
def t_v46 (key : IVec S2 32) : IVec S256x100000 32 :=
  f_t_v46 (t_v27 key) (t_v32 key) (u_v7 key) (t_v1 key)

/-- Stretch 3, its value `t_v47`. -/
def f_t_v47 (main_call0_call0_call0_v27 : IVec S256x100000 32) (main_call0_call0_call0_v32 : IVec S256x100000 32) (main_call0_call0_v7 : IVec S_ 32) (main_call0_call0_call0_v1 : IVec S_ 32) : IVec S256x100000 32 :=
  let main_call0_call0_call0_v33 : IVec S256x100000 32 := xori main_call0_call0_call0_v27 main_call0_call0_call0_v32
  let main_call0_call0_call0_v34 : IVec S256x100000 32 := (broadcastInDim S256x100000 ![] bcast_S_S256x100000) main_call0_call0_v7
  let main_call0_call0_call0_v35 : IVec S256x100000 32 := addi main_call0_call0_call0_v27 main_call0_call0_call0_v34
  let main_call0_call0_call0_v36 : IVec S256x100000 32 := (broadcastInDim S256x100000 ![] bcast_S_S256x100000) main_call0_call0_call0_v1
  let main_call0_call0_call0_v37 : IVec S256x100000 32 := addi main_call0_call0_call0_v33 main_call0_call0_call0_v36
  let main_call0_call0_call0_c_8 : IVec S_ 32 := (constantI S_ 32 1#32)
  let main_call0_call0_call0_v38 : IVec S256x100000 32 := (broadcastInDim S256x100000 ![] bcast_S_S256x100000) main_call0_call0_call0_c_8
  let main_call0_call0_call0_v39 : IVec S256x100000 32 := addi main_call0_call0_call0_v37 main_call0_call0_call0_v38
  let main_call0_call0_call0_v40 : IVec S256x100000 32 := addi main_call0_call0_call0_v35 main_call0_call0_call0_v39
  let main_call0_call0_call0_c_9 : IVec S_ 32 := (constantI S_ 32 17#32)
  let main_call0_call0_call0_v41 : IVec S256x100000 32 := (broadcastInDim S256x100000 ![] bcast_S_S256x100000) main_call0_call0_call0_c_9
  let main_call0_call0_call0_v42 : IVec S256x100000 32 := Host.shli main_call0_call0_call0_v39 main_call0_call0_call0_v41
  let main_call0_call0_call0_c_10 : IVec S_ 32 := (constantI S_ 32 15#32)
  let main_call0_call0_call0_v43 : IVec S256x100000 32 := (broadcastInDim S256x100000 ![] bcast_S_S256x100000) main_call0_call0_call0_c_10
  let main_call0_call0_call0_v44 : IVec S256x100000 32 := Host.shrui main_call0_call0_call0_v39 main_call0_call0_call0_v43
  let main_call0_call0_call0_v45 : IVec S256x100000 32 := ori main_call0_call0_call0_v42 main_call0_call0_call0_v44
  let main_call0_call0_call0_v46 : IVec S256x100000 32 := xori main_call0_call0_call0_v40 main_call0_call0_call0_v45
  let main_call0_call0_call0_v47 : IVec S256x100000 32 := addi main_call0_call0_call0_v40 main_call0_call0_call0_v46
  main_call0_call0_call0_v47

/-- That value as a function of the key. -/
def t_v47 (key : IVec S2 32) : IVec S256x100000 32 :=
  f_t_v47 (t_v27 key) (t_v32 key) (u_v7 key) (t_v1 key)

/-- Stretch 3, its value `t_v49`. -/
def f_t_v49 (main_call0_call0_call0_v27 : IVec S256x100000 32) (main_call0_call0_call0_v32 : IVec S256x100000 32) (main_call0_call0_v7 : IVec S_ 32) (main_call0_call0_call0_v1 : IVec S_ 32) : IVec S256x100000 32 :=
  let main_call0_call0_call0_v33 : IVec S256x100000 32 := xori main_call0_call0_call0_v27 main_call0_call0_call0_v32
  let main_call0_call0_call0_v34 : IVec S256x100000 32 := (broadcastInDim S256x100000 ![] bcast_S_S256x100000) main_call0_call0_v7
  let main_call0_call0_call0_v35 : IVec S256x100000 32 := addi main_call0_call0_call0_v27 main_call0_call0_call0_v34
  let main_call0_call0_call0_v36 : IVec S256x100000 32 := (broadcastInDim S256x100000 ![] bcast_S_S256x100000) main_call0_call0_call0_v1
  let main_call0_call0_call0_v37 : IVec S256x100000 32 := addi main_call0_call0_call0_v33 main_call0_call0_call0_v36
  let main_call0_call0_call0_c_8 : IVec S_ 32 := (constantI S_ 32 1#32)
  let main_call0_call0_call0_v38 : IVec S256x100000 32 := (broadcastInDim S256x100000 ![] bcast_S_S256x100000) main_call0_call0_call0_c_8
  let main_call0_call0_call0_v39 : IVec S256x100000 32 := addi main_call0_call0_call0_v37 main_call0_call0_call0_v38
  let main_call0_call0_call0_v40 : IVec S256x100000 32 := addi main_call0_call0_call0_v35 main_call0_call0_call0_v39
  let main_call0_call0_call0_c_9 : IVec S_ 32 := (constantI S_ 32 17#32)
  let main_call0_call0_call0_v41 : IVec S256x100000 32 := (broadcastInDim S256x100000 ![] bcast_S_S256x100000) main_call0_call0_call0_c_9
  let main_call0_call0_call0_v42 : IVec S256x100000 32 := Host.shli main_call0_call0_call0_v39 main_call0_call0_call0_v41
  let main_call0_call0_call0_c_10 : IVec S_ 32 := (constantI S_ 32 15#32)
  let main_call0_call0_call0_v43 : IVec S256x100000 32 := (broadcastInDim S256x100000 ![] bcast_S_S256x100000) main_call0_call0_call0_c_10
  let main_call0_call0_call0_v44 : IVec S256x100000 32 := Host.shrui main_call0_call0_call0_v39 main_call0_call0_call0_v43
  let main_call0_call0_call0_v45 : IVec S256x100000 32 := ori main_call0_call0_call0_v42 main_call0_call0_call0_v44
  let main_call0_call0_call0_v46 : IVec S256x100000 32 := xori main_call0_call0_call0_v40 main_call0_call0_call0_v45
  let main_call0_call0_call0_c_11 : IVec S_ 32 := (constantI S_ 32 29#32)
  let main_call0_call0_call0_v48 : IVec S256x100000 32 := (broadcastInDim S256x100000 ![] bcast_S_S256x100000) main_call0_call0_call0_c_11
  let main_call0_call0_call0_v49 : IVec S256x100000 32 := Host.shli main_call0_call0_call0_v46 main_call0_call0_call0_v48
  main_call0_call0_call0_v49

/-- That value as a function of the key. -/
def t_v49 (key : IVec S2 32) : IVec S256x100000 32 :=
  f_t_v49 (t_v27 key) (t_v32 key) (u_v7 key) (t_v1 key)

/-- Stretch 3, its value `t_c_12`. -/
def f_t_c_12  : IVec S_ 32 :=
  let main_call0_call0_call0_c_12 : IVec S_ 32 := (constantI S_ 32 3#32)
  main_call0_call0_call0_c_12

/-- That value as a function of the key. -/
def t_c_12 (key : IVec S2 32) : IVec S_ 32 :=
  f_t_c_12

/-- Stretch 4, its value `t_v61`. -/
def f_t_v61 (main_call0_call0_call0_c_12 : IVec S_ 32) (main_call0_call0_call0_v46 : IVec S256x100000 32) (main_call0_call0_call0_v49 : IVec S256x100000 32) (main_call0_call0_call0_v47 : IVec S256x100000 32) : IVec S256x100000 32 :=
  let main_call0_call0_call0_v50 : IVec S256x100000 32 := (broadcastInDim S256x100000 ![] bcast_S_S256x100000) main_call0_call0_call0_c_12
  let main_call0_call0_call0_v51 : IVec S256x100000 32 := Host.shrui main_call0_call0_call0_v46 main_call0_call0_call0_v50
  let main_call0_call0_call0_v52 : IVec S256x100000 32 := ori main_call0_call0_call0_v49 main_call0_call0_call0_v51
  let main_call0_call0_call0_v53 : IVec S256x100000 32 := xori main_call0_call0_call0_v47 main_call0_call0_call0_v52
  let main_call0_call0_call0_v54 : IVec S256x100000 32 := addi main_call0_call0_call0_v47 main_call0_call0_call0_v53
  let main_call0_call0_call0_c_13 : IVec S_ 32 := (constantI S_ 32 16#32)
  let main_call0_call0_call0_v55 : IVec S256x100000 32 := (broadcastInDim S256x100000 ![] bcast_S_S256x100000) main_call0_call0_call0_c_13
  let main_call0_call0_call0_v56 : IVec S256x100000 32 := Host.shli main_call0_call0_call0_v53 main_call0_call0_call0_v55
  let main_call0_call0_call0_c_14 : IVec S_ 32 := (constantI S_ 32 16#32)
  let main_call0_call0_call0_v57 : IVec S256x100000 32 := (broadcastInDim S256x100000 ![] bcast_S_S256x100000) main_call0_call0_call0_c_14
  let main_call0_call0_call0_v58 : IVec S256x100000 32 := Host.shrui main_call0_call0_call0_v53 main_call0_call0_call0_v57
  let main_call0_call0_call0_v59 : IVec S256x100000 32 := ori main_call0_call0_call0_v56 main_call0_call0_call0_v58
  let main_call0_call0_call0_v60 : IVec S256x100000 32 := xori main_call0_call0_call0_v54 main_call0_call0_call0_v59
  let main_call0_call0_call0_v61 : IVec S256x100000 32 := addi main_call0_call0_call0_v54 main_call0_call0_call0_v60
  main_call0_call0_call0_v61

/-- That value as a function of the key. -/
def t_v61 (key : IVec S2 32) : IVec S256x100000 32 :=
  f_t_v61 (t_c_12 key) (t_v46 key) (t_v49 key) (t_v47 key)

/-- Stretch 4, its value `t_v67`. -/
def f_t_v67 (main_call0_call0_call0_c_12 : IVec S_ 32) (main_call0_call0_call0_v46 : IVec S256x100000 32) (main_call0_call0_call0_v49 : IVec S256x100000 32) (main_call0_call0_call0_v47 : IVec S256x100000 32) : IVec S256x100000 32 :=
  let main_call0_call0_call0_v50 : IVec S256x100000 32 := (broadcastInDim S256x100000 ![] bcast_S_S256x100000) main_call0_call0_call0_c_12
  let main_call0_call0_call0_v51 : IVec S256x100000 32 := Host.shrui main_call0_call0_call0_v46 main_call0_call0_call0_v50
  let main_call0_call0_call0_v52 : IVec S256x100000 32 := ori main_call0_call0_call0_v49 main_call0_call0_call0_v51
  let main_call0_call0_call0_v53 : IVec S256x100000 32 := xori main_call0_call0_call0_v47 main_call0_call0_call0_v52
  let main_call0_call0_call0_v54 : IVec S256x100000 32 := addi main_call0_call0_call0_v47 main_call0_call0_call0_v53
  let main_call0_call0_call0_c_13 : IVec S_ 32 := (constantI S_ 32 16#32)
  let main_call0_call0_call0_v55 : IVec S256x100000 32 := (broadcastInDim S256x100000 ![] bcast_S_S256x100000) main_call0_call0_call0_c_13
  let main_call0_call0_call0_v56 : IVec S256x100000 32 := Host.shli main_call0_call0_call0_v53 main_call0_call0_call0_v55
  let main_call0_call0_call0_c_14 : IVec S_ 32 := (constantI S_ 32 16#32)
  let main_call0_call0_call0_v57 : IVec S256x100000 32 := (broadcastInDim S256x100000 ![] bcast_S_S256x100000) main_call0_call0_call0_c_14
  let main_call0_call0_call0_v58 : IVec S256x100000 32 := Host.shrui main_call0_call0_call0_v53 main_call0_call0_call0_v57
  let main_call0_call0_call0_v59 : IVec S256x100000 32 := ori main_call0_call0_call0_v56 main_call0_call0_call0_v58
  let main_call0_call0_call0_v60 : IVec S256x100000 32 := xori main_call0_call0_call0_v54 main_call0_call0_call0_v59
  let main_call0_call0_call0_v61 : IVec S256x100000 32 := addi main_call0_call0_call0_v54 main_call0_call0_call0_v60
  let main_call0_call0_call0_c_15 : IVec S_ 32 := (constantI S_ 32 24#32)
  let main_call0_call0_call0_v62 : IVec S256x100000 32 := (broadcastInDim S256x100000 ![] bcast_S_S256x100000) main_call0_call0_call0_c_15
  let main_call0_call0_call0_v63 : IVec S256x100000 32 := Host.shli main_call0_call0_call0_v60 main_call0_call0_call0_v62
  let main_call0_call0_call0_c_16 : IVec S_ 32 := (constantI S_ 32 8#32)
  let main_call0_call0_call0_v64 : IVec S256x100000 32 := (broadcastInDim S256x100000 ![] bcast_S_S256x100000) main_call0_call0_call0_c_16
  let main_call0_call0_call0_v65 : IVec S256x100000 32 := Host.shrui main_call0_call0_call0_v60 main_call0_call0_call0_v64
  let main_call0_call0_call0_v66 : IVec S256x100000 32 := ori main_call0_call0_call0_v63 main_call0_call0_call0_v65
  let main_call0_call0_call0_v67 : IVec S256x100000 32 := xori main_call0_call0_call0_v61 main_call0_call0_call0_v66
  main_call0_call0_call0_v67

/-- That value as a function of the key. -/
def t_v67 (key : IVec S2 32) : IVec S256x100000 32 :=
  f_t_v67 (t_c_12 key) (t_v46 key) (t_v49 key) (t_v47 key)

/-- Stretch 5, its value `t_v80`. -/
def f_t_v80 (main_call0_call0_call0_v1 : IVec S_ 32) (main_call0_call0_call0_v61 : IVec S256x100000 32) (main_call0_call0_v5 : IVec S_ 32) (main_call0_call0_call0_v67 : IVec S256x100000 32) : IVec S256x100000 32 :=
  let main_call0_call0_call0_v68 : IVec S256x100000 32 := (broadcastInDim S256x100000 ![] bcast_S_S256x100000) main_call0_call0_call0_v1
  let main_call0_call0_call0_v69 : IVec S256x100000 32 := addi main_call0_call0_call0_v61 main_call0_call0_call0_v68
  let main_call0_call0_call0_v70 : IVec S256x100000 32 := (broadcastInDim S256x100000 ![] bcast_S_S256x100000) main_call0_call0_v5
  let main_call0_call0_call0_v71 : IVec S256x100000 32 := addi main_call0_call0_call0_v67 main_call0_call0_call0_v70
  let main_call0_call0_call0_c_17 : IVec S_ 32 := (constantI S_ 32 2#32)
  let main_call0_call0_call0_v72 : IVec S256x100000 32 := (broadcastInDim S256x100000 ![] bcast_S_S256x100000) main_call0_call0_call0_c_17
  let main_call0_call0_call0_v73 : IVec S256x100000 32 := addi main_call0_call0_call0_v71 main_call0_call0_call0_v72
  let main_call0_call0_call0_v74 : IVec S256x100000 32 := addi main_call0_call0_call0_v69 main_call0_call0_call0_v73
  let main_call0_call0_call0_c_18 : IVec S_ 32 := (constantI S_ 32 13#32)
  let main_call0_call0_call0_v75 : IVec S256x100000 32 := (broadcastInDim S256x100000 ![] bcast_S_S256x100000) main_call0_call0_call0_c_18
  let main_call0_call0_call0_v76 : IVec S256x100000 32 := Host.shli main_call0_call0_call0_v73 main_call0_call0_call0_v75
  let main_call0_call0_call0_c_19 : IVec S_ 32 := (constantI S_ 32 19#32)
  let main_call0_call0_call0_v77 : IVec S256x100000 32 := (broadcastInDim S256x100000 ![] bcast_S_S256x100000) main_call0_call0_call0_c_19
  let main_call0_call0_call0_v78 : IVec S256x100000 32 := Host.shrui main_call0_call0_call0_v73 main_call0_call0_call0_v77
  let main_call0_call0_call0_v79 : IVec S256x100000 32 := ori main_call0_call0_call0_v76 main_call0_call0_call0_v78
  let main_call0_call0_call0_v80 : IVec S256x100000 32 := xori main_call0_call0_call0_v74 main_call0_call0_call0_v79
  main_call0_call0_call0_v80

/-- That value as a function of the key. -/
def t_v80 (key : IVec S2 32) : IVec S256x100000 32 :=
  f_t_v80 (t_v1 key) (t_v61 key) (u_v5 key) (t_v67 key)

/-- Stretch 5, its value `t_v81`. -/
def f_t_v81 (main_call0_call0_call0_v1 : IVec S_ 32) (main_call0_call0_call0_v61 : IVec S256x100000 32) (main_call0_call0_v5 : IVec S_ 32) (main_call0_call0_call0_v67 : IVec S256x100000 32) : IVec S256x100000 32 :=
  let main_call0_call0_call0_v68 : IVec S256x100000 32 := (broadcastInDim S256x100000 ![] bcast_S_S256x100000) main_call0_call0_call0_v1
  let main_call0_call0_call0_v69 : IVec S256x100000 32 := addi main_call0_call0_call0_v61 main_call0_call0_call0_v68
  let main_call0_call0_call0_v70 : IVec S256x100000 32 := (broadcastInDim S256x100000 ![] bcast_S_S256x100000) main_call0_call0_v5
  let main_call0_call0_call0_v71 : IVec S256x100000 32 := addi main_call0_call0_call0_v67 main_call0_call0_call0_v70
  let main_call0_call0_call0_c_17 : IVec S_ 32 := (constantI S_ 32 2#32)
  let main_call0_call0_call0_v72 : IVec S256x100000 32 := (broadcastInDim S256x100000 ![] bcast_S_S256x100000) main_call0_call0_call0_c_17
  let main_call0_call0_call0_v73 : IVec S256x100000 32 := addi main_call0_call0_call0_v71 main_call0_call0_call0_v72
  let main_call0_call0_call0_v74 : IVec S256x100000 32 := addi main_call0_call0_call0_v69 main_call0_call0_call0_v73
  let main_call0_call0_call0_c_18 : IVec S_ 32 := (constantI S_ 32 13#32)
  let main_call0_call0_call0_v75 : IVec S256x100000 32 := (broadcastInDim S256x100000 ![] bcast_S_S256x100000) main_call0_call0_call0_c_18
  let main_call0_call0_call0_v76 : IVec S256x100000 32 := Host.shli main_call0_call0_call0_v73 main_call0_call0_call0_v75
  let main_call0_call0_call0_c_19 : IVec S_ 32 := (constantI S_ 32 19#32)
  let main_call0_call0_call0_v77 : IVec S256x100000 32 := (broadcastInDim S256x100000 ![] bcast_S_S256x100000) main_call0_call0_call0_c_19
  let main_call0_call0_call0_v78 : IVec S256x100000 32 := Host.shrui main_call0_call0_call0_v73 main_call0_call0_call0_v77
  let main_call0_call0_call0_v79 : IVec S256x100000 32 := ori main_call0_call0_call0_v76 main_call0_call0_call0_v78
  let main_call0_call0_call0_v80 : IVec S256x100000 32 := xori main_call0_call0_call0_v74 main_call0_call0_call0_v79
  let main_call0_call0_call0_v81 : IVec S256x100000 32 := addi main_call0_call0_call0_v74 main_call0_call0_call0_v80
  main_call0_call0_call0_v81

/-- That value as a function of the key. -/
def t_v81 (key : IVec S2 32) : IVec S256x100000 32 :=
  f_t_v81 (t_v1 key) (t_v61 key) (u_v5 key) (t_v67 key)

/-- Stretch 5, its value `t_v83`. -/
def f_t_v83 (main_call0_call0_call0_v1 : IVec S_ 32) (main_call0_call0_call0_v61 : IVec S256x100000 32) (main_call0_call0_v5 : IVec S_ 32) (main_call0_call0_call0_v67 : IVec S256x100000 32) : IVec S256x100000 32 :=
  let main_call0_call0_call0_v68 : IVec S256x100000 32 := (broadcastInDim S256x100000 ![] bcast_S_S256x100000) main_call0_call0_call0_v1
  let main_call0_call0_call0_v69 : IVec S256x100000 32 := addi main_call0_call0_call0_v61 main_call0_call0_call0_v68
  let main_call0_call0_call0_v70 : IVec S256x100000 32 := (broadcastInDim S256x100000 ![] bcast_S_S256x100000) main_call0_call0_v5
  let main_call0_call0_call0_v71 : IVec S256x100000 32 := addi main_call0_call0_call0_v67 main_call0_call0_call0_v70
  let main_call0_call0_call0_c_17 : IVec S_ 32 := (constantI S_ 32 2#32)
  let main_call0_call0_call0_v72 : IVec S256x100000 32 := (broadcastInDim S256x100000 ![] bcast_S_S256x100000) main_call0_call0_call0_c_17
  let main_call0_call0_call0_v73 : IVec S256x100000 32 := addi main_call0_call0_call0_v71 main_call0_call0_call0_v72
  let main_call0_call0_call0_v74 : IVec S256x100000 32 := addi main_call0_call0_call0_v69 main_call0_call0_call0_v73
  let main_call0_call0_call0_c_18 : IVec S_ 32 := (constantI S_ 32 13#32)
  let main_call0_call0_call0_v75 : IVec S256x100000 32 := (broadcastInDim S256x100000 ![] bcast_S_S256x100000) main_call0_call0_call0_c_18
  let main_call0_call0_call0_v76 : IVec S256x100000 32 := Host.shli main_call0_call0_call0_v73 main_call0_call0_call0_v75
  let main_call0_call0_call0_c_19 : IVec S_ 32 := (constantI S_ 32 19#32)
  let main_call0_call0_call0_v77 : IVec S256x100000 32 := (broadcastInDim S256x100000 ![] bcast_S_S256x100000) main_call0_call0_call0_c_19
  let main_call0_call0_call0_v78 : IVec S256x100000 32 := Host.shrui main_call0_call0_call0_v73 main_call0_call0_call0_v77
  let main_call0_call0_call0_v79 : IVec S256x100000 32 := ori main_call0_call0_call0_v76 main_call0_call0_call0_v78
  let main_call0_call0_call0_v80 : IVec S256x100000 32 := xori main_call0_call0_call0_v74 main_call0_call0_call0_v79
  let main_call0_call0_call0_c_20 : IVec S_ 32 := (constantI S_ 32 15#32)
  let main_call0_call0_call0_v82 : IVec S256x100000 32 := (broadcastInDim S256x100000 ![] bcast_S_S256x100000) main_call0_call0_call0_c_20
  let main_call0_call0_call0_v83 : IVec S256x100000 32 := Host.shli main_call0_call0_call0_v80 main_call0_call0_call0_v82
  main_call0_call0_call0_v83

/-- That value as a function of the key. -/
def t_v83 (key : IVec S2 32) : IVec S256x100000 32 :=
  f_t_v83 (t_v1 key) (t_v61 key) (u_v5 key) (t_v67 key)

/-- Stretch 5, its value `t_v84`. -/
def f_t_v84  : IVec S256x100000 32 :=
  let main_call0_call0_call0_c_21 : IVec S_ 32 := (constantI S_ 32 17#32)
  let main_call0_call0_call0_v84 : IVec S256x100000 32 := (broadcastInDim S256x100000 ![] bcast_S_S256x100000) main_call0_call0_call0_c_21
  main_call0_call0_call0_v84

/-- That value as a function of the key. -/
def t_v84 (key : IVec S2 32) : IVec S256x100000 32 :=
  f_t_v84

/-- Stretch 6, its value `t_v95`. -/
def f_t_v95 (main_call0_call0_call0_v80 : IVec S256x100000 32) (main_call0_call0_call0_v84 : IVec S256x100000 32) (main_call0_call0_call0_v83 : IVec S256x100000 32) (main_call0_call0_call0_v81 : IVec S256x100000 32) : IVec S256x100000 32 :=
  let main_call0_call0_call0_v85 : IVec S256x100000 32 := Host.shrui main_call0_call0_call0_v80 main_call0_call0_call0_v84
  let main_call0_call0_call0_v86 : IVec S256x100000 32 := ori main_call0_call0_call0_v83 main_call0_call0_call0_v85
  let main_call0_call0_call0_v87 : IVec S256x100000 32 := xori main_call0_call0_call0_v81 main_call0_call0_call0_v86
  let main_call0_call0_call0_v88 : IVec S256x100000 32 := addi main_call0_call0_call0_v81 main_call0_call0_call0_v87
  let main_call0_call0_call0_c_22 : IVec S_ 32 := (constantI S_ 32 26#32)
  let main_call0_call0_call0_v89 : IVec S256x100000 32 := (broadcastInDim S256x100000 ![] bcast_S_S256x100000) main_call0_call0_call0_c_22
  let main_call0_call0_call0_v90 : IVec S256x100000 32 := Host.shli main_call0_call0_call0_v87 main_call0_call0_call0_v89
  let main_call0_call0_call0_c_23 : IVec S_ 32 := (constantI S_ 32 6#32)
  let main_call0_call0_call0_v91 : IVec S256x100000 32 := (broadcastInDim S256x100000 ![] bcast_S_S256x100000) main_call0_call0_call0_c_23
  let main_call0_call0_call0_v92 : IVec S256x100000 32 := Host.shrui main_call0_call0_call0_v87 main_call0_call0_call0_v91
  let main_call0_call0_call0_v93 : IVec S256x100000 32 := ori main_call0_call0_call0_v90 main_call0_call0_call0_v92
  let main_call0_call0_call0_v94 : IVec S256x100000 32 := xori main_call0_call0_call0_v88 main_call0_call0_call0_v93
  let main_call0_call0_call0_v95 : IVec S256x100000 32 := addi main_call0_call0_call0_v88 main_call0_call0_call0_v94
  main_call0_call0_call0_v95

/-- That value as a function of the key. -/
def t_v95 (key : IVec S2 32) : IVec S256x100000 32 :=
  f_t_v95 (t_v80 key) (t_v84 key) (t_v83 key) (t_v81 key)

/-- Stretch 6, its value `t_v101`. -/
def f_t_v101 (main_call0_call0_call0_v80 : IVec S256x100000 32) (main_call0_call0_call0_v84 : IVec S256x100000 32) (main_call0_call0_call0_v83 : IVec S256x100000 32) (main_call0_call0_call0_v81 : IVec S256x100000 32) : IVec S256x100000 32 :=
  let main_call0_call0_call0_v85 : IVec S256x100000 32 := Host.shrui main_call0_call0_call0_v80 main_call0_call0_call0_v84
  let main_call0_call0_call0_v86 : IVec S256x100000 32 := ori main_call0_call0_call0_v83 main_call0_call0_call0_v85
  let main_call0_call0_call0_v87 : IVec S256x100000 32 := xori main_call0_call0_call0_v81 main_call0_call0_call0_v86
  let main_call0_call0_call0_v88 : IVec S256x100000 32 := addi main_call0_call0_call0_v81 main_call0_call0_call0_v87
  let main_call0_call0_call0_c_22 : IVec S_ 32 := (constantI S_ 32 26#32)
  let main_call0_call0_call0_v89 : IVec S256x100000 32 := (broadcastInDim S256x100000 ![] bcast_S_S256x100000) main_call0_call0_call0_c_22
  let main_call0_call0_call0_v90 : IVec S256x100000 32 := Host.shli main_call0_call0_call0_v87 main_call0_call0_call0_v89
  let main_call0_call0_call0_c_23 : IVec S_ 32 := (constantI S_ 32 6#32)
  let main_call0_call0_call0_v91 : IVec S256x100000 32 := (broadcastInDim S256x100000 ![] bcast_S_S256x100000) main_call0_call0_call0_c_23
  let main_call0_call0_call0_v92 : IVec S256x100000 32 := Host.shrui main_call0_call0_call0_v87 main_call0_call0_call0_v91
  let main_call0_call0_call0_v93 : IVec S256x100000 32 := ori main_call0_call0_call0_v90 main_call0_call0_call0_v92
  let main_call0_call0_call0_v94 : IVec S256x100000 32 := xori main_call0_call0_call0_v88 main_call0_call0_call0_v93
  let main_call0_call0_call0_v95 : IVec S256x100000 32 := addi main_call0_call0_call0_v88 main_call0_call0_call0_v94
  let main_call0_call0_call0_c_24 : IVec S_ 32 := (constantI S_ 32 6#32)
  let main_call0_call0_call0_v96 : IVec S256x100000 32 := (broadcastInDim S256x100000 ![] bcast_S_S256x100000) main_call0_call0_call0_c_24
  let main_call0_call0_call0_v97 : IVec S256x100000 32 := Host.shli main_call0_call0_call0_v94 main_call0_call0_call0_v96
  let main_call0_call0_call0_c_25 : IVec S_ 32 := (constantI S_ 32 26#32)
  let main_call0_call0_call0_v98 : IVec S256x100000 32 := (broadcastInDim S256x100000 ![] bcast_S_S256x100000) main_call0_call0_call0_c_25
  let main_call0_call0_call0_v99 : IVec S256x100000 32 := Host.shrui main_call0_call0_call0_v94 main_call0_call0_call0_v98
  let main_call0_call0_call0_v100 : IVec S256x100000 32 := ori main_call0_call0_call0_v97 main_call0_call0_call0_v99
  let main_call0_call0_call0_v101 : IVec S256x100000 32 := xori main_call0_call0_call0_v95 main_call0_call0_call0_v100
  main_call0_call0_call0_v101

/-- That value as a function of the key. -/
def t_v101 (key : IVec S2 32) : IVec S256x100000 32 :=
  f_t_v101 (t_v80 key) (t_v84 key) (t_v83 key) (t_v81 key)

/-- Stretch 6, its value `t_v102`. -/
def f_t_v102 (main_call0_call0_v5 : IVec S_ 32) : IVec S256x100000 32 :=
  let main_call0_call0_call0_v102 : IVec S256x100000 32 := (broadcastInDim S256x100000 ![] bcast_S_S256x100000) main_call0_call0_v5
  main_call0_call0_call0_v102

/-- That value as a function of the key. -/
def t_v102 (key : IVec S2 32) : IVec S256x100000 32 :=
  f_t_v102 (u_v5 key)

/-- Stretch 7, its value `t_v115`. -/
def f_t_v115 (main_call0_call0_call0_v95 : IVec S256x100000 32) (main_call0_call0_call0_v102 : IVec S256x100000 32) (main_call0_call0_v7 : IVec S_ 32) (main_call0_call0_call0_v101 : IVec S256x100000 32) : IVec S256x100000 32 :=
  let main_call0_call0_call0_v103 : IVec S256x100000 32 := addi main_call0_call0_call0_v95 main_call0_call0_call0_v102
  let main_call0_call0_call0_v104 : IVec S256x100000 32 := (broadcastInDim S256x100000 ![] bcast_S_S256x100000) main_call0_call0_v7
  let main_call0_call0_call0_v105 : IVec S256x100000 32 := addi main_call0_call0_call0_v101 main_call0_call0_call0_v104
  let main_call0_call0_call0_c_26 : IVec S_ 32 := (constantI S_ 32 3#32)
  let main_call0_call0_call0_v106 : IVec S256x100000 32 := (broadcastInDim S256x100000 ![] bcast_S_S256x100000) main_call0_call0_call0_c_26
  let main_call0_call0_call0_v107 : IVec S256x100000 32 := addi main_call0_call0_call0_v105 main_call0_call0_call0_v106
  let main_call0_call0_call0_v108 : IVec S256x100000 32 := addi main_call0_call0_call0_v103 main_call0_call0_call0_v107
  let main_call0_call0_call0_c_27 : IVec S_ 32 := (constantI S_ 32 17#32)
  let main_call0_call0_call0_v109 : IVec S256x100000 32 := (broadcastInDim S256x100000 ![] bcast_S_S256x100000) main_call0_call0_call0_c_27
  let main_call0_call0_call0_v110 : IVec S256x100000 32 := Host.shli main_call0_call0_call0_v107 main_call0_call0_call0_v109
  let main_call0_call0_call0_c_28 : IVec S_ 32 := (constantI S_ 32 15#32)
  let main_call0_call0_call0_v111 : IVec S256x100000 32 := (broadcastInDim S256x100000 ![] bcast_S_S256x100000) main_call0_call0_call0_c_28
  let main_call0_call0_call0_v112 : IVec S256x100000 32 := Host.shrui main_call0_call0_call0_v107 main_call0_call0_call0_v111
  let main_call0_call0_call0_v113 : IVec S256x100000 32 := ori main_call0_call0_call0_v110 main_call0_call0_call0_v112
  let main_call0_call0_call0_v114 : IVec S256x100000 32 := xori main_call0_call0_call0_v108 main_call0_call0_call0_v113
  let main_call0_call0_call0_v115 : IVec S256x100000 32 := addi main_call0_call0_call0_v108 main_call0_call0_call0_v114
  main_call0_call0_call0_v115

/-- That value as a function of the key. -/
def t_v115 (key : IVec S2 32) : IVec S256x100000 32 :=
  f_t_v115 (t_v95 key) (t_v102 key) (u_v7 key) (t_v101 key)

/-- Stretch 7, its value `t_v117`. -/
def f_t_v117 (main_call0_call0_call0_v95 : IVec S256x100000 32) (main_call0_call0_call0_v102 : IVec S256x100000 32) (main_call0_call0_v7 : IVec S_ 32) (main_call0_call0_call0_v101 : IVec S256x100000 32) : IVec S256x100000 32 :=
  let main_call0_call0_call0_v103 : IVec S256x100000 32 := addi main_call0_call0_call0_v95 main_call0_call0_call0_v102
  let main_call0_call0_call0_v104 : IVec S256x100000 32 := (broadcastInDim S256x100000 ![] bcast_S_S256x100000) main_call0_call0_v7
  let main_call0_call0_call0_v105 : IVec S256x100000 32 := addi main_call0_call0_call0_v101 main_call0_call0_call0_v104
  let main_call0_call0_call0_c_26 : IVec S_ 32 := (constantI S_ 32 3#32)
  let main_call0_call0_call0_v106 : IVec S256x100000 32 := (broadcastInDim S256x100000 ![] bcast_S_S256x100000) main_call0_call0_call0_c_26
  let main_call0_call0_call0_v107 : IVec S256x100000 32 := addi main_call0_call0_call0_v105 main_call0_call0_call0_v106
  let main_call0_call0_call0_v108 : IVec S256x100000 32 := addi main_call0_call0_call0_v103 main_call0_call0_call0_v107
  let main_call0_call0_call0_c_27 : IVec S_ 32 := (constantI S_ 32 17#32)
  let main_call0_call0_call0_v109 : IVec S256x100000 32 := (broadcastInDim S256x100000 ![] bcast_S_S256x100000) main_call0_call0_call0_c_27
  let main_call0_call0_call0_v110 : IVec S256x100000 32 := Host.shli main_call0_call0_call0_v107 main_call0_call0_call0_v109
  let main_call0_call0_call0_c_28 : IVec S_ 32 := (constantI S_ 32 15#32)
  let main_call0_call0_call0_v111 : IVec S256x100000 32 := (broadcastInDim S256x100000 ![] bcast_S_S256x100000) main_call0_call0_call0_c_28
  let main_call0_call0_call0_v112 : IVec S256x100000 32 := Host.shrui main_call0_call0_call0_v107 main_call0_call0_call0_v111
  let main_call0_call0_call0_v113 : IVec S256x100000 32 := ori main_call0_call0_call0_v110 main_call0_call0_call0_v112
  let main_call0_call0_call0_v114 : IVec S256x100000 32 := xori main_call0_call0_call0_v108 main_call0_call0_call0_v113
  let main_call0_call0_call0_c_29 : IVec S_ 32 := (constantI S_ 32 29#32)
  let main_call0_call0_call0_v116 : IVec S256x100000 32 := (broadcastInDim S256x100000 ![] bcast_S_S256x100000) main_call0_call0_call0_c_29
  let main_call0_call0_call0_v117 : IVec S256x100000 32 := Host.shli main_call0_call0_call0_v114 main_call0_call0_call0_v116
  main_call0_call0_call0_v117

/-- That value as a function of the key. -/
def t_v117 (key : IVec S2 32) : IVec S256x100000 32 :=
  f_t_v117 (t_v95 key) (t_v102 key) (u_v7 key) (t_v101 key)

/-- Stretch 7, its value `t_v119`. -/
def f_t_v119 (main_call0_call0_call0_v95 : IVec S256x100000 32) (main_call0_call0_call0_v102 : IVec S256x100000 32) (main_call0_call0_v7 : IVec S_ 32) (main_call0_call0_call0_v101 : IVec S256x100000 32) : IVec S256x100000 32 :=
  let main_call0_call0_call0_v103 : IVec S256x100000 32 := addi main_call0_call0_call0_v95 main_call0_call0_call0_v102
  let main_call0_call0_call0_v104 : IVec S256x100000 32 := (broadcastInDim S256x100000 ![] bcast_S_S256x100000) main_call0_call0_v7
  let main_call0_call0_call0_v105 : IVec S256x100000 32 := addi main_call0_call0_call0_v101 main_call0_call0_call0_v104
  let main_call0_call0_call0_c_26 : IVec S_ 32 := (constantI S_ 32 3#32)
  let main_call0_call0_call0_v106 : IVec S256x100000 32 := (broadcastInDim S256x100000 ![] bcast_S_S256x100000) main_call0_call0_call0_c_26
  let main_call0_call0_call0_v107 : IVec S256x100000 32 := addi main_call0_call0_call0_v105 main_call0_call0_call0_v106
  let main_call0_call0_call0_v108 : IVec S256x100000 32 := addi main_call0_call0_call0_v103 main_call0_call0_call0_v107
  let main_call0_call0_call0_c_27 : IVec S_ 32 := (constantI S_ 32 17#32)
  let main_call0_call0_call0_v109 : IVec S256x100000 32 := (broadcastInDim S256x100000 ![] bcast_S_S256x100000) main_call0_call0_call0_c_27
  let main_call0_call0_call0_v110 : IVec S256x100000 32 := Host.shli main_call0_call0_call0_v107 main_call0_call0_call0_v109
  let main_call0_call0_call0_c_28 : IVec S_ 32 := (constantI S_ 32 15#32)
  let main_call0_call0_call0_v111 : IVec S256x100000 32 := (broadcastInDim S256x100000 ![] bcast_S_S256x100000) main_call0_call0_call0_c_28
  let main_call0_call0_call0_v112 : IVec S256x100000 32 := Host.shrui main_call0_call0_call0_v107 main_call0_call0_call0_v111
  let main_call0_call0_call0_v113 : IVec S256x100000 32 := ori main_call0_call0_call0_v110 main_call0_call0_call0_v112
  let main_call0_call0_call0_v114 : IVec S256x100000 32 := xori main_call0_call0_call0_v108 main_call0_call0_call0_v113
  let main_call0_call0_call0_c_30 : IVec S_ 32 := (constantI S_ 32 3#32)
  let main_call0_call0_call0_v118 : IVec S256x100000 32 := (broadcastInDim S256x100000 ![] bcast_S_S256x100000) main_call0_call0_call0_c_30
  let main_call0_call0_call0_v119 : IVec S256x100000 32 := Host.shrui main_call0_call0_call0_v114 main_call0_call0_call0_v118
  main_call0_call0_call0_v119

/-- That value as a function of the key. -/
def t_v119 (key : IVec S2 32) : IVec S256x100000 32 :=
  f_t_v119 (t_v95 key) (t_v102 key) (u_v7 key) (t_v101 key)

/-- Stretch 8, its value `t_v135`. -/
def f_t_v135 (main_call0_call0_call0_v117 : IVec S256x100000 32) (main_call0_call0_call0_v119 : IVec S256x100000 32) (main_call0_call0_call0_v115 : IVec S256x100000 32) : IVec S256x100000 32 :=
  let main_call0_call0_call0_v120 : IVec S256x100000 32 := ori main_call0_call0_call0_v117 main_call0_call0_call0_v119
  let main_call0_call0_call0_v121 : IVec S256x100000 32 := xori main_call0_call0_call0_v115 main_call0_call0_call0_v120
  let main_call0_call0_call0_v122 : IVec S256x100000 32 := addi main_call0_call0_call0_v115 main_call0_call0_call0_v121
  let main_call0_call0_call0_c_31 : IVec S_ 32 := (constantI S_ 32 16#32)
  let main_call0_call0_call0_v123 : IVec S256x100000 32 := (broadcastInDim S256x100000 ![] bcast_S_S256x100000) main_call0_call0_call0_c_31
  let main_call0_call0_call0_v124 : IVec S256x100000 32 := Host.shli main_call0_call0_call0_v121 main_call0_call0_call0_v123
  let main_call0_call0_call0_c_32 : IVec S_ 32 := (constantI S_ 32 16#32)
  let main_call0_call0_call0_v125 : IVec S256x100000 32 := (broadcastInDim S256x100000 ![] bcast_S_S256x100000) main_call0_call0_call0_c_32
  let main_call0_call0_call0_v126 : IVec S256x100000 32 := Host.shrui main_call0_call0_call0_v121 main_call0_call0_call0_v125
  let main_call0_call0_call0_v127 : IVec S256x100000 32 := ori main_call0_call0_call0_v124 main_call0_call0_call0_v126
  let main_call0_call0_call0_v128 : IVec S256x100000 32 := xori main_call0_call0_call0_v122 main_call0_call0_call0_v127
  let main_call0_call0_call0_v129 : IVec S256x100000 32 := addi main_call0_call0_call0_v122 main_call0_call0_call0_v128
  let main_call0_call0_call0_c_33 : IVec S_ 32 := (constantI S_ 32 24#32)
  let main_call0_call0_call0_v130 : IVec S256x100000 32 := (broadcastInDim S256x100000 ![] bcast_S_S256x100000) main_call0_call0_call0_c_33
  let main_call0_call0_call0_v131 : IVec S256x100000 32 := Host.shli main_call0_call0_call0_v128 main_call0_call0_call0_v130
  let main_call0_call0_call0_c_34 : IVec S_ 32 := (constantI S_ 32 8#32)
  let main_call0_call0_call0_v132 : IVec S256x100000 32 := (broadcastInDim S256x100000 ![] bcast_S_S256x100000) main_call0_call0_call0_c_34
  let main_call0_call0_call0_v133 : IVec S256x100000 32 := Host.shrui main_call0_call0_call0_v128 main_call0_call0_call0_v132
  let main_call0_call0_call0_v134 : IVec S256x100000 32 := ori main_call0_call0_call0_v131 main_call0_call0_call0_v133
  let main_call0_call0_call0_v135 : IVec S256x100000 32 := xori main_call0_call0_call0_v129 main_call0_call0_call0_v134
  main_call0_call0_call0_v135

/-- That value as a function of the key. -/
def t_v135 (key : IVec S2 32) : IVec S256x100000 32 :=
  f_t_v135 (t_v117 key) (t_v119 key) (t_v115 key)

/-- Stretch 8, its value `t_v137`. -/
def f_t_v137 (main_call0_call0_call0_v117 : IVec S256x100000 32) (main_call0_call0_call0_v119 : IVec S256x100000 32) (main_call0_call0_call0_v115 : IVec S256x100000 32) (main_call0_call0_v7 : IVec S_ 32) : IVec S256x100000 32 :=
  let main_call0_call0_call0_v120 : IVec S256x100000 32 := ori main_call0_call0_call0_v117 main_call0_call0_call0_v119
  let main_call0_call0_call0_v121 : IVec S256x100000 32 := xori main_call0_call0_call0_v115 main_call0_call0_call0_v120
  let main_call0_call0_call0_v122 : IVec S256x100000 32 := addi main_call0_call0_call0_v115 main_call0_call0_call0_v121
  let main_call0_call0_call0_c_31 : IVec S_ 32 := (constantI S_ 32 16#32)
  let main_call0_call0_call0_v123 : IVec S256x100000 32 := (broadcastInDim S256x100000 ![] bcast_S_S256x100000) main_call0_call0_call0_c_31
  let main_call0_call0_call0_v124 : IVec S256x100000 32 := Host.shli main_call0_call0_call0_v121 main_call0_call0_call0_v123
  let main_call0_call0_call0_c_32 : IVec S_ 32 := (constantI S_ 32 16#32)
  let main_call0_call0_call0_v125 : IVec S256x100000 32 := (broadcastInDim S256x100000 ![] bcast_S_S256x100000) main_call0_call0_call0_c_32
  let main_call0_call0_call0_v126 : IVec S256x100000 32 := Host.shrui main_call0_call0_call0_v121 main_call0_call0_call0_v125
  let main_call0_call0_call0_v127 : IVec S256x100000 32 := ori main_call0_call0_call0_v124 main_call0_call0_call0_v126
  let main_call0_call0_call0_v128 : IVec S256x100000 32 := xori main_call0_call0_call0_v122 main_call0_call0_call0_v127
  let main_call0_call0_call0_v129 : IVec S256x100000 32 := addi main_call0_call0_call0_v122 main_call0_call0_call0_v128
  let main_call0_call0_call0_v136 : IVec S256x100000 32 := (broadcastInDim S256x100000 ![] bcast_S_S256x100000) main_call0_call0_v7
  let main_call0_call0_call0_v137 : IVec S256x100000 32 := addi main_call0_call0_call0_v129 main_call0_call0_call0_v136
  main_call0_call0_call0_v137

/-- That value as a function of the key. -/
def t_v137 (key : IVec S2 32) : IVec S256x100000 32 :=
  f_t_v137 (t_v117 key) (t_v119 key) (t_v115 key) (u_v7 key)

/-- Stretch 9, its value `t_v149`. -/
def f_t_v149 (main_call0_call0_call0_v1 : IVec S_ 32) (main_call0_call0_call0_v135 : IVec S256x100000 32) (main_call0_call0_call0_v137 : IVec S256x100000 32) : IVec S256x100000 32 :=
  let main_call0_call0_call0_v138 : IVec S256x100000 32 := (broadcastInDim S256x100000 ![] bcast_S_S256x100000) main_call0_call0_call0_v1
  let main_call0_call0_call0_v139 : IVec S256x100000 32 := addi main_call0_call0_call0_v135 main_call0_call0_call0_v138
  let main_call0_call0_call0_c_35 : IVec S_ 32 := (constantI S_ 32 4#32)
  let main_call0_call0_call0_v140 : IVec S256x100000 32 := (broadcastInDim S256x100000 ![] bcast_S_S256x100000) main_call0_call0_call0_c_35
  let main_call0_call0_call0_v141 : IVec S256x100000 32 := addi main_call0_call0_call0_v139 main_call0_call0_call0_v140
  let main_call0_call0_call0_v142 : IVec S256x100000 32 := addi main_call0_call0_call0_v137 main_call0_call0_call0_v141
  let main_call0_call0_call0_c_36 : IVec S_ 32 := (constantI S_ 32 13#32)
  let main_call0_call0_call0_v143 : IVec S256x100000 32 := (broadcastInDim S256x100000 ![] bcast_S_S256x100000) main_call0_call0_call0_c_36
  let main_call0_call0_call0_v144 : IVec S256x100000 32 := Host.shli main_call0_call0_call0_v141 main_call0_call0_call0_v143
  let main_call0_call0_call0_c_37 : IVec S_ 32 := (constantI S_ 32 19#32)
  let main_call0_call0_call0_v145 : IVec S256x100000 32 := (broadcastInDim S256x100000 ![] bcast_S_S256x100000) main_call0_call0_call0_c_37
  let main_call0_call0_call0_v146 : IVec S256x100000 32 := Host.shrui main_call0_call0_call0_v141 main_call0_call0_call0_v145
  let main_call0_call0_call0_v147 : IVec S256x100000 32 := ori main_call0_call0_call0_v144 main_call0_call0_call0_v146
  let main_call0_call0_call0_v148 : IVec S256x100000 32 := xori main_call0_call0_call0_v142 main_call0_call0_call0_v147
  let main_call0_call0_call0_v149 : IVec S256x100000 32 := addi main_call0_call0_call0_v142 main_call0_call0_call0_v148
  main_call0_call0_call0_v149

/-- That value as a function of the key. -/
def t_v149 (key : IVec S2 32) : IVec S256x100000 32 :=
  f_t_v149 (t_v1 key) (t_v135 key) (t_v137 key)

/-- Stretch 9, its value `t_v154`. -/
def f_t_v154 (main_call0_call0_call0_v1 : IVec S_ 32) (main_call0_call0_call0_v135 : IVec S256x100000 32) (main_call0_call0_call0_v137 : IVec S256x100000 32) : IVec S256x100000 32 :=
  let main_call0_call0_call0_v138 : IVec S256x100000 32 := (broadcastInDim S256x100000 ![] bcast_S_S256x100000) main_call0_call0_call0_v1
  let main_call0_call0_call0_v139 : IVec S256x100000 32 := addi main_call0_call0_call0_v135 main_call0_call0_call0_v138
  let main_call0_call0_call0_c_35 : IVec S_ 32 := (constantI S_ 32 4#32)
  let main_call0_call0_call0_v140 : IVec S256x100000 32 := (broadcastInDim S256x100000 ![] bcast_S_S256x100000) main_call0_call0_call0_c_35
  let main_call0_call0_call0_v141 : IVec S256x100000 32 := addi main_call0_call0_call0_v139 main_call0_call0_call0_v140
  let main_call0_call0_call0_v142 : IVec S256x100000 32 := addi main_call0_call0_call0_v137 main_call0_call0_call0_v141
  let main_call0_call0_call0_c_36 : IVec S_ 32 := (constantI S_ 32 13#32)
  let main_call0_call0_call0_v143 : IVec S256x100000 32 := (broadcastInDim S256x100000 ![] bcast_S_S256x100000) main_call0_call0_call0_c_36
  let main_call0_call0_call0_v144 : IVec S256x100000 32 := Host.shli main_call0_call0_call0_v141 main_call0_call0_call0_v143
  let main_call0_call0_call0_c_37 : IVec S_ 32 := (constantI S_ 32 19#32)
  let main_call0_call0_call0_v145 : IVec S256x100000 32 := (broadcastInDim S256x100000 ![] bcast_S_S256x100000) main_call0_call0_call0_c_37
  let main_call0_call0_call0_v146 : IVec S256x100000 32 := Host.shrui main_call0_call0_call0_v141 main_call0_call0_call0_v145
  let main_call0_call0_call0_v147 : IVec S256x100000 32 := ori main_call0_call0_call0_v144 main_call0_call0_call0_v146
  let main_call0_call0_call0_v148 : IVec S256x100000 32 := xori main_call0_call0_call0_v142 main_call0_call0_call0_v147
  let main_call0_call0_call0_c_38 : IVec S_ 32 := (constantI S_ 32 15#32)
  let main_call0_call0_call0_v150 : IVec S256x100000 32 := (broadcastInDim S256x100000 ![] bcast_S_S256x100000) main_call0_call0_call0_c_38
  let main_call0_call0_call0_v151 : IVec S256x100000 32 := Host.shli main_call0_call0_call0_v148 main_call0_call0_call0_v150
  let main_call0_call0_call0_c_39 : IVec S_ 32 := (constantI S_ 32 17#32)
  let main_call0_call0_call0_v152 : IVec S256x100000 32 := (broadcastInDim S256x100000 ![] bcast_S_S256x100000) main_call0_call0_call0_c_39
  let main_call0_call0_call0_v153 : IVec S256x100000 32 := Host.shrui main_call0_call0_call0_v148 main_call0_call0_call0_v152
  let main_call0_call0_call0_v154 : IVec S256x100000 32 := ori main_call0_call0_call0_v151 main_call0_call0_call0_v153
  main_call0_call0_call0_v154

/-- That value as a function of the key. -/
def t_v154 (key : IVec S2 32) : IVec S256x100000 32 :=
  f_t_v154 (t_v1 key) (t_v135 key) (t_v137 key)

/-- Stretch 10, its value `t_v169`. -/
def f_t_v169 (main_call0_call0_call0_v149 : IVec S256x100000 32) (main_call0_call0_call0_v154 : IVec S256x100000 32) : IVec S256x100000 32 :=
  let main_call0_call0_call0_v155 : IVec S256x100000 32 := xori main_call0_call0_call0_v149 main_call0_call0_call0_v154
  let main_call0_call0_call0_v156 : IVec S256x100000 32 := addi main_call0_call0_call0_v149 main_call0_call0_call0_v155
  let main_call0_call0_call0_c_40 : IVec S_ 32 := (constantI S_ 32 26#32)
  let main_call0_call0_call0_v157 : IVec S256x100000 32 := (broadcastInDim S256x100000 ![] bcast_S_S256x100000) main_call0_call0_call0_c_40
  let main_call0_call0_call0_v158 : IVec S256x100000 32 := Host.shli main_call0_call0_call0_v155 main_call0_call0_call0_v157
  let main_call0_call0_call0_c_41 : IVec S_ 32 := (constantI S_ 32 6#32)
  let main_call0_call0_call0_v159 : IVec S256x100000 32 := (broadcastInDim S256x100000 ![] bcast_S_S256x100000) main_call0_call0_call0_c_41
  let main_call0_call0_call0_v160 : IVec S256x100000 32 := Host.shrui main_call0_call0_call0_v155 main_call0_call0_call0_v159
  let main_call0_call0_call0_v161 : IVec S256x100000 32 := ori main_call0_call0_call0_v158 main_call0_call0_call0_v160
  let main_call0_call0_call0_v162 : IVec S256x100000 32 := xori main_call0_call0_call0_v156 main_call0_call0_call0_v161
  let main_call0_call0_call0_v163 : IVec S256x100000 32 := addi main_call0_call0_call0_v156 main_call0_call0_call0_v162
  let main_call0_call0_call0_c_42 : IVec S_ 32 := (constantI S_ 32 6#32)
  let main_call0_call0_call0_v164 : IVec S256x100000 32 := (broadcastInDim S256x100000 ![] bcast_S_S256x100000) main_call0_call0_call0_c_42
  let main_call0_call0_call0_v165 : IVec S256x100000 32 := Host.shli main_call0_call0_call0_v162 main_call0_call0_call0_v164
  let main_call0_call0_call0_c_43 : IVec S_ 32 := (constantI S_ 32 26#32)
  let main_call0_call0_call0_v166 : IVec S256x100000 32 := (broadcastInDim S256x100000 ![] bcast_S_S256x100000) main_call0_call0_call0_c_43
  let main_call0_call0_call0_v167 : IVec S256x100000 32 := Host.shrui main_call0_call0_call0_v162 main_call0_call0_call0_v166
  let main_call0_call0_call0_v168 : IVec S256x100000 32 := ori main_call0_call0_call0_v165 main_call0_call0_call0_v167
  let main_call0_call0_call0_v169 : IVec S256x100000 32 := xori main_call0_call0_call0_v163 main_call0_call0_call0_v168
  main_call0_call0_call0_v169

/-- That value as a function of the key. -/
def t_v169 (key : IVec S2 32) : IVec S256x100000 32 :=
  f_t_v169 (t_v149 key) (t_v154 key)

/-- Stretch 10, its value `u_v19_0`. -/
def f_u_v19_0 (main_call0_call0_call0_v149 : IVec S256x100000 32) (main_call0_call0_call0_v154 : IVec S256x100000 32) (main_call0_call0_call0_v1 : IVec S_ 32) : IVec S256x100000 32 :=
  let main_call0_call0_call0_v155 : IVec S256x100000 32 := xori main_call0_call0_call0_v149 main_call0_call0_call0_v154
  let main_call0_call0_call0_v156 : IVec S256x100000 32 := addi main_call0_call0_call0_v149 main_call0_call0_call0_v155
  let main_call0_call0_call0_c_40 : IVec S_ 32 := (constantI S_ 32 26#32)
  let main_call0_call0_call0_v157 : IVec S256x100000 32 := (broadcastInDim S256x100000 ![] bcast_S_S256x100000) main_call0_call0_call0_c_40
  let main_call0_call0_call0_v158 : IVec S256x100000 32 := Host.shli main_call0_call0_call0_v155 main_call0_call0_call0_v157
  let main_call0_call0_call0_c_41 : IVec S_ 32 := (constantI S_ 32 6#32)
  let main_call0_call0_call0_v159 : IVec S256x100000 32 := (broadcastInDim S256x100000 ![] bcast_S_S256x100000) main_call0_call0_call0_c_41
  let main_call0_call0_call0_v160 : IVec S256x100000 32 := Host.shrui main_call0_call0_call0_v155 main_call0_call0_call0_v159
  let main_call0_call0_call0_v161 : IVec S256x100000 32 := ori main_call0_call0_call0_v158 main_call0_call0_call0_v160
  let main_call0_call0_call0_v162 : IVec S256x100000 32 := xori main_call0_call0_call0_v156 main_call0_call0_call0_v161
  let main_call0_call0_call0_v163 : IVec S256x100000 32 := addi main_call0_call0_call0_v156 main_call0_call0_call0_v162
  let main_call0_call0_call0_v170 : IVec S256x100000 32 := (broadcastInDim S256x100000 ![] bcast_S_S256x100000) main_call0_call0_call0_v1
  let main_call0_call0_v19_0 : IVec S256x100000 32 := addi main_call0_call0_call0_v163 main_call0_call0_call0_v170
  main_call0_call0_v19_0

/-- That value as a function of the key. -/
def u_v19_0 (key : IVec S2 32) : IVec S256x100000 32 :=
  f_u_v19_0 (t_v149 key) (t_v154 key) (t_v1 key)

/-- Stretch 10, its value `t_v172`. -/
def f_t_v172 (main_call0_call0_v5 : IVec S_ 32) : IVec S256x100000 32 :=
  let main_call0_call0_call0_v172 : IVec S256x100000 32 := (broadcastInDim S256x100000 ![] bcast_S_S256x100000) main_call0_call0_v5
  main_call0_call0_call0_v172

/-- That value as a function of the key. -/
def t_v172 (key : IVec S2 32) : IVec S256x100000 32 :=
  f_t_v172 (u_v5 key)

/-- Stretch 11, its value `e_v0`. -/
def f_e_v0 (main_call0_call0_call0_v169 : IVec S256x100000 32) (main_call0_call0_call0_v172 : IVec S256x100000 32) (main_call0_call0_v19_0 : IVec S256x100000 32) (main_call0_call0_v3 : FVec F S1x1 .f32) (main_call0_call0_v2 : FVec F S1x1 .f32) : FVec F S256x100000 .f32 :=
  let main_call0_call0_call0_v173 : IVec S256x100000 32 := addi main_call0_call0_call0_v169 main_call0_call0_call0_v172
  let main_call0_call0_call0_c_44 : IVec S_ 32 := (constantI S_ 32 5#32)
  let main_call0_call0_call0_v174 : IVec S256x100000 32 := (broadcastInDim S256x100000 ![] bcast_S_S256x100000) main_call0_call0_call0_c_44
  let main_call0_call0_v19_1 : IVec S256x100000 32 := addi main_call0_call0_call0_v173 main_call0_call0_call0_v174
  let main_call0_call0_v20 : IVec S256x100000 32 := xori main_call0_call0_v19_0 main_call0_call0_v19_1
  let main_call0_call0_c_2 : IVec S_ 32 := (constantI S_ 32 9#32)
  let main_call0_call0_v21 : IVec S256x100000 32 := (broadcastInDim S256x100000 ![] bcast_S_S256x100000) main_call0_call0_c_2
  let main_call0_call0_v22 : IVec S256x100000 32 := Host.shrui main_call0_call0_v20 main_call0_call0_v21
  let main_call0_call0_c_3 : IVec S_ 32 := (constantI S_ 32 1065353216#32)
  let main_call0_call0_v23 : IVec S256x100000 32 := (broadcastInDim S256x100000 ![] bcast_S_S256x100000) main_call0_call0_c_3
  let main_call0_call0_v24 : IVec S256x100000 32 := ori main_call0_call0_v22 main_call0_call0_v23
  let main_call0_call0_v25 : FVec F S256x100000 .f32 := (bitcastToFloat .f32) main_call0_call0_v24
  let main_call0_call0_cst : FVec F S_ .f32 := (constant S_ .f32 0x3F800000#32)
  let main_call0_call0_v26 : FVec F S256x100000 .f32 := (broadcastInDim S256x100000 ![] bcast_S_S256x100000) main_call0_call0_cst
  let main_call0_call0_v27 : FVec F S256x100000 .f32 := subf main_call0_call0_v25 main_call0_call0_v26
  let main_call0_call0_v28 : FVec F S1x1 .f32 := subf main_call0_call0_v3 main_call0_call0_v2
  let main_call0_call0_v29 : FVec F S256x100000 .f32 := (broadcastInDim S256x100000 ![0, 1] bcast_S1x1_S256x100000_0_1) main_call0_call0_v28
  let main_call0_call0_v30 : FVec F S256x100000 .f32 := mulf main_call0_call0_v27 main_call0_call0_v29
  let main_call0_call0_v31 : FVec F S256x100000 .f32 := (broadcastInDim S256x100000 ![0, 1] bcast_S1x1_S256x100000_0_1) main_call0_call0_v2
  let main_call0_call0_v32 : FVec F S256x100000 .f32 := addf main_call0_call0_v30 main_call0_call0_v31
  let main_call0_call0_v33 : FVec F S256x100000 .f32 := (broadcastInDim S256x100000 ![0, 1] bcast_S1x1_S256x100000_0_1) main_call0_call0_v2
  let main_call0_v0 : FVec F S256x100000 .f32 := maximumf main_call0_call0_v33 main_call0_call0_v32
  main_call0_v0

/-- That value as a function of the key. -/
def e_v0 (key : IVec S2 32) : FVec F S256x100000 .f32 :=
  f_e_v0 (t_v169 key) (t_v172 key) (u_v19_0 key) (u_v3 key) (u_v2 key)

/-- Stretch 12, its value `q`. -/
def f_q (main_call0_v0 : FVec F S256x100000 .f32) : FVec F S256x100000 .f32 :=
  let main_call0_v1 : FVec F S256x100000 .f32 := Host.negf main_call0_v0
  let main_call0_v2 : FVec F S256x100000 .f32 := Host.log1p main_call0_v1
  let main_v60 : FVec F S256x100000 .f32 := Host.negf main_call0_v2
  main_v60

/-- That value as a function of the key. -/
def q (key : IVec S2 32) : FVec F S256x100000 .f32 :=
  f_q (e_v0 key)

end Cert.Draw

end
-- ==== Proof.RefVals.lean ====
/- The reference program's values as functions of its arguments, read off its list of operations. -/
module

public import proofs.«01_k».proof.Proof.RefDraw

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- Segment 0, its value `c`. -/
def g_c  : IVec S2 32 :=
  let main_c : IVec S2 32 := (fun i => lit1 (S2.rowMajor i))
  main_c

/-- That value as a function of the arguments. -/
def v_c (arg0 arg2 : FVec F S32x8x100000 .f32) (arg3 : IVec S32x8 32) : IVec S2 32 :=
  g_c

/-- Segment 0, its value `v51`. -/
def g_v51 (main_arg3 : IVec S32x8 32) (main_arg2 : FVec F S32x8x100000 .f32) (main_arg0 : FVec F S32x8x100000 .f32) : IVec S32x8 1 :=
  let main_cst : FVec F S32x8 .f32 := (fun i => FloatOps.ofBits .f32 (lit0 (S32x8.rowMajor i)))
  let main_v0 : IVec S32 32 := (iotaInDim S32 32 0)
  let main_v1 : IVec S32x1 32 := (broadcastInDim S32x1 ![0] bcast_S32_S32x1_0 : (⟨S32, .i32⟩ : BufTy).Contents (Elt F) → (⟨S32x1, .i32⟩ : BufTy).Contents (Elt F)) main_v0
  let main_v2 : IVec S8 32 := (iotaInDim S8 32 0)
  let main_v3 : IVec S1x8 32 := (broadcastInDim S1x8 ![1] bcast_S8_S1x8_1 : (⟨S8, .i32⟩ : BufTy).Contents (Elt F) → (⟨S1x8, .i32⟩ : BufTy).Contents (Elt F)) main_v2
  let main_c_0 : IVec S_ 32 := (constantI S_ 32 0#32)
  let main_v4 : IVec S32x1 32 := (broadcastInDim S32x1 ![] bcast_S_S32x1 : (⟨S_, .i32⟩ : BufTy).Contents (Elt F) → (⟨S32x1, .i32⟩ : BufTy).Contents (Elt F)) main_c_0
  let main_v5 : IVec S32x1 1 := (cmpi .slt : (⟨S32x1, .i32⟩ : BufTy).Contents (Elt F) → (⟨S32x1, .i32⟩ : BufTy).Contents (Elt F) → (⟨S32x1, .i1⟩ : BufTy).Contents (Elt F)) main_v1 main_v4
  let main_c_1 : IVec S_ 32 := (constantI S_ 32 32#32)
  let main_v6 : IVec S32x1 32 := (broadcastInDim S32x1 ![] bcast_S_S32x1 : (⟨S_, .i32⟩ : BufTy).Contents (Elt F) → (⟨S32x1, .i32⟩ : BufTy).Contents (Elt F)) main_c_1
  let main_v7 : IVec S32x1 32 := (addi : (⟨S32x1, .i32⟩ : BufTy).Contents (Elt F) → (⟨S32x1, .i32⟩ : BufTy).Contents (Elt F) → (⟨S32x1, .i32⟩ : BufTy).Contents (Elt F)) main_v1 main_v6
  let main_v8 : IVec S32x1 32 := (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)) main_v5 main_v7 main_v1
  let main_c_2 : IVec S_ 32 := (constantI S_ 32 0#32)
  let main_v9 : IVec S1x8 32 := (broadcastInDim S1x8 ![] bcast_S_S1x8 : (⟨S_, .i32⟩ : BufTy).Contents (Elt F) → (⟨S1x8, .i32⟩ : BufTy).Contents (Elt F)) main_c_2
  let main_v10 : IVec S1x8 1 := (cmpi .slt : (⟨S1x8, .i32⟩ : BufTy).Contents (Elt F) → (⟨S1x8, .i32⟩ : BufTy).Contents (Elt F) → (⟨S1x8, .i1⟩ : BufTy).Contents (Elt F)) main_v3 main_v9
  let main_c_3 : IVec S_ 32 := (constantI S_ 32 8#32)
  let main_v11 : IVec S1x8 32 := (broadcastInDim S1x8 ![] bcast_S_S1x8 : (⟨S_, .i32⟩ : BufTy).Contents (Elt F) → (⟨S1x8, .i32⟩ : BufTy).Contents (Elt F)) main_c_3
  let main_v12 : IVec S1x8 32 := (addi : (⟨S1x8, .i32⟩ : BufTy).Contents (Elt F) → (⟨S1x8, .i32⟩ : BufTy).Contents (Elt F) → (⟨S1x8, .i32⟩ : BufTy).Contents (Elt F)) main_v3 main_v11
  let main_v13 : IVec S1x8 32 := (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F)) main_v10 main_v12 main_v3
  let main_c_4 : IVec S_ 32 := (constantI S_ 32 0#32)
  let main_v14 : IVec S32x8 32 := (broadcastInDim S32x8 ![] bcast_S_S32x8 : (⟨S_, .i32⟩ : BufTy).Contents (Elt F) → (⟨S32x8, .i32⟩ : BufTy).Contents (Elt F)) main_c_4
  let main_v15 : IVec S32x8 1 := (cmpi .slt : (⟨S32x8, .i32⟩ : BufTy).Contents (Elt F) → (⟨S32x8, .i32⟩ : BufTy).Contents (Elt F) → (⟨S32x8, .i1⟩ : BufTy).Contents (Elt F)) main_arg3 main_v14
  let main_c_5 : IVec S_ 32 := (constantI S_ 32 100000#32)
  let main_v16 : IVec S32x8 32 := (broadcastInDim S32x8 ![] bcast_S_S32x8 : (⟨S_, .i32⟩ : BufTy).Contents (Elt F) → (⟨S32x8, .i32⟩ : BufTy).Contents (Elt F)) main_c_5
  let main_v17 : IVec S32x8 32 := (addi : (⟨S32x8, .i32⟩ : BufTy).Contents (Elt F) → (⟨S32x8, .i32⟩ : BufTy).Contents (Elt F) → (⟨S32x8, .i32⟩ : BufTy).Contents (Elt F)) main_arg3 main_v16
  let main_v18 : IVec S32x8 32 := (select : (⟨S32x8, .i1⟩ : BufTy).Contents (Elt F) → (⟨S32x8, .i32⟩ : BufTy).Contents (Elt F) → (⟨S32x8, .i32⟩ : BufTy).Contents (Elt F) → (⟨S32x8, .i32⟩ : BufTy).Contents (Elt F)) main_v15 main_v17 main_arg3
  let main_v19 : IVec S32x8 32 := (broadcastInDim S32x8 ![0, 1] bcast_S32x1_S32x8_0_1 : (⟨S32x1, .i32⟩ : BufTy).Contents (Elt F) → (⟨S32x8, .i32⟩ : BufTy).Contents (Elt F)) main_v8
  let main_v20 : IVec S32x8 32 := (broadcastInDim S32x8 ![0, 1] bcast_S1x8_S32x8_0_1 : (⟨S1x8, .i32⟩ : BufTy).Contents (Elt F) → (⟨S32x8, .i32⟩ : BufTy).Contents (Elt F)) main_v13
  let main_v21 : IVec S32x8x1 32 := (broadcastInDim S32x8x1 ![0, 1] bcast_S32x8_S32x8x1_0_1 : (⟨S32x8, .i32⟩ : BufTy).Contents (Elt F) → (⟨S32x8x1, .i32⟩ : BufTy).Contents (Elt F)) main_v19
  let main_v22 : IVec S32x8x1 32 := (broadcastInDim S32x8x1 ![0, 1] bcast_S32x8_S32x8x1_0_1 : (⟨S32x8, .i32⟩ : BufTy).Contents (Elt F) → (⟨S32x8x1, .i32⟩ : BufTy).Contents (Elt F)) main_v20
  let main_v23 : IVec S32x8x1 32 := (broadcastInDim S32x8x1 ![0, 1] bcast_S32x8_S32x8x1_0_1 : (⟨S32x8, .i32⟩ : BufTy).Contents (Elt F) → (⟨S32x8x1, .i32⟩ : BufTy).Contents (Elt F)) main_v18
  let main_v24 : IVec S32x8x3 32 := (concatenate S32x8x3 2 [⟨S32x8x1, (main_v21 : (⟨S32x8x1, .i32⟩ : BufTy).Contents (Elt F))⟩, ⟨S32x8x1, (main_v22 : (⟨S32x8x1, .i32⟩ : BufTy).Contents (Elt F))⟩, ⟨S32x8x1, (main_v23 : (⟨S32x8x1, .i32⟩ : BufTy).Contents (Elt F))⟩] concatenates_S32x8x1_S32x8x1_S32x8x1_S32x8x3_d2 : (⟨S32x8x3, .i32⟩ : BufTy).Contents (Elt F))
  let main_v25 : FVec F S32x8 .f32 := ((fun x i => Host.gather gather_S32x8x100000_S32x8x3_S32x8_n_012_n_n_012_2_111 x i) : (⟨S32x8x100000, .f32⟩ : BufTy).Contents (Elt F) → (⟨S32x8x3, .i32⟩ : BufTy).Contents (Elt F) → (⟨S32x8, .f32⟩ : BufTy).Contents (Elt F)) main_arg2 main_v24
  let main_c_6 : IVec S_ 32 := (constantI S_ 32 0#32)
  let main_v26 : IVec S32x1 32 := (broadcastInDim S32x1 ![] bcast_S_S32x1 : (⟨S_, .i32⟩ : BufTy).Contents (Elt F) → (⟨S32x1, .i32⟩ : BufTy).Contents (Elt F)) main_c_6
  let main_v27 : IVec S32x1 1 := (cmpi .slt : (⟨S32x1, .i32⟩ : BufTy).Contents (Elt F) → (⟨S32x1, .i32⟩ : BufTy).Contents (Elt F) → (⟨S32x1, .i1⟩ : BufTy).Contents (Elt F)) main_v1 main_v26
  let main_c_7 : IVec S_ 32 := (constantI S_ 32 32#32)
  let main_v28 : IVec S32x1 32 := (broadcastInDim S32x1 ![] bcast_S_S32x1 : (⟨S_, .i32⟩ : BufTy).Contents (Elt F) → (⟨S32x1, .i32⟩ : BufTy).Contents (Elt F)) main_c_7
  let main_v29 : IVec S32x1 32 := (addi : (⟨S32x1, .i32⟩ : BufTy).Contents (Elt F) → (⟨S32x1, .i32⟩ : BufTy).Contents (Elt F) → (⟨S32x1, .i32⟩ : BufTy).Contents (Elt F)) main_v1 main_v28
  let main_v30 : IVec S32x1 32 := (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)) main_v27 main_v29 main_v1
  let main_c_8 : IVec S_ 32 := (constantI S_ 32 0#32)
  let main_v31 : IVec S1x8 32 := (broadcastInDim S1x8 ![] bcast_S_S1x8 : (⟨S_, .i32⟩ : BufTy).Contents (Elt F) → (⟨S1x8, .i32⟩ : BufTy).Contents (Elt F)) main_c_8
  let main_v32 : IVec S1x8 1 := (cmpi .slt : (⟨S1x8, .i32⟩ : BufTy).Contents (Elt F) → (⟨S1x8, .i32⟩ : BufTy).Contents (Elt F) → (⟨S1x8, .i1⟩ : BufTy).Contents (Elt F)) main_v3 main_v31
  let main_c_9 : IVec S_ 32 := (constantI S_ 32 8#32)
  let main_v33 : IVec S1x8 32 := (broadcastInDim S1x8 ![] bcast_S_S1x8 : (⟨S_, .i32⟩ : BufTy).Contents (Elt F) → (⟨S1x8, .i32⟩ : BufTy).Contents (Elt F)) main_c_9
  let main_v34 : IVec S1x8 32 := (addi : (⟨S1x8, .i32⟩ : BufTy).Contents (Elt F) → (⟨S1x8, .i32⟩ : BufTy).Contents (Elt F) → (⟨S1x8, .i32⟩ : BufTy).Contents (Elt F)) main_v3 main_v33
  let main_v35 : IVec S1x8 32 := (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F)) main_v32 main_v34 main_v3
  let main_c_10 : IVec S_ 32 := (constantI S_ 32 0#32)
  let main_v36 : IVec S32x8 32 := (broadcastInDim S32x8 ![] bcast_S_S32x8 : (⟨S_, .i32⟩ : BufTy).Contents (Elt F) → (⟨S32x8, .i32⟩ : BufTy).Contents (Elt F)) main_c_10
  let main_v37 : IVec S32x8 1 := (cmpi .slt : (⟨S32x8, .i32⟩ : BufTy).Contents (Elt F) → (⟨S32x8, .i32⟩ : BufTy).Contents (Elt F) → (⟨S32x8, .i1⟩ : BufTy).Contents (Elt F)) main_arg3 main_v36
  let main_c_11 : IVec S_ 32 := (constantI S_ 32 100000#32)
  let main_v38 : IVec S32x8 32 := (broadcastInDim S32x8 ![] bcast_S_S32x8 : (⟨S_, .i32⟩ : BufTy).Contents (Elt F) → (⟨S32x8, .i32⟩ : BufTy).Contents (Elt F)) main_c_11
  let main_v39 : IVec S32x8 32 := (addi : (⟨S32x8, .i32⟩ : BufTy).Contents (Elt F) → (⟨S32x8, .i32⟩ : BufTy).Contents (Elt F) → (⟨S32x8, .i32⟩ : BufTy).Contents (Elt F)) main_arg3 main_v38
  let main_v40 : IVec S32x8 32 := (select : (⟨S32x8, .i1⟩ : BufTy).Contents (Elt F) → (⟨S32x8, .i32⟩ : BufTy).Contents (Elt F) → (⟨S32x8, .i32⟩ : BufTy).Contents (Elt F) → (⟨S32x8, .i32⟩ : BufTy).Contents (Elt F)) main_v37 main_v39 main_arg3
  let main_v41 : IVec S32x8 32 := (broadcastInDim S32x8 ![0, 1] bcast_S32x1_S32x8_0_1 : (⟨S32x1, .i32⟩ : BufTy).Contents (Elt F) → (⟨S32x8, .i32⟩ : BufTy).Contents (Elt F)) main_v30
  let main_v42 : IVec S32x8 32 := (broadcastInDim S32x8 ![0, 1] bcast_S1x8_S32x8_0_1 : (⟨S1x8, .i32⟩ : BufTy).Contents (Elt F) → (⟨S32x8, .i32⟩ : BufTy).Contents (Elt F)) main_v35
  let main_v43 : IVec S32x8x1 32 := (broadcastInDim S32x8x1 ![0, 1] bcast_S32x8_S32x8x1_0_1 : (⟨S32x8, .i32⟩ : BufTy).Contents (Elt F) → (⟨S32x8x1, .i32⟩ : BufTy).Contents (Elt F)) main_v41
  let main_v44 : IVec S32x8x1 32 := (broadcastInDim S32x8x1 ![0, 1] bcast_S32x8_S32x8x1_0_1 : (⟨S32x8, .i32⟩ : BufTy).Contents (Elt F) → (⟨S32x8x1, .i32⟩ : BufTy).Contents (Elt F)) main_v42
  let main_v45 : IVec S32x8x1 32 := (broadcastInDim S32x8x1 ![0, 1] bcast_S32x8_S32x8x1_0_1 : (⟨S32x8, .i32⟩ : BufTy).Contents (Elt F) → (⟨S32x8x1, .i32⟩ : BufTy).Contents (Elt F)) main_v40
  let main_v46 : IVec S32x8x3 32 := (concatenate S32x8x3 2 [⟨S32x8x1, (main_v43 : (⟨S32x8x1, .i32⟩ : BufTy).Contents (Elt F))⟩, ⟨S32x8x1, (main_v44 : (⟨S32x8x1, .i32⟩ : BufTy).Contents (Elt F))⟩, ⟨S32x8x1, (main_v45 : (⟨S32x8x1, .i32⟩ : BufTy).Contents (Elt F))⟩] concatenates_S32x8x1_S32x8x1_S32x8x1_S32x8x3_d2 : (⟨S32x8x3, .i32⟩ : BufTy).Contents (Elt F))
  let main_v47 : FVec F S32x8 .f32 := ((fun x i => Host.gather gather_S32x8x100000_S32x8x3_S32x8_n_012_n_n_012_2_111 x i) : (⟨S32x8x100000, .f32⟩ : BufTy).Contents (Elt F) → (⟨S32x8x3, .i32⟩ : BufTy).Contents (Elt F) → (⟨S32x8, .f32⟩ : BufTy).Contents (Elt F)) main_arg0 main_v46
  let main_v48 : FVec F S32x8 .f32 := (Host.divf : (⟨S32x8, .f32⟩ : BufTy).Contents (Elt F) → (⟨S32x8, .f32⟩ : BufTy).Contents (Elt F) → (⟨S32x8, .f32⟩ : BufTy).Contents (Elt F)) main_v47 main_v25
  let main_cst_12 : FVec F S_ .f32 := (constant S_ .f32 0x3F800000#32)
  let main_v49 : FVec F S32x8 .f32 := (broadcastInDim S32x8 ![] bcast_S_S32x8 : (⟨S_, .f32⟩ : BufTy).Contents (Elt F) → (⟨S32x8, .f32⟩ : BufTy).Contents (Elt F)) main_cst_12
  let main_v50 : FVec F S32x8 .f32 := (minimumf : (⟨S32x8, .f32⟩ : BufTy).Contents (Elt F) → (⟨S32x8, .f32⟩ : BufTy).Contents (Elt F) → (⟨S32x8, .f32⟩ : BufTy).Contents (Elt F)) main_v48 main_v49
  let main_v51 : IVec S32x8 1 := (cmpf .olt : (⟨S32x8, .f32⟩ : BufTy).Contents (Elt F) → (⟨S32x8, .f32⟩ : BufTy).Contents (Elt F) → (⟨S32x8, .i1⟩ : BufTy).Contents (Elt F)) main_cst main_v50
  main_v51

/-- That value as a function of the arguments. -/
def v_v51 (arg0 arg2 : FVec F S32x8x100000 .f32) (arg3 : IVec S32x8 32) : IVec S32x8 1 :=
  g_v51 arg3 arg2 arg0

/-- Segment 0, its value `v59`. -/
def g_v59 (main_arg2 : FVec F S32x8x100000 .f32) (main_arg0 : FVec F S32x8x100000 .f32) : FVec F S256x100000 .f32 :=
  let main_v52 : FVec F S32x8x100000 .f32 := (subf : (⟨S32x8x100000, .f32⟩ : BufTy).Contents (Elt F) → (⟨S32x8x100000, .f32⟩ : BufTy).Contents (Elt F) → (⟨S32x8x100000, .f32⟩ : BufTy).Contents (Elt F)) main_arg0 main_arg2
  let main_cst_13 : FVec F S_ .f32 := (constant S_ .f32 0x00800000#32)
  let main_v53 : FVec F S32x8x100000 .f32 := (broadcastInDim S32x8x100000 ![] bcast_S_S32x8x100000 : (⟨S_, .f32⟩ : BufTy).Contents (Elt F) → (⟨S32x8x100000, .f32⟩ : BufTy).Contents (Elt F)) main_cst_13
  let main_v54 : FVec F S32x8x100000 .f32 := (maximumf : (⟨S32x8x100000, .f32⟩ : BufTy).Contents (Elt F) → (⟨S32x8x100000, .f32⟩ : BufTy).Contents (Elt F) → (⟨S32x8x100000, .f32⟩ : BufTy).Contents (Elt F)) main_v52 main_v53
  let main_cst_14 : FVec F S_ .f32 := (constant S_ .f32 0x00000000#32)
  let main_v55 : FVec F S32x8 .f32 := ((fun x v => Host.reduceAdd x v reducesTo_S32x8x100000_S32x8_d2 h_S_) : (⟨S32x8x100000, .f32⟩ : BufTy).Contents (Elt F) → (⟨S_, .f32⟩ : BufTy).Contents (Elt F) → (⟨S32x8, .f32⟩ : BufTy).Contents (Elt F)) main_v54 main_cst_14
  let main_v56 : FVec F S32x8x1 .f32 := (broadcastInDim S32x8x1 ![0, 1] bcast_S32x8_S32x8x1_0_1 : (⟨S32x8, .f32⟩ : BufTy).Contents (Elt F) → (⟨S32x8x1, .f32⟩ : BufTy).Contents (Elt F)) main_v55
  let main_v57 : FVec F S32x8x100000 .f32 := (broadcastInDim S32x8x100000 ![0, 1, 2] bcast_S32x8x1_S32x8x100000_0_1_2 : (⟨S32x8x1, .f32⟩ : BufTy).Contents (Elt F) → (⟨S32x8x100000, .f32⟩ : BufTy).Contents (Elt F)) main_v56
  let main_v58 : FVec F S32x8x100000 .f32 := (Host.divf : (⟨S32x8x100000, .f32⟩ : BufTy).Contents (Elt F) → (⟨S32x8x100000, .f32⟩ : BufTy).Contents (Elt F) → (⟨S32x8x100000, .f32⟩ : BufTy).Contents (Elt F)) main_v54 main_v57
  let main_v59 : FVec F S256x100000 .f32 := shapeCast S256x100000 main_v58 shapeCasts_S32x8x100000_S256x100000
  main_v59

/-- That value as a function of the arguments. -/
def v_v59 (arg0 arg2 : FVec F S32x8x100000 .f32) (arg3 : IVec S32x8 32) : FVec F S256x100000 .f32 :=
  g_v59 arg2 arg0

/-- The exponential variates. -/
def v_v60 (arg0 arg2 : FVec F S32x8x100000 .f32) (arg3 : IVec S32x8 32) : FVec F S256x100000 .f32 := Draw.q (v_c arg0 arg2 arg3)

/-- Segment 2, its value `v61`. -/
def g_v61 (main_v59 : FVec F S256x100000 .f32) (main_v60 : FVec F S256x100000 .f32) : FVec F S256x100000 .f32 :=
  let main_v61 : FVec F S256x100000 .f32 := (Host.divf) main_v59 main_v60
  main_v61

/-- That value as a function of the arguments. -/
def v_v61 (arg0 arg2 : FVec F S32x8x100000 .f32) (arg3 : IVec S32x8 32) : FVec F S256x100000 .f32 :=
  g_v61 (v_v59 arg0 arg2 arg3) (v_v60 arg0 arg2 arg3)

/-- Segment 3, its value `v62`. -/
def g_v62 (main_v61 : FVec F S256x100000 .f32) : IVec S256 32 :=
  let main_call1_v0 : IVec S256x100000 32 := (iotaInDim S256x100000 32 1)
  let main_call1_cst : FVec F S_ .f32 := (constant S_ .f32 0xFF800000#32)
  let main_call1_c : IVec S_ 32 := (constantI S_ 32 0#32)
  let main_v62 : IVec S256 32 := (fun x y u v j => (Host.argReduce reducer_argmax_f32_i32 x y u v reducesTo_S256x100000_S256_d1 h_S_ j).2) main_v61 main_call1_v0 main_call1_cst main_call1_c
  main_v62

/-- That value as a function of the arguments. -/
def v_v62 (arg0 arg2 : FVec F S32x8x100000 .f32) (arg3 : IVec S32x8 32) : IVec S256 32 :=
  g_v62 (v_v61 arg0 arg2 arg3)

/-- Segment 4, its value `v63`. -/
def g_v63 (main_v62 : IVec S256 32) : IVec S32x8 32 :=
  let main_v63 : IVec S32x8 32 := shapeCast S32x8 main_v62 shapeCasts_S256_S32x8
  main_v63

/-- That value as a function of the arguments. -/
def v_v63 (arg0 arg2 : FVec F S32x8x100000 .f32) (arg3 : IVec S32x8 32) : IVec S32x8 32 :=
  g_v63 (v_v62 arg0 arg2 arg3)

/-- Segment 4, its value `v64`. -/
def g_v64 (main_v51 : IVec S32x8 1) : IVec S32x8 1 :=
  let main_v64 : IVec S32x8 1 := (noti) main_v51
  main_v64

/-- That value as a function of the arguments. -/
def v_v64 (arg0 arg2 : FVec F S32x8x100000 .f32) (arg3 : IVec S32x8 32) : IVec S32x8 1 :=
  g_v64 (v_v51 arg0 arg2 arg3)

/-- Segment 4, its value `v65`. -/
def g_v65 (main_v51 : IVec S32x8 1) : IVec S32 1 :=
  let main_v64 : IVec S32x8 1 := (noti) main_v51
  let main_c_15 : IVec S_ 1 := (constantI S_ 1 0#1)
  let main_v65 : IVec S32 1 := ((fun x v => Host.reduce IntOp.ori x v reducesTo_S32x8_S32_d1 h_S_)) main_v64 main_c_15
  main_v65

/-- That value as a function of the arguments. -/
def v_v65 (arg0 arg2 : FVec F S32x8x100000 .f32) (arg3 : IVec S32x8 32) : IVec S32 1 :=
  g_v65 (v_v51 arg0 arg2 arg3)

/-- Segment 5, its value `v66`. -/
def g_v66 (main_v64 : IVec S32x8 1) : IVec S32 32 :=
  let main_call2_v0 : IVec S32x8 32 := (iotaInDim S32x8 32 1)
  let main_call2_c : IVec S_ 1 := (constantI S_ 1 0#1)
  let main_call2_c_0 : IVec S_ 32 := (constantI S_ 32 0#32)
  let main_v66 : IVec S32 32 := (fun x y u v j => (Host.reduce2 reducer_argmax_i1_i32 x y u v reducesTo_S32x8_S32_d1 h_S_ j).2) main_v64 main_call2_v0 main_call2_c main_call2_c_0
  main_v66

/-- That value as a function of the arguments. -/
def v_v66 (arg0 arg2 : FVec F S32x8x100000 .f32) (arg3 : IVec S32x8 32) : IVec S32 32 :=
  g_v66 (v_v64 arg0 arg2 arg3)

/-- Segment 6, its value `c_16`. -/
def g_c_16  : IVec S_ 32 :=
  let main_c_16 : IVec S_ 32 := (constantI S_ 32 8#32)
  main_c_16

/-- That value as a function of the arguments. -/
def v_c_16 (arg0 arg2 : FVec F S32x8x100000 .f32) (arg3 : IVec S32x8 32) : IVec S_ 32 :=
  g_c_16

/-- Segment 7, its value `v67`. -/
def g_v67 (main_c_16 : IVec S_ 32) (main_v65 : IVec S32 1) (main_v66 : IVec S32 32) : IVec S32 32 :=
  let main_call3_v0 : IVec S_ 32 := id main_c_16
  let main_call3_v1 : IVec S32 32 := (broadcastInDim S32 ![] bcast_S_S32) main_call3_v0
  let main_v67 : IVec S32 32 := select main_v65 main_v66 main_call3_v1
  main_v67

/-- That value as a function of the arguments. -/
def v_v67 (arg0 arg2 : FVec F S32x8x100000 .f32) (arg3 : IVec S32x8 32) : IVec S32 32 :=
  g_v67 (v_c_16 arg0 arg2 arg3) (v_v65 arg0 arg2 arg3) (v_v66 arg0 arg2 arg3)

/-- Segment 8, its value `v73`. -/
def g_v73 (main_v67 : IVec S32 32) : IVec S32x8 1 :=
  let main_v68 : IVec S8 32 := (iotaInDim S8 32 0)
  let main_v69 : IVec S1x8 32 := (broadcastInDim S1x8 ![1] bcast_S8_S1x8_1) main_v68
  let main_v70 : IVec S32x1 32 := (broadcastInDim S32x1 ![0] bcast_S32_S32x1_0) main_v67
  let main_v71 : IVec S32x8 32 := (broadcastInDim S32x8 ![0, 1] bcast_S1x8_S32x8_0_1) main_v69
  let main_v72 : IVec S32x8 32 := (broadcastInDim S32x8 ![0, 1] bcast_S32x1_S32x8_0_1) main_v70
  let main_v73 : IVec S32x8 1 := (cmpi .slt) main_v71 main_v72
  main_v73

/-- That value as a function of the arguments. -/
def v_v73 (arg0 arg2 : FVec F S32x8x100000 .f32) (arg3 : IVec S32x8 32) : IVec S32x8 1 :=
  g_v73 (v_v67 arg0 arg2 arg3)

/-- Segment 8, its value `v77`. -/
def g_v77 (main_v67 : IVec S32 32) : IVec S32x8 1 :=
  let main_v68 : IVec S8 32 := (iotaInDim S8 32 0)
  let main_v69 : IVec S1x8 32 := (broadcastInDim S1x8 ![1] bcast_S8_S1x8_1) main_v68
  let main_v74 : IVec S32x1 32 := (broadcastInDim S32x1 ![0] bcast_S32_S32x1_0) main_v67
  let main_v75 : IVec S32x8 32 := (broadcastInDim S32x8 ![0, 1] bcast_S1x8_S32x8_0_1) main_v69
  let main_v76 : IVec S32x8 32 := (broadcastInDim S32x8 ![0, 1] bcast_S32x1_S32x8_0_1) main_v74
  let main_v77 : IVec S32x8 1 := (cmpi .eq) main_v75 main_v76
  main_v77

/-- That value as a function of the arguments. -/
def v_v77 (arg0 arg2 : FVec F S32x8x100000 .f32) (arg3 : IVec S32x8 32) : IVec S32x8 1 :=
  g_v77 (v_v67 arg0 arg2 arg3)

/-- Segment 8, its value `c_17`. -/
def g_c_17  : IVec S_ 32 :=
  let main_c_17 : IVec S_ 32 := (constantI S_ 32 4294967295#32)
  main_c_17

/-- That value as a function of the arguments. -/
def v_c_17 (arg0 arg2 : FVec F S32x8x100000 .f32) (arg3 : IVec S32x8 32) : IVec S_ 32 :=
  g_c_17

/-- Segment 9, its value `v78`. -/
def g_v78 (main_c_17 : IVec S_ 32) (main_v73 : IVec S32x8 1) (main_arg3 : IVec S32x8 32) : IVec S32x8 32 :=
  let main_call4_v0 : IVec S32x8 32 := (broadcastInDim S32x8 ![] bcast_S_S32x8) main_c_17
  let main_v78 : IVec S32x8 32 := select main_v73 main_arg3 main_call4_v0
  main_v78

/-- That value as a function of the arguments. -/
def v_v78 (arg0 arg2 : FVec F S32x8x100000 .f32) (arg3 : IVec S32x8 32) : IVec S32x8 32 :=
  g_v78 (v_c_17 arg0 arg2 arg3) (v_v73 arg0 arg2 arg3) arg3

/-- Segment 12, its value `v93`. -/
def g_v93 (main_v77 : IVec S32x8 1) (main_v78 : IVec S32x8 32) (main_v63 : IVec S32x8 32) : IVec S32x9 32 :=
  let main_c_20 : IVec S_ 32 := (constantI S_ 32 4294967295#32)
  let main_v85 : IVec S32 32 := (broadcastInDim S32 ![] bcast_S_S32) main_c_20
  let main_v86 : IVec S32x8 1 := (noti) main_v77
  let main_v87 : IVec S32x8 32 := ((extui 32 · natLt_1_32)) main_v86
  let main_v88 : IVec S32x8 32 := (muli) main_v78 main_v87
  let main_v89 : IVec S32x8 32 := ((extui 32 · natLt_1_32)) main_v77
  let main_v90 : IVec S32x8 32 := (muli) main_v63 main_v89
  let main_v91 : IVec S32x8 32 := (addi) main_v88 main_v90
  let main_v92 : IVec S32x1 32 := (broadcastInDim S32x1 ![0] bcast_S32_S32x1_0) main_v85
  let main_v93 : IVec S32x9 32 := ((fun a b => concatenate S32x9 1 [⟨S32x8, a⟩, ⟨S32x1, b⟩] concatenates_S32x8_S32x1_S32x9_d1)) main_v91 main_v92
  main_v93

/-- That value as a function of the arguments. -/
def v_v93 (arg0 arg2 : FVec F S32x8x100000 .f32) (arg3 : IVec S32x8 32) : IVec S32x9 32 :=
  g_v93 (v_v77 arg0 arg2 arg3) (v_v78 arg0 arg2 arg3) (v_v63 arg0 arg2 arg3)

theorem o0_arg3 (V : Valuation τ sig (Elt F)) : StableHlo.after ops0 V (Proc.devRef .tc main_arg3) = V (Proc.devRef .tc main_arg3) := by
  after_reads_simp
theorem o0_c (V : Valuation τ sig (Elt F)) : StableHlo.after ops0 V (Proc.devRef .tc main_c) = g_c  := by
  after_reads_simp; rfl
theorem o0_v59 (V : Valuation τ sig (Elt F)) : StableHlo.after ops0 V (Proc.devRef .tc main_v59) = g_v59 (V (Proc.devRef .tc main_arg2)) (V (Proc.devRef .tc main_arg0)) := by
  after_reads_simp; rfl
theorem o0_v51 (V : Valuation τ sig (Elt F)) : StableHlo.after ops0 V (Proc.devRef .tc main_v51) = g_v51 (V (Proc.devRef .tc main_arg3)) (V (Proc.devRef .tc main_arg2)) (V (Proc.devRef .tc main_arg0)) := by
  after_reads_simp; rfl
theorem o1_arg3 (V : Valuation τ sig (Elt F)) : StableHlo.after ops1 V (Proc.devRef .tc main_arg3) = V (Proc.devRef .tc main_arg3) := by
  after_reads_simp
theorem o1_v59 (V : Valuation τ sig (Elt F)) : StableHlo.after ops1 V (Proc.devRef .tc main_v59) = V (Proc.devRef .tc main_v59) := by
  after_reads_simp
theorem o1_v60 (V : Valuation τ sig (Elt F)) : StableHlo.after ops1 V (Proc.devRef .tc main_v60) = Draw.q (V (Proc.devRef .tc main_c)) := draw_eq V
theorem o1_v51 (V : Valuation τ sig (Elt F)) : StableHlo.after ops1 V (Proc.devRef .tc main_v51) = V (Proc.devRef .tc main_v51) := by
  after_reads_simp
theorem o2_arg3 (V : Valuation τ sig (Elt F)) : StableHlo.after ops2 V (Proc.devRef .tc main_arg3) = V (Proc.devRef .tc main_arg3) := by
  after_reads_simp
theorem o2_v61 (V : Valuation τ sig (Elt F)) : StableHlo.after ops2 V (Proc.devRef .tc main_v61) = g_v61 (V (Proc.devRef .tc main_v59)) (V (Proc.devRef .tc main_v60)) := by
  after_reads_simp; rfl
theorem o2_v51 (V : Valuation τ sig (Elt F)) : StableHlo.after ops2 V (Proc.devRef .tc main_v51) = V (Proc.devRef .tc main_v51) := by
  after_reads_simp
theorem o3_arg3 (V : Valuation τ sig (Elt F)) : StableHlo.after ops3 V (Proc.devRef .tc main_arg3) = V (Proc.devRef .tc main_arg3) := by
  after_reads_simp
theorem o3_v62 (V : Valuation τ sig (Elt F)) : StableHlo.after ops3 V (Proc.devRef .tc main_v62) = g_v62 (V (Proc.devRef .tc main_v61)) := by
  after_reads_simp; rfl
theorem o3_v51 (V : Valuation τ sig (Elt F)) : StableHlo.after ops3 V (Proc.devRef .tc main_v51) = V (Proc.devRef .tc main_v51) := by
  after_reads_simp
theorem o4_arg3 (V : Valuation τ sig (Elt F)) : StableHlo.after ops4 V (Proc.devRef .tc main_arg3) = V (Proc.devRef .tc main_arg3) := by
  after_reads_simp
theorem o4_v64 (V : Valuation τ sig (Elt F)) : StableHlo.after ops4 V (Proc.devRef .tc main_v64) = g_v64 (V (Proc.devRef .tc main_v51)) := by
  after_reads_simp; rfl
theorem o4_v65 (V : Valuation τ sig (Elt F)) : StableHlo.after ops4 V (Proc.devRef .tc main_v65) = g_v65 (V (Proc.devRef .tc main_v51)) := by
  after_reads_simp; rfl
theorem o4_v63 (V : Valuation τ sig (Elt F)) : StableHlo.after ops4 V (Proc.devRef .tc main_v63) = g_v63 (V (Proc.devRef .tc main_v62)) := by
  after_reads_simp; rfl
theorem o5_arg3 (V : Valuation τ sig (Elt F)) : StableHlo.after ops5 V (Proc.devRef .tc main_arg3) = V (Proc.devRef .tc main_arg3) := by
  after_reads_simp
theorem o5_v65 (V : Valuation τ sig (Elt F)) : StableHlo.after ops5 V (Proc.devRef .tc main_v65) = V (Proc.devRef .tc main_v65) := by
  after_reads_simp
theorem o5_v66 (V : Valuation τ sig (Elt F)) : StableHlo.after ops5 V (Proc.devRef .tc main_v66) = g_v66 (V (Proc.devRef .tc main_v64)) := by
  after_reads_simp; rfl
theorem o5_v63 (V : Valuation τ sig (Elt F)) : StableHlo.after ops5 V (Proc.devRef .tc main_v63) = V (Proc.devRef .tc main_v63) := by
  after_reads_simp
theorem o6_arg3 (V : Valuation τ sig (Elt F)) : StableHlo.after ops6 V (Proc.devRef .tc main_arg3) = V (Proc.devRef .tc main_arg3) := by
  after_reads_simp
theorem o6_c_16 (V : Valuation τ sig (Elt F)) : StableHlo.after ops6 V (Proc.devRef .tc main_c_16) = g_c_16  := by
  after_reads_simp; rfl
theorem o6_v65 (V : Valuation τ sig (Elt F)) : StableHlo.after ops6 V (Proc.devRef .tc main_v65) = V (Proc.devRef .tc main_v65) := by
  after_reads_simp
theorem o6_v66 (V : Valuation τ sig (Elt F)) : StableHlo.after ops6 V (Proc.devRef .tc main_v66) = V (Proc.devRef .tc main_v66) := by
  after_reads_simp
theorem o6_v63 (V : Valuation τ sig (Elt F)) : StableHlo.after ops6 V (Proc.devRef .tc main_v63) = V (Proc.devRef .tc main_v63) := by
  after_reads_simp
theorem o7_arg3 (V : Valuation τ sig (Elt F)) : StableHlo.after ops7 V (Proc.devRef .tc main_arg3) = V (Proc.devRef .tc main_arg3) := by
  after_reads_simp
theorem o7_v67 (V : Valuation τ sig (Elt F)) : StableHlo.after ops7 V (Proc.devRef .tc main_v67) = g_v67 (V (Proc.devRef .tc main_c_16)) (V (Proc.devRef .tc main_v65)) (V (Proc.devRef .tc main_v66)) := by
  after_reads_simp; rfl
theorem o7_v63 (V : Valuation τ sig (Elt F)) : StableHlo.after ops7 V (Proc.devRef .tc main_v63) = V (Proc.devRef .tc main_v63) := by
  after_reads_simp
theorem o8_arg3 (V : Valuation τ sig (Elt F)) : StableHlo.after ops8 V (Proc.devRef .tc main_arg3) = V (Proc.devRef .tc main_arg3) := by
  after_reads_simp
theorem o8_c_17 (V : Valuation τ sig (Elt F)) : StableHlo.after ops8 V (Proc.devRef .tc main_c_17) = g_c_17  := by
  after_reads_simp; rfl
theorem o8_v73 (V : Valuation τ sig (Elt F)) : StableHlo.after ops8 V (Proc.devRef .tc main_v73) = g_v73 (V (Proc.devRef .tc main_v67)) := by
  after_reads_simp; rfl
theorem o8_v77 (V : Valuation τ sig (Elt F)) : StableHlo.after ops8 V (Proc.devRef .tc main_v77) = g_v77 (V (Proc.devRef .tc main_v67)) := by
  after_reads_simp; rfl
theorem o8_v63 (V : Valuation τ sig (Elt F)) : StableHlo.after ops8 V (Proc.devRef .tc main_v63) = V (Proc.devRef .tc main_v63) := by
  after_reads_simp
theorem o9_v77 (V : Valuation τ sig (Elt F)) : StableHlo.after ops9 V (Proc.devRef .tc main_v77) = V (Proc.devRef .tc main_v77) := by
  after_reads_simp
theorem o9_v78 (V : Valuation τ sig (Elt F)) : StableHlo.after ops9 V (Proc.devRef .tc main_v78) = g_v78 (V (Proc.devRef .tc main_c_17)) (V (Proc.devRef .tc main_v73)) (V (Proc.devRef .tc main_arg3)) := by
  after_reads_simp; rfl
theorem o9_v63 (V : Valuation τ sig (Elt F)) : StableHlo.after ops9 V (Proc.devRef .tc main_v63) = V (Proc.devRef .tc main_v63) := by
  after_reads_simp
theorem o10_v77 (V : Valuation τ sig (Elt F)) : StableHlo.after ops10 V (Proc.devRef .tc main_v77) = V (Proc.devRef .tc main_v77) := by
  after_reads_simp
theorem o10_v78 (V : Valuation τ sig (Elt F)) : StableHlo.after ops10 V (Proc.devRef .tc main_v78) = V (Proc.devRef .tc main_v78) := by
  after_reads_simp
theorem o10_v63 (V : Valuation τ sig (Elt F)) : StableHlo.after ops10 V (Proc.devRef .tc main_v63) = V (Proc.devRef .tc main_v63) := by
  after_reads_simp
theorem o11_v77 (V : Valuation τ sig (Elt F)) : StableHlo.after ops11 V (Proc.devRef .tc main_v77) = V (Proc.devRef .tc main_v77) := by
  after_reads_simp
theorem o11_v78 (V : Valuation τ sig (Elt F)) : StableHlo.after ops11 V (Proc.devRef .tc main_v78) = V (Proc.devRef .tc main_v78) := by
  after_reads_simp
theorem o11_v63 (V : Valuation τ sig (Elt F)) : StableHlo.after ops11 V (Proc.devRef .tc main_v63) = V (Proc.devRef .tc main_v63) := by
  after_reads_simp
theorem o12_v93 (V : Valuation τ sig (Elt F)) : StableHlo.after ops12 V (Proc.devRef .tc main_v93) = g_v93 (V (Proc.devRef .tc main_v77)) (V (Proc.devRef .tc main_v78)) (V (Proc.devRef .tc main_v63)) := by
  after_reads_simp; rfl

/-! ## The contents after the first segments -/

/-- The contents after segment 0. -/
def w0 (V : Valuation τ sig (Elt F)) : Valuation τ sig (Elt F) := StableHlo.after ops0 V
/-- The contents after segment 1. -/
def w1 (V : Valuation τ sig (Elt F)) : Valuation τ sig (Elt F) := StableHlo.after ops1 (w0 V)
/-- The contents after segment 2. -/
def w2 (V : Valuation τ sig (Elt F)) : Valuation τ sig (Elt F) := StableHlo.after ops2 (w1 V)
/-- The contents after segment 3. -/
def w3 (V : Valuation τ sig (Elt F)) : Valuation τ sig (Elt F) := StableHlo.after ops3 (w2 V)
/-- The contents after segment 4. -/
def w4 (V : Valuation τ sig (Elt F)) : Valuation τ sig (Elt F) := StableHlo.after ops4 (w3 V)
/-- The contents after segment 5. -/
def w5 (V : Valuation τ sig (Elt F)) : Valuation τ sig (Elt F) := StableHlo.after ops5 (w4 V)
/-- The contents after segment 6. -/
def w6 (V : Valuation τ sig (Elt F)) : Valuation τ sig (Elt F) := StableHlo.after ops6 (w5 V)
/-- The contents after segment 7. -/
def w7 (V : Valuation τ sig (Elt F)) : Valuation τ sig (Elt F) := StableHlo.after ops7 (w6 V)
/-- The contents after segment 8. -/
def w8 (V : Valuation τ sig (Elt F)) : Valuation τ sig (Elt F) := StableHlo.after ops8 (w7 V)
/-- The contents after segment 9. -/
def w9 (V : Valuation τ sig (Elt F)) : Valuation τ sig (Elt F) := StableHlo.after ops9 (w8 V)
/-- The contents after segment 10. -/
def w10 (V : Valuation τ sig (Elt F)) : Valuation τ sig (Elt F) := StableHlo.after ops10 (w9 V)
/-- The contents after segment 11. -/
def w11 (V : Valuation τ sig (Elt F)) : Valuation τ sig (Elt F) := StableHlo.after ops11 (w10 V)
/-- The contents after segment 12. -/
def w12 (V : Valuation τ sig (Elt F)) : Valuation τ sig (Elt F) := StableHlo.after ops12 (w11 V)
theorem w0_arg3 (V : Valuation τ sig (Elt F)) : w0 V (Proc.devRef .tc main_arg3) = V (Proc.devRef .tc main_arg3) := by
  rw [w0, o0_arg3]
theorem w0_c (V : Valuation τ sig (Elt F)) : w0 V (Proc.devRef .tc main_c) = v_c (V (Proc.devRef .tc main_arg0)) (V (Proc.devRef .tc main_arg2)) (V (Proc.devRef .tc main_arg3)) := by
  rw [w0, o0_c]; rfl
theorem w0_v59 (V : Valuation τ sig (Elt F)) : w0 V (Proc.devRef .tc main_v59) = v_v59 (V (Proc.devRef .tc main_arg0)) (V (Proc.devRef .tc main_arg2)) (V (Proc.devRef .tc main_arg3)) := by
  rw [w0, o0_v59]; rfl
theorem w0_v51 (V : Valuation τ sig (Elt F)) : w0 V (Proc.devRef .tc main_v51) = v_v51 (V (Proc.devRef .tc main_arg0)) (V (Proc.devRef .tc main_arg2)) (V (Proc.devRef .tc main_arg3)) := by
  rw [w0, o0_v51]; rfl
theorem w1_arg3 (V : Valuation τ sig (Elt F)) : w1 V (Proc.devRef .tc main_arg3) = V (Proc.devRef .tc main_arg3) := by
  rw [w1, o1_arg3, w0_arg3]
theorem w1_v59 (V : Valuation τ sig (Elt F)) : w1 V (Proc.devRef .tc main_v59) = v_v59 (V (Proc.devRef .tc main_arg0)) (V (Proc.devRef .tc main_arg2)) (V (Proc.devRef .tc main_arg3)) := by
  rw [w1, o1_v59, w0_v59]
theorem w1_v60 (V : Valuation τ sig (Elt F)) : w1 V (Proc.devRef .tc main_v60) = v_v60 (V (Proc.devRef .tc main_arg0)) (V (Proc.devRef .tc main_arg2)) (V (Proc.devRef .tc main_arg3)) := by
  rw [w1, o1_v60, w0_c]; rfl
theorem w1_v51 (V : Valuation τ sig (Elt F)) : w1 V (Proc.devRef .tc main_v51) = v_v51 (V (Proc.devRef .tc main_arg0)) (V (Proc.devRef .tc main_arg2)) (V (Proc.devRef .tc main_arg3)) := by
  rw [w1, o1_v51, w0_v51]
theorem w2_arg3 (V : Valuation τ sig (Elt F)) : w2 V (Proc.devRef .tc main_arg3) = V (Proc.devRef .tc main_arg3) := by
  rw [w2, o2_arg3, w1_arg3]
theorem w2_v61 (V : Valuation τ sig (Elt F)) : w2 V (Proc.devRef .tc main_v61) = v_v61 (V (Proc.devRef .tc main_arg0)) (V (Proc.devRef .tc main_arg2)) (V (Proc.devRef .tc main_arg3)) := by
  rw [w2, o2_v61, w1_v59, w1_v60]; rfl
theorem w2_v51 (V : Valuation τ sig (Elt F)) : w2 V (Proc.devRef .tc main_v51) = v_v51 (V (Proc.devRef .tc main_arg0)) (V (Proc.devRef .tc main_arg2)) (V (Proc.devRef .tc main_arg3)) := by
  rw [w2, o2_v51, w1_v51]
theorem w3_arg3 (V : Valuation τ sig (Elt F)) : w3 V (Proc.devRef .tc main_arg3) = V (Proc.devRef .tc main_arg3) := by
  rw [w3, o3_arg3, w2_arg3]
theorem w3_v62 (V : Valuation τ sig (Elt F)) : w3 V (Proc.devRef .tc main_v62) = v_v62 (V (Proc.devRef .tc main_arg0)) (V (Proc.devRef .tc main_arg2)) (V (Proc.devRef .tc main_arg3)) := by
  rw [w3, o3_v62, w2_v61]; rfl
theorem w3_v51 (V : Valuation τ sig (Elt F)) : w3 V (Proc.devRef .tc main_v51) = v_v51 (V (Proc.devRef .tc main_arg0)) (V (Proc.devRef .tc main_arg2)) (V (Proc.devRef .tc main_arg3)) := by
  rw [w3, o3_v51, w2_v51]
theorem w4_arg3 (V : Valuation τ sig (Elt F)) : w4 V (Proc.devRef .tc main_arg3) = V (Proc.devRef .tc main_arg3) := by
  rw [w4, o4_arg3, w3_arg3]
theorem w4_v64 (V : Valuation τ sig (Elt F)) : w4 V (Proc.devRef .tc main_v64) = v_v64 (V (Proc.devRef .tc main_arg0)) (V (Proc.devRef .tc main_arg2)) (V (Proc.devRef .tc main_arg3)) := by
  rw [w4, o4_v64, w3_v51]; rfl
theorem w4_v65 (V : Valuation τ sig (Elt F)) : w4 V (Proc.devRef .tc main_v65) = v_v65 (V (Proc.devRef .tc main_arg0)) (V (Proc.devRef .tc main_arg2)) (V (Proc.devRef .tc main_arg3)) := by
  rw [w4, o4_v65, w3_v51]; rfl
theorem w4_v63 (V : Valuation τ sig (Elt F)) : w4 V (Proc.devRef .tc main_v63) = v_v63 (V (Proc.devRef .tc main_arg0)) (V (Proc.devRef .tc main_arg2)) (V (Proc.devRef .tc main_arg3)) := by
  rw [w4, o4_v63, w3_v62]; rfl
theorem w5_arg3 (V : Valuation τ sig (Elt F)) : w5 V (Proc.devRef .tc main_arg3) = V (Proc.devRef .tc main_arg3) := by
  rw [w5, o5_arg3, w4_arg3]
theorem w5_v65 (V : Valuation τ sig (Elt F)) : w5 V (Proc.devRef .tc main_v65) = v_v65 (V (Proc.devRef .tc main_arg0)) (V (Proc.devRef .tc main_arg2)) (V (Proc.devRef .tc main_arg3)) := by
  rw [w5, o5_v65, w4_v65]
theorem w5_v66 (V : Valuation τ sig (Elt F)) : w5 V (Proc.devRef .tc main_v66) = v_v66 (V (Proc.devRef .tc main_arg0)) (V (Proc.devRef .tc main_arg2)) (V (Proc.devRef .tc main_arg3)) := by
  rw [w5, o5_v66, w4_v64]; rfl
theorem w5_v63 (V : Valuation τ sig (Elt F)) : w5 V (Proc.devRef .tc main_v63) = v_v63 (V (Proc.devRef .tc main_arg0)) (V (Proc.devRef .tc main_arg2)) (V (Proc.devRef .tc main_arg3)) := by
  rw [w5, o5_v63, w4_v63]
theorem w6_arg3 (V : Valuation τ sig (Elt F)) : w6 V (Proc.devRef .tc main_arg3) = V (Proc.devRef .tc main_arg3) := by
  rw [w6, o6_arg3, w5_arg3]
theorem w6_c_16 (V : Valuation τ sig (Elt F)) : w6 V (Proc.devRef .tc main_c_16) = v_c_16 (V (Proc.devRef .tc main_arg0)) (V (Proc.devRef .tc main_arg2)) (V (Proc.devRef .tc main_arg3)) := by
  rw [w6, o6_c_16]; rfl
theorem w6_v65 (V : Valuation τ sig (Elt F)) : w6 V (Proc.devRef .tc main_v65) = v_v65 (V (Proc.devRef .tc main_arg0)) (V (Proc.devRef .tc main_arg2)) (V (Proc.devRef .tc main_arg3)) := by
  rw [w6, o6_v65, w5_v65]
theorem w6_v66 (V : Valuation τ sig (Elt F)) : w6 V (Proc.devRef .tc main_v66) = v_v66 (V (Proc.devRef .tc main_arg0)) (V (Proc.devRef .tc main_arg2)) (V (Proc.devRef .tc main_arg3)) := by
  rw [w6, o6_v66, w5_v66]
theorem w6_v63 (V : Valuation τ sig (Elt F)) : w6 V (Proc.devRef .tc main_v63) = v_v63 (V (Proc.devRef .tc main_arg0)) (V (Proc.devRef .tc main_arg2)) (V (Proc.devRef .tc main_arg3)) := by
  rw [w6, o6_v63, w5_v63]
theorem w7_arg3 (V : Valuation τ sig (Elt F)) : w7 V (Proc.devRef .tc main_arg3) = V (Proc.devRef .tc main_arg3) := by
  rw [w7, o7_arg3, w6_arg3]
theorem w7_v67 (V : Valuation τ sig (Elt F)) : w7 V (Proc.devRef .tc main_v67) = v_v67 (V (Proc.devRef .tc main_arg0)) (V (Proc.devRef .tc main_arg2)) (V (Proc.devRef .tc main_arg3)) := by
  rw [w7, o7_v67, w6_c_16, w6_v65, w6_v66]; rfl
theorem w7_v63 (V : Valuation τ sig (Elt F)) : w7 V (Proc.devRef .tc main_v63) = v_v63 (V (Proc.devRef .tc main_arg0)) (V (Proc.devRef .tc main_arg2)) (V (Proc.devRef .tc main_arg3)) := by
  rw [w7, o7_v63, w6_v63]
theorem w8_arg3 (V : Valuation τ sig (Elt F)) : w8 V (Proc.devRef .tc main_arg3) = V (Proc.devRef .tc main_arg3) := by
  rw [w8, o8_arg3, w7_arg3]
theorem w8_c_17 (V : Valuation τ sig (Elt F)) : w8 V (Proc.devRef .tc main_c_17) = v_c_17 (V (Proc.devRef .tc main_arg0)) (V (Proc.devRef .tc main_arg2)) (V (Proc.devRef .tc main_arg3)) := by
  rw [w8, o8_c_17]; rfl
theorem w8_v73 (V : Valuation τ sig (Elt F)) : w8 V (Proc.devRef .tc main_v73) = v_v73 (V (Proc.devRef .tc main_arg0)) (V (Proc.devRef .tc main_arg2)) (V (Proc.devRef .tc main_arg3)) := by
  rw [w8, o8_v73, w7_v67]; rfl
theorem w8_v77 (V : Valuation τ sig (Elt F)) : w8 V (Proc.devRef .tc main_v77) = v_v77 (V (Proc.devRef .tc main_arg0)) (V (Proc.devRef .tc main_arg2)) (V (Proc.devRef .tc main_arg3)) := by
  rw [w8, o8_v77, w7_v67]; rfl
theorem w8_v63 (V : Valuation τ sig (Elt F)) : w8 V (Proc.devRef .tc main_v63) = v_v63 (V (Proc.devRef .tc main_arg0)) (V (Proc.devRef .tc main_arg2)) (V (Proc.devRef .tc main_arg3)) := by
  rw [w8, o8_v63, w7_v63]
theorem w9_v77 (V : Valuation τ sig (Elt F)) : w9 V (Proc.devRef .tc main_v77) = v_v77 (V (Proc.devRef .tc main_arg0)) (V (Proc.devRef .tc main_arg2)) (V (Proc.devRef .tc main_arg3)) := by
  rw [w9, o9_v77, w8_v77]
theorem w9_v78 (V : Valuation τ sig (Elt F)) : w9 V (Proc.devRef .tc main_v78) = v_v78 (V (Proc.devRef .tc main_arg0)) (V (Proc.devRef .tc main_arg2)) (V (Proc.devRef .tc main_arg3)) := by
  rw [w9, o9_v78, w8_c_17, w8_v73, w8_arg3]; rfl
theorem w9_v63 (V : Valuation τ sig (Elt F)) : w9 V (Proc.devRef .tc main_v63) = v_v63 (V (Proc.devRef .tc main_arg0)) (V (Proc.devRef .tc main_arg2)) (V (Proc.devRef .tc main_arg3)) := by
  rw [w9, o9_v63, w8_v63]
theorem w10_v77 (V : Valuation τ sig (Elt F)) : w10 V (Proc.devRef .tc main_v77) = v_v77 (V (Proc.devRef .tc main_arg0)) (V (Proc.devRef .tc main_arg2)) (V (Proc.devRef .tc main_arg3)) := by
  rw [w10, o10_v77, w9_v77]
theorem w10_v78 (V : Valuation τ sig (Elt F)) : w10 V (Proc.devRef .tc main_v78) = v_v78 (V (Proc.devRef .tc main_arg0)) (V (Proc.devRef .tc main_arg2)) (V (Proc.devRef .tc main_arg3)) := by
  rw [w10, o10_v78, w9_v78]
theorem w10_v63 (V : Valuation τ sig (Elt F)) : w10 V (Proc.devRef .tc main_v63) = v_v63 (V (Proc.devRef .tc main_arg0)) (V (Proc.devRef .tc main_arg2)) (V (Proc.devRef .tc main_arg3)) := by
  rw [w10, o10_v63, w9_v63]
theorem w11_v77 (V : Valuation τ sig (Elt F)) : w11 V (Proc.devRef .tc main_v77) = v_v77 (V (Proc.devRef .tc main_arg0)) (V (Proc.devRef .tc main_arg2)) (V (Proc.devRef .tc main_arg3)) := by
  rw [w11, o11_v77, w10_v77]
theorem w11_v78 (V : Valuation τ sig (Elt F)) : w11 V (Proc.devRef .tc main_v78) = v_v78 (V (Proc.devRef .tc main_arg0)) (V (Proc.devRef .tc main_arg2)) (V (Proc.devRef .tc main_arg3)) := by
  rw [w11, o11_v78, w10_v78]
theorem w11_v63 (V : Valuation τ sig (Elt F)) : w11 V (Proc.devRef .tc main_v63) = v_v63 (V (Proc.devRef .tc main_arg0)) (V (Proc.devRef .tc main_arg2)) (V (Proc.devRef .tc main_arg3)) := by
  rw [w11, o11_v63, w10_v63]
theorem w12_v93 (V : Valuation τ sig (Elt F)) : w12 V (Proc.devRef .tc main_v93) = v_v93 (V (Proc.devRef .tc main_arg0)) (V (Proc.devRef .tc main_arg2)) (V (Proc.devRef .tc main_arg3)) := by
  rw [w12, o12_v93, w11_v77, w11_v78, w11_v63]; rfl

/-- The result buffer after the whole reference, as a function of the arguments. -/
theorem R_out (m : (ℓ : Loc nD τ sig) → Buf (Elt F) ℓ) (c : Dev nD) : R m c (Proc.devRef .tc main_v93) = v_v93 (m ((c.tc : Thread nD τ).loc main_arg0)) (m ((c.tc : Thread nD τ).loc main_arg2)) (m ((c.tc : Thread nD τ).loc main_arg3)) := by
  rw [R_eq]
  exact w12_v93 (StableHlo.launchContents m c)

end Cert.ReferenceIdeal.Hand

end
-- ==== Proof.RefGather.lean ====
/- The reference's acceptance test at a place: the entries its gathers pick, and the ratio against the draw. -/
module

public import proofs.«01_k».proof.Proof.RefVals
public import Idealize.ShloMosaic.Lib.Pipeline.ValueKit
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

/-- The dimension numbers of the reference's two gathers. -/
abbrev gd : GatherDims S32x8x100000 S32x8x3 S32x8 := gather_S32x8x100000_S32x8x3_S32x8_n_012_n_n_012_2_111

theorem gather_start (idx : IVec S32x8x3 32) (b : Fin 32) (k : Fin 8) (a : Fin 3) :
    (gd.operandIdx (ix2 b k) idx a : ℕ) = min (idx (ix3 b k a)).toInt.toNat (S32x8x100000.size a - 1) := by
  show gd.start (ix2 b k) idx a + gd.batchCoord (ix2 b k) a + gd.offCoord (ix2 b k) a = _
  have hin : a ∈ gd.startIndexMap := by
    show a ∈ [(0 : Fin 3), 1, 2]
    fin_cases a <;> decide
  rw [GatherDims.batchCoord_eq_zero _ _ _ List.not_mem_nil,
    GatherDims.offCoord_eq_zero _ _ _ (fun h => ((GatherDims.mem_sKept _ _).mp h).1 hin)]
  simp only [Nat.add_zero]
  unfold GatherDims.start
  rw [dif_pos hin]
  have hsi : gd.siIdx (ix2 b k) ⟨List.idxOf a gd.startIndexMap, List.idxOf_lt_length_iff.2 hin⟩ = ix3 b k a := by
    funext e; refine Fin.ext ?_
    match e with
    | ⟨0, _⟩ => rfl
    | ⟨1, _⟩ => rfl
    | ⟨2, _⟩ =>
      match a with
      | ⟨0, _⟩ => rfl
      | ⟨1, _⟩ => rfl
      | ⟨2, _⟩ => rfl
  rw [hsi]
  match a with
  | ⟨0, _⟩ => rfl
  | ⟨1, _⟩ => rfl
  | ⟨2, _⟩ => rfl

theorem gather_at {α : Type} (x : S32x8x100000.Idx → α) (idx : IVec S32x8x3 32) (b : Fin 32) (k : Fin 8) (v : Fin 100000)
    (h0 : (idx (ix3 b k 0)).toInt = b.val) (h1 : (idx (ix3 b k 1)).toInt = k.val) (h2 : (idx (ix3 b k 2)).toInt = v.val) :
    Host.gather gd x idx (ix2 b k) = x (ix3 b k v) := by
  unfold Host.gather
  congr 1
  funext a
  refine Fin.ext ?_
  rw [gather_start]
  match a with
  | ⟨0, _⟩ =>
    show min (idx (ix3 b k 0)).toInt.toNat 31 = b.val
    rw [h0]; have := b.isLt; omega
  | ⟨1, _⟩ =>
    show min (idx (ix3 b k 1)).toInt.toNat 7 = k.val
    rw [h1]; have := k.isLt; omega
  | ⟨2, _⟩ =>
    show min (idx (ix3 b k 2)).toInt.toNat 99999 = v.val
    rw [h2]; have := v.isLt; omega

/-- Two indices of equal coordinates are equal. -/
theorem idx_eq (i j : S32x8x1.Idx) (h0 : (i 0).val = (j 0).val) (h1 : (i 1).val = (j 1).val) (h2 : (i 2).val = (j 2).val) : i = j := by
  funext a
  fin_cases a
  · exact Fin.ext h0
  · exact Fin.ext h1
  · exact Fin.ext h2

/-- The three-part concatenation along the last axis. -/
theorem concat_at (x y z : IVec S32x8x1 32) (b : Fin 32) (k : Fin 8) (c : Fin 3) :
    concatenate S32x8x3 2 [⟨S32x8x1, x⟩, ⟨S32x8x1, y⟩, ⟨S32x8x1, z⟩] concatenates_S32x8x1_S32x8x1_S32x8x1_S32x8x3_d2 (ix3 b k c)
      = (![x, y, z] c) (ix3 b k 0) := by
  concat_tiles i h
  · have hc : c = 0 := Fin.ext h
    subst hc
    exact congrArg x (idx_eq i (ix3 b k 0) h0 h1 h2)
  · have hc : c = 1 := Fin.ext h
    subst hc
    exact congrArg y (idx_eq i (ix3 b k 0) h0 h1 h2)
  · have hc : c = 2 := Fin.ext h
    subst hc
    exact congrArg z (idx_eq i (ix3 b k 0) h0 h1 h2)

/-- A place's word, wrapped as a negative index is, when it is none. -/
theorem wrap_at (w n : BitVec 32) (v : ℕ) (hv : v < 2 ^ 31) (hw : w = BitVec.ofNat 32 v) :
    (Scalar.select (IntOp.cmpi .slt w 0#32) (IntOp.addi w n) w).toInt = v := by
  have e : w.toInt = v := by rw [hw, BitVec.toInt_ofNat', Int.bmod_eq_of_le (by omega) (by omega)]
  have hs : w.slt 0#32 = false := by
    rw [BitVec.slt_eq_decide, e]
    simp
  simp [Scalar.select, IntOp.cmpi, hs, e]

/-- A gather at three arrays of places laid side by side. -/
theorem gather_concat (x : FVec Ideal S32x8x100000 .f32) (y0 y1 y2 : IVec S32x8x1 32) (b : Fin 32) (k : Fin 8) (v : Fin 100000)
    (h0 : (y0 (ix3 b k 0)).toInt = b.val) (h1 : (y1 (ix3 b k 0)).toInt = k.val) (h2 : (y2 (ix3 b k 0)).toInt = v.val) :
    Host.gather gd x (concatenate S32x8x3 2 [⟨S32x8x1, y0⟩, ⟨S32x8x1, y1⟩, ⟨S32x8x1, y2⟩] concatenates_S32x8x1_S32x8x1_S32x8x1_S32x8x3_d2) (ix2 b k)
      = x (ix3 b k v) := by
  refine gather_at x _ b k v ?_ ?_ ?_
  · rw [concat_at]; exact h0
  · rw [concat_at]; exact h1
  · rw [concat_at]; exact h2

/-- Whether the uniform number is under the clipped ratio at the drafted word. -/
theorem accept_at (a0 a2 : FVec Ideal S32x8x100000 .f32) (a3 : IVec S32x8 32) (b : Fin 32) (k : Fin 8) (h : (a3 (ix2 b k)).toNat < 100000) :
    v_v51 a0 a2 a3 (ix2 b k)
      = BitVec.ofBool (decide (Ideal.ofBits .f32 (lit0 (S32x8.rowMajor (ix2 b k)))
          < min (Ideal.div (a0 (ix3 b k ⟨(a3 (ix2 b k)).toNat, h⟩)) (a2 (ix3 b k ⟨(a3 (ix2 b k)).toNat, h⟩))) 1)) := by
  have hb := b.isLt
  have hk := k.isLt
  unfold v_v51 g_v51
  pointwise
  rw [gather_concat a0 _ _ _ b k ⟨(a3 (ix2 b k)).toNat, h⟩, gather_concat a2 _ _ _ b k ⟨(a3 (ix2 b k)).toNat, h⟩]
  all_goals pointwise
  all_goals first
    | exact wrap_at _ _ _ (by omega) rfl
    | exact wrap_at _ _ _ (by omega) (by simp)

end Cert.ReferenceIdeal.Hand

end
-- ==== Proof.ArgFold.lean ====
/- Greatest-and-first of a list of pairs, by a left fold in any order; a fold of `or` and of `and` over single bits. -/
module

public import proofs.«01_k».proof.Proof.Best

@[expose] public section

noncomputable section

namespace Cert.Best

open Idealize.ShloMosaic

/-- One pair comes before another: greater by the key, or equal with the lower index. -/
def Under {α : Type} {γ : Type} [LinearOrder γ] (κ : α → γ) (a b : α × BitVec 32) : Prop :=
  κ a.1 < κ b.1 ∨ (κ a.1 = κ b.1 ∧ b.2.toInt ≤ a.2.toInt)

theorem Under.refl {α : Type} {γ : Type} [LinearOrder γ] (κ : α → γ) (a : α × BitVec 32) : Under κ a a := .inr ⟨rfl, le_refl _⟩
theorem Under.trans {α : Type} {γ : Type} [LinearOrder γ] {κ : α → γ} {a b c : α × BitVec 32} (h : Under κ a b) (h' : Under κ b c) : Under κ a c := by
  rcases h with h | ⟨h, i⟩ <;> rcases h' with h' | ⟨h', i'⟩
  · exact .inl (h.trans h')
  · exact .inl (h' ▸ h)
  · exact .inl (h ▸ h')
  · exact .inr ⟨h.trans h', i'.trans i⟩

/-- A body that keeps the better of its two pairs. -/
def Keeps {α : Type} {γ : Type} [LinearOrder γ] (κ : α → γ) (f : α × BitVec 32 → α × BitVec 32 → α × BitVec 32) : Prop :=
  ∀ a b, (f a b = a ∨ f a b = b) ∧ Under κ a (f a b) ∧ Under κ b (f a b)

theorem foldl_keeps {α : Type} {γ : Type} [LinearOrder γ] {κ : α → γ} {f : α × BitVec 32 → α × BitVec 32 → α × BitVec 32} (hf : Keeps κ f)
    (L : List (α × BitVec 32)) (a : α × BitVec 32) :
    L.foldl f a ∈ a :: L ∧ ∀ e ∈ a :: L, Under κ e (L.foldl f a) := by
  induction L generalizing a with
  | nil => exact ⟨List.mem_cons_self, fun e he => by rcases List.mem_singleton.mp he with rfl; exact Under.refl κ _⟩
  | cons b L ih =>
    obtain ⟨hm, hu⟩ := ih (f a b)
    obtain ⟨h1, h2, h3⟩ := hf a b
    rw [List.foldl_cons]
    constructor
    · rcases List.mem_cons.mp hm with h | h
      · rcases h1 with h1 | h1
        · rw [h, h1]; exact List.mem_cons_self
        · rw [h, h1]; exact List.mem_cons_of_mem _ List.mem_cons_self
      · exact List.mem_cons_of_mem _ (List.mem_cons_of_mem _ h)
    · intro e he
      have h0 := hu (f a b) List.mem_cons_self
      rcases List.mem_cons.mp he with rfl | he
      · exact h2.trans h0
      · rcases List.mem_cons.mp he with rfl | he
        · exact h3.trans h0
        · exact hu e (List.mem_cons_of_mem _ he)

/-- The index a two-operand reduction keeps, when its body keeps the better pair: the first place the key is greatest. -/
theorem reduce2_first {α : Type} {γ : Type} [LinearOrder γ] {κ : α → γ} {f : α × BitVec 32 → α × BitVec 32 → α × BitVec 32} (hf : Keeps κ f)
    {s t u : Shape} {axes : List (Fin s.rank)} (x : s.Idx → α) (y : s.Idx → BitVec 32) (ix : u.Idx → α) (iy : u.Idx → BitVec 32)
    (h : s.ReducesTo axes t) (hu : 0 < u.numel) (j : t.Idx) (n : ℕ) (hn : n < 2 ^ 31) (row : Fin n → s.Idx)
    (hrow : ∀ i, h.drop i = j ↔ ∃ l, i = row l) (hy : ∀ l, y (row l) = BitVec.ofNat 32 l.val)
    {p : ℕ} (g : ℕ → γ) (hg : ∀ l : Fin n, κ (x (row l)) = g l.val) (hp : p < n ∧ (∀ v, v < n → g v ≤ g p) ∧ ∀ v, v < p → g v < g p) (h0 : κ (ix (Shape.Idx.first hu)) < g p) :
    (Host.reduce2 f x y ix iy h hu j).2 = BitVec.ofNat 32 p := by
  have mem : ∀ e, e ∈ Host.argReduceFiber x y h j ↔ ∃ l : Fin n, e = (x (row l), BitVec.ofNat 32 l.val) := by
    intro e
    unfold Host.argReduceFiber
    rw [List.mem_map]
    constructor
    · rintro ⟨q, hq, rfl⟩
      have hd := of_decide_eq_true (List.mem_filter.mp hq).2
      obtain ⟨l, hl⟩ := (hrow _).mp hd
      exact ⟨l, by rw [hl, hy]⟩
    · rintro ⟨l, rfl⟩
      refine ⟨s.rowMajor (row l), List.mem_filter.mpr ⟨List.mem_finRange _, ?_⟩, ?_⟩
      · rw [Equiv.symm_apply_apply]; exact decide_eq_true ((hrow _).mpr ⟨l, rfl⟩)
      · rw [Equiv.symm_apply_apply, hy]
  have toInt : ∀ q, q < n → (BitVec.ofNat 32 q).toInt = q := by
    intro q hq
    rw [BitVec.toInt_ofNat', Int.bmod_eq_of_le (by omega) (by omega)]
  rw [Host.reduce2_eq_foldl_fiber]
  obtain ⟨hm, hall⟩ := foldl_keeps hf (Host.argReduceFiber x y h j) (ix (Shape.Idx.first hu), iy (Shape.Idx.first hu))
  generalize (Host.argReduceFiber x y h j).foldl f _ = r at hm hall
  have hpn := hp.1
  have hb := hall _ (List.mem_cons_of_mem _ ((mem _).mpr ⟨⟨p, hpn⟩, rfl⟩))
  rcases List.mem_cons.mp hm with rfl | hm
  · exfalso
    rcases hb with hb | ⟨hb, _⟩
    · have := hg ⟨p, hpn⟩
      simp only at hb this
      rw [this] at hb
      exact absurd (hb.trans h0) (lt_irrefl _)
    · have := hg ⟨p, hpn⟩
      simp only at hb this
      rw [← hb, this] at h0
      exact lt_irrefl _ h0
  · obtain ⟨l, rfl⟩ := (mem _).mp hm
    show BitVec.ofNat 32 l.val = _
    rcases hb with hb | ⟨hb, hi⟩
    · exfalso
      simp only [hg] at hb
      exact absurd (hp.2.1 l.val l.isLt) (not_le.mpr hb)
    · simp only [hg] at hb
      simp only [toInt _ l.isLt, toInt _ hpn] at hi
      have hlp : l.val ≤ p := by exact_mod_cast hi
      rcases Nat.lt_or_ge l.val p with hlt | hge
      · exact absurd (hp.2.2 l.val hlt) (by rw [hb]; exact lt_irrefl _)
      · rw [Nat.le_antisymm hlp hge]

end Cert.Best

end
-- ==== Proof.RefRead.lean ====
/- The reference's recovery word and its list of values read at one (batch, position) row. -/
module

public import proofs.«01_k».proof.Proof.RefGather
public import proofs.«01_k».proof.Proof.ArgFold

@[expose] public section

noncomputable section

namespace Cert.ReferenceIdeal.Hand

open Cert.ReferenceIdeal Cert.ReferenceIdeal.Gen
open Idealize.ShloMosaic
open Cert.Best

theorem keeps_f32 : Keeps (id : EReal → EReal) (reducer_argmax_f32_i32 (F := Ideal)) := by
  intro a b
  have e0 : ∀ x y : EReal, FloatOps.cmpf (F := Ideal) (φ := .f32) .ogt x y = BitVec.ofBool (decide (y < x)) := fun _ _ => rfl
  have e1 : ∀ x y : EReal, FloatOps.cmpf (F := Ideal) (φ := .f32) .une x y = BitVec.ofBool (decide (x ≠ y)) := fun _ _ => rfl
  have e2 : ∀ x y : EReal, FloatOps.cmpf (F := Ideal) (φ := .f32) .oeq x y = BitVec.ofBool (decide (x = y)) := fun _ _ => rfl
  obtain ⟨a, i⟩ := a
  obtain ⟨b, j⟩ := b
  unfold reducer_argmax_f32_i32 Under
  simp only [e0, e1, e2, id]
  rcases lt_trichotomy a b with h | h | h
  · have h1 : ¬ b < a := not_lt.mpr h.le
    have h2 : ¬ a = b := ne_of_lt h
    simp [h, h1, h2, Scalar.select, IntOp.ori, IntOp.andi]
  · subst h
    rcases lt_or_ge i.toInt j.toInt with c | c
    · have c' : i.slt j = true := by rw [BitVec.slt_eq_decide]; exact decide_eq_true c
      simp [c, c', Scalar.select, IntOp.ori, IntOp.andi, IntOp.cmpi, le_of_lt c]
    · have c' : i.slt j = false := by rw [BitVec.slt_eq_decide]; exact decide_eq_false (not_lt.mpr c)
      simp [c, c', Scalar.select, IntOp.ori, IntOp.andi, IntOp.cmpi]
  · have h1 : ¬ a < b := not_lt.mpr h.le
    have h2 : ¬ a = b := ne_of_gt h
    simp [h, h1, h2, Scalar.select, IntOp.ori, IntOp.andi]

theorem keeps_i1 : Keeps (BitVec.toNat : BitVec 1 → ℕ) reducer_argmax_i1_i32 := by
  intro a b
  obtain ⟨a, i⟩ := a
  obtain ⟨b, j⟩ := b
  unfold reducer_argmax_i1_i32 Under
  simp only
  rcases lt_trichotomy a.toNat b.toNat with h | h | h
  · have h1 : b.ult a = false := by rw [BitVec.ult_eq_decide]; exact decide_eq_false (not_lt.mpr h.le)
    have h2 : ¬ a = b := fun e => by rw [e] at h; exact lt_irrefl _ h
    have h3 : (a == b) = false := by simpa using h2
    simp [h, h1, h2, h3, Scalar.select, IntOp.ori, IntOp.andi, IntOp.cmpi]
  · have h' := BitVec.eq_of_toNat_eq h
    subst h'
    have h1 : a.ult a = false := by rw [BitVec.ult_eq_decide]; exact decide_eq_false (lt_irrefl _)
    rcases lt_or_ge i.toInt j.toInt with c | c
    · have c' : i.slt j = true := by rw [BitVec.slt_eq_decide]; exact decide_eq_true c
      simp [c, c', h1, Scalar.select, IntOp.ori, IntOp.andi, IntOp.cmpi, le_of_lt c]
    · have c' : i.slt j = false := by rw [BitVec.slt_eq_decide]; exact decide_eq_false (not_lt.mpr c)
      simp [c, c', h1, Scalar.select, IntOp.ori, IntOp.andi, IntOp.cmpi]
  · have h1 : b.ult a = true := by rw [BitVec.ult_eq_decide]; exact decide_eq_true h
    have h2 : ¬ a = b := fun e => by rw [e] at h; exact lt_irrefl _ h
    have h3 : (a == b) = false := by simpa using h2
    have h4 : ¬ a.toNat < b.toNat := not_lt.mpr h.le
    simp [h, h1, h2, h3, Scalar.select, IntOp.ori, IntOp.andi, IntOp.cmpi]

theorem row_f32 (r : Fin 256) (i : S256x100000.Idx) : reducesTo_S256x100000_S256_d1.drop i = ix1 r ↔ ∃ l : Fin 100000, i = ix2 r l := by
  constructor
  · intro h
    refine ⟨i 1, ?_⟩
    have h0 := congrArg Fin.val (congrFun h 0)
    funext a
    fin_cases a
    · exact Fin.ext h0
    · rfl
  · rintro ⟨l, rfl⟩
    funext a
    fin_cases a
    rfl

theorem row_i1 (r : Fin 32) (i : S32x8.Idx) : reducesTo_S32x8_S32_d1.drop i = ix1 r ↔ ∃ l : Fin 8, i = ix2 r l := by
  constructor
  · intro h
    refine ⟨i 1, ?_⟩
    have h0 := congrArg Fin.val (congrFun h 0)
    funext a
    fin_cases a
    · exact Fin.ext h0
    · rfl
  · rintro ⟨l, rfl⟩
    funext a
    fin_cases a
    rfl

/-- A fold keeping the better pair over a row of the first program's scores, its indices and starts arbitrary. -/
theorem fold_at (x : FVec Ideal S256x100000 .f32) (y : IVec S256x100000 32) (ix : FVec Ideal S_ .f32) (iy : IVec S_ 32) (r : Fin 256)
    (hy : ∀ l : Fin 100000, y (ix2 r l) = BitVec.ofNat 32 l.val) (hx : ∀ i, ix i = ⊥) (g : ℕ → EReal)
    (hg : ∀ l : Fin 100000, x (ix2 r l) = g l.val) {p : ℕ} (hp : First 100000 g p) (h0 : ⊥ < g p) :
    (Host.reduce2 (reducer_argmax_f32_i32 (F := Ideal)) x y ix iy reducesTo_S256x100000_S256_d1 h_S_ (ix1 r)).2 = BitVec.ofNat 32 p := by
  have h1 : id (ix (Shape.Idx.first h_S_)) < g p := by rw [hx]; exact h0
  exact reduce2_first keeps_f32 x y ix iy reducesTo_S256x100000_S256_d1 h_S_ (ix1 r) 100000 (by norm_num)
    (fun l => ix2 r l) (row_f32 r) hy g hg hp h1

theorem iota_row (r : Fin 256) (l : Fin 100000) : iotaInDim S256x100000 32 1 (ix2 r l) = BitVec.ofNat 32 l.val := by
  pointwise

theorem start_bot (i : S_.Idx) : (constant S_ .f32 0xFF800000#32 : FVec Ideal S_ .f32) i = ⊥ := by
  pointwise
  simp [Ideal.ofBits, Ideal.ieee]

theorem v62_def {F : FTy → Type} [FloatOps F] (x : FVec F S256x100000 .f32)  : g_v62 x = fun j =>
    (Host.argReduce (reducer_argmax_f32_i32 (F := F)) x (iotaInDim S256x100000 32 1) (constant S_ .f32 0xFF800000#32) (constantI S_ 32 0#32)
      reducesTo_S256x100000_S256_d1 h_S_ j).2 := rfl
theorem arg_red {t : Shape} {axes : List (Fin S256x100000.rank)} (h : S256x100000.ReducesTo axes t)  (x : FVec Ideal S256x100000 .f32) (y : IVec S256x100000 32) (ix : FVec Ideal S_ .f32) (iy : IVec S_ 32) :
    Host.argReduce (reducer_argmax_f32_i32 (F := Ideal)) x y ix iy h h_S_
  = Host.reduce2 (reducer_argmax_f32_i32 (F := Ideal)) x y ix iy h h_S_ :=
  Ideal.argReduce_eq_reduce2 _ x y ix iy _ _
theorem v62_eq (x : FVec Ideal S256x100000 .f32) : g_v62 x = fun j =>
    (Host.reduce2 (reducer_argmax_f32_i32 (F := Ideal)) x (iotaInDim S256x100000 32 1) (constant S_ .f32 0xFF800000#32) (constantI S_ 32 0#32)
      reducesTo_S256x100000_S256_d1 h_S_ j).2 := by
  rw [v62_def, arg_red]

/-- The list's recovery word at a row: the first place the row is greatest. -/
theorem v62_at (x : FVec Ideal S256x100000 .f32) (r : Fin 256) (g : ℕ → EReal) (hg : ∀ l : Fin 100000, x (ix2 r l) = g l.val)
    {p : ℕ} (hp : First 100000 g p) (h0 : ⊥ < g p) : g_v62 x (ix1 r) = BitVec.ofNat 32 p := by
  rw [v62_eq]
  exact fold_at x _ _ _ r (iota_row r) start_bot g hg hp h0

/-- The probabilities' array at a row and place. -/
theorem v59_at (a0 a2 : FVec Ideal S32x8x100000 .f32) (b : Fin 32) (k : Fin 8) (v : Fin 100000) :
    g_v59 a2 a0 (ix2 ⟨b.val * 8 + k.val, by have := b.isLt; have := k.isLt; omega⟩ v)
      = Ideal.div (max (a0 (ix3 b k v) - a2 (ix3 b k v)) (Ideal.ofBits .f32 0x00800000#32))
          (∑ w : Fin 100000, max (a0 (ix3 b k w) - a2 (ix3 b k w)) (Ideal.ofBits .f32 0x00800000#32)) := by
  unfold g_v59
  pointwise

end Cert.ReferenceIdeal.Hand

end
-- ==== Proof.Limit.lean ====
/- The first rejected position of a row of bits, as the kernel's least word and as the reference's pair of reductions; the
   reference's output word. -/
module

public import proofs.«01_k».proof.Proof.RefRead

@[expose] public section

noncomputable section

namespace Cert.ReferenceIdeal.Hand

open Cert.ReferenceIdeal Cert.ReferenceIdeal.Gen
open Idealize.ShloMosaic
open Cert.Best

/-- `p` is the first position not accepted; 8 when all are. -/
def IsLim (A : Fin 8 → BitVec 1) (p : ℕ) : Prop := p ≤ 8 ∧ (∀ l : Fin 8, l.val < p → A l = 1#1) ∧ ∀ h : p < 8, A ⟨p, h⟩ = 0#1

theorem bit_cases (a : BitVec 1) : a = 0#1 ∨ a = 1#1 := by
  revert a; decide

theorem exists_lim (A : Fin 8 → BitVec 1) : ∃ p, IsLim A p := by
  classical
  by_cases h : ∃ p, ∃ hp : p < 8, A ⟨p, hp⟩ = 0#1
  · obtain ⟨hp, h0⟩ := Nat.find_spec h
    refine ⟨Nat.find h, hp.le, fun l hl => ?_, fun _ => h0⟩
    rcases bit_cases (A l) with h' | h'
    · exact absurd ⟨l.isLt, h'⟩ (Nat.find_min h hl)
    · exact h'
  · refine ⟨8, le_refl _, fun l _ => ?_, fun h => absurd h (lt_irrefl _)⟩
    rcases bit_cases (A l) with h' | h'
    · exact absurd ⟨l.val, l.isLt, h'⟩ h
    · exact h'

theorem word_int (p : ℕ) (h : p < 2 ^ 31) : (BitVec.ofNat 32 p).toInt = p := by
  rw [BitVec.toInt_ofNat', Int.bmod_eq_of_le (by omega) (by omega)]

theorem minsi_int (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.mp h)]

/-- The least word of the positions not accepted. -/
theorem least_word (A : Fin 8 → BitVec 1) {p : ℕ} (hp : IsLim A p) :
    Finset.fold IntOp.minsi 2147483647#32 (fun x : Fin 8 => Scalar.select (IntOp.xori (A x) 1#1) (BitVec.ofNat 32 x.val) 8#32) Finset.univ
      = BitVec.ofNat 32 p := by
  have hp8 := hp.1
  rw [← BitVec.toInt_inj, word_int p (by omega), ← Finset.fold_hom (op' := min) (m := BitVec.toInt) minsi_int]
  have e0 : ∀ x : Fin 8, A x = 0#1 → (Scalar.select (IntOp.xori (A x) 1#1) (BitVec.ofNat 32 x.val) 8#32).toInt = x.val := by
    intro x h
    have := x.isLt
    rw [h, ← word_int x.val (by omega)]
    rfl
  have e1 : ∀ x : Fin 8, A x = 1#1 → (Scalar.select (IntOp.xori (A x) 1#1) (BitVec.ofNat 32 x.val) 8#32).toInt = 8 := by
    intro x h
    rw [h]
    rfl
  apply le_antisymm
  · rw [Finset.fold_min_le]
    right
    rcases Nat.lt_or_ge p 8 with h | h
    · exact ⟨⟨p, h⟩, Finset.mem_univ _, (e0 _ (hp.2.2 h)).le⟩
    · have h8 : p = 8 := by omega
      subst h8
      exact ⟨0, Finset.mem_univ _, (e1 0 (hp.2.1 0 (by norm_num))).le⟩
  · rw [Finset.le_fold_min]
    constructor
    · rw [show (2147483647#32 : BitVec 32).toInt = 2147483647 by decide]
      exact_mod_cast (by omega : p ≤ 2147483647)
    · intro x _
      rcases bit_cases (A x) with h | h
      · rw [e0 x h]
        have : ¬ x.val < p := fun hl => by rw [hp.2.1 x hl] at h; exact absurd h (by decide)
        exact_mod_cast not_lt.mp this
      · rw [e1 x h]
        exact_mod_cast hp8

theorem ori_nat (a b : BitVec 1) : (IntOp.ori a b).toNat = max a.toNat b.toNat := by
  revert a b; decide

theorem v65_at (a : IVec S32x8 1) (b : Fin 32) : g_v65 a (ix1 b) = Finset.fold IntOp.ori 0#1 (fun k : Fin 8 => ~~~ (a (ix2 b k))) Finset.univ := by
  unfold g_v65
  pointwise

theorem noti_at (a : IVec S32x8 1) (i : S32x8.Idx) : (noti a) i = ~~~ (a i) := rfl

theorem iota_pos (b : Fin 32) (l : Fin 8) : iotaInDim S32x8 32 1 (ix2 b l) = BitVec.ofNat 32 l.val := by
  pointwise

/-- A fold of `or` over a row that holds a one. -/
theorem or_one (A : Fin 8 → BitVec 1) {p : ℕ} (hp : IsLim A p) (h : p < 8) :
    Finset.fold IntOp.ori 0#1 (fun k : Fin 8 => ~~~ (A k)) Finset.univ = 1#1 := by
  rcases bit_cases (Finset.fold IntOp.ori 0#1 (fun k : Fin 8 => ~~~ (A k)) Finset.univ) with e | e
  · exfalso
    have e' := congrArg BitVec.toNat e
    rw [← Finset.fold_hom (op' := max) (m := BitVec.toNat) ori_nat] at e'
    have := (Finset.fold_max_le (b := (0#1 : BitVec 1).toNat) (f := fun k : Fin 8 => (~~~ (A k)).toNat) (s := Finset.univ) 0).mp e'.le
    have := this.2 ⟨p, h⟩ (Finset.mem_univ _)
    rw [hp.2.2 h] at this
    exact absurd this (by decide)
  · exact e
theorem or_zero (A : Fin 8 → BitVec 1) (hp : IsLim A 8) :
    Finset.fold IntOp.ori 0#1 (fun k : Fin 8 => ~~~ (A k)) Finset.univ = 0#1 := by
  apply BitVec.eq_of_toNat_eq
  rw [← Finset.fold_hom (op' := max) (m := BitVec.toNat) ori_nat]
  apply le_antisymm
  · rw [Finset.fold_max_le]
    refine ⟨le_refl _, fun x _ => ?_⟩
    rw [hp.2.1 x x.isLt]
    decide
  · exact Nat.zero_le _

theorem v66_eq (x : IVec S32x8 1) : g_v66 x = fun j =>
    (Host.reduce2 reducer_argmax_i1_i32 x (iotaInDim S32x8 32 1) (constantI S_ 1 0#1) (constantI S_ 32 0#32) reducesTo_S32x8_S32_d1 h_S_ j).2 := rfl

theorem v66_at (a : IVec S32x8 1) (b : Fin 32) {p : ℕ} (hp : IsLim (fun k => a (ix2 b k)) p) (h : p < 8) :
    g_v66 (g_v64 a) (ix1 b) = BitVec.ofNat 32 p := by
  have key : ∀ v (hv : v < 8), (fun v => if hv : v < 8 then (~~~ (a (ix2 b (⟨v, hv⟩ : Fin 8)))).toNat else 0) v = (~~~ (a (ix2 b (⟨v, hv⟩ : Fin 8)))).toNat :=
    fun v hv => dif_pos hv
  generalize (fun v => if hv : v < 8 then (~~~ (a (ix2 b (⟨v, hv⟩ : Fin 8)))).toNat else 0) = g at key
  have hgp : g p = 1 := by have e := hp.2.2 h; dsimp only at e; rw [key p h, e]; rfl
  rw [v66_eq]
  refine reduce2_first keeps_i1 (g_v64 a) _ _ _ reducesTo_S32x8_S32_d1 h_S_ (ix1 b) 8 (by norm_num) (fun l => ix2 b l) (row_i1 b)
    (iota_pos b) g (fun l => (key l.val l.isLt).symm) ⟨h, fun v hv => ?_, fun v hv => ?_⟩ ?_
  · rw [hgp, key v hv]
    have := (~~~ (a (ix2 b (⟨v, hv⟩ : Fin 8)))).isLt
    omega
  · rw [hgp, key v (by omega)]
    have e := hp.2.1 ⟨v, by omega⟩ hv
    dsimp only at e
    rw [e]
    decide
  · rw [hgp]
    exact Nat.zero_lt_one

/-- The reference's count of accepted positions. -/
theorem v67_at (a : IVec S32x8 1) (b : Fin 32) {p : ℕ} (hp : IsLim (fun k => a (ix2 b k)) p) :
    g_v67 g_c_16 (g_v65 a) (g_v66 (g_v64 a)) (ix1 b) = BitVec.ofNat 32 p := by
  have e : g_v67 g_c_16 (g_v65 a) (g_v66 (g_v64 a)) (ix1 b) = Scalar.select (g_v65 a (ix1 b)) (g_v66 (g_v64 a) (ix1 b)) 8#32 := by
    generalize g_v65 a = y
    generalize g_v66 (g_v64 a) = z
    unfold g_v67 g_c_16
    pointwise
    rfl
  rw [e, v65_at]
  rcases Nat.lt_or_ge p 8 with h | h
  · rw [or_one _ hp h, v66_at a b hp h]
    rfl
  · have h8 : p = 8 := Nat.le_antisymm hp.1 h
    subst h8
    rw [or_zero _ hp]
    rfl

theorem mask_sum (m : BitVec 1) (x y : BitVec 32) :
    IntOp.addi (IntOp.muli y (BitVec.setWidth 32 (~~~ m))) (IntOp.muli x (BitVec.setWidth 32 m)) = Scalar.select m x y := by
  rcases bit_cases m with rfl | rfl
  · simp [IntOp.addi, IntOp.muli, Scalar.select]
  · simp [IntOp.addi, IntOp.muli, Scalar.select]

theorem out_at (v77 : IVec S32x8 1) (v78 v63 : IVec S32x8 32) (b : Fin 32) (k : Fin 9) :
    g_v93 v77 v78 v63 (ix2 b k) = if h : k.val < 8 then Scalar.select (v77 (ix2 b ⟨k.val, h⟩)) (v63 (ix2 b ⟨k.val, h⟩)) (v78 (ix2 b ⟨k.val, h⟩)) else 4294967295#32 := by
  unfold g_v93
  pointwise
  simp only [mask_sum]

theorem v77_at (x : IVec S32 32) (b : Fin 32) (k : Fin 8) : g_v77 x (ix2 b k) = IntOp.cmpi .eq (BitVec.ofNat 32 k.val) (x (ix1 b)) := by
  unfold g_v77
  pointwise
theorem v78_at (x : IVec S32 32) (a3 : IVec S32x8 32) (b : Fin 32) (k : Fin 8) :
    g_v78 g_c_17 (g_v73 x) a3 (ix2 b k) = Scalar.select (IntOp.cmpi .slt (BitVec.ofNat 32 k.val) (x (ix1 b))) (a3 (ix2 b k)) 4294967295#32 := by
  unfold g_v78 g_c_17 g_v73
  pointwise
theorem v63_at (x : IVec S256 32) (b : Fin 32) (k : Fin 8) :
    g_v63 x (ix2 b k) = x (ix1 (⟨b.val * 8 + k.val, by have := b.isLt; have := k.isLt; omega⟩ : Fin 256)) := by
  unfold g_v63
  pointwise

/-- An output word, from the count of accepted positions, the recovery word and the drafted word. -/
def word (p k : ℕ) (rec tok : BitVec 32) : BitVec 32 :=
  Scalar.select (IntOp.cmpi .eq (BitVec.ofNat 32 k) (BitVec.ofNat 32 p)) rec
    (Scalar.select (IntOp.cmpi .slt (BitVec.ofNat 32 k) (BitVec.ofNat 32 p)) tok 4294967295#32)

theorem v93_at (a0 a2 : FVec Ideal S32x8x100000 .f32) (a3 : IVec S32x8 32) (b : Fin 32) (k : Fin 8) {p : ℕ}
    (hp : IsLim (fun k => v_v51 a0 a2 a3 (ix2 b k)) p) :
    v_v93 a0 a2 a3 (ix2 b (⟨k.val, by have := k.isLt; omega⟩ : Fin 9))
      = word p k.val (v_v62 a0 a2 a3 (ix1 (⟨b.val * 8 + k.val, by have := b.isLt; have := k.isLt; omega⟩ : Fin 256))) (a3 (ix2 b k)) := by
  have e : v_v67 a0 a2 a3 (ix1 b) = BitVec.ofNat 32 p := v67_at (v_v51 a0 a2 a3) b hp
  unfold v_v93 v_v77 v_v78 v_v63 v_v73 v_c_17
  rw [out_at, dif_pos k.isLt, v77_at, v78_at, v63_at, e]
  rfl

theorem v93_last (a0 a2 : FVec Ideal S32x8x100000 .f32) (a3 : IVec S32x8 32) (b : Fin 32) :
    v_v93 a0 a2 a3 (ix2 b (8 : Fin 9)) = 4294967295#32 := by
  unfold v_v93
  rw [out_at, dif_neg (by decide)]

end Cert.ReferenceIdeal.Hand

end
-- ==== Proof.OutAt.lean ====
/- The result's block as the last grid point leaves it, read at a place. -/
module

public import proofs.«01_k».proof.Proof.Steps
public import proofs.«01_k».proof.Proof.Limit

@[expose] public section

noncomputable section

namespace Cert.KernelIdeal.Hand

open Cert.KernelIdeal Cert.KernelIdeal.Gen
open Idealize.ShloMosaic
open Cert.Best Cert.ReferenceIdeal.Hand

theorem pay9_at (a d u : Vec Ideal S32x8x1 .f32) (w r : Vec Ideal S32x8x1 .i32) (b : Fin 32) (k : Fin 8) {p : ℕ}
    (hp : IsLim (fun x => BitVec.ofBool (decide (u (ix3 b x 0) < min (Ideal.div (a (ix3 b x 0)) (d (ix3 b x 0))) 1))) p) :
    k0_pay9 a d u w r (ix3 b k 0) = word p k.val (r (ix3 b k 0)) (w (ix3 b k 0)) := by
  unfold_payloads
  pointwise
  rw [least_word _ hp]
  rfl

theorem put_low (X : Vec Ideal S32x9x1 .i32) (Y : Vec Ideal S32x8x1 .i32) (Z : Vec Ideal S32x1x1 .i32) (b : Fin 32) (k : Fin 8) :
    VecWindow.put (VecWindow.put X ![0, 0, 0] S32x8x1.size Y) ![0, 8, 0] S32x1x1.size Z (ix3 b (⟨k.val, by have := k.isLt; omega⟩ : Fin 9) 0) = Y (ix3 b k 0) := by
  have hb := b.isLt
  have hk := k.isLt
  unfold VecWindow.put
  rw [dif_neg, dif_pos]
  · refine congrArg Y ?_
    funext a
    fin_cases a <;> rfl
  · intro a
    fin_cases a
    · exact ⟨Nat.zero_le _, (by omega : b.val < 0 + 32)⟩
    · exact ⟨Nat.zero_le _, (by omega : k.val < 0 + 8)⟩
    · exact ⟨Nat.zero_le _, Nat.zero_lt_one⟩
  · intro h
    have h1 : 8 ≤ k.val := (h 1).1
    omega

theorem put_high (X : Vec Ideal S32x9x1 .i32) (Y : Vec Ideal S32x8x1 .i32) (Z : Vec Ideal S32x1x1 .i32) (b : Fin 32) :
    VecWindow.put (VecWindow.put X ![0, 0, 0] S32x8x1.size Y) ![0, 8, 0] S32x1x1.size Z (ix3 b (8 : Fin 9) 0) = Z (ix3 b 0 0) := by
  have hb := b.isLt
  unfold VecWindow.put
  rw [dif_pos]
  · refine congrArg Z ?_
    funext a
    fin_cases a <;> rfl
  · intro a
    fin_cases a
    · exact ⟨Nat.zero_le _, (by omega : b.val < 0 + 32)⟩
    · exact ⟨(by decide : 8 ≤ 8), (by decide : 8 < 8 + 1)⟩
    · exact ⟨Nat.zero_le _, Nat.zero_lt_one⟩

theorem pay10_at (b : Fin 32) : (k0_pay10 : Vec Ideal S32x1x1 .i32) (ix3 b 0 0) = 4294967295#32 := by
  unfold_payloads
  pointwise

/-- The result block at a position below eight. -/
theorem out_low (K : Vec Ideal S32x8x1 .i32) (U : Vec Ideal S32x8x1 .f32) (s : St Ideal) (X : Vec Ideal S32x9x1 .i32) (b : Fin 32) (k : Fin 8) {p : ℕ}
    (hp : IsLim (fun x => BitVec.ofBool (decide (U (ix3 b x 0) < min (Ideal.div (s.selt (ix3 b x 0)) (s.seld (ix3 b x 0))) 1))) p) :
    outTail K U s X (ix3 b (⟨k.val, by have := k.isLt; omega⟩ : Fin 9) 0) = word p k.val (s.ridx (ix3 b k 0)) (K (ix3 b k 0)) := by
  unfold outTail
  rw [put_low]
  exact pay9_at _ _ _ _ _ b k hp

/-- The result block at the last position. -/
theorem out_high (K : Vec Ideal S32x8x1 .i32) (U : Vec Ideal S32x8x1 .f32) (s : St Ideal) (X : Vec Ideal S32x9x1 .i32) (b : Fin 32) :
    outTail K U s X (ix3 b (8 : Fin 9) 0) = 4294967295#32 := by
  unfold outTail
  rw [put_high]
  exact pay10_at b

end Cert.KernelIdeal.Hand

end
-- ==== Proof.KerDraw.lean ====
/- The kernel program's draw of the exponential variates, on the host before the region. -/
module

public import proofs.«01_k».proof.Proof.RunIdeal
public import proofs.«01_k».proof.Proof.Draw
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- Stretch 0 of the draw. -/
abbrev d0 : List (HloOp τ sig (Elt F)) := (hostOps0_1.drop 0).take 22
/-- Stretch 1 of the draw. -/
abbrev d1 : List (HloOp τ sig (Elt F)) := (hostOps0_1.drop 22).take 22
/-- Stretch 2 of the draw. -/
abbrev d2 : List (HloOp τ sig (Elt F)) := (hostOps0_1.drop 44).take 22
/-- Stretch 3 of the draw. -/
abbrev d3 : List (HloOp τ sig (Elt F)) := (hostOps0_1.drop 66).take 22
/-- Stretch 4 of the draw. -/
abbrev d4 : List (HloOp τ sig (Elt F)) := (hostOps0_1.drop 88).take 22
/-- Stretch 5 of the draw. -/
abbrev d5 : List (HloOp τ sig (Elt F)) := (hostOps0_1.drop 110).take 22
/-- Stretch 6 of the draw. -/
abbrev d6 : List (HloOp τ sig (Elt F)) := (hostOps0_1.drop 132).take 22
/-- Stretch 7 of the draw. -/
abbrev d7 : List (HloOp τ sig (Elt F)) := (hostOps0_1.drop 154).take 22
/-- Stretch 8 of the draw. -/
abbrev d8 : List (HloOp τ sig (Elt F)) := (hostOps0_1.drop 176).take 22
/-- Stretch 9 of the draw. -/
abbrev d9 : List (HloOp τ sig (Elt F)) := (hostOps0_1.drop 198).take 22
/-- Stretch 10 of the draw. -/
abbrev d10 : List (HloOp τ sig (Elt F)) := (hostOps0_1.drop 220).take 22
/-- Stretch 11 of the draw. -/
abbrev d11 : List (HloOp τ sig (Elt F)) := (hostOps0_1.drop 242).take 22
/-- Stretch 12 of the draw. -/
abbrev d12 : List (HloOp τ sig (Elt F)) := (hostOps0_1.drop 264).take 3
theorem d0_u_v14 (V : Valuation τ sig (Elt F)) : StableHlo.after d0 V (Proc.devRef .tc main_call0_call0_v14) = Draw.f_u_v14  := by
  after_reads_simp; rfl
theorem d0_u_v16 (V : Valuation τ sig (Elt F)) : StableHlo.after d0 V (Proc.devRef .tc main_call0_call0_v16) = Draw.f_u_v16  := by
  after_reads_simp; rfl
theorem d0_u_v5 (V : Valuation τ sig (Elt F)) : StableHlo.after d0 V (Proc.devRef .tc main_call0_call0_v5) = Draw.f_u_v5 (V (Proc.devRef .tc main_c)) := by
  after_reads_simp; rfl
theorem d0_u_v7 (V : Valuation τ sig (Elt F)) : StableHlo.after d0 V (Proc.devRef .tc main_call0_call0_v7) = Draw.f_u_v7 (V (Proc.devRef .tc main_c)) := by
  after_reads_simp; rfl
theorem d0_u_v3 (V : Valuation τ sig (Elt F)) : StableHlo.after d0 V (Proc.devRef .tc main_call0_call0_v3) = Draw.f_u_v3  := by
  after_reads_simp; rfl
theorem d0_u_v2 (V : Valuation τ sig (Elt F)) : StableHlo.after d0 V (Proc.devRef .tc main_call0_call0_v2) = Draw.f_u_v2  := by
  after_reads_simp; rfl
theorem d1_u_v5 (V : Valuation τ sig (Elt F)) : StableHlo.after d1 V (Proc.devRef .tc main_call0_call0_v5) = V (Proc.devRef .tc main_call0_call0_v5) := by
  after_reads_simp
theorem d1_u_v7 (V : Valuation τ sig (Elt F)) : StableHlo.after d1 V (Proc.devRef .tc main_call0_call0_v7) = V (Proc.devRef .tc main_call0_call0_v7) := by
  after_reads_simp
theorem d1_t_v12 (V : Valuation τ sig (Elt F)) : StableHlo.after d1 V (Proc.devRef .tc main_call0_call0_call0_v12) = Draw.f_t_v12 (V (Proc.devRef .tc main_call0_call0_v14)) (V (Proc.devRef .tc main_call0_call0_v16)) (V (Proc.devRef .tc main_call0_call0_v5)) (V (Proc.devRef .tc main_call0_call0_v7)) := by
  after_reads_simp; rfl
theorem d1_t_v15 (V : Valuation τ sig (Elt F)) : StableHlo.after d1 V (Proc.devRef .tc main_call0_call0_call0_v15) = Draw.f_t_v15 (V (Proc.devRef .tc main_call0_call0_v14)) (V (Proc.devRef .tc main_call0_call0_v16)) (V (Proc.devRef .tc main_call0_call0_v5)) (V (Proc.devRef .tc main_call0_call0_v7)) := by
  after_reads_simp; rfl
theorem d1_t_v13 (V : Valuation τ sig (Elt F)) : StableHlo.after d1 V (Proc.devRef .tc main_call0_call0_call0_v13) = Draw.f_t_v13 (V (Proc.devRef .tc main_call0_call0_v14)) (V (Proc.devRef .tc main_call0_call0_v16)) (V (Proc.devRef .tc main_call0_call0_v5)) (V (Proc.devRef .tc main_call0_call0_v7)) := by
  after_reads_simp; rfl
theorem d1_t_v1 (V : Valuation τ sig (Elt F)) : StableHlo.after d1 V (Proc.devRef .tc main_call0_call0_call0_v1) = Draw.f_t_v1 (V (Proc.devRef .tc main_call0_call0_v5)) (V (Proc.devRef .tc main_call0_call0_v7)) := by
  after_reads_simp; rfl
theorem d1_u_v3 (V : Valuation τ sig (Elt F)) : StableHlo.after d1 V (Proc.devRef .tc main_call0_call0_v3) = V (Proc.devRef .tc main_call0_call0_v3) := by
  after_reads_simp
theorem d1_u_v2 (V : Valuation τ sig (Elt F)) : StableHlo.after d1 V (Proc.devRef .tc main_call0_call0_v2) = V (Proc.devRef .tc main_call0_call0_v2) := by
  after_reads_simp
theorem d2_u_v5 (V : Valuation τ sig (Elt F)) : StableHlo.after d2 V (Proc.devRef .tc main_call0_call0_v5) = V (Proc.devRef .tc main_call0_call0_v5) := by
  after_reads_simp
theorem d2_u_v7 (V : Valuation τ sig (Elt F)) : StableHlo.after d2 V (Proc.devRef .tc main_call0_call0_v7) = V (Proc.devRef .tc main_call0_call0_v7) := by
  after_reads_simp
theorem d2_t_v27 (V : Valuation τ sig (Elt F)) : StableHlo.after d2 V (Proc.devRef .tc main_call0_call0_call0_v27) = Draw.f_t_v27 (V (Proc.devRef .tc main_call0_call0_call0_v12)) (V (Proc.devRef .tc main_call0_call0_call0_v15)) (V (Proc.devRef .tc main_call0_call0_call0_v13)) := by
  after_reads_simp; rfl
theorem d2_t_v32 (V : Valuation τ sig (Elt F)) : StableHlo.after d2 V (Proc.devRef .tc main_call0_call0_call0_v32) = Draw.f_t_v32 (V (Proc.devRef .tc main_call0_call0_call0_v12)) (V (Proc.devRef .tc main_call0_call0_call0_v15)) (V (Proc.devRef .tc main_call0_call0_call0_v13)) := by
  after_reads_simp; rfl
theorem d2_t_v1 (V : Valuation τ sig (Elt F)) : StableHlo.after d2 V (Proc.devRef .tc main_call0_call0_call0_v1) = V (Proc.devRef .tc main_call0_call0_call0_v1) := by
  after_reads_simp
theorem d2_u_v3 (V : Valuation τ sig (Elt F)) : StableHlo.after d2 V (Proc.devRef .tc main_call0_call0_v3) = V (Proc.devRef .tc main_call0_call0_v3) := by
  after_reads_simp
theorem d2_u_v2 (V : Valuation τ sig (Elt F)) : StableHlo.after d2 V (Proc.devRef .tc main_call0_call0_v2) = V (Proc.devRef .tc main_call0_call0_v2) := by
  after_reads_simp
theorem d3_u_v5 (V : Valuation τ sig (Elt F)) : StableHlo.after d3 V (Proc.devRef .tc main_call0_call0_v5) = V (Proc.devRef .tc main_call0_call0_v5) := by
  after_reads_simp
theorem d3_u_v7 (V : Valuation τ sig (Elt F)) : StableHlo.after d3 V (Proc.devRef .tc main_call0_call0_v7) = V (Proc.devRef .tc main_call0_call0_v7) := by
  after_reads_simp
theorem d3_t_v1 (V : Valuation τ sig (Elt F)) : StableHlo.after d3 V (Proc.devRef .tc main_call0_call0_call0_v1) = V (Proc.devRef .tc main_call0_call0_call0_v1) := by
  after_reads_simp
theorem d3_t_v46 (V : Valuation τ sig (Elt F)) : StableHlo.after d3 V (Proc.devRef .tc main_call0_call0_call0_v46) = Draw.f_t_v46 (V (Proc.devRef .tc main_call0_call0_call0_v27)) (V (Proc.devRef .tc main_call0_call0_call0_v32)) (V (Proc.devRef .tc main_call0_call0_v7)) (V (Proc.devRef .tc main_call0_call0_call0_v1)) := by
  after_reads_simp; rfl
theorem d3_t_c_12 (V : Valuation τ sig (Elt F)) : StableHlo.after d3 V (Proc.devRef .tc main_call0_call0_call0_c_12) = Draw.f_t_c_12  := by
  after_reads_simp; rfl
theorem d3_t_v49 (V : Valuation τ sig (Elt F)) : StableHlo.after d3 V (Proc.devRef .tc main_call0_call0_call0_v49) = Draw.f_t_v49 (V (Proc.devRef .tc main_call0_call0_call0_v27)) (V (Proc.devRef .tc main_call0_call0_call0_v32)) (V (Proc.devRef .tc main_call0_call0_v7)) (V (Proc.devRef .tc main_call0_call0_call0_v1)) := by
  after_reads_simp; rfl
theorem d3_t_v47 (V : Valuation τ sig (Elt F)) : StableHlo.after d3 V (Proc.devRef .tc main_call0_call0_call0_v47) = Draw.f_t_v47 (V (Proc.devRef .tc main_call0_call0_call0_v27)) (V (Proc.devRef .tc main_call0_call0_call0_v32)) (V (Proc.devRef .tc main_call0_call0_v7)) (V (Proc.devRef .tc main_call0_call0_call0_v1)) := by
  after_reads_simp; rfl
theorem d3_u_v3 (V : Valuation τ sig (Elt F)) : StableHlo.after d3 V (Proc.devRef .tc main_call0_call0_v3) = V (Proc.devRef .tc main_call0_call0_v3) := by
  after_reads_simp
theorem d3_u_v2 (V : Valuation τ sig (Elt F)) : StableHlo.after d3 V (Proc.devRef .tc main_call0_call0_v2) = V (Proc.devRef .tc main_call0_call0_v2) := by
  after_reads_simp
theorem d4_u_v5 (V : Valuation τ sig (Elt F)) : StableHlo.after d4 V (Proc.devRef .tc main_call0_call0_v5) = V (Proc.devRef .tc main_call0_call0_v5) := by
  after_reads_simp
theorem d4_u_v7 (V : Valuation τ sig (Elt F)) : StableHlo.after d4 V (Proc.devRef .tc main_call0_call0_v7) = V (Proc.devRef .tc main_call0_call0_v7) := by
  after_reads_simp
theorem d4_t_v1 (V : Valuation τ sig (Elt F)) : StableHlo.after d4 V (Proc.devRef .tc main_call0_call0_call0_v1) = V (Proc.devRef .tc main_call0_call0_call0_v1) := by
  after_reads_simp
theorem d4_t_v61 (V : Valuation τ sig (Elt F)) : StableHlo.after d4 V (Proc.devRef .tc main_call0_call0_call0_v61) = Draw.f_t_v61 (V (Proc.devRef .tc main_call0_call0_call0_c_12)) (V (Proc.devRef .tc main_call0_call0_call0_v46)) (V (Proc.devRef .tc main_call0_call0_call0_v49)) (V (Proc.devRef .tc main_call0_call0_call0_v47)) := by
  after_reads_simp; rfl
theorem d4_t_v67 (V : Valuation τ sig (Elt F)) : StableHlo.after d4 V (Proc.devRef .tc main_call0_call0_call0_v67) = Draw.f_t_v67 (V (Proc.devRef .tc main_call0_call0_call0_c_12)) (V (Proc.devRef .tc main_call0_call0_call0_v46)) (V (Proc.devRef .tc main_call0_call0_call0_v49)) (V (Proc.devRef .tc main_call0_call0_call0_v47)) := by
  after_reads_simp; rfl
theorem d4_u_v3 (V : Valuation τ sig (Elt F)) : StableHlo.after d4 V (Proc.devRef .tc main_call0_call0_v3) = V (Proc.devRef .tc main_call0_call0_v3) := by
  after_reads_simp
theorem d4_u_v2 (V : Valuation τ sig (Elt F)) : StableHlo.after d4 V (Proc.devRef .tc main_call0_call0_v2) = V (Proc.devRef .tc main_call0_call0_v2) := by
  after_reads_simp
theorem d5_u_v5 (V : Valuation τ sig (Elt F)) : StableHlo.after d5 V (Proc.devRef .tc main_call0_call0_v5) = V (Proc.devRef .tc main_call0_call0_v5) := by
  after_reads_simp
theorem d5_u_v7 (V : Valuation τ sig (Elt F)) : StableHlo.after d5 V (Proc.devRef .tc main_call0_call0_v7) = V (Proc.devRef .tc main_call0_call0_v7) := by
  after_reads_simp
theorem d5_t_v1 (V : Valuation τ sig (Elt F)) : StableHlo.after d5 V (Proc.devRef .tc main_call0_call0_call0_v1) = V (Proc.devRef .tc main_call0_call0_call0_v1) := by
  after_reads_simp
theorem d5_t_v80 (V : Valuation τ sig (Elt F)) : StableHlo.after d5 V (Proc.devRef .tc main_call0_call0_call0_v80) = Draw.f_t_v80 (V (Proc.devRef .tc main_call0_call0_call0_v1)) (V (Proc.devRef .tc main_call0_call0_call0_v61)) (V (Proc.devRef .tc main_call0_call0_v5)) (V (Proc.devRef .tc main_call0_call0_call0_v67)) := by
  after_reads_simp; rfl
theorem d5_t_v84 (V : Valuation τ sig (Elt F)) : StableHlo.after d5 V (Proc.devRef .tc main_call0_call0_call0_v84) = Draw.f_t_v84  := by
  after_reads_simp; rfl
theorem d5_t_v83 (V : Valuation τ sig (Elt F)) : StableHlo.after d5 V (Proc.devRef .tc main_call0_call0_call0_v83) = Draw.f_t_v83 (V (Proc.devRef .tc main_call0_call0_call0_v1)) (V (Proc.devRef .tc main_call0_call0_call0_v61)) (V (Proc.devRef .tc main_call0_call0_v5)) (V (Proc.devRef .tc main_call0_call0_call0_v67)) := by
  after_reads_simp; rfl
theorem d5_t_v81 (V : Valuation τ sig (Elt F)) : StableHlo.after d5 V (Proc.devRef .tc main_call0_call0_call0_v81) = Draw.f_t_v81 (V (Proc.devRef .tc main_call0_call0_call0_v1)) (V (Proc.devRef .tc main_call0_call0_call0_v61)) (V (Proc.devRef .tc main_call0_call0_v5)) (V (Proc.devRef .tc main_call0_call0_call0_v67)) := by
  after_reads_simp; rfl
theorem d5_u_v3 (V : Valuation τ sig (Elt F)) : StableHlo.after d5 V (Proc.devRef .tc main_call0_call0_v3) = V (Proc.devRef .tc main_call0_call0_v3) := by
  after_reads_simp
theorem d5_u_v2 (V : Valuation τ sig (Elt F)) : StableHlo.after d5 V (Proc.devRef .tc main_call0_call0_v2) = V (Proc.devRef .tc main_call0_call0_v2) := by
  after_reads_simp
theorem d6_u_v5 (V : Valuation τ sig (Elt F)) : StableHlo.after d6 V (Proc.devRef .tc main_call0_call0_v5) = V (Proc.devRef .tc main_call0_call0_v5) := by
  after_reads_simp
theorem d6_u_v7 (V : Valuation τ sig (Elt F)) : StableHlo.after d6 V (Proc.devRef .tc main_call0_call0_v7) = V (Proc.devRef .tc main_call0_call0_v7) := by
  after_reads_simp
theorem d6_t_v1 (V : Valuation τ sig (Elt F)) : StableHlo.after d6 V (Proc.devRef .tc main_call0_call0_call0_v1) = V (Proc.devRef .tc main_call0_call0_call0_v1) := by
  after_reads_simp
theorem d6_t_v95 (V : Valuation τ sig (Elt F)) : StableHlo.after d6 V (Proc.devRef .tc main_call0_call0_call0_v95) = Draw.f_t_v95 (V (Proc.devRef .tc main_call0_call0_call0_v80)) (V (Proc.devRef .tc main_call0_call0_call0_v84)) (V (Proc.devRef .tc main_call0_call0_call0_v83)) (V (Proc.devRef .tc main_call0_call0_call0_v81)) := by
  after_reads_simp; rfl
theorem d6_t_v102 (V : Valuation τ sig (Elt F)) : StableHlo.after d6 V (Proc.devRef .tc main_call0_call0_call0_v102) = Draw.f_t_v102 (V (Proc.devRef .tc main_call0_call0_v5)) := by
  after_reads_simp; rfl
theorem d6_t_v101 (V : Valuation τ sig (Elt F)) : StableHlo.after d6 V (Proc.devRef .tc main_call0_call0_call0_v101) = Draw.f_t_v101 (V (Proc.devRef .tc main_call0_call0_call0_v80)) (V (Proc.devRef .tc main_call0_call0_call0_v84)) (V (Proc.devRef .tc main_call0_call0_call0_v83)) (V (Proc.devRef .tc main_call0_call0_call0_v81)) := by
  after_reads_simp; rfl
theorem d6_u_v3 (V : Valuation τ sig (Elt F)) : StableHlo.after d6 V (Proc.devRef .tc main_call0_call0_v3) = V (Proc.devRef .tc main_call0_call0_v3) := by
  after_reads_simp
theorem d6_u_v2 (V : Valuation τ sig (Elt F)) : StableHlo.after d6 V (Proc.devRef .tc main_call0_call0_v2) = V (Proc.devRef .tc main_call0_call0_v2) := by
  after_reads_simp
theorem d7_u_v5 (V : Valuation τ sig (Elt F)) : StableHlo.after d7 V (Proc.devRef .tc main_call0_call0_v5) = V (Proc.devRef .tc main_call0_call0_v5) := by
  after_reads_simp
theorem d7_u_v7 (V : Valuation τ sig (Elt F)) : StableHlo.after d7 V (Proc.devRef .tc main_call0_call0_v7) = V (Proc.devRef .tc main_call0_call0_v7) := by
  after_reads_simp
theorem d7_t_v1 (V : Valuation τ sig (Elt F)) : StableHlo.after d7 V (Proc.devRef .tc main_call0_call0_call0_v1) = V (Proc.devRef .tc main_call0_call0_call0_v1) := by
  after_reads_simp
theorem d7_t_v117 (V : Valuation τ sig (Elt F)) : StableHlo.after d7 V (Proc.devRef .tc main_call0_call0_call0_v117) = Draw.f_t_v117 (V (Proc.devRef .tc main_call0_call0_call0_v95)) (V (Proc.devRef .tc main_call0_call0_call0_v102)) (V (Proc.devRef .tc main_call0_call0_v7)) (V (Proc.devRef .tc main_call0_call0_call0_v101)) := by
  after_reads_simp; rfl
theorem d7_t_v119 (V : Valuation τ sig (Elt F)) : StableHlo.after d7 V (Proc.devRef .tc main_call0_call0_call0_v119) = Draw.f_t_v119 (V (Proc.devRef .tc main_call0_call0_call0_v95)) (V (Proc.devRef .tc main_call0_call0_call0_v102)) (V (Proc.devRef .tc main_call0_call0_v7)) (V (Proc.devRef .tc main_call0_call0_call0_v101)) := by
  after_reads_simp; rfl
theorem d7_t_v115 (V : Valuation τ sig (Elt F)) : StableHlo.after d7 V (Proc.devRef .tc main_call0_call0_call0_v115) = Draw.f_t_v115 (V (Proc.devRef .tc main_call0_call0_call0_v95)) (V (Proc.devRef .tc main_call0_call0_call0_v102)) (V (Proc.devRef .tc main_call0_call0_v7)) (V (Proc.devRef .tc main_call0_call0_call0_v101)) := by
  after_reads_simp; rfl
theorem d7_u_v3 (V : Valuation τ sig (Elt F)) : StableHlo.after d7 V (Proc.devRef .tc main_call0_call0_v3) = V (Proc.devRef .tc main_call0_call0_v3) := by
  after_reads_simp
theorem d7_u_v2 (V : Valuation τ sig (Elt F)) : StableHlo.after d7 V (Proc.devRef .tc main_call0_call0_v2) = V (Proc.devRef .tc main_call0_call0_v2) := by
  after_reads_simp
theorem d8_u_v5 (V : Valuation τ sig (Elt F)) : StableHlo.after d8 V (Proc.devRef .tc main_call0_call0_v5) = V (Proc.devRef .tc main_call0_call0_v5) := by
  after_reads_simp
theorem d8_t_v1 (V : Valuation τ sig (Elt F)) : StableHlo.after d8 V (Proc.devRef .tc main_call0_call0_call0_v1) = V (Proc.devRef .tc main_call0_call0_call0_v1) := by
  after_reads_simp
theorem d8_t_v135 (V : Valuation τ sig (Elt F)) : StableHlo.after d8 V (Proc.devRef .tc main_call0_call0_call0_v135) = Draw.f_t_v135 (V (Proc.devRef .tc main_call0_call0_call0_v117)) (V (Proc.devRef .tc main_call0_call0_call0_v119)) (V (Proc.devRef .tc main_call0_call0_call0_v115)) := by
  after_reads_simp; rfl
theorem d8_t_v137 (V : Valuation τ sig (Elt F)) : StableHlo.after d8 V (Proc.devRef .tc main_call0_call0_call0_v137) = Draw.f_t_v137 (V (Proc.devRef .tc main_call0_call0_call0_v117)) (V (Proc.devRef .tc main_call0_call0_call0_v119)) (V (Proc.devRef .tc main_call0_call0_call0_v115)) (V (Proc.devRef .tc main_call0_call0_v7)) := by
  after_reads_simp; rfl
theorem d8_u_v3 (V : Valuation τ sig (Elt F)) : StableHlo.after d8 V (Proc.devRef .tc main_call0_call0_v3) = V (Proc.devRef .tc main_call0_call0_v3) := by
  after_reads_simp
theorem d8_u_v2 (V : Valuation τ sig (Elt F)) : StableHlo.after d8 V (Proc.devRef .tc main_call0_call0_v2) = V (Proc.devRef .tc main_call0_call0_v2) := by
  after_reads_simp
theorem d9_u_v5 (V : Valuation τ sig (Elt F)) : StableHlo.after d9 V (Proc.devRef .tc main_call0_call0_v5) = V (Proc.devRef .tc main_call0_call0_v5) := by
  after_reads_simp
theorem d9_t_v1 (V : Valuation τ sig (Elt F)) : StableHlo.after d9 V (Proc.devRef .tc main_call0_call0_call0_v1) = V (Proc.devRef .tc main_call0_call0_call0_v1) := by
  after_reads_simp
theorem d9_t_v149 (V : Valuation τ sig (Elt F)) : StableHlo.after d9 V (Proc.devRef .tc main_call0_call0_call0_v149) = Draw.f_t_v149 (V (Proc.devRef .tc main_call0_call0_call0_v1)) (V (Proc.devRef .tc main_call0_call0_call0_v135)) (V (Proc.devRef .tc main_call0_call0_call0_v137)) := by
  after_reads_simp; rfl
theorem d9_t_v154 (V : Valuation τ sig (Elt F)) : StableHlo.after d9 V (Proc.devRef .tc main_call0_call0_call0_v154) = Draw.f_t_v154 (V (Proc.devRef .tc main_call0_call0_call0_v1)) (V (Proc.devRef .tc main_call0_call0_call0_v135)) (V (Proc.devRef .tc main_call0_call0_call0_v137)) := by
  after_reads_simp; rfl
theorem d9_u_v3 (V : Valuation τ sig (Elt F)) : StableHlo.after d9 V (Proc.devRef .tc main_call0_call0_v3) = V (Proc.devRef .tc main_call0_call0_v3) := by
  after_reads_simp
theorem d9_u_v2 (V : Valuation τ sig (Elt F)) : StableHlo.after d9 V (Proc.devRef .tc main_call0_call0_v2) = V (Proc.devRef .tc main_call0_call0_v2) := by
  after_reads_simp
theorem d10_t_v169 (V : Valuation τ sig (Elt F)) : StableHlo.after d10 V (Proc.devRef .tc main_call0_call0_call0_v169) = Draw.f_t_v169 (V (Proc.devRef .tc main_call0_call0_call0_v149)) (V (Proc.devRef .tc main_call0_call0_call0_v154)) := by
  after_reads_simp; rfl
theorem d10_t_v172 (V : Valuation τ sig (Elt F)) : StableHlo.after d10 V (Proc.devRef .tc main_call0_call0_call0_v172) = Draw.f_t_v172 (V (Proc.devRef .tc main_call0_call0_v5)) := by
  after_reads_simp; rfl
theorem d10_u_v19_0 (V : Valuation τ sig (Elt F)) : StableHlo.after d10 V (Proc.devRef .tc main_call0_call0_v19_0) = Draw.f_u_v19_0 (V (Proc.devRef .tc main_call0_call0_call0_v149)) (V (Proc.devRef .tc main_call0_call0_call0_v154)) (V (Proc.devRef .tc main_call0_call0_call0_v1)) := by
  after_reads_simp; rfl
theorem d10_u_v3 (V : Valuation τ sig (Elt F)) : StableHlo.after d10 V (Proc.devRef .tc main_call0_call0_v3) = V (Proc.devRef .tc main_call0_call0_v3) := by
  after_reads_simp
theorem d10_u_v2 (V : Valuation τ sig (Elt F)) : StableHlo.after d10 V (Proc.devRef .tc main_call0_call0_v2) = V (Proc.devRef .tc main_call0_call0_v2) := by
  after_reads_simp
theorem d11_e_v0 (V : Valuation τ sig (Elt F)) : StableHlo.after d11 V (Proc.devRef .tc main_call0_v0) = Draw.f_e_v0 (V (Proc.devRef .tc main_call0_call0_call0_v169)) (V (Proc.devRef .tc main_call0_call0_call0_v172)) (V (Proc.devRef .tc main_call0_call0_v19_0)) (V (Proc.devRef .tc main_call0_call0_v3)) (V (Proc.devRef .tc main_call0_call0_v2)) := by
  after_reads_simp; rfl
theorem d12_q (V : Valuation τ sig (Elt F)) : StableHlo.after d12 V (Proc.devRef .tc main_v0) = Draw.f_q (V (Proc.devRef .tc main_call0_v0)) := by
  after_reads_simp; rfl
/-! ## The contents after the first stretches -/

/-- The contents after stretch 0. -/
def u0 (V : Valuation τ sig (Elt F)) : Valuation τ sig (Elt F) := StableHlo.after d0 V
/-- The contents after stretch 1. -/
def u1 (V : Valuation τ sig (Elt F)) : Valuation τ sig (Elt F) := StableHlo.after d1 (u0 V)
/-- The contents after stretch 2. -/
def u2 (V : Valuation τ sig (Elt F)) : Valuation τ sig (Elt F) := StableHlo.after d2 (u1 V)
/-- The contents after stretch 3. -/
def u3 (V : Valuation τ sig (Elt F)) : Valuation τ sig (Elt F) := StableHlo.after d3 (u2 V)
/-- The contents after stretch 4. -/
def u4 (V : Valuation τ sig (Elt F)) : Valuation τ sig (Elt F) := StableHlo.after d4 (u3 V)
/-- The contents after stretch 5. -/
def u5 (V : Valuation τ sig (Elt F)) : Valuation τ sig (Elt F) := StableHlo.after d5 (u4 V)
/-- The contents after stretch 6. -/
def u6 (V : Valuation τ sig (Elt F)) : Valuation τ sig (Elt F) := StableHlo.after d6 (u5 V)
/-- The contents after stretch 7. -/
def u7 (V : Valuation τ sig (Elt F)) : Valuation τ sig (Elt F) := StableHlo.after d7 (u6 V)
/-- The contents after stretch 8. -/
def u8 (V : Valuation τ sig (Elt F)) : Valuation τ sig (Elt F) := StableHlo.after d8 (u7 V)
/-- The contents after stretch 9. -/
def u9 (V : Valuation τ sig (Elt F)) : Valuation τ sig (Elt F) := StableHlo.after d9 (u8 V)
/-- The contents after stretch 10. -/
def u10 (V : Valuation τ sig (Elt F)) : Valuation τ sig (Elt F) := StableHlo.after d10 (u9 V)
/-- The contents after stretch 11. -/
def u11 (V : Valuation τ sig (Elt F)) : Valuation τ sig (Elt F) := StableHlo.after d11 (u10 V)
/-- The contents after stretch 12. -/
def u12 (V : Valuation τ sig (Elt F)) : Valuation τ sig (Elt F) := StableHlo.after d12 (u11 V)
theorem u0_u_v14 (V : Valuation τ sig (Elt F)) : u0 V (Proc.devRef .tc main_call0_call0_v14) = Draw.u_v14 (V (Proc.devRef .tc main_c)) := by
  rw [u0, d0_u_v14]; rfl
theorem u0_u_v16 (V : Valuation τ sig (Elt F)) : u0 V (Proc.devRef .tc main_call0_call0_v16) = Draw.u_v16 (V (Proc.devRef .tc main_c)) := by
  rw [u0, d0_u_v16]; rfl
theorem u0_u_v5 (V : Valuation τ sig (Elt F)) : u0 V (Proc.devRef .tc main_call0_call0_v5) = Draw.u_v5 (V (Proc.devRef .tc main_c)) := by
  rw [u0, d0_u_v5]; rfl
theorem u0_u_v7 (V : Valuation τ sig (Elt F)) : u0 V (Proc.devRef .tc main_call0_call0_v7) = Draw.u_v7 (V (Proc.devRef .tc main_c)) := by
  rw [u0, d0_u_v7]; rfl
theorem u0_u_v3 (V : Valuation τ sig (Elt F)) : u0 V (Proc.devRef .tc main_call0_call0_v3) = Draw.u_v3 (V (Proc.devRef .tc main_c)) := by
  rw [u0, d0_u_v3]; rfl
theorem u0_u_v2 (V : Valuation τ sig (Elt F)) : u0 V (Proc.devRef .tc main_call0_call0_v2) = Draw.u_v2 (V (Proc.devRef .tc main_c)) := by
  rw [u0, d0_u_v2]; rfl
theorem u1_u_v5 (V : Valuation τ sig (Elt F)) : u1 V (Proc.devRef .tc main_call0_call0_v5) = Draw.u_v5 (V (Proc.devRef .tc main_c)) := by
  rw [u1, d1_u_v5, u0_u_v5]
theorem u1_u_v7 (V : Valuation τ sig (Elt F)) : u1 V (Proc.devRef .tc main_call0_call0_v7) = Draw.u_v7 (V (Proc.devRef .tc main_c)) := by
  rw [u1, d1_u_v7, u0_u_v7]
theorem u1_t_v12 (V : Valuation τ sig (Elt F)) : u1 V (Proc.devRef .tc main_call0_call0_call0_v12) = Draw.t_v12 (V (Proc.devRef .tc main_c)) := by
  rw [u1, d1_t_v12, u0_u_v14, u0_u_v16, u0_u_v5, u0_u_v7]; rfl
theorem u1_t_v15 (V : Valuation τ sig (Elt F)) : u1 V (Proc.devRef .tc main_call0_call0_call0_v15) = Draw.t_v15 (V (Proc.devRef .tc main_c)) := by
  rw [u1, d1_t_v15, u0_u_v14, u0_u_v16, u0_u_v5, u0_u_v7]; rfl
theorem u1_t_v13 (V : Valuation τ sig (Elt F)) : u1 V (Proc.devRef .tc main_call0_call0_call0_v13) = Draw.t_v13 (V (Proc.devRef .tc main_c)) := by
  rw [u1, d1_t_v13, u0_u_v14, u0_u_v16, u0_u_v5, u0_u_v7]; rfl
theorem u1_t_v1 (V : Valuation τ sig (Elt F)) : u1 V (Proc.devRef .tc main_call0_call0_call0_v1) = Draw.t_v1 (V (Proc.devRef .tc main_c)) := by
  rw [u1, d1_t_v1, u0_u_v5, u0_u_v7]; rfl
theorem u1_u_v3 (V : Valuation τ sig (Elt F)) : u1 V (Proc.devRef .tc main_call0_call0_v3) = Draw.u_v3 (V (Proc.devRef .tc main_c)) := by
  rw [u1, d1_u_v3, u0_u_v3]
theorem u1_u_v2 (V : Valuation τ sig (Elt F)) : u1 V (Proc.devRef .tc main_call0_call0_v2) = Draw.u_v2 (V (Proc.devRef .tc main_c)) := by
  rw [u1, d1_u_v2, u0_u_v2]
theorem u2_u_v5 (V : Valuation τ sig (Elt F)) : u2 V (Proc.devRef .tc main_call0_call0_v5) = Draw.u_v5 (V (Proc.devRef .tc main_c)) := by
  rw [u2, d2_u_v5, u1_u_v5]
theorem u2_u_v7 (V : Valuation τ sig (Elt F)) : u2 V (Proc.devRef .tc main_call0_call0_v7) = Draw.u_v7 (V (Proc.devRef .tc main_c)) := by
  rw [u2, d2_u_v7, u1_u_v7]
theorem u2_t_v27 (V : Valuation τ sig (Elt F)) : u2 V (Proc.devRef .tc main_call0_call0_call0_v27) = Draw.t_v27 (V (Proc.devRef .tc main_c)) := by
  rw [u2, d2_t_v27, u1_t_v12, u1_t_v15, u1_t_v13]; rfl
theorem u2_t_v32 (V : Valuation τ sig (Elt F)) : u2 V (Proc.devRef .tc main_call0_call0_call0_v32) = Draw.t_v32 (V (Proc.devRef .tc main_c)) := by
  rw [u2, d2_t_v32, u1_t_v12, u1_t_v15, u1_t_v13]; rfl
theorem u2_t_v1 (V : Valuation τ sig (Elt F)) : u2 V (Proc.devRef .tc main_call0_call0_call0_v1) = Draw.t_v1 (V (Proc.devRef .tc main_c)) := by
  rw [u2, d2_t_v1, u1_t_v1]
theorem u2_u_v3 (V : Valuation τ sig (Elt F)) : u2 V (Proc.devRef .tc main_call0_call0_v3) = Draw.u_v3 (V (Proc.devRef .tc main_c)) := by
  rw [u2, d2_u_v3, u1_u_v3]
theorem u2_u_v2 (V : Valuation τ sig (Elt F)) : u2 V (Proc.devRef .tc main_call0_call0_v2) = Draw.u_v2 (V (Proc.devRef .tc main_c)) := by
  rw [u2, d2_u_v2, u1_u_v2]
theorem u3_u_v5 (V : Valuation τ sig (Elt F)) : u3 V (Proc.devRef .tc main_call0_call0_v5) = Draw.u_v5 (V (Proc.devRef .tc main_c)) := by
  rw [u3, d3_u_v5, u2_u_v5]
theorem u3_u_v7 (V : Valuation τ sig (Elt F)) : u3 V (Proc.devRef .tc main_call0_call0_v7) = Draw.u_v7 (V (Proc.devRef .tc main_c)) := by
  rw [u3, d3_u_v7, u2_u_v7]
theorem u3_t_v1 (V : Valuation τ sig (Elt F)) : u3 V (Proc.devRef .tc main_call0_call0_call0_v1) = Draw.t_v1 (V (Proc.devRef .tc main_c)) := by
  rw [u3, d3_t_v1, u2_t_v1]
theorem u3_t_v46 (V : Valuation τ sig (Elt F)) : u3 V (Proc.devRef .tc main_call0_call0_call0_v46) = Draw.t_v46 (V (Proc.devRef .tc main_c)) := by
  rw [u3, d3_t_v46, u2_t_v27, u2_t_v32, u2_u_v7, u2_t_v1]; rfl
theorem u3_t_c_12 (V : Valuation τ sig (Elt F)) : u3 V (Proc.devRef .tc main_call0_call0_call0_c_12) = Draw.t_c_12 (V (Proc.devRef .tc main_c)) := by
  rw [u3, d3_t_c_12]; rfl
theorem u3_t_v49 (V : Valuation τ sig (Elt F)) : u3 V (Proc.devRef .tc main_call0_call0_call0_v49) = Draw.t_v49 (V (Proc.devRef .tc main_c)) := by
  rw [u3, d3_t_v49, u2_t_v27, u2_t_v32, u2_u_v7, u2_t_v1]; rfl
theorem u3_t_v47 (V : Valuation τ sig (Elt F)) : u3 V (Proc.devRef .tc main_call0_call0_call0_v47) = Draw.t_v47 (V (Proc.devRef .tc main_c)) := by
  rw [u3, d3_t_v47, u2_t_v27, u2_t_v32, u2_u_v7, u2_t_v1]; rfl
theorem u3_u_v3 (V : Valuation τ sig (Elt F)) : u3 V (Proc.devRef .tc main_call0_call0_v3) = Draw.u_v3 (V (Proc.devRef .tc main_c)) := by
  rw [u3, d3_u_v3, u2_u_v3]
theorem u3_u_v2 (V : Valuation τ sig (Elt F)) : u3 V (Proc.devRef .tc main_call0_call0_v2) = Draw.u_v2 (V (Proc.devRef .tc main_c)) := by
  rw [u3, d3_u_v2, u2_u_v2]
theorem u4_u_v5 (V : Valuation τ sig (Elt F)) : u4 V (Proc.devRef .tc main_call0_call0_v5) = Draw.u_v5 (V (Proc.devRef .tc main_c)) := by
  rw [u4, d4_u_v5, u3_u_v5]
theorem u4_u_v7 (V : Valuation τ sig (Elt F)) : u4 V (Proc.devRef .tc main_call0_call0_v7) = Draw.u_v7 (V (Proc.devRef .tc main_c)) := by
  rw [u4, d4_u_v7, u3_u_v7]
theorem u4_t_v1 (V : Valuation τ sig (Elt F)) : u4 V (Proc.devRef .tc main_call0_call0_call0_v1) = Draw.t_v1 (V (Proc.devRef .tc main_c)) := by
  rw [u4, d4_t_v1, u3_t_v1]
theorem u4_t_v61 (V : Valuation τ sig (Elt F)) : u4 V (Proc.devRef .tc main_call0_call0_call0_v61) = Draw.t_v61 (V (Proc.devRef .tc main_c)) := by
  rw [u4, d4_t_v61, u3_t_c_12, u3_t_v46, u3_t_v49, u3_t_v47]; rfl
theorem u4_t_v67 (V : Valuation τ sig (Elt F)) : u4 V (Proc.devRef .tc main_call0_call0_call0_v67) = Draw.t_v67 (V (Proc.devRef .tc main_c)) := by
  rw [u4, d4_t_v67, u3_t_c_12, u3_t_v46, u3_t_v49, u3_t_v47]; rfl
theorem u4_u_v3 (V : Valuation τ sig (Elt F)) : u4 V (Proc.devRef .tc main_call0_call0_v3) = Draw.u_v3 (V (Proc.devRef .tc main_c)) := by
  rw [u4, d4_u_v3, u3_u_v3]
theorem u4_u_v2 (V : Valuation τ sig (Elt F)) : u4 V (Proc.devRef .tc main_call0_call0_v2) = Draw.u_v2 (V (Proc.devRef .tc main_c)) := by
  rw [u4, d4_u_v2, u3_u_v2]
theorem u5_u_v5 (V : Valuation τ sig (Elt F)) : u5 V (Proc.devRef .tc main_call0_call0_v5) = Draw.u_v5 (V (Proc.devRef .tc main_c)) := by
  rw [u5, d5_u_v5, u4_u_v5]
theorem u5_u_v7 (V : Valuation τ sig (Elt F)) : u5 V (Proc.devRef .tc main_call0_call0_v7) = Draw.u_v7 (V (Proc.devRef .tc main_c)) := by
  rw [u5, d5_u_v7, u4_u_v7]
theorem u5_t_v1 (V : Valuation τ sig (Elt F)) : u5 V (Proc.devRef .tc main_call0_call0_call0_v1) = Draw.t_v1 (V (Proc.devRef .tc main_c)) := by
  rw [u5, d5_t_v1, u4_t_v1]
theorem u5_t_v80 (V : Valuation τ sig (Elt F)) : u5 V (Proc.devRef .tc main_call0_call0_call0_v80) = Draw.t_v80 (V (Proc.devRef .tc main_c)) := by
  rw [u5, d5_t_v80, u4_t_v1, u4_t_v61, u4_u_v5, u4_t_v67]; rfl
theorem u5_t_v84 (V : Valuation τ sig (Elt F)) : u5 V (Proc.devRef .tc main_call0_call0_call0_v84) = Draw.t_v84 (V (Proc.devRef .tc main_c)) := by
  rw [u5, d5_t_v84]; rfl
theorem u5_t_v83 (V : Valuation τ sig (Elt F)) : u5 V (Proc.devRef .tc main_call0_call0_call0_v83) = Draw.t_v83 (V (Proc.devRef .tc main_c)) := by
  rw [u5, d5_t_v83, u4_t_v1, u4_t_v61, u4_u_v5, u4_t_v67]; rfl
theorem u5_t_v81 (V : Valuation τ sig (Elt F)) : u5 V (Proc.devRef .tc main_call0_call0_call0_v81) = Draw.t_v81 (V (Proc.devRef .tc main_c)) := by
  rw [u5, d5_t_v81, u4_t_v1, u4_t_v61, u4_u_v5, u4_t_v67]; rfl
theorem u5_u_v3 (V : Valuation τ sig (Elt F)) : u5 V (Proc.devRef .tc main_call0_call0_v3) = Draw.u_v3 (V (Proc.devRef .tc main_c)) := by
  rw [u5, d5_u_v3, u4_u_v3]
theorem u5_u_v2 (V : Valuation τ sig (Elt F)) : u5 V (Proc.devRef .tc main_call0_call0_v2) = Draw.u_v2 (V (Proc.devRef .tc main_c)) := by
  rw [u5, d5_u_v2, u4_u_v2]
theorem u6_u_v5 (V : Valuation τ sig (Elt F)) : u6 V (Proc.devRef .tc main_call0_call0_v5) = Draw.u_v5 (V (Proc.devRef .tc main_c)) := by
  rw [u6, d6_u_v5, u5_u_v5]
theorem u6_u_v7 (V : Valuation τ sig (Elt F)) : u6 V (Proc.devRef .tc main_call0_call0_v7) = Draw.u_v7 (V (Proc.devRef .tc main_c)) := by
  rw [u6, d6_u_v7, u5_u_v7]
theorem u6_t_v1 (V : Valuation τ sig (Elt F)) : u6 V (Proc.devRef .tc main_call0_call0_call0_v1) = Draw.t_v1 (V (Proc.devRef .tc main_c)) := by
  rw [u6, d6_t_v1, u5_t_v1]
theorem u6_t_v95 (V : Valuation τ sig (Elt F)) : u6 V (Proc.devRef .tc main_call0_call0_call0_v95) = Draw.t_v95 (V (Proc.devRef .tc main_c)) := by
  rw [u6, d6_t_v95, u5_t_v80, u5_t_v84, u5_t_v83, u5_t_v81]; rfl
theorem u6_t_v102 (V : Valuation τ sig (Elt F)) : u6 V (Proc.devRef .tc main_call0_call0_call0_v102) = Draw.t_v102 (V (Proc.devRef .tc main_c)) := by
  rw [u6, d6_t_v102, u5_u_v5]; rfl
theorem u6_t_v101 (V : Valuation τ sig (Elt F)) : u6 V (Proc.devRef .tc main_call0_call0_call0_v101) = Draw.t_v101 (V (Proc.devRef .tc main_c)) := by
  rw [u6, d6_t_v101, u5_t_v80, u5_t_v84, u5_t_v83, u5_t_v81]; rfl
theorem u6_u_v3 (V : Valuation τ sig (Elt F)) : u6 V (Proc.devRef .tc main_call0_call0_v3) = Draw.u_v3 (V (Proc.devRef .tc main_c)) := by
  rw [u6, d6_u_v3, u5_u_v3]
theorem u6_u_v2 (V : Valuation τ sig (Elt F)) : u6 V (Proc.devRef .tc main_call0_call0_v2) = Draw.u_v2 (V (Proc.devRef .tc main_c)) := by
  rw [u6, d6_u_v2, u5_u_v2]
theorem u7_u_v5 (V : Valuation τ sig (Elt F)) : u7 V (Proc.devRef .tc main_call0_call0_v5) = Draw.u_v5 (V (Proc.devRef .tc main_c)) := by
  rw [u7, d7_u_v5, u6_u_v5]
theorem u7_u_v7 (V : Valuation τ sig (Elt F)) : u7 V (Proc.devRef .tc main_call0_call0_v7) = Draw.u_v7 (V (Proc.devRef .tc main_c)) := by
  rw [u7, d7_u_v7, u6_u_v7]
theorem u7_t_v1 (V : Valuation τ sig (Elt F)) : u7 V (Proc.devRef .tc main_call0_call0_call0_v1) = Draw.t_v1 (V (Proc.devRef .tc main_c)) := by
  rw [u7, d7_t_v1, u6_t_v1]
theorem u7_t_v117 (V : Valuation τ sig (Elt F)) : u7 V (Proc.devRef .tc main_call0_call0_call0_v117) = Draw.t_v117 (V (Proc.devRef .tc main_c)) := by
  rw [u7, d7_t_v117, u6_t_v95, u6_t_v102, u6_u_v7, u6_t_v101]; rfl
theorem u7_t_v119 (V : Valuation τ sig (Elt F)) : u7 V (Proc.devRef .tc main_call0_call0_call0_v119) = Draw.t_v119 (V (Proc.devRef .tc main_c)) := by
  rw [u7, d7_t_v119, u6_t_v95, u6_t_v102, u6_u_v7, u6_t_v101]; rfl
theorem u7_t_v115 (V : Valuation τ sig (Elt F)) : u7 V (Proc.devRef .tc main_call0_call0_call0_v115) = Draw.t_v115 (V (Proc.devRef .tc main_c)) := by
  rw [u7, d7_t_v115, u6_t_v95, u6_t_v102, u6_u_v7, u6_t_v101]; rfl
theorem u7_u_v3 (V : Valuation τ sig (Elt F)) : u7 V (Proc.devRef .tc main_call0_call0_v3) = Draw.u_v3 (V (Proc.devRef .tc main_c)) := by
  rw [u7, d7_u_v3, u6_u_v3]
theorem u7_u_v2 (V : Valuation τ sig (Elt F)) : u7 V (Proc.devRef .tc main_call0_call0_v2) = Draw.u_v2 (V (Proc.devRef .tc main_c)) := by
  rw [u7, d7_u_v2, u6_u_v2]
theorem u8_u_v5 (V : Valuation τ sig (Elt F)) : u8 V (Proc.devRef .tc main_call0_call0_v5) = Draw.u_v5 (V (Proc.devRef .tc main_c)) := by
  rw [u8, d8_u_v5, u7_u_v5]
theorem u8_t_v1 (V : Valuation τ sig (Elt F)) : u8 V (Proc.devRef .tc main_call0_call0_call0_v1) = Draw.t_v1 (V (Proc.devRef .tc main_c)) := by
  rw [u8, d8_t_v1, u7_t_v1]
theorem u8_t_v135 (V : Valuation τ sig (Elt F)) : u8 V (Proc.devRef .tc main_call0_call0_call0_v135) = Draw.t_v135 (V (Proc.devRef .tc main_c)) := by
  rw [u8, d8_t_v135, u7_t_v117, u7_t_v119, u7_t_v115]; rfl
theorem u8_t_v137 (V : Valuation τ sig (Elt F)) : u8 V (Proc.devRef .tc main_call0_call0_call0_v137) = Draw.t_v137 (V (Proc.devRef .tc main_c)) := by
  rw [u8, d8_t_v137, u7_t_v117, u7_t_v119, u7_t_v115, u7_u_v7]; rfl
theorem u8_u_v3 (V : Valuation τ sig (Elt F)) : u8 V (Proc.devRef .tc main_call0_call0_v3) = Draw.u_v3 (V (Proc.devRef .tc main_c)) := by
  rw [u8, d8_u_v3, u7_u_v3]
theorem u8_u_v2 (V : Valuation τ sig (Elt F)) : u8 V (Proc.devRef .tc main_call0_call0_v2) = Draw.u_v2 (V (Proc.devRef .tc main_c)) := by
  rw [u8, d8_u_v2, u7_u_v2]
theorem u9_u_v5 (V : Valuation τ sig (Elt F)) : u9 V (Proc.devRef .tc main_call0_call0_v5) = Draw.u_v5 (V (Proc.devRef .tc main_c)) := by
  rw [u9, d9_u_v5, u8_u_v5]
theorem u9_t_v1 (V : Valuation τ sig (Elt F)) : u9 V (Proc.devRef .tc main_call0_call0_call0_v1) = Draw.t_v1 (V (Proc.devRef .tc main_c)) := by
  rw [u9, d9_t_v1, u8_t_v1]
theorem u9_t_v149 (V : Valuation τ sig (Elt F)) : u9 V (Proc.devRef .tc main_call0_call0_call0_v149) = Draw.t_v149 (V (Proc.devRef .tc main_c)) := by
  rw [u9, d9_t_v149, u8_t_v1, u8_t_v135, u8_t_v137]; rfl
theorem u9_t_v154 (V : Valuation τ sig (Elt F)) : u9 V (Proc.devRef .tc main_call0_call0_call0_v154) = Draw.t_v154 (V (Proc.devRef .tc main_c)) := by
  rw [u9, d9_t_v154, u8_t_v1, u8_t_v135, u8_t_v137]; rfl
theorem u9_u_v3 (V : Valuation τ sig (Elt F)) : u9 V (Proc.devRef .tc main_call0_call0_v3) = Draw.u_v3 (V (Proc.devRef .tc main_c)) := by
  rw [u9, d9_u_v3, u8_u_v3]
theorem u9_u_v2 (V : Valuation τ sig (Elt F)) : u9 V (Proc.devRef .tc main_call0_call0_v2) = Draw.u_v2 (V (Proc.devRef .tc main_c)) := by
  rw [u9, d9_u_v2, u8_u_v2]
theorem u10_t_v169 (V : Valuation τ sig (Elt F)) : u10 V (Proc.devRef .tc main_call0_call0_call0_v169) = Draw.t_v169 (V (Proc.devRef .tc main_c)) := by
  rw [u10, d10_t_v169, u9_t_v149, u9_t_v154]; rfl
theorem u10_t_v172 (V : Valuation τ sig (Elt F)) : u10 V (Proc.devRef .tc main_call0_call0_call0_v172) = Draw.t_v172 (V (Proc.devRef .tc main_c)) := by
  rw [u10, d10_t_v172, u9_u_v5]; rfl
theorem u10_u_v19_0 (V : Valuation τ sig (Elt F)) : u10 V (Proc.devRef .tc main_call0_call0_v19_0) = Draw.u_v19_0 (V (Proc.devRef .tc main_c)) := by
  rw [u10, d10_u_v19_0, u9_t_v149, u9_t_v154, u9_t_v1]; rfl
theorem u10_u_v3 (V : Valuation τ sig (Elt F)) : u10 V (Proc.devRef .tc main_call0_call0_v3) = Draw.u_v3 (V (Proc.devRef .tc main_c)) := by
  rw [u10, d10_u_v3, u9_u_v3]
theorem u10_u_v2 (V : Valuation τ sig (Elt F)) : u10 V (Proc.devRef .tc main_call0_call0_v2) = Draw.u_v2 (V (Proc.devRef .tc main_c)) := by
  rw [u10, d10_u_v2, u9_u_v2]
theorem u11_e_v0 (V : Valuation τ sig (Elt F)) : u11 V (Proc.devRef .tc main_call0_v0) = Draw.e_v0 (V (Proc.devRef .tc main_c)) := by
  rw [u11, d11_e_v0, u10_t_v169, u10_t_v172, u10_u_v19_0, u10_u_v3, u10_u_v2]; rfl
theorem u12_q (V : Valuation τ sig (Elt F)) : u12 V (Proc.devRef .tc main_v0) = Draw.q (V (Proc.devRef .tc main_c)) := by
  rw [u12, d12_q, u11_e_v0]; rfl
theorem list_cut : (hostOps0_1 : List (HloOp τ sig (Elt F))) = List.flatten [d0, d1, d2, d3, d4, d5, d6, d7, d8, d9, d10, d11, d12] := rfl
/-- The draw's result, from any contents: the variates of the key found there. -/
theorem draw_eq (V : Valuation τ sig (Elt F)) : StableHlo.after hostOps0_1 V (Proc.devRef .tc main_v0) = Draw.q (V (Proc.devRef .tc main_c)) := by
  rw [← u12_q V, list_cut]
  simp only [List.flatten_cons, List.flatten_nil, List.append_nil, StableHlo.after_append, u0, u1, u2, u3, u4, u5, u6, u7, u8, u9, u10, u11, u12]

end Cert.KernelIdeal.Hand

end
-- ==== Proof.KerHost.lean ====
/- What the kernel program's host operations leave for the region: the scores' factors, the drafted tokens, the draws. -/
module

public import proofs.«01_k».proof.Proof.KerDraw
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

section
variable {F : FTy → Type} [FloatOps F]
variable (m : (ℓ : Loc nD τ sig) → Buf (Elt F) ℓ)

/-- The key the variates are drawn from. -/
def key : IVec S2 32 := fun i => lit0 (S2.rowMajor i)
/-- The acceptance draws. -/
def draws : FVec F S32x8x1 .f32 := fun i => FloatOps.ofBits .f32 (lit1 (S32x8x1.rowMajor i))

/-- The contents after the two constants. -/
def h0 (c : Dev nD) : Valuation τ sig (Elt F) := StableHlo.after hostOps0 (fun b => m (c, b))
/-- The contents after the draw. -/
def h1 (c : Dev nD) : Valuation τ sig (Elt F) := StableHlo.after hostOps0_1 (h0 m c)
/-- The contents after the reciprocals. -/
def h2 (c : Dev nD) : Valuation τ sig (Elt F) := StableHlo.after hostOps0_2 (h1 m c)
/-- The contents after the padding. -/
def h3 (c : Dev nD) : Valuation τ sig (Elt F) := StableHlo.after hostOps0_3 (h2 m c)

theorem V0_eq (c : Dev nD) : V0 m c = StableHlo.after hostOps0_4 (h3 m c) := by
  unfold h3 h2 h1 h0
  rw [← StableHlo.after_append, ← StableHlo.after_append, ← StableHlo.after_append, ← StableHlo.after_append]
  congr 1

theorem h0_key (c : Dev nD) : h0 m c (Proc.devRef .tc main_c) = key := by unfold h0; after_reads_simp; rfl
theorem h0_draws (c : Dev nD) : h0 m c (Proc.devRef .tc main_cst) = (draws : FVec F S32x8x1 .f32) := by unfold h0; after_reads_simp; rfl
theorem h1_v0 (c : Dev nD) : h1 m c (Proc.devRef .tc main_v0) = Draw.q key := by
  unfold h1; rw [draw_eq, h0_key]
set_option maxHeartbeats 40000000 in
theorem h1_draws (c : Dev nD) : h1 m c (Proc.devRef .tc main_cst) = (draws : FVec F S32x8x1 .f32) := by
  rw [← h0_draws m c]
  exact StableHlo.after_of_forall_not_mem (b := Proc.devRef .tc main_cst) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_v2 (c : Dev nD) : h2 m c (Proc.devRef .tc main_v2)
    = Host.divf (broadcastInDim S256x100000 ![] bcast_S_S256x100000 (constant S_ .f32 0x3F800000#32 : FVec F S_ .f32)) (Draw.q key) := by
  unfold h2; after_reads_simp; rw [h1_v0]
theorem h2_c1 (c : Dev nD) : h2 m c (Proc.devRef .tc main_c_1) = constantI S_ 32 0#32 := by
  unfold h2; after_reads_simp; try rfl
set_option maxHeartbeats 4000000 in
theorem h2_draws (c : Dev nD) : h2 m c (Proc.devRef .tc main_cst) = (draws : FVec F S32x8x1 .f32) := by
  unfold h2; after_reads_simp [h1_draws]; try rfl
theorem h3_v3 (c : Dev nD) : h3 m c (Proc.devRef .tc main_v3)
    = pad S256x102400 ![0, 0] ![0, 2400] ![0, 0] (Host.divf (broadcastInDim S256x100000 ![] bcast_S_S256x100000 (constant S_ .f32 0x3F800000#32 : FVec F S_ .f32)) (Draw.q key))
        (sitofp .f32 (constantI S_ 32 0#32)) pads_S256x100000_S256x102400_000_024000 h_S_ := by
  unfold h3; after_reads_simp; rw [h2_v2, h2_c1]; generalize (Host.divf (F := F) (φ := .f32) _ _) = z; rfl
theorem h3_draws (c : Dev nD) : h3 m c (Proc.devRef .tc main_cst) = (draws : FVec F S32x8x1 .f32) := by
  unfold h3; after_reads_simp [h2_draws]; try rfl

theorem V_v6 (c : Dev nD) : V m c main_v6
    = shapeCast S25x32x8x4096 (transpose S25x256x4096 [1, 0, 2] (shapeCast S256x25x4096 (h3 m c (Proc.devRef .tc main_v3)) shapeCasts_S256x102400_S256x25x4096)
        transposes_S256x25x4096_S25x256x4096_1_0_2) shapeCasts_S25x256x4096_S25x32x8x4096 := by
  show V0 m c _ = _
  rw [V0_eq]; after_reads_simp; try rfl
theorem V_cst (c : Dev nD) : V m c main_cst = (draws : FVec F S32x8x1 .f32) := by
  show V0 m c _ = _
  rw [V0_eq]; after_reads_simp [h3_draws]; try rfl
theorem h3_arg3 (c : Dev nD) : h3 m c (Proc.devRef .tc main_arg3) = m ((c : Thread nD τ).loc main_arg3) := by
  rw [← V_main_arg3 m c]
  show _ = V0 m c _
  rw [V0_eq]; after_reads_simp
theorem V_v7 (c : Dev nD) : V m c main_v7 = shapeCast S32x8x1 (m ((c : Thread nD τ).loc main_arg3)) shapeCasts_S32x8_S32x8x1 := by
  show V0 m c _ = _
  rw [V0_eq]; after_reads_simp [h3_arg3]; try rfl
end

end Cert.KernelIdeal.Hand

end
-- ==== Proof.PadAt.lean ====
/- The scores' factors as the region finds them, read at a place: the reciprocals of the variates. -/
module

public import proofs.«01_k».proof.Proof.KerHost
public import Idealize.ShloMosaic.Lib.KernelVsHost

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

theorem pad_at (x : FVec Ideal S256x100000 .f32) (v : FVec Ideal S_ .f32) (r : Fin 256) (p : ℕ) (hp : p < 102400) (h : p < 100000) :
    pad S256x102400 ![0, 0] ![0, 2400] ![0, 0] x v pads_S256x100000_S256x102400_000_024000 h_S_ (ix2 r (⟨p, hp⟩ : Fin 102400))
      = x (ix2 r (⟨p, h⟩ : Fin 100000)) := by
  refine pad_apply_of_inside _ _ _ x v pads_S256x100000_S256x102400_000_024000 h_S_ _ (ix2 r (⟨p, h⟩ : Fin 100000)) ?_
  intro a
  match a with
  | ⟨0, _⟩ => exact (by omega : r.val = 0 + r.val * (0 + 1))
  | ⟨1, _⟩ => exact (by omega : p = 0 + p * (0 + 1))

theorem recip_at (y : FVec Ideal S256x100000 .f32) (i : S256x100000.Idx) :
    Host.divf (broadcastInDim S256x100000 ![] bcast_S_S256x100000 (constant S_ .f32 0x3F800000#32 : FVec Ideal S_ .f32)) y i = Ideal.div 1 (y i) := by
  pointwise

theorem lay_at (X : FVec Ideal S256x102400 .f32) (n : Fin 25) (b : Fin 32) (k : Fin 8) (l : Fin 4096) :
    shapeCast S25x32x8x4096 (transpose S25x256x4096 [1, 0, 2] (shapeCast S256x25x4096 X shapeCasts_S256x102400_S256x25x4096)
        transposes_S256x25x4096_S25x256x4096_1_0_2) shapeCasts_S25x256x4096_S25x32x8x4096 (ix4 n b k l)
      = X (ix2 (⟨b.val * 8 + k.val, by omega⟩ : Fin 256) (⟨n.val * 4096 + l.val, by omega⟩ : Fin 102400)) := by
  pointwise

theorem v6_at (m : (ℓ : Loc nD τ sig) → Buf (Elt Ideal) ℓ) (c : Dev nD) (n : Fin 25) (b : Fin 32) (k : Fin 8) (l : Fin 4096) (h : n.val * 4096 + l.val < 100000) :
    V m c main_v6 (ix4 n b k l)
      = Ideal.div 1 (Draw.q (F := Ideal) key (ix2 (⟨b.val * 8 + k.val, by omega⟩ : Fin 256) (⟨n.val * 4096 + l.val, h⟩ : Fin 100000))) := by
  rw [V_v6, h3_v3]
  generalize Draw.q (F := Ideal) key = y
  rw [lay_at, pad_at _ _ _ _ _ h, recip_at]

end Cert.KernelIdeal.Hand

end
-- ==== Proof.Blocks.lean ====
/- The region's blocks read at a place: which entry of the arrays each is. -/
module

public import proofs.«01_k».proof.Proof.PadAt
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

theorem index_0 : ∀ t : Fin cfg0.N, win0_0.index t = ![0, 0, t.val] := (by decide +kernel : ∀ t : Fin grid0.N, _)
theorem index_1 : ∀ t : Fin cfg0.N, win0_1.index t = ![0, 0, t.val] := (by decide +kernel : ∀ t : Fin grid0.N, _)
theorem index_2 : ∀ t : Fin cfg0.N, win0_2.index t = ![t.val, 0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0, 0] := (by decide +kernel : ∀ t : Fin grid0.N, _)

theorem W_at (c : Dev nD) (t : Fin cfg0.N) (b : Fin 32) (k : Fin 8) :
    Wb m c t (ix3 b k 0) = m ((c : Thread nD τ).loc main_arg3) (ix2 b k) := by
  have h : Wb m c t (ix3 b k 0) = V m c main_v7 (ix3 b k 0) := by
    unfold Wb
    blk_simp [iblk]
    refine congrArg (V m c main_v7) ?_
    blk_ext [index_3]
  rw [h, V_v7]
  pointwise

theorem U_at (c : Dev nD) (t : Fin cfg0.N) (b : Fin 32) (k : Fin 8) :
    Ub m c t (ix3 b k 0) = draws (F := Ideal) (ix3 b k 0) := by
  have h : Ub m c t (ix3 b k 0) = V m c main_cst (ix3 b k 0) := by
    unfold Ub
    blk_simp [iblk]
    refine congrArg (V m c main_cst) ?_
    blk_ext [index_4]
  rw [h, V_cst]

theorem Q_at (c : Dev nD) (t : Fin cfg0.N) (b : Fin 32) (k : Fin 8) (l : Fin 4096) (h : t.val * 4096 + l.val < 100000) :
    Qb m c t (ix4 0 b k l) = Ideal.div 1 (Draw.q (F := Ideal) key (ix2 (⟨b.val * 8 + k.val, by omega⟩ : Fin 256) (⟨t.val * 4096 + l.val, h⟩ : Fin 100000))) := by
  have h' : Qb m c t (ix4 0 b k l) = V m c main_v6 (ix4 (⟨t.val, t.isLt⟩ : Fin 25) b k l) := by
    unfold Qb
    blk_simp [iblk]
    refine congrArg (V m c main_v6) ?_
    blk_ext [index_2]
  rw [h']
  exact v6_at m c ⟨t.val, t.isLt⟩ b k l h

theorem xsize_0 : ∀ t : Fin cfg0.N, win0_0.xsize (grid0.coords t) = ![32, 8, min 4096 (100000 - t.val * 4096)] := (by decide +kernel : ∀ t : Fin grid0.N, _)
theorem xsize_1 : ∀ t : Fin cfg0.N, win0_1.xsize (grid0.coords t) = ![32, 8, min 4096 (100000 - t.val * 4096)] := (by decide +kernel : ∀ t : Fin grid0.N, _)

theorem T_at (c : Dev nD) (t : Fin cfg0.N) (d) (b : Fin 32) (k : Fin 8) (l : Fin 4096) (h : t.val * 4096 + l.val < 100000) :
    Tb m c t d (ix3 b k l) = m ((c : Thread nD τ).loc main_arg0) (ix3 b k (⟨t.val * 4096 + l.val, h⟩ : Fin 100000)) := by
  have hm : win0_0.moved (grid0.coords t) (ix3 b k l) = true := by
    rw [Pipeline.Window.moved_iff, xsize_0]
    intro a
    fin_cases a
    · exact b.isLt
    · exact k.isLt
    · show l.val < min 4096 (100000 - t.val * 4096)
      have := l.isLt
      omega
  unfold Tb Pipeline.Window.fill
  rw [dif_pos hm, ← V_main_arg0 m c]
  unfold iblk
  show V m c main_arg0 _ = _
  refine congrArg (V m c main_arg0) ?_
  blk_ext [index_0]

theorem D_at (c : Dev nD) (t : Fin cfg0.N) (d) (b : Fin 32) (k : Fin 8) (l : Fin 4096) (h : t.val * 4096 + l.val < 100000) :
    Db m c t d (ix3 b k l) = m ((c : Thread nD τ).loc main_arg2) (ix3 b k (⟨t.val * 4096 + l.val, h⟩ : Fin 100000)) := by
  have hm : win0_1.moved (grid0.coords t) (ix3 b k l) = true := by
    rw [Pipeline.Window.moved_iff, xsize_1]
    intro a
    fin_cases a
    · exact b.isLt
    · exact k.isLt
    · show l.val < min 4096 (100000 - t.val * 4096)
      have := l.isLt
      omega
  unfold Db Pipeline.Window.fill
  rw [dif_pos hm, ← V_main_arg2 m c]
  unfold iblk
  show V m c main_arg2 _ = _
  refine congrArg (V m c main_arg2) ?_
  blk_ext [index_1]
end Cert.KernelIdeal.Hand

end
-- ==== Proof.DrawReal.lean ====
/- The exponential variates are non-negative real numbers, in the reals' arithmetic. -/
module

public import proofs.«01_k».proof.Proof.Draw
public import Idealize.ShloMosaic.Lib.Pointwise

@[expose] public section

noncomputable section

namespace Cert.Draw

open Idealize.ShloMosaic Cert.ReferenceIdeal

/-- A word with a zero sign and the exponent of one denotes a number from one up to two. -/
theorem unit_bits (x : BitVec 32) : ∃ r : ℝ, 1 ≤ r ∧ r < 2 ∧ Ideal.ofBits .f32 ((x >>> 9) ||| 1065353216#32) = (r : EReal) := by
  have hx := x.isLt
  have hn : ((x >>> 9) ||| 1065353216#32).toNat = 127 * 8388608 + x.toNat / 512 := by
    rw [BitVec.toNat_or, BitVec.toNat_ushiftRight, BitVec.toNat_ofNat, Nat.shiftRight_eq_div_pow, Nat.or_comm]
    have h := Nat.shiftLeft_add_eq_or_of_lt (a := 127) (i := 23) (b := x.toNat / 2 ^ 9) (by omega)
    rw [Nat.shiftLeft_eq] at h
    exact h.symm
  generalize (x >>> 9) ||| 1065353216#32 = w at hn
  have h1 : w.extractLsb' (8 + 23) 1 = 0#1 := by
    rw [← BitVec.toNat_inj, BitVec.extractLsb'_toNat, hn, Nat.shiftRight_eq_div_pow]
    show (127 * 8388608 + x.toNat / 512) / 2 ^ 31 % 2 = 0
    omega
  have h2 : (w.extractLsb' 23 8).toNat = 127 := by
    rw [BitVec.extractLsb'_toNat, hn, Nat.shiftRight_eq_div_pow]
    omega
  have h3 : (w.extractLsb' 0 23).toNat = x.toNat / 512 := by
    rw [BitVec.extractLsb'_toNat, hn, Nat.shiftRight_eq_div_pow]
    omega
  have hlt : ((x.toNat / 512 : ℕ) : ℝ) < 8388608 := by
    have : x.toNat / 512 < 8388608 := by omega
    exact_mod_cast this
  have hge : (0 : ℝ) ≤ ((x.toNat / 512 : ℕ) : ℝ) := Nat.cast_nonneg _
  refine ⟨(2 ^ 23 + x.toNat / 512 : ℕ) * (2 : ℝ) ^ (-23 : ℤ), ?_, ?_, ?_⟩
  · push_cast [zpow_neg]; norm_num; linarith
  · push_cast [zpow_neg]; norm_num; linarith
  · show Ideal.ieee 8 23 w = _
    unfold Ideal.ieee
    simp only [h1, h2, h3]
    norm_num

theorem e_real (a b c : IVec S256x100000 32) (i : S256x100000.Idx) :
    ∃ r : ℝ, 0 ≤ r ∧ r < 1 ∧ f_e_v0 (F := Ideal) a b c f_u_v3 f_u_v2 i = (r : EReal) := by
  unfold f_e_v0 f_u_v3 f_u_v2
  pointwise
  simp only [id]
  pointwise
  generalize IntOp.xori _ _ = w
  obtain ⟨r, h1, h2, hr⟩ := unit_bits w
  have e : Ideal.ofBits FTy.f32 (IntOp.ori (IntOp.shrui ArithUnit.host w 9#32) 1065353216#32) = (r : EReal) := hr
  rw [e]
  refine ⟨r - 1, by linarith, by linarith, ?_⟩
  rw [← EReal.coe_one, ← EReal.coe_sub]
  exact max_eq_right (by rw [← EReal.coe_zero, EReal.coe_le_coe_iff]; linarith)

theorem q_real (key : IVec S2 32) (i : S256x100000.Idx) : ∃ r : ℝ, 0 ≤ r ∧ q (F := Ideal) key i = (r : EReal) := by
  obtain ⟨r, h0, h1, hr⟩ := e_real (t_v169 key) (t_v172 key) (u_v19_0 key) i
  have he : e_v0 (F := Ideal) key i = (r : EReal) := hr
  unfold q f_q
  pointwise
  rw [he]
  refine ⟨-Real.log (1 - r), ?_, ?_⟩
  · have := Real.log_nonpos (x := 1 - r) (by linarith) (by linarith)
    linarith
  · unfold Ideal.log1p
    rw [← EReal.coe_neg, ← EReal.coe_one, ← EReal.coe_add]
    have e : Ideal.log ((1 + -r : ℝ) : EReal) = ((Real.log (1 + -r) : ℝ) : EReal) := by
      show (if (1 + -r : ℝ) ≤ 0 then (⊥ : EReal) else (Real.log (1 + -r) : EReal)) = _
      rw [if_neg (by linarith)]
    rw [e, ← EReal.coe_neg]
    rfl

end Cert.Draw

end
-- ==== Proof.Scale.lean ====
/- The reference's score is the kernel's by a positive real factor: the two have the same first greatest place. -/
module

public import proofs.«01_k».proof.Proof.Best

@[expose] public section

noncomputable section

namespace Cert.Best

open Idealize.ShloMosaic

theorem div_def (x y : EReal) : Ideal.div x y = if y = 0 then (if 0 < x then ⊤ else ⊥) else x * y⁻¹ := rfl

/-- A sum of positive reals is a positive real. -/
theorem sum_real {n : ℕ} (hn : 0 < n) (f : Fin n → EReal) (hf : ∀ v, ∃ r : ℝ, 0 < r ∧ f v = (r : EReal)) :
    ∃ S : ℝ, 0 < S ∧ ∑ v, f v = (S : EReal) := by
  choose r hr he using hf
  refine ⟨∑ v, r v, ?_, ?_⟩
  · haveI : Nonempty (Fin n) := ⟨⟨0, hn⟩⟩
    exact Finset.sum_pos (fun v _ => hr v) Finset.univ_nonempty
  · simp only [he]
    exact (map_sum (⟨⟨fun x : ℝ => (x : EReal), EReal.coe_zero⟩, EReal.coe_add⟩ : ℝ →+ EReal) r Finset.univ).symm

/-- The reference's score from the kernel's, by the sum of the row. -/
theorem score_scale (f q S : ℝ) (hf : 0 < f) (hq : 0 ≤ q) (hS : 0 < S) :
    Ideal.div (Ideal.div (f : EReal) (S : EReal)) (q : EReal) = ((S⁻¹ : ℝ) : EReal) * ((f : EReal) * Ideal.div 1 (q : EReal)) := by
  have hS0 : (S : EReal) ≠ 0 := by exact_mod_cast hS.ne'
  have hSi : (0 : ℝ) < S⁻¹ := inv_pos.mpr hS
  have e1 : Ideal.div (f : EReal) (S : EReal) = ((f * S⁻¹ : ℝ) : EReal) := by
    rw [div_def, if_neg hS0, ← EReal.coe_inv, ← EReal.coe_mul]
  rw [e1, div_def, div_def]
  rcases hq.lt_or_eq with h | h
  · have hq0 : (q : EReal) ≠ 0 := by exact_mod_cast h.ne'
    rw [if_neg hq0, if_neg hq0, ← EReal.coe_inv, one_mul, ← EReal.coe_mul, ← EReal.coe_mul, ← EReal.coe_mul]
    congr 1
    ring
  · subst h
    have h1 : (0 : EReal) < ((f * S⁻¹ : ℝ) : EReal) := by exact_mod_cast mul_pos hf hSi
    rw [if_pos EReal.coe_zero, if_pos EReal.coe_zero, if_pos h1, if_pos one_pos, EReal.coe_mul_top_of_pos hf, EReal.coe_mul_top_of_pos hSi]

theorem score_pos (f q : ℝ) (hf : 0 < f) (hq : 0 ≤ q) : 0 < (f : EReal) * Ideal.div 1 (q : EReal) := by
  have hf' : (0 : EReal) < f := by exact_mod_cast hf
  rw [div_def]
  split
  · rw [if_pos one_pos, EReal.coe_mul_top_of_pos hf]
    exact EReal.zero_lt_top
  · next h =>
    have hq' : 0 < q := lt_of_le_of_ne hq (fun e => h (by rw [← e]; rfl))
    rw [← EReal.coe_inv, one_mul, ← EReal.coe_mul]
    exact_mod_cast mul_pos hf (inv_pos.mpr hq')

/-- A positive real factor keeps the order. -/
theorem scale_lt (a : ℝ) (ha : 0 < a) (x y : EReal) (hx : 0 < x) : x < y → ((a : ℝ) : EReal) * x < a * y := by
  intro h
  have hy := hx.trans h
  induction x using EReal.rec with
  | bot => exact absurd hx (by simp)
  | top => exact absurd h not_top_lt
  | coe x =>
    induction y using EReal.rec with
    | bot => exact absurd hy (by simp)
    | top => rw [EReal.coe_mul_top_of_pos ha, ← EReal.coe_mul]; exact EReal.coe_lt_top _
    | coe y =>
      rw [← EReal.coe_mul, ← EReal.coe_mul]
      have : x < y := by exact_mod_cast h
      exact_mod_cast mul_lt_mul_of_pos_left this ha

theorem First.scale {n : ℕ} {x y : ℕ → EReal} {k : ℕ} (a : ℝ) (ha : 0 < a) (hx : ∀ v, v < n → 0 < x v) (hy : ∀ v, v < n → y v = (a : EReal) * x v)
    (h : First n x k) : First n y k := by
  refine ⟨h.1, fun v hv => ?_, fun v hv => ?_⟩
  · rw [hy v hv, hy k h.1]
    rcases (h.2.1 v hv).lt_or_eq with c | c
    · exact (scale_lt a ha _ _ (hx v hv) c).le
    · rw [c]
  · rw [hy v (hv.trans h.1), hy k h.1]
    exact scale_lt a ha _ _ (hx v (hv.trans h.1)) (h.2.2 v hv)

/-- The least positive normal number is a positive real. -/
theorem tiny_real : ∃ r : ℝ, 0 < r ∧ Ideal.ofBits .f32 0x00800000#32 = (r : EReal) := by
  refine ⟨_, ?_, by simp [Ideal.ofBits, Ideal.ieee]; rfl⟩
  positivity

/-- The difference of probabilities, kept above the least normal number, is a positive real. -/
theorem diff_real (x : EReal) (h : x < ⊤) : ∃ r : ℝ, 0 < r ∧ max x (Ideal.ofBits .f32 0x00800000#32) = (r : EReal) := by
  obtain ⟨r, hr, e⟩ := tiny_real
  rw [e]
  induction x using EReal.rec with
  | bot => exact ⟨r, hr, max_eq_right bot_le⟩
  | top => exact absurd h (lt_irrefl _)
  | coe x => exact ⟨max x r, lt_max_of_lt_right hr, (EReal.coe_strictMono.monotone.map_max).symm⟩

/-- A fold of `and` that is one has every element one. -/
theorem and_one {α : Type} (s : Finset α) (f : α → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha] at h
    have hb : ∀ x y : BitVec 1, IntOp.andi x y = 1#1 → x = 1#1 ∧ y = 1#1 := by decide
    obtain ⟨h1, h2⟩ := hb _ _ h
    intro i hi
    rcases Finset.mem_insert.mp hi with rfl | hi
    · exact h1
    · exact ih h2 i hi

end Cert.Best

end
-- ==== Proof.Same.lean ====
/- One (batch, position) row in both programs: the same constants, the same recovery word, the same output words. -/
module

public import proofs.«01_k».proof.Proof.OutAt
public import proofs.«01_k».proof.Proof.Blocks
public import proofs.«01_k».proof.Proof.DrawReal
public import proofs.«01_k».proof.Proof.Scale

@[expose] public section

noncomputable section

namespace Cert.Same

open Idealize.ShloMosaic
open Cert.Best
open Cert.KernelIdeal (S2 S32x8 S32x8x1 S32x8x100000 S32x9x1 S32x1x1)
open Cert.KernelIdeal.Hand (score tiny key draws RowInv St)
open Cert.ReferenceIdeal.Hand (v_v51 v_v59 v_v60 v_v61 v_v62 v_v93 v_c IsLim word)

/-- The two programs hold the key's words in the same order. -/
theorem key_eq (a0 a2 : FVec Ideal S32x8x100000 .f32) (a3 : IVec S32x8 32) : v_c a0 a2 a3 = key := by
  funext i
  have e : ∀ j : Fin 2, Cert.ReferenceIdeal.lit1 j = Cert.KernelIdeal.lit0 j := by
    intro j; fin_cases j <;> rfl
  exact e _

theorem table_eq : ∀ j : Fin 256, Cert.KernelIdeal.lit1 j = Cert.ReferenceIdeal.lit0 j := by
  decide +kernel

theorem place_eq : ∀ (b : Fin 32) (k : Fin 8), (Cert.KernelIdeal.S32x8x1.rowMajor (ix3 b k 0)).val = (Cert.ReferenceIdeal.S32x8.rowMajor (ix2 b k)).val := by
  decide +kernel

/-- The acceptance draw of a row, in both programs. -/
theorem draws_eq (b : Fin 32) (k : Fin 8) :
    draws (F := Ideal) (ix3 b k 0) = Ideal.ofBits .f32 (Cert.ReferenceIdeal.lit0 (Cert.ReferenceIdeal.S32x8.rowMajor (ix2 b k))) := by
  have e : (Cert.KernelIdeal.S32x8x1.rowMajor (ix3 b k 0) : Fin 256) = Cert.ReferenceIdeal.S32x8.rowMajor (ix2 b k) := Fin.ext (place_eq b k)
  show Ideal.ofBits .f32 (Cert.KernelIdeal.lit1 (Cert.KernelIdeal.S32x8x1.rowMajor (ix3 b k 0))) = _
  exact congrArg (Ideal.ofBits .f32) ((table_eq _).trans (congrArg Cert.ReferenceIdeal.lit0 e))

theorem g61_at (x y : FVec Ideal Cert.ReferenceIdeal.S256x100000 .f32) (i : Cert.ReferenceIdeal.S256x100000.Idx) :
    Cert.ReferenceIdeal.Hand.g_v61 x y i = Ideal.div (x i) (y i) := by
  unfold Cert.ReferenceIdeal.Hand.g_v61
  pointwise

/-- A row of probabilities. -/
def At (x : FVec Ideal S32x8x100000 .f32) (b : Fin 32) (k : Fin 8) (v : ℕ) : EReal :=
  if h : v < 100000 then x (ix3 b k (⟨v, h⟩ : Fin 100000)) else 0

/-- A row of the variates. -/
def qAt (b : Fin 32) (k : Fin 8) (v : ℕ) : EReal :=
  if h : v < 100000 then Cert.Draw.q (F := Ideal) key (ix2 (⟨b.val * 8 + k.val, by have := b.isLt; have := k.isLt; omega⟩ : Fin 256) (⟨v, h⟩ : Fin 100000)) else 1

theorem At_of (x : FVec Ideal S32x8x100000 .f32) (b : Fin 32) (k : Fin 8) (v : ℕ) (h : v < 100000) : At x b k v = x (ix3 b k (⟨v, h⟩ : Fin 100000)) := dif_pos h
theorem qAt_of (b : Fin 32) (k : Fin 8) (v : ℕ) (h : v < 100000) :
    qAt b k v = Cert.Draw.q (F := Ideal) key (ix2 (⟨b.val * 8 + k.val, by have := b.isLt; have := k.isLt; omega⟩ : Fin 256) (⟨v, h⟩ : Fin 100000)) := dif_pos h

theorem qAt_real (b : Fin 32) (k : Fin 8) (v : ℕ) (h : v < 100000) : ∃ r : ℝ, 0 ≤ r ∧ qAt b k v = (r : EReal) := by
  rw [qAt_of b k v h]
  exact Cert.Draw.q_real key _

/-- The kernel's score of a row at a place. -/
def sc (a0 a2 : FVec Ideal S32x8x100000 .f32) (b : Fin 32) (k : Fin 8) : ℕ → EReal :=
  score (At a0 b k) (At a2 b k) (fun v => Ideal.div 1 (qAt b k v))

variable {a0 a2 : FVec Ideal S32x8x100000 .f32} (ht : ∀ i, a0 i - a2 i < ⊤)
include ht

theorem sc_pos (b : Fin 32) (k : Fin 8) (v : ℕ) (h : v < 100000) : 0 < sc a0 a2 b k v := by
  unfold sc score tiny
  dsimp only
  obtain ⟨q, hq, eq⟩ := qAt_real b k v h
  obtain ⟨f, hf, ef⟩ := diff_real _ (ht (ix3 b k (⟨v, h⟩ : Fin 100000)))
  rw [At_of a0 b k v h, At_of a2 b k v h, ef, eq]
  exact score_pos f q hf hq

theorem v61_at (a3 : IVec S32x8 32) (i : Cert.ReferenceIdeal.S256x100000.Idx) :
    v_v61 a0 a2 a3 i = Ideal.div (v_v59 a0 a2 a3 i) (Cert.Draw.q (F := Ideal) key i) := by
  unfold v_v61 v_v60
  rw [key_eq]
  exact g61_at _ _ i

/-- The reference's score is the kernel's by one positive real. -/
theorem v61_row (a3 : IVec S32x8 32) (b : Fin 32) (k : Fin 8) : ∃ a : ℝ, 0 < a ∧ ∀ v : Fin 100000,
    v_v61 a0 a2 a3 (ix2 (⟨b.val * 8 + k.val, by have := b.isLt; have := k.isLt; omega⟩ : Fin 256) v) = (a : EReal) * sc a0 a2 b k v.val := by
  obtain ⟨S, hS, eS⟩ := sum_real (n := 100000) (by norm_num) (fun w => max (a0 (ix3 b k w) - a2 (ix3 b k w)) (Ideal.ofBits .f32 0x00800000#32))
    (fun w => diff_real _ (ht (ix3 b k w)))
  refine ⟨S⁻¹, inv_pos.mpr hS, fun v => ?_⟩
  obtain ⟨q, hq, eq⟩ := qAt_real b k v.val v.isLt
  obtain ⟨f, hf, ef⟩ := diff_real _ (ht (ix3 b k v))
  have h59 := Cert.ReferenceIdeal.Hand.v59_at a0 a2 b k v
  rw [eS, ef] at h59
  rw [v61_at ht]
  unfold v_v59
  rw [h59, ← qAt_of b k v.val v.isLt]
  unfold sc score tiny
  dsimp only
  rw [At_of a0 b k v.val v.isLt, At_of a2 b k v.val v.isLt, ef, eq]
  exact score_scale f q S hf hq hS

/-- The recovery word of the reference, from the kernel's first greatest score. -/
theorem v62_row (a3 : IVec S32x8 32) (b : Fin 32) (k : Fin 8) {j : ℕ} (hj : First 100000 (sc a0 a2 b k) j) :
    v_v62 a0 a2 a3 (ix1 (⟨b.val * 8 + k.val, by have := b.isLt; have := k.isLt; omega⟩ : Fin 256)) = BitVec.ofNat 32 j := by
  obtain ⟨a, ha, e⟩ := v61_row ht a3 b k
  have hpos : ∀ v, v < 100000 → 0 < sc a0 a2 b k v := sc_pos ht b k
  have hg : First 100000 (fun v => (a : EReal) * sc a0 a2 b k v) j := hj.scale a ha hpos (fun v _ => rfl)
  unfold v_v62
  refine Cert.ReferenceIdeal.Hand.v62_at _ _ (fun v => (a : EReal) * sc a0 a2 b k v) e hg ?_
  have ha' : (0 : EReal) < a := by exact_mod_cast ha
  exact EReal.bot_lt_zero.trans (EReal.mul_pos ha' (hpos j hj.1))

/-- The result block of a row whose scratch is as the whole row leaves it: the reference's words. -/
theorem row_out (a3 : IVec S32x8 32) (hr : ∀ i, (a3 i).toNat < 100000) (s : St Ideal)
    (hs : ∀ b k, RowInv (At a0 b k) (At a2 b k) (fun v => Ideal.div 1 (qAt b k v)) (a3 (ix2 b k)) b k 25 100000 s)
    (K : Vec Ideal S32x8x1 .i32) (U : Vec Ideal S32x8x1 .f32) (X : Vec Ideal S32x9x1 .i32)
    (hK : ∀ b k, K (ix3 b k 0) = a3 (ix2 b k)) (hU : ∀ b k, U (ix3 b k 0) = draws (F := Ideal) (ix3 b k 0)) (b : Fin 32) (k : Fin 9) :
    Cert.KernelIdeal.Hand.outTail K U s X (ix3 b k 0) = v_v93 a0 a2 a3 (ix2 b k) := by
  rcases Nat.lt_or_ge k.val 8 with h | h
  · obtain ⟨p, hp⟩ := Cert.ReferenceIdeal.Hand.exists_lim (fun k => v_v51 a0 a2 a3 (ix2 b k))
    have hacc : (fun x => BitVec.ofBool (decide (U (ix3 b x 0) < min (Ideal.div (s.selt (ix3 b x 0)) (s.seld (ix3 b x 0))) 1)))
        = fun k => v_v51 a0 a2 a3 (ix2 b k) := by
      funext x
      have hx := hr (ix2 b x)
      have hlt : (a3 (ix2 b x)).toNat < 25 * 4096 := by omega
      rw [Cert.ReferenceIdeal.Hand.accept_at a0 a2 a3 b x hx, hU, draws_eq, (hs b x).selt, (hs b x).seld]
      unfold picked
      rw [if_pos hlt, if_pos hlt, At_of a0 b x _ hx, At_of a2 b x _ hx]
    have e1 := Cert.KernelIdeal.Hand.out_low K U s X b ⟨k.val, h⟩ (hacc ▸ hp)
    have e2 := Cert.ReferenceIdeal.Hand.v93_at a0 a2 a3 b ⟨k.val, h⟩ hp
    refine e1.trans (Eq.trans ?_ e2.symm)
    rcases (hs b ⟨k.val, h⟩).run with ⟨h0, _⟩ | ⟨j, hj, _, hw⟩
    · exact absurd h0 (by norm_num)
    · rw [hw, hK, v62_row ht a3 b ⟨k.val, h⟩ hj]
  · have e : k = (8 : Fin 9) := Fin.ext (by have := k.isLt; show k.val = 8; omega)
    rw [e]
    exact (Cert.KernelIdeal.Hand.out_high K U s X b).trans (Cert.ReferenceIdeal.Hand.v93_last a0 a2 a3 b).symm

end Cert.Same

end
-- ==== Proof.ResultBuf.lean ====
/- The result buffer after the whole program: the region's output array, reshaped. -/
module

public import proofs.«01_k».proof.Proof.KerHost
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (Inv : Dev nD → ℕ → St F → Prop) (O : Dev nD → Vec F S32x9x1 .i32)

/-- The last grid point. -/
def tLast : Fin cfg0.N := ⟨24, by show 24 < grid0.N; rw [N_0]; norm_num⟩

theorem arr_out (c : Dev nD) : (dats m Inv O 0 c).arrAt (5 : Fin 6) cfg0.N = O c := by
  refine (dats m Inv O 0 c).arrAt_eq_of_after_last (5 : Fin 6) tLast (by decide +kernel) _ fun j => ?_
  show O c _ = O c _
  refine congrArg (O c) ?_
  rfl

theorem arr_inj : Function.Injective (Pipeline.arrRef spec0) := by decide

theorem W_v9 (c : Dev nD) :
    Pipeline.afterTail₀ cfgs (dats m Inv O) 0 (V0 m) [hostOps1] c main_v9 = shapeCast S32x9 (O c) shapeCasts_S32x9x1_S32x9 := by
  unfold Pipeline.afterTail₀
  have h := Pipeline.withArrays_arr spec0 arr_inj c (V0 m c) (fun w => (dats m Inv O 0 c).arrAt w cfg0.N) 5
  rw [arr_out] at h
  dsimp only [List.flatten_cons, List.flatten_nil, List.append_nil]
  after_reads_simp
  exact congrArg (fun y : Vec F S32x9x1 .i32 => shapeCast S32x9 y shapeCasts_S32x9x1_S32x9) h

end Cert.KernelIdeal.Hand

end
-- ==== Proof.Decode.lean ====
/- What the stated precondition says of the arguments, element by element. -/
module

public import proofs.«01_k».proof.Defs
public import proofs.«01_k».proof.Proof.Scale
public import proofs.«01_k».proof.Proof.Gen.Pre_in_range_and_no_tie

@[expose] public section

noncomputable section

namespace Cert.Pre_in_range_and_no_tie.Hand

open Cert.Pre_in_range_and_no_tie Cert.Pre_in_range_and_no_tie.Gen
open Idealize.ShloMosaic
open Cert.Best

/-- A reduction by `and` over every axis that is one has every element one. -/
theorem all_one {s : Shape} {axes : List (Fin s.rank)} (x : IVec s 1) (v : IVec S_ 1) (hv : ∀ i, v i = 1#1) (h : s.ReducesTo axes S_)
    (h1 : Host.reduce IntOp.andi x v h h_S_ = fun _ => 1#1) (i : s.Idx) : x i = 1#1 := by
  have e := congrFun h1 (h.drop i)
  rw [Host.reduce_eq_fold, hv] at e
  exact and_one _ _ e i (by simp)

theorem in_range (a3 : IVec S32x8 32) (i : S32x8.Idx)
    (h : (andi (cmpi .sge a3 (broadcastInDim S32x8 ![] bcast_S_S32x8 (constantI S_ 32 0#32)))
      (cmpi .slt a3 (broadcastInDim S32x8 ![] bcast_S_S32x8 (constantI S_ 32 100000#32)))) i = 1#1) : (a3 i).toNat < 100000 := by
  have hb : ∀ x y : BitVec 1, IntOp.andi x y = 1#1 → x = 1#1 ∧ y = 1#1 := by decide
  obtain ⟨h1, h2⟩ := hb _ _ h
  have e1 : BitVec.ofBool ((0#32 : BitVec 32).sle (a3 i)) = 1#1 := h1
  have e2 : BitVec.ofBool ((a3 i).slt 100000#32) = 1#1 := h2
  generalize a3 i = w at e1 e2
  have hof : ∀ c : Bool, BitVec.ofBool c = 1#1 → c = true := by decide
  have e1 := hof _ e1
  have e2 := hof _ e2
  rw [BitVec.sle_eq_decide, decide_eq_true_eq] at e1
  rw [BitVec.slt_eq_decide, decide_eq_true_eq] at e2
  have z : (0#32 : BitVec 32).toInt = 0 := by decide
  have n : (100000#32 : BitVec 32).toInt = 100000 := by decide
  rw [z] at e1
  rw [n] at e2
  rw [BitVec.toInt_eq_toNat_cond] at e1 e2
  split at e1 <;> omega

theorem below_top (a0 a2 : FVec Ideal S32x8x100000 .f32) (i : S32x8x100000.Idx)
    (h : cmpf .olt (subf a0 a2) (broadcastInDim S32x8x100000 ![] bcast_S_S32x8x100000 (constant S_ .f32 0x7F800000#32)) i = 1#1) : a0 i - a2 i < ⊤ := by
  have e : BitVec.ofBool (decide (a0 i - a2 i < Ideal.ofBits .f32 0x7F800000#32)) = 1#1 := h
  have hof : ∀ c : Bool, BitVec.ofBool c = 1#1 → c = true := by decide
  have e := hof _ e
  rw [decide_eq_true_eq] at e
  exact e.trans_le le_top

theorem fn_range (a0 a2 : FVec Ideal S32x8x100000 .f32) (a1 : IVec S32x1 32) (a3 : IVec S32x8 32)
    (h : (fn (F := Ideal) a0 a1 a2 a3).1 = fun _ => 1#1) (i : S32x8.Idx) : (a3 i).toNat < 100000 :=
  in_range a3 i (all_one _ _ (fun _ => rfl) _ h i)

theorem fn_top (a0 a2 : FVec Ideal S32x8x100000 .f32) (a1 : IVec S32x1 32) (a3 : IVec S32x8 32)
    (h : (fn (F := Ideal) a0 a1 a2 a3).2.1 = fun _ => 1#1) (i : S32x8x100000.Idx) : a0 i - a2 i < ⊤ := by
  unfold fn at h
  dsimp only at h
  unfold fn_part1 at h
  dsimp only at h
  exact below_top a0 a2 i (all_one _ _ (fun _ => rfl) _ h i)

end Cert.Pre_in_range_and_no_tie.Hand

end
-- ==== Proof.Value.lean ====
/- The kernel's steps against the rows' first greatest scores, its run with the result named, and the two programs' agreement. -/
module

public import proofs.«01_k».proof.Proof.Same
public import proofs.«01_k».proof.Proof.ResultBuf
public import proofs.«01_k».proof.Proof.RefVals
public import proofs.«01_k».proof.Proof.Decode

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.Best Cert.Same

variable (m : (ℓ : Loc nD τ sig) → Buf (Elt Ideal) ℓ)

/-- The target's probabilities, as launched. -/
def A0 (c : Dev nD) : FVec Ideal S32x8x100000 .f32 := m ((c : Thread nD τ).loc main_arg0)
/-- The draft's probabilities, as launched. -/
def A2 (c : Dev nD) : FVec Ideal S32x8x100000 .f32 := m ((c : Thread nD τ).loc main_arg2)
/-- The drafted words, as launched. -/
def A3 (c : Dev nD) : IVec S32x8 32 := m ((c : Thread nD τ).loc main_arg3)

/-- One row of the scratch after `n` blocks, `N` places read. -/
abbrev RowAt (c : Dev nD) (b : Fin 32) (k : Fin 8) (n N : ℕ) (s : St Ideal) : Prop :=
  RowInv (At (A0 m c) b k) (At (A2 m c) b k) (fun v => Ideal.div 1 (qAt b k v)) (A3 m c (ix2 b k)) b k n N s

/-- How many places of a row are read after `n` blocks. -/
def places (n : ℕ) : ℕ := if n = 25 then 100000 else n * 4096

/-- The scratch between grid points: before the first anything, then every row as its blocks read so far leave it. -/
def Rows (c : Dev nD) (n : ℕ) (s : St Ideal) : Prop := n = 0 ∨ ∀ b k, RowAt m c b k n (places n) s

/-- The result's array: the reference's words, its last axis of extent one added. -/
def Out (c : Dev nD) : Vec Ideal S32x9x1 .i32 := fun i =>
  Cert.ReferenceIdeal.Hand.v_v93 (A0 m c) (A2 m c) (A3 m c) (ix2 (i 0) (i 1))

theorem places_of (n : ℕ) (h : n < 25) : places n = n * 4096 := if_neg (by omega)

variable (hr : ∀ c i, (A3 m c i).toNat < 100000) (ht : ∀ c i, A0 m c i - A2 m c i < ⊤)

theorem T_row (c : Dev nD) (t : Fin cfg0.N) (d) (b : Fin 32) (k : Fin 8) (l : Fin 4096) (h : t.val * 4096 + l.val < 100000) :
    Tb m c t d (ix3 b k l) = At (A0 m c) b k (t.val * 4096 + l.val) := by
  rw [At_of _ b k _ h]; exact T_at m c t d b k l h
theorem D_row (c : Dev nD) (t : Fin cfg0.N) (d) (b : Fin 32) (k : Fin 8) (l : Fin 4096) (h : t.val * 4096 + l.val < 100000) :
    Db m c t d (ix3 b k l) = At (A2 m c) b k (t.val * 4096 + l.val) := by
  rw [At_of _ b k _ h]; exact D_at m c t d b k l h
theorem Q_row (c : Dev nD) (t : Fin cfg0.N) (b : Fin 32) (k : Fin 8) (l : Fin 4096) (h : t.val * 4096 + l.val < 100000) :
    Qb m c t (ix4 0 b k l) = (fun v => Ideal.div 1 (qAt b k v)) (t.val * 4096 + l.val) := by
  dsimp only
  rw [qAt_of b k _ h]; exact Q_at m c t b k l h

include hr ht

theorem step_full (c : Dev nD) (t : Fin cfg0.N) (h : t.val < 24) (d0 d1) (s : St Ideal) (hs : ∀ b k, RowAt m c b k t.val (t.val * 4096) s) :
    Rows m c (t.val + 1) (stFull (BitVec.ofNat 32 (grid0.coords t 0).val) (Tb m c t d0) (Db m c t d1) (Qb m c t) (Wb m c t) s) := by
  refine .inr fun b k => ?_
  rw [coords_eq, places_of _ (by omega)]
  exact row_full (hr c (ix2 b k)) (fun v hv => EReal.bot_lt_zero.trans (sc_pos (ht c) b k v hv)) t.val h _ _ _ _ s
    (T_row m c t d0 b k) (D_row m c t d1 b k) (Q_row m c t b k) (W_at m c t b k) (hs b k)

theorem step_tail (c : Dev nD) (t : Fin cfg0.N) (h : t.val = 24) (d0 d1) (s : St Ideal) (hs : Rows m c 24 s) (b : Fin 32) (k : Fin 8) :
    RowAt m c b k 25 100000 (stTail (BitVec.ofNat 32 (grid0.coords t 0).val) (Tb m c t d0) (Db m c t d1) (Qb m c t) (Wb m c t) s) := by
  rcases hs with h0 | hs
  · exact absurd h0 (by norm_num)
  rw [coords_eq]
  have hs' := hs b k
  rw [places_of 24 (by norm_num), ← h] at hs'
  have := row_tail (hr c (ix2 b k)) (fun v hv => EReal.bot_lt_zero.trans (sc_pos (ht c) b k v hv)) t.val h _ _ _ _ s
    (T_row m c t d0 b k) (D_row m c t d1 b k) (Q_row m c t b k) (W_at m c t b k) hs'
  rw [h] at this ⊢
  exact this

theorem steps : Steps m (Rows m) (Out m) True where
  start c s := .inl rfl
  first c t d0 d1 h := by
    have h1 := step_full m hr ht c t (by omega) d0 d1 st0 fun b k => by
      rw [h, Nat.zero_mul]; exact row_start _ _ _ _ b k
    rw [h, Nat.zero_add] at h1
    exact h1
  mid c t d0 d1 s h h' hs := by
    rcases hs with h0 | hs
    · omega
    exact step_full m hr ht c t h' d0 d1 s fun b k => by
      have := hs b k
      rwa [places_of _ (by omega)] at this
  last c t d0 d1 s h hs := .inr fun b k => step_tail m hr ht c t h d0 d1 s hs b k
  out c t d0 d1 s X _ h hs := by
    funext i
    have e : i = ix3 (i 0) (i 1) 0 := by
      funext a
      fin_cases a
      · rfl
      · rfl
      · exact Subsingleton.elim (α := Fin 1) _ _
    rw [e]
    exact row_out (ht c) (A3 m c) (hr c) _ (fun b k => step_tail m hr ht c t h d0 d1 s hs b k) (Wb m c t) (Ub m c t) X
      (W_at m c t) (U_at m c t) (i 0) (i 1)

end Cert.KernelIdeal.Hand

end
-- ==== Proof.Algebraic.lean ====
/- The idealized kernel and the idealized reference end with the same words. -/
module

public import proofs.«01_k».proof.Proof.Value
public import proofs.«01_k».proof.Proof.RunIdeal
public import proofs.«01_k».proof.Proof.RefOps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- Dropping the last axis of extent one reads the array there. -/
theorem drop_unit (X : Vec Ideal S32x9x1 .i32) (b : Fin 32) (k : Fin 9) :
    shapeCast S32x9 X shapeCasts_S32x9x1_S32x9 (ix2 b k) = X (ix3 b k 0) := by
  pointwise

theorem ix2_eta (i : S32x9.Idx) : i = ix2 (i 0) (i 1) := by
  funext a
  fin_cases a <;> rfl

theorem drop_of (Y : Vec Ideal S32x9 .i32) :
    shapeCast S32x9 (fun i : S32x9x1.Idx => Y (ix2 (i 0) (i 1))) shapeCasts_S32x9x1_S32x9 = Y := by
  funext i
  rw [ix2_eta i]
  exact drop_unit _ _ _

variable (m : (ℓ : Loc nD τ sig) → Buf (Elt Ideal) ℓ)

/-- The words both programs end with. -/
def Res (c : Dev nD) : Vec Ideal S32x9 .i32 := Cert.ReferenceIdeal.Hand.v_v93 (A0 m c) (A2 m c) (A3 m c)

theorem run_value (ρ : Dev nD → PrngReg) (hr : ∀ c i, (A3 m c i).toNat < 100000) (ht : ∀ c i, A0 m c i - A2 m c i < ⊤) :
    θ_run defs (onTc (τ := τ) (main (F := Ideal))) ⟨m, fun _ => 0, ρ⟩ (fun r => ∀ c : Dev nD,
      r.2.mem ((c.tc : Thread nD τ).loc main_v9) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have h := h.1 c
    ⟨(h.2 main_v9 (Pipeline.mem_restRefs_of main_v9 (by decide) (by decide))).trans ((W_v9 m (Rows m) (Out m) c).trans (drop_of (Res m c))),
      (h.1 0).trans (((dats m (Rows m) (Out m) 0 c).arrAt_in 0 rfl _).trans ((A_eq m (Rows m) (Out m) c 0).trans (V_main_arg0 m c))),
      (h.2 main_arg1 (Pipeline.mem_restRefs_of main_arg1 (by decide) (by decide))).trans (W_main_arg1 m (dats m (Rows m) (Out m)) c),
      (h.1 1).trans (((dats m (Rows m) (Out m) 0 c).arrAt_in 1 rfl _).trans ((A_eq m (Rows m) (Out m) c 1).trans (V_main_arg2 m c))),
      (h.2 main_arg3 (Pipeline.mem_restRefs_of main_arg3 (by decide) (by decide))).trans (W_main_arg3 m (dats m (Rows m) (Out m)) c)⟩)
    (run_main m ρ (Rows m) (Out m) (steps m hr ht) trivial)

end Cert.KernelIdeal.Hand

namespace Cert.ReferenceIdeal.Hand

open Cert.ReferenceIdeal Cert.ReferenceIdeal.Gen
open Idealize.ShloMosaic Idealize.SL.Sem

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v93) = v_v93 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (run_main m ρ) fun r h c => ⟨(h c main_v93).trans (R_out m c), (h c main_arg0).trans (R_arg0 m c),
    (h c main_arg1).trans (R_arg1 m c), (h c main_arg2).trans (R_arg2 m c), (h c main_arg3).trans (R_arg3 m c)⟩

end Cert.ReferenceIdeal.Hand

namespace Cert.Hand

open Idealize.ShloMosaic Idealize.SL.Sem

/-- From memories that agree on the arguments, the drafted words in range and no difference of probabilities infinite,
    both programs end with the same words. -/
theorem algebraic : Cert.algebraic_KernelIdeal_ReferenceIdeal (hKernelIdeal := Cert.KernelIdeal.Gen.facts)
    (hReferenceIdeal := Cert.ReferenceIdeal.Gen.facts) (hPre_in_range_and_no_tie := Cert.Pre_in_range_and_no_tie.Gen.facts) := by
  intro m g m' g' hp ha
  refine ⟨Cert.KernelIdeal.Hand.Res m, Cert.KernelIdeal.Hand.run_value m g
    (fun c => Cert.Pre_in_range_and_no_tie.Hand.fn_range _ _ _ _ (hp c).1)
    (fun c => Cert.Pre_in_range_and_no_tie.Hand.fn_top _ _ _ _ (hp c).2.1), ?_⟩
  refine θ_run_mono (Cert.ReferenceIdeal.Hand.run_value m' g') fun r h c => ⟨(h c).1.trans ?_, (h c).2⟩
  obtain ⟨e0, _, e2, e3⟩ := ha c
  exact congr (congr (congrArg (Cert.ReferenceIdeal.Hand.v_v93 (F := Ideal)) e0) e2) e3

end Cert.Hand

end
-- ==== Proof.lean ====
/- The certificate of `proofs.«01_k».proof.Defs`: each claim from the module that proves it. -/
module

public import proofs.«01_k».proof.Defs
public import proofs.«01_k».proof.Proof.FrameBits
public import proofs.«01_k».proof.Proof.FrameIdeal
public import proofs.«01_k».proof.Proof.RefOps
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_in_range_and_no_tie

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range_and_no_tie.Gen.facts,
    fun m g _ => Cert.Kernel.Hand.run_frame m g,
    fun m g _ => Cert.Kernel.Hand.run_frame m g,
    fun m g _ => Cert.KernelIdeal.HandF.run_frame m g,
    fun m g _ => Cert.ReferenceIdeal.Hand.run_frame m g,
    fun m g _ => Cert.ReferenceIdeal.Hand.run_frame m g,
    trivial,
    Cert.Hand.algebraic⟩

end Cert.Proof

end
